-- ==== Defs.lean ====
def Pre_Kernel [hPre_species_in_range : Cert.Pre_species_in_range.Facts] (m : (ℓ : Loc Cert.Kernel.nD Cert.Kernel.τ Cert.Kernel.sig) → Buf (Elt Bits) ℓ) : Prop :=
  ∀ c : Dev Cert.Kernel.nD,
    (Cert.Pre_species_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_species_in_range : Cert.Pre_species_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_species_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_molecules [hPre_molecules : Cert.Pre_molecules.Facts] (m : (ℓ : Loc Cert.KernelIdeal.nD Cert.KernelIdeal.τ Cert.KernelIdeal.sig) → Buf (Elt Ideal) ℓ) : Prop :=
  ∀ c : Dev Cert.KernelIdeal.nD,
    (Cert.Pre_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_molecules [hPre_molecules : Cert.Pre_molecules.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_species_in_range : Cert.Pre_species_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_species_in_range : Cert.Pre_species_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_molecules [hKernelIdeal : Cert.KernelIdeal.Facts] [hPre_molecules : Cert.Pre_molecules.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_molecules m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_molecules [hReferenceIdeal : Cert.ReferenceIdeal.Facts] [hPre_molecules : Cert.Pre_molecules.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_molecules m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_molecules [hKernelIdeal : Cert.KernelIdeal.Facts] [hReferenceIdeal : Cert.ReferenceIdeal.Facts] [hPre_molecules : Cert.Pre_molecules.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_molecules m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v303) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_species_in_range : Cert.Pre_species_in_range.Facts) (hPre_molecules : Cert.Pre_molecules.Facts),
    quiescent_Kernel (hKernel := hKernel) (hPre_species_in_range := hPre_species_in_range)
    ∧ quiescent_KernelIdeal (hKernelIdeal := hKernelIdeal) (hPre_species_in_range := hPre_species_in_range)
    ∧ quiescent_KernelIdeal_pre_molecules (hKernelIdeal := hKernelIdeal) (hPre_molecules := hPre_molecules)
    ∧ quiescent_ReferenceIdeal (hReferenceIdeal := hReferenceIdeal)
    ∧ quiescent_ReferenceIdeal_pre_molecules (hReferenceIdeal := hReferenceIdeal) (hPre_molecules := hPre_molecules)
    ∧ preserves_Kernel_KernelIdeal
    ∧ algebraic_KernelIdeal_ReferenceIdeal_pre_molecules (hKernelIdeal := hKernelIdeal) (hReferenceIdeal := hReferenceIdeal) (hPre_molecules := hPre_molecules)
-- ==== Pre_molecules.lean ====
abbrev S16x32 : Shape := ⟨2, ![16, 32]⟩
abbrev S16x32x3 : Shape := ⟨3, ![16, 32, 3]⟩
abbrev S1 : Shape := ⟨1, ![1]⟩
abbrev S16 : Shape := ⟨1, ![16]⟩
abbrev S4 : Shape := ⟨1, ![4]⟩
abbrev S8 : Shape := ⟨1, ![8]⟩
abbrev S16x32x1 : Shape := ⟨3, ![16, 32, 1]⟩
abbrev S_ : Shape := ⟨0, ![]⟩
abbrev S16x1x32 : Shape := ⟨3, ![16, 1, 32]⟩
abbrev S16x32x32 : Shape := ⟨3, ![16, 32, 32]⟩
abbrev S32x32 : Shape := ⟨2, ![32, 32]⟩
abbrev S1x32x32 : Shape := ⟨3, ![1, 32, 32]⟩

class Facts : Prop where
  slices_S16x32x3_S16x32x1_0_0_0 : S16x32x3.Slices ![0, 0, 0] S16x32x1
  shapeCasts_S16x32x1_S16x32 : S16x32x1.ShapeCasts S16x32
  slices_S16x32x3_S16x32x1_0_0_1 : S16x32x3.Slices ![0, 0, 1] S16x32x1
  slices_S16x32x3_S16x32x1_0_0_2 : S16x32x3.Slices ![0, 0, 2] S16x32x1
  bcast_S_S16x32 : S_.BroadcastsInDim S16x32 (![] : Fin 0 → Fin S16x32.rank)
  bcast_S16x32_S16x1x32_0_2 : S16x32.BroadcastsInDim S16x1x32 (![0, 2] : Fin 2 → Fin S16x1x32.rank)
  bcast_S16x32_S16x32x1_0_1 : S16x32.BroadcastsInDim S16x32x1 (![0, 1] : Fin 2 → Fin S16x32x1.rank)
  bcast_S16x1x32_S16x32x32_0_1_2 : S16x1x32.BroadcastsInDim S16x32x32 (![0, 1, 2] : Fin 3 → Fin S16x32x32.rank)
  bcast_S16x32x1_S16x32x32_0_1_2 : S16x32x1.BroadcastsInDim S16x32x32 (![0, 1, 2] : Fin 3 → Fin S16x32x32.rank)
  bcast_S_S16x32x32 : S_.BroadcastsInDim S16x32x32 (![] : Fin 0 → Fin S16x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S16x32x32_0_1_2 : S1x32x32.BroadcastsInDim S16x32x32 (![0, 1, 2] : Fin 3 → Fin S16x32x32.rank)

variable [Facts]

def fn_part2 {F : FTy → Type} [FloatOps F] (main_arg0 : IVec S16x32 32) (main_v16 : IVec S16x32 1) (main_v38 : IVec S16x32x32 1) (main_v40 : IVec S32x32 32) (main_v42 : IVec S32x32 32) : IVec S16x32x32 1 :=
  let main_v43 : IVec S32x32 1 := cmpi .eq main_v42 main_v40
  let main_v44 : IVec S1x32x32 1 := broadcastInDim S1x32x32 ![1, 2] bcast_S32x32_S1x32x32_1_2 main_v43
  let main_v45 : IVec S16x32x32 1 := broadcastInDim S16x32x32 ![0, 1, 2] bcast_S1x32x32_S16x32x32_0_1_2 main_v44
  let main_v46 : IVec S16x32x32 1 := ori main_v38 main_v45
  let main_c_3 : IVec S_ 32 := constantI S_ 32 0#32
  let main_v47 : IVec S16x32 32 := broadcastInDim S16x32 ![] bcast_S_S16x32 main_c_3
  let main_v48 : IVec S16x32 1 := cmpi .sge main_arg0 main_v47
  let main_c_4 : IVec S_ 32 := constantI S_ 32 4#32
  let main_v49 : IVec S16x32 32 := broadcastInDim S16x32 ![] bcast_S_S16x32 main_c_4
  let main_v50 : IVec S16x32 1 := cmpi .slt main_arg0 main_v49
  let main_v51 : IVec S16x32 1 := andi main_v48 main_v50
  let main_v52 : IVec S16x32 1 := andi main_v51 main_v16
  let main_v53 : IVec S16x32x1 1 := broadcastInDim S16x32x1 ![0, 1] bcast_S16x32_S16x32x1_0_1 main_v52
  let main_v54 : IVec S16x32x32 1 := broadcastInDim S16x32x32 ![0, 1, 2] bcast_S16x32x1_S16x32x32_0_1_2 main_v53
  let main_v55 : IVec S16x32x32 1 := andi main_v54 main_v46
  main_v55

def fn_part1 {F : FTy → Type} [FloatOps F] (main_arg0 : IVec S16x32 32) (main_v3 : FVec F S16x32 .f32) (main_v5 : FVec F S16x32 .f32) (main_v16 : IVec S16x32 1) (main_v19 : FVec F S16x32x32 .f32) (main_v20 : FVec F S16x32x32 .f32) : IVec S16x32x32 1 :=
  let main_v21 : FVec F S16x32x32 .f32 := subf main_v19 main_v20
  let main_v22 : FVec F S16x1x32 .f32 := broadcastInDim S16x1x32 ![0, 2] bcast_S16x32_S16x1x32_0_2 main_v3
  let main_v23 : FVec F S16x32x1 .f32 := broadcastInDim S16x32x1 ![0, 1] bcast_S16x32_S16x32x1_0_1 main_v3
  let main_v24 : FVec F S16x32x32 .f32 := broadcastInDim S16x32x32 ![0, 1, 2] bcast_S16x1x32_S16x32x32_0_1_2 main_v22
  let main_v25 : FVec F S16x32x32 .f32 := broadcastInDim S16x32x32 ![0, 1, 2] bcast_S16x32x1_S16x32x32_0_1_2 main_v23
  let main_v26 : FVec F S16x32x32 .f32 := subf main_v24 main_v25
  let main_v27 : FVec F S16x1x32 .f32 := broadcastInDim S16x1x32 ![0, 2] bcast_S16x32_S16x1x32_0_2 main_v5
  let main_v28 : FVec F S16x32x1 .f32 := broadcastInDim S16x32x1 ![0, 1] bcast_S16x32_S16x32x1_0_1 main_v5
  let main_v29 : FVec F S16x32x32 .f32 := broadcastInDim S16x32x32 ![0, 1, 2] bcast_S16x1x32_S16x32x32_0_1_2 main_v27
  let main_v30 : FVec F S16x32x32 .f32 := broadcastInDim S16x32x32 ![0, 1, 2] bcast_S16x32x1_S16x32x32_0_1_2 main_v28
  let main_v31 : FVec F S16x32x32 .f32 := subf main_v29 main_v30
  let main_v32 : FVec F S16x32x32 .f32 := mulf main_v21 main_v21
  let main_v33 : FVec F S16x32x32 .f32 := mulf main_v26 main_v26
  let main_v34 : FVec F S16x32x32 .f32 := addf main_v32 main_v33
  let main_v35 : FVec F S16x32x32 .f32 := mulf main_v31 main_v31
  let main_v36 : FVec F S16x32x32 .f32 := addf main_v34 main_v35
  let main_cst_2 : FVec F S_ .f32 := constant S_ .f32 0x179ABE15#32
  let main_v37 : FVec F S16x32x32 .f32 := broadcastInDim S16x32x32 ![] bcast_S_S16x32x32 main_cst_2
  let main_v38 : IVec S16x32x32 1 := cmpf .oge main_v36 main_v37
  let main_v39 : IVec S32x32 32 := iotaInDim S32x32 32 0
  let main_v40 : IVec S32x32 32 := iotaInDim S32x32 32 1
  let main_c : IVec S_ 32 := constantI S_ 32 0#32
  let main_v41 : IVec S32x32 32 := broadcastInDim S32x32 ![] bcast_S_S32x32 main_c
  let main_v42 : IVec S32x32 32 := addi main_v39 main_v41
  fn_part2 (F := F) main_arg0 main_v16 main_v38 main_v40 main_v42

def fn {F : FTy → Type} [FloatOps F] (main_arg0 : IVec S16x32 32) (main_arg1 : FVec F S16x32x3 .f32) (main_arg2 : FVec F S1 .f32) (main_arg3 : FVec F S16 .f32) (main_arg4 : FVec F S1 .f32) (main_arg5 : FVec F S1 .f32) (main_arg6 : FVec F S4 .f32) (main_arg7 : FVec F S8 .f32) : IVec S16x32x32 1 :=
  let main_v0 : FVec F S16x32x1 .f32 := (extractStridedSlice S16x32x1 ![0, 0, 0] · slices_S16x32x3_S16x32x1_0_0_0) main_arg1
  let main_v1 : FVec F S16x32 .f32 := shapeCast S16x32 main_v0 shapeCasts_S16x32x1_S16x32
  let main_v2 : FVec F S16x32x1 .f32 := (extractStridedSlice S16x32x1 ![0, 0, 1] · slices_S16x32x3_S16x32x1_0_0_1) main_arg1
  let main_v3 : FVec F S16x32 .f32 := shapeCast S16x32 main_v2 shapeCasts_S16x32x1_S16x32
  let main_v4 : FVec F S16x32x1 .f32 := (extractStridedSlice S16x32x1 ![0, 0, 2] · slices_S16x32x3_S16x32x1_0_0_2) main_arg1
  let main_v5 : FVec F S16x32 .f32 := shapeCast S16x32 main_v4 shapeCasts_S16x32x1_S16x32
  let main_v6 : FVec F S16x32 .f32 := Host.absf main_v1
  let main_cst : FVec F S_ .f32 := constant S_ .f32 0x7F800000#32
  let main_v7 : FVec F S16x32 .f32 := broadcastInDim S16x32 ![] bcast_S_S16x32 main_cst
  let main_v8 : IVec S16x32 1 := cmpf .olt main_v6 main_v7
  let main_v9 : FVec F S16x32 .f32 := Host.absf main_v3
  let main_cst_0 : FVec F S_ .f32 := constant S_ .f32 0x7F800000#32
  let main_v10 : FVec F S16x32 .f32 := broadcastInDim S16x32 ![] bcast_S_S16x32 main_cst_0
  let main_v11 : IVec S16x32 1 := cmpf .olt main_v9 main_v10
  let main_v12 : IVec S16x32 1 := andi main_v8 main_v11
  let main_v13 : FVec F S16x32 .f32 := Host.absf main_v5
  let main_cst_1 : FVec F S_ .f32 := constant S_ .f32 0x7F800000#32
  let main_v14 : FVec F S16x32 .f32 := broadcastInDim S16x32 ![] bcast_S_S16x32 main_cst_1
  let main_v15 : IVec S16x32 1 := cmpf .olt main_v13 main_v14
  let main_v16 : IVec S16x32 1 := andi main_v12 main_v15
  let main_v17 : FVec F S16x1x32 .f32 := broadcastInDim S16x1x32 ![0, 2] bcast_S16x32_S16x1x32_0_2 main_v1
  let main_v18 : FVec F S16x32x1 .f32 := broadcastInDim S16x32x1 ![0, 1] bcast_S16x32_S16x32x1_0_1 main_v1
  let main_v19 : FVec F S16x32x32 .f32 := broadcastInDim S16x32x32 ![0, 1, 2] bcast_S16x1x32_S16x32x32_0_1_2 main_v17
  let main_v20 : FVec F S16x32x32 .f32 := broadcastInDim S16x32x32 ![0, 1, 2] bcast_S16x32x1_S16x32x32_0_1_2 main_v18
  fn_part1 (F := F) main_arg0 main_v3 main_v5 main_v16 main_v19 main_v20
-- ==== Pre_species_in_range.lean ====
abbrev S16x32 : Shape := ⟨2, ![16, 32]⟩
abbrev S16x32x3 : Shape := ⟨3, ![16, 32, 3]⟩
abbrev S1 : Shape := ⟨1, ![1]⟩
abbrev S16 : Shape := ⟨1, ![16]⟩
abbrev S4 : Shape := ⟨1, ![4]⟩
abbrev S8 : Shape := ⟨1, ![8]⟩
abbrev S_ : Shape := ⟨0, ![]⟩

class Facts : Prop where
  bcast_S_S16x32 : S_.BroadcastsInDim S16x32 (![] : Fin 0 → Fin S16x32.rank)

variable [Facts]

def fn {F : FTy → Type} [FloatOps F] (main_arg0 : IVec S16x32 32) (main_arg1 : FVec F S16x32x3 .f32) (main_arg2 : FVec F S1 .f32) (main_arg3 : FVec F S16 .f32) (main_arg4 : FVec F S1 .f32) (main_arg5 : FVec F S1 .f32) (main_arg6 : FVec F S4 .f32) (main_arg7 : FVec F S8 .f32) : IVec S16x32 1 :=
  let main_c : IVec S_ 32 := constantI S_ 32 0#32
  let main_v0 : IVec S16x32 32 := broadcastInDim S16x32 ![] bcast_S_S16x32 main_c
  let main_v1 : IVec S16x32 1 := cmpi .sge main_arg0 main_v0
  let main_c_0 : IVec S_ 32 := constantI S_ 32 4#32
  let main_v2 : IVec S16x32 32 := broadcastInDim S16x32 ![] bcast_S_S16x32 main_c_0
  let main_v3 : IVec S16x32 1 := cmpi .slt main_arg0 main_v2
  let main_v4 : IVec S16x32 1 := andi main_v1 main_v3
  main_v4
-- ==== Kernel.lean ====
abbrev S16x32 : Shape := ⟨2, ![16, 32]⟩
abbrev S16x32x3 : Shape := ⟨3, ![16, 32, 3]⟩
abbrev S1 : Shape := ⟨1, ![1]⟩
abbrev S16 : Shape := ⟨1, ![16]⟩
abbrev S4 : Shape := ⟨1, ![4]⟩
abbrev S8 : Shape := ⟨1, ![8]⟩
abbrev S512 : Shape := ⟨1, ![512]⟩
abbrev S16x3x32 : Shape := ⟨3, ![16, 3, 32]⟩
abbrev S1536 : Shape := ⟨1, ![1536]⟩
abbrev S196608 : Shape := ⟨1, ![196608]⟩
abbrev S128 : Shape := ⟨1, ![128]⟩
abbrev S48 : Shape := ⟨1, ![48]⟩
abbrev S6144 : Shape := ⟨1, ![6144]⟩
abbrev S40 : Shape := ⟨1, ![40]⟩
abbrev S_ : Shape := ⟨0, ![]⟩
abbrev S96 : Shape := ⟨1, ![96]⟩
abbrev S32 : Shape := ⟨1, ![32]⟩
abbrev S16x32x384 : Shape := ⟨3, ![16, 32, 384]⟩

abbrev nBuf : Table → Nat
  | .hbm => 13
  | .local .scVector .smem => 6
  | .local .scVector .vmem => 6
  | _ => 0

abbrev bufTy : (tb : Table) → Fin (nBuf tb) → BufTy
  | .hbm, ⟨0, _⟩ => ⟨S16x32, .i32⟩
  | .hbm, ⟨1, _⟩ => ⟨S16x32x3, .f32⟩
  | .hbm, ⟨2, _⟩ => ⟨S1, .f32⟩
  | .hbm, ⟨3, _⟩ => ⟨S16, .f32⟩
  | .hbm, ⟨4, _⟩ => ⟨S1, .f32⟩
  | .hbm, ⟨5, _⟩ => ⟨S1, .f32⟩
  | .hbm, ⟨6, _⟩ => ⟨S4, .f32⟩
  | .hbm, ⟨7, _⟩ => ⟨S8, .f32⟩
  | .hbm, ⟨8, _⟩ => ⟨S512, .i32⟩
  | .hbm, ⟨9, _⟩ => ⟨S16x3x32, .f32⟩
  | .hbm, ⟨10, _⟩ => ⟨S1536, .f32⟩
  | .hbm, ⟨11, _⟩ => ⟨S196608, .f32⟩
  | .hbm, ⟨12, _⟩ => ⟨S16x32x384, .f32⟩
  | .local .scVector .smem, ⟨0, _⟩ => ⟨S40, .f32⟩
  | .local .scVector .smem, ⟨1, _⟩ => ⟨S40, .f32⟩
  | .local .scVector .smem, ⟨2, _⟩ => ⟨S40, .f32⟩
  | .local .scVector .smem, ⟨3, _⟩ => ⟨S40, .f32⟩
  | .local .scVector .smem, ⟨4, _⟩ => ⟨S40, .f32⟩
  | .local .scVector .smem, ⟨5, _⟩ => ⟨S40, .i32⟩
  | .local .scVector .vmem, ⟨0, _⟩ => ⟨S128, .f32⟩
  | .local .scVector .vmem, ⟨1, _⟩ => ⟨S48, .i32⟩
  | .local .scVector .vmem, ⟨2, _⟩ => ⟨S48, .f32⟩
  | .local .scVector .vmem, ⟨3, _⟩ => ⟨S48, .f32⟩
  | .local .scVector .vmem, ⟨4, _⟩ => ⟨S48, .f32⟩
  | .local .scVector .vmem, ⟨5, _⟩ => ⟨S6144, .f32⟩
  | _, _ => ⟨S16x32, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v2_scv : Ref sig .scVector := ⟨.hbm, 10, rfl⟩
abbrev main_v0_scv : Ref sig .scVector := ⟨.hbm, 8, rfl⟩
abbrev main_v3_scv : Ref sig .scVector := ⟨.hbm, 11, rfl⟩
abbrev cc0_scratch6 : Ref sig .scVector := ⟨.smem, 0, rfl⟩
abbrev cc0_scratch7 : Ref sig .scVector := ⟨.smem, 1, rfl⟩
abbrev cc0_scratch8 : Ref sig .scVector := ⟨.smem, 2, rfl⟩
abbrev cc0_scratch9 : Ref sig .scVector := ⟨.smem, 3, rfl⟩
abbrev cc0_scratch10 : Ref sig .scVector := ⟨.smem, 4, rfl⟩
abbrev cc0_scratch11 : Ref sig .scVector := ⟨.smem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c96_i32 : BitVec 32 := 96#32
  let v30 : BitVec 32 := Scalar.muli v18 c96_i32
  ![v30.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c32_i32 : BitVec 32 := 32#32
  let v31 : BitVec 32 := Scalar.muli v18 c32_i32
  ![v31.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_41 : BitVec 32 := 0#32
  let v111 : BitVec 32 := Scalar.addi v29 c0_i32_41
  let v112 : Index := Scalar.indexCast v111
  ![v112.toNat]
def k0_off4 (i : grid0.Coords) (c32_i32_42 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_41 : BitVec 32 := 0#32
  let v111 : BitVec 32 := Scalar.addi v29 c0_i32_41
  let v117 : BitVec 32 := Scalar.addi c32_i32_42 v111
  let v118 : Index := Scalar.indexCast v117
  ![v118.toNat]
@[reducible] def k0_t1_loop : Scf.Loop 32 :=
  let c0_i32_108 : BitVec 32 := 0#32
  let c32_i32_109 : BitVec 32 := 32#32
  let v333 : BitVec 32 := Scalar.addi c0_i32_108 c32_i32_109
  let c1_i32_110 : BitVec 32 := 1#32
  ⟨c0_i32_108, v333, c1_i32_110⟩
def k0_off5 (k0_t1 : Fin k0_t1_loop.trips) : Fin 1 → Nat :=
  let c0_i32_108 : BitVec 32 := 0#32
  let c1_i32_110 : BitVec 32 := 1#32
  let arg17 : BitVec 32 := Scf.iv c0_i32_108 c1_i32_110 k0_t1
  let v4944 : Index := Scalar.indexCast arg17
  ![v4944.toNat]
def k0_off6 (arg18 : BitVec 32) : Fin 1 → Nat :=
  let v4988 : Index := Scalar.indexCast arg18
  ![v4988.toNat]
def k0_cond1 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk1 (arg18 : BitVec 32) (v4984 : BitVec 1) : Prop :=
  (∀ (k0_h1 : k0_cond1 v4984 = 1#1), ∀ a, (k0_off6 arg18) a + S1.size a ≤ S40.size a)
theorem k0_off6_inb : ∀ (arg18 : BitVec 32) (v4984 : BitVec 1) (k0_hw1 : k0_chk1 arg18 v4984), ∀ (k0_h1 : k0_cond1 v4984 = 1#1), ∀ a, (k0_off6 arg18) a + S1.size a ≤ S40.size a := fun arg18 v4984 k0_hw1 k0_h1 => k0_hw1 k0_h1

def k0_off7 (k0_t1 : Fin k0_t1_loop.trips) : Fin 1 → Nat :=
  let c0_i32_108 : BitVec 32 := 0#32
  let c1_i32_110 : BitVec 32 := 1#32
  let arg17 : BitVec 32 := Scf.iv c0_i32_108 c1_i32_110 k0_t1
  let v4994 : Index := Scalar.indexCast arg17
  ![v4994.toNat]
def k0_off8 (k0_t1 : Fin k0_t1_loop.trips) (c32_i32_1379 : BitVec 32) : Fin 1 → Nat :=
  let c0_i32_108 : BitVec 32 := 0#32
  let c1_i32_110 : BitVec 32 := 1#32
  let arg17 : BitVec 32 := Scf.iv c0_i32_108 c1_i32_110 k0_t1
  let v5002 : BitVec 32 := Scalar.addi c32_i32_1379 arg17
  let v5003 : Index := Scalar.indexCast v5002
  ![v5003.toNat]
@[reducible] def k0_t2_loop (v334_0 : BitVec 32) : Scf.Loop 32 :=
  let c0_i32_120 : BitVec 32 := 0#32
  let c1_i32_118 : BitVec 32 := 1#32
  let v407 : BitVec 32 := Scalar.subi v334_0 c1_i32_118
  let v408 : BitVec 32 := Scalar.subi v407 c0_i32_120
  let c1_i32_121 : BitVec 32 := 1#32
  let v410 : BitVec 32 := Scalar.divsi v408 c1_i32_121
  let v411 : BitVec 32 := Scalar.muli v410 c1_i32_121
  let v412 : BitVec 32 := Scalar.addi c0_i32_120 v411
  let c1_i32_122 : BitVec 32 := 1#32
  ⟨c0_i32_120, v412, c1_i32_122⟩

def k0_off9 (v334_0 : BitVec 32) (k0_t2 : Fin (k0_t2_loop v334_0).trips) : Fin 1 → Nat :=
  let c0_i32_120 : BitVec 32 := 0#32
  let c1_i32_122 : BitVec 32 := 1#32
  let arg17 : BitVec 32 := Scf.iv c0_i32_120 c1_i32_122 k0_t2
  let v4944 : Index := Scalar.indexCast arg17
  ![v4944.toNat]
@[reducible] def k0_t3_loop (v334_0 : BitVec 32) (k0_t2 : Fin (k0_t2_loop v334_0).trips) : Scf.Loop 32 :=
  let c0_i32_120 : BitVec 32 := 0#32
  let c1_i32_122 : BitVec 32 := 1#32
  let arg17 : BitVec 32 := Scf.iv c0_i32_120 c1_i32_122 k0_t2
  let c1_i32_1372 : BitVec 32 := 1#32
  let v4956 : BitVec 32 := Scalar.addi arg17 c1_i32_1372
  let v4957 : BitVec 32 := Scalar.subi v334_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off10 (v334_0 : BitVec 32) (k0_t2 : Fin (k0_t2_loop v334_0).trips) (k0_t3 : Fin (k0_t3_loop v334_0 k0_t2).trips) : Fin 1 → Nat :=
  let c0_i32_120 : BitVec 32 := 0#32
  let c1_i32_122 : BitVec 32 := 1#32
  let arg17 : BitVec 32 := Scf.iv c0_i32_120 c1_i32_122 k0_t2
  let c1_i32_1372 : BitVec 32 := 1#32
  let v4956 : BitVec 32 := Scalar.addi arg17 c1_i32_1372
  let c1_i32_1375 : BitVec 32 := 1#32
  let arg18 : BitVec 32 := Scf.iv v4956 c1_i32_1375 k0_t3
  let v4962 : Index := Scalar.indexCast arg18
  ![v4962.toNat]
def k0_off11 (v4949 : BitVec 32) (v4991 : BitVec 32) : Fin 1 → Nat :=
  let c64_i32_1391 : BitVec 32 := 64#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c64_i32_1391 v5014
  let v5048 : Index := Scalar.indexCast v5015
  ![v5048.toNat]

def k0_off12 (v4949 : BitVec 32) (v4991 : BitVec 32) : Fin 1 → Nat :=
  let c64_i32_1391 : BitVec 32 := 64#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c64_i32_1391 v5014
  let c16_i32_1397 : BitVec 32 := 16#32
  let v5056 : BitVec 32 := Scalar.addi v5015 c16_i32_1397
  let v5057 : Index := Scalar.indexCast v5056
  ![v5057.toNat]

def k0_chk3 (v4949 : BitVec 32) (v4991 : BitVec 32) : Prop :=
  (∀ a, (k0_off11 v4949 v4991) a + S16.size a ≤ S6144.size a) ∧
  (∀ a, (k0_off12 v4949 v4991) a + S16.size a ≤ S6144.size a)
theorem k0_off11_inb : ∀ (v4949 : BitVec 32) (v4991 : BitVec 32) (k0_hw3 : k0_chk3 v4949 v4991), ∀ a, (k0_off11 v4949 v4991) a + S16.size a ≤ S6144.size a := fun v4949 v4991 k0_hw3 => k0_hw3.1
theorem k0_off12_inb : ∀ (v4949 : BitVec 32) (v4991 : BitVec 32) (k0_hw3 : k0_chk3 v4949 v4991), ∀ a, (k0_off12 v4949 v4991) a + S16.size a ≤ S6144.size a := fun v4949 v4991 k0_hw3 => k0_hw3.2

@[reducible] def k0_t4_loop (v334_0 : BitVec 32) (k0_t2 : Fin (k0_t2_loop v334_0).trips) : Scf.Loop 32 :=
  let c0_i32_120 : BitVec 32 := 0#32
  let c1_i32_122 : BitVec 32 := 1#32
  let arg17 : BitVec 32 := Scf.iv c0_i32_120 c1_i32_122 k0_t2
  let c1_i32_1372 : BitVec 32 := 1#32
  let v4956 : BitVec 32 := Scalar.addi arg17 c1_i32_1372
  let v4957 : BitVec 32 := Scalar.subi v334_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off13 (v334_0 : BitVec 32) (k0_t2 : Fin (k0_t2_loop v334_0).trips) (k0_t4 : Fin (k0_t4_loop v334_0 k0_t2).trips) : Fin 1 → Nat :=
  let c0_i32_120 : BitVec 32 := 0#32
  let c1_i32_122 : BitVec 32 := 1#32
  let arg17 : BitVec 32 := Scf.iv c0_i32_120 c1_i32_122 k0_t2
  let c1_i32_1372 : BitVec 32 := 1#32
  let v4956 : BitVec 32 := Scalar.addi arg17 c1_i32_1372
  let v4957 : BitVec 32 := Scalar.subi v334_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t4
  let v4962 : Index := Scalar.indexCast arg18
  ![v4962.toNat]
def k0_off14 (v4949 : BitVec 32) (v4991 : BitVec 32) : Fin 1 → Nat :=
  let c64_i32_1391 : BitVec 32 := 64#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c64_i32_1391 v5014
  let v5048 : Index := Scalar.indexCast v5015
  ![v5048.toNat]

def k0_off15 (v4949 : BitVec 32) (v4991 : BitVec 32) : Fin 1 → Nat :=
  let c64_i32_1391 : BitVec 32 := 64#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c64_i32_1391 v5014
  let c16_i32_1397 : BitVec 32 := 16#32
  let v5056 : BitVec 32 := Scalar.addi v5015 c16_i32_1397
  let v5057 : Index := Scalar.indexCast v5056
  ![v5057.toNat]

def k0_chk4 (v4949 : BitVec 32) (v4991 : BitVec 32) : Prop :=
  (∀ a, (k0_off14 v4949 v4991) a + S16.size a ≤ S6144.size a) ∧
  (∀ a, (k0_off15 v4949 v4991) a + S16.size a ≤ S6144.size a)
theorem k0_off14_inb : ∀ (v4949 : BitVec 32) (v4991 : BitVec 32) (k0_hw4 : k0_chk4 v4949 v4991), ∀ a, (k0_off14 v4949 v4991) a + S16.size a ≤ S6144.size a := fun v4949 v4991 k0_hw4 => k0_hw4.1
theorem k0_off15_inb : ∀ (v4949 : BitVec 32) (v4991 : BitVec 32) (k0_hw4 : k0_chk4 v4949 v4991), ∀ a, (k0_off15 v4949 v4991) a + S16.size a ≤ S6144.size a := fun v4949 v4991 k0_hw4 => k0_hw4.2

@[reducible] def k0_t5_loop (v334_0 : BitVec 32) : Scf.Loop 32 :=
  let c0_i32_120 : BitVec 32 := 0#32
  let c1_i32_118 : BitVec 32 := 1#32
  let v407 : BitVec 32 := Scalar.subi v334_0 c1_i32_118
  let v408 : BitVec 32 := Scalar.subi v407 c0_i32_120
  let c1_i32_121 : BitVec 32 := 1#32
  let v410 : BitVec 32 := Scalar.divsi v408 c1_i32_121
  let v411 : BitVec 32 := Scalar.muli v410 c1_i32_121
  let v412 : BitVec 32 := Scalar.addi c0_i32_120 v411
  let v409 : BitVec 32 := Scalar.addi c0_i32_120 v408
  let c1_i32_123 : BitVec 32 := 1#32
  ⟨v412, v409, c1_i32_123⟩
def k0_off16 (v334_0 : BitVec 32) (k0_t5 : Fin (k0_t5_loop v334_0).trips) : Fin 1 → Nat :=
  let c0_i32_120 : BitVec 32 := 0#32
  let c1_i32_118 : BitVec 32 := 1#32
  let v407 : BitVec 32 := Scalar.subi v334_0 c1_i32_118
  let v408 : BitVec 32 := Scalar.subi v407 c0_i32_120
  let c1_i32_121 : BitVec 32 := 1#32
  let v410 : BitVec 32 := Scalar.divsi v408 c1_i32_121
  let v411 : BitVec 32 := Scalar.muli v410 c1_i32_121
  let v412 : BitVec 32 := Scalar.addi c0_i32_120 v411
  let c1_i32_123 : BitVec 32 := 1#32
  let arg17 : BitVec 32 := Scf.iv v412 c1_i32_123 k0_t5
  let v4944 : Index := Scalar.indexCast arg17
  ![v4944.toNat]
@[reducible] def k0_t6_loop (v334_0 : BitVec 32) (k0_t5 : Fin (k0_t5_loop v334_0).trips) : Scf.Loop 32 :=
  let c0_i32_120 : BitVec 32 := 0#32
  let c1_i32_118 : BitVec 32 := 1#32
  let v407 : BitVec 32 := Scalar.subi v334_0 c1_i32_118
  let v408 : BitVec 32 := Scalar.subi v407 c0_i32_120
  let c1_i32_121 : BitVec 32 := 1#32
  let v410 : BitVec 32 := Scalar.divsi v408 c1_i32_121
  let v411 : BitVec 32 := Scalar.muli v410 c1_i32_121
  let v412 : BitVec 32 := Scalar.addi c0_i32_120 v411
  let c1_i32_123 : BitVec 32 := 1#32
  let arg17 : BitVec 32 := Scf.iv v412 c1_i32_123 k0_t5
  let c1_i32_1372 : BitVec 32 := 1#32
  let v4956 : BitVec 32 := Scalar.addi arg17 c1_i32_1372
  let v4957 : BitVec 32 := Scalar.subi v334_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off17 (v334_0 : BitVec 32) (k0_t5 : Fin (k0_t5_loop v334_0).trips) (k0_t6 : Fin (k0_t6_loop v334_0 k0_t5).trips) : Fin 1 → Nat :=
  let c0_i32_120 : BitVec 32 := 0#32
  let c1_i32_118 : BitVec 32 := 1#32
  let v407 : BitVec 32 := Scalar.subi v334_0 c1_i32_118
  let v408 : BitVec 32 := Scalar.subi v407 c0_i32_120
  let c1_i32_121 : BitVec 32 := 1#32
  let v410 : BitVec 32 := Scalar.divsi v408 c1_i32_121
  let v411 : BitVec 32 := Scalar.muli v410 c1_i32_121
  let v412 : BitVec 32 := Scalar.addi c0_i32_120 v411
  let c1_i32_123 : BitVec 32 := 1#32
  let arg17 : BitVec 32 := Scf.iv v412 c1_i32_123 k0_t5
  let c1_i32_1372 : BitVec 32 := 1#32
  let v4956 : BitVec 32 := Scalar.addi arg17 c1_i32_1372
  let c1_i32_1375 : BitVec 32 := 1#32
  let arg18 : BitVec 32 := Scf.iv v4956 c1_i32_1375 k0_t6
  let v4962 : Index := Scalar.indexCast arg18
  ![v4962.toNat]
def k0_off18 (v4949 : BitVec 32) (v4991 : BitVec 32) : Fin 1 → Nat :=
  let c64_i32_1391 : BitVec 32 := 64#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c64_i32_1391 v5014
  let v5048 : Index := Scalar.indexCast v5015
  ![v5048.toNat]

def k0_off19 (v4949 : BitVec 32) (v4991 : BitVec 32) : Fin 1 → Nat :=
  let c64_i32_1391 : BitVec 32 := 64#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c64_i32_1391 v5014
  let c16_i32_1397 : BitVec 32 := 16#32
  let v5056 : BitVec 32 := Scalar.addi v5015 c16_i32_1397
  let v5057 : Index := Scalar.indexCast v5056
  ![v5057.toNat]

def k0_chk5 (v4949 : BitVec 32) (v4991 : BitVec 32) : Prop :=
  (∀ a, (k0_off18 v4949 v4991) a + S16.size a ≤ S6144.size a) ∧
  (∀ a, (k0_off19 v4949 v4991) a + S16.size a ≤ S6144.size a)
theorem k0_off18_inb : ∀ (v4949 : BitVec 32) (v4991 : BitVec 32) (k0_hw5 : k0_chk5 v4949 v4991), ∀ a, (k0_off18 v4949 v4991) a + S16.size a ≤ S6144.size a := fun v4949 v4991 k0_hw5 => k0_hw5.1
theorem k0_off19_inb : ∀ (v4949 : BitVec 32) (v4991 : BitVec 32) (k0_hw5 : k0_chk5 v4949 v4991), ∀ a, (k0_off19 v4949 v4991) a + S16.size a ≤ S6144.size a := fun v4949 v4991 k0_hw5 => k0_hw5.2

@[reducible] def k0_t7_loop (v334_0 : BitVec 32) (k0_t5 : Fin (k0_t5_loop v334_0).trips) : Scf.Loop 32 :=
  let c0_i32_120 : BitVec 32 := 0#32
  let c1_i32_118 : BitVec 32 := 1#32
  let v407 : BitVec 32 := Scalar.subi v334_0 c1_i32_118
  let v408 : BitVec 32 := Scalar.subi v407 c0_i32_120
  let c1_i32_121 : BitVec 32 := 1#32
  let v410 : BitVec 32 := Scalar.divsi v408 c1_i32_121
  let v411 : BitVec 32 := Scalar.muli v410 c1_i32_121
  let v412 : BitVec 32 := Scalar.addi c0_i32_120 v411
  let c1_i32_123 : BitVec 32 := 1#32
  let arg17 : BitVec 32 := Scf.iv v412 c1_i32_123 k0_t5
  let c1_i32_1372 : BitVec 32 := 1#32
  let v4956 : BitVec 32 := Scalar.addi arg17 c1_i32_1372
  let v4957 : BitVec 32 := Scalar.subi v334_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off20 (v334_0 : BitVec 32) (k0_t5 : Fin (k0_t5_loop v334_0).trips) (k0_t7 : Fin (k0_t7_loop v334_0 k0_t5).trips) : Fin 1 → Nat :=
  let c0_i32_120 : BitVec 32 := 0#32
  let c1_i32_118 : BitVec 32 := 1#32
  let v407 : BitVec 32 := Scalar.subi v334_0 c1_i32_118
  let v408 : BitVec 32 := Scalar.subi v407 c0_i32_120
  let c1_i32_121 : BitVec 32 := 1#32
  let v410 : BitVec 32 := Scalar.divsi v408 c1_i32_121
  let v411 : BitVec 32 := Scalar.muli v410 c1_i32_121
  let v412 : BitVec 32 := Scalar.addi c0_i32_120 v411
  let c1_i32_123 : BitVec 32 := 1#32
  let arg17 : BitVec 32 := Scf.iv v412 c1_i32_123 k0_t5
  let c1_i32_1372 : BitVec 32 := 1#32
  let v4956 : BitVec 32 := Scalar.addi arg17 c1_i32_1372
  let v4957 : BitVec 32 := Scalar.subi v334_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t7
  let v4962 : Index := Scalar.indexCast arg18
  ![v4962.toNat]

def k0_chk2 (v334_0 : BitVec 32) : Prop :=
  ((k0_t2_loop v334_0).OK) ∧
  (∀ k0_t2 : Fin (k0_t2_loop v334_0).trips, ∀ a, (k0_off9 v334_0 k0_t2) a + S1.size a ≤ S40.size a) ∧
  (∀ k0_t2 : Fin (k0_t2_loop v334_0).trips, (k0_t3_loop v334_0 k0_t2).OK) ∧
  (∀ (k0_t2 : Fin (k0_t2_loop v334_0).trips) (k0_t3 : Fin (k0_t3_loop v334_0 k0_t2).trips), ∀ a, (k0_off10 v334_0 k0_t2 k0_t3) a + S1.size a ≤ S40.size a) ∧
  (∀ k0_t2 : Fin (k0_t2_loop v334_0).trips, (k0_t4_loop v334_0 k0_t2).OK) ∧
  (∀ (k0_t2 : Fin (k0_t2_loop v334_0).trips) (k0_t4 : Fin (k0_t4_loop v334_0 k0_t2).trips), ∀ a, (k0_off13 v334_0 k0_t2 k0_t4) a + S1.size a ≤ S40.size a) ∧
  ((k0_t5_loop v334_0).OK) ∧
  (∀ k0_t5 : Fin (k0_t5_loop v334_0).trips, ∀ a, (k0_off16 v334_0 k0_t5) a + S1.size a ≤ S40.size a) ∧
  (∀ k0_t5 : Fin (k0_t5_loop v334_0).trips, (k0_t6_loop v334_0 k0_t5).OK) ∧
  (∀ (k0_t5 : Fin (k0_t5_loop v334_0).trips) (k0_t6 : Fin (k0_t6_loop v334_0 k0_t5).trips), ∀ a, (k0_off17 v334_0 k0_t5 k0_t6) a + S1.size a ≤ S40.size a) ∧
  (∀ k0_t5 : Fin (k0_t5_loop v334_0).trips, (k0_t7_loop v334_0 k0_t5).OK) ∧
  (∀ (k0_t5 : Fin (k0_t5_loop v334_0).trips) (k0_t7 : Fin (k0_t7_loop v334_0 k0_t5).trips), ∀ a, (k0_off20 v334_0 k0_t5 k0_t7) a + S1.size a ≤ S40.size a)
theorem k0_t2_ok : ∀ (v334_0 : BitVec 32) (k0_hw2 : k0_chk2 v334_0), (k0_t2_loop v334_0).OK := fun v334_0 k0_hw2 => k0_hw2.1
theorem k0_off9_inb : ∀ (v334_0 : BitVec 32) (k0_hw2 : k0_chk2 v334_0) (k0_t2 : Fin (k0_t2_loop v334_0).trips), ∀ a, (k0_off9 v334_0 k0_t2) a + S1.size a ≤ S40.size a := fun v334_0 k0_hw2 k0_t2 => k0_hw2.2.1 k0_t2
theorem k0_t3_ok : ∀ (v334_0 : BitVec 32) (k0_hw2 : k0_chk2 v334_0) (k0_t2 : Fin (k0_t2_loop v334_0).trips), (k0_t3_loop v334_0 k0_t2).OK := fun v334_0 k0_hw2 k0_t2 => k0_hw2.2.2.1 k0_t2
theorem k0_off10_inb : ∀ (v334_0 : BitVec 32) (k0_hw2 : k0_chk2 v334_0) (k0_t2 : Fin (k0_t2_loop v334_0).trips) (k0_t3 : Fin (k0_t3_loop v334_0 k0_t2).trips), ∀ a, (k0_off10 v334_0 k0_t2 k0_t3) a + S1.size a ≤ S40.size a := fun v334_0 k0_hw2 k0_t2 k0_t3 => k0_hw2.2.2.2.1 k0_t2 k0_t3
theorem k0_t4_ok : ∀ (v334_0 : BitVec 32) (k0_hw2 : k0_chk2 v334_0) (k0_t2 : Fin (k0_t2_loop v334_0).trips), (k0_t4_loop v334_0 k0_t2).OK := fun v334_0 k0_hw2 k0_t2 => k0_hw2.2.2.2.2.1 k0_t2
theorem k0_off13_inb : ∀ (v334_0 : BitVec 32) (k0_hw2 : k0_chk2 v334_0) (k0_t2 : Fin (k0_t2_loop v334_0).trips) (k0_t4 : Fin (k0_t4_loop v334_0 k0_t2).trips), ∀ a, (k0_off13 v334_0 k0_t2 k0_t4) a + S1.size a ≤ S40.size a := fun v334_0 k0_hw2 k0_t2 k0_t4 => k0_hw2.2.2.2.2.2.1 k0_t2 k0_t4
theorem k0_t5_ok : ∀ (v334_0 : BitVec 32) (k0_hw2 : k0_chk2 v334_0), (k0_t5_loop v334_0).OK := fun v334_0 k0_hw2 => k0_hw2.2.2.2.2.2.2.1
theorem k0_off16_inb : ∀ (v334_0 : BitVec 32) (k0_hw2 : k0_chk2 v334_0) (k0_t5 : Fin (k0_t5_loop v334_0).trips), ∀ a, (k0_off16 v334_0 k0_t5) a + S1.size a ≤ S40.size a := fun v334_0 k0_hw2 k0_t5 => k0_hw2.2.2.2.2.2.2.2.1 k0_t5
theorem k0_t6_ok : ∀ (v334_0 : BitVec 32) (k0_hw2 : k0_chk2 v334_0) (k0_t5 : Fin (k0_t5_loop v334_0).trips), (k0_t6_loop v334_0 k0_t5).OK := fun v334_0 k0_hw2 k0_t5 => k0_hw2.2.2.2.2.2.2.2.2.1 k0_t5
theorem k0_off17_inb : ∀ (v334_0 : BitVec 32) (k0_hw2 : k0_chk2 v334_0) (k0_t5 : Fin (k0_t5_loop v334_0).trips) (k0_t6 : Fin (k0_t6_loop v334_0 k0_t5).trips), ∀ a, (k0_off17 v334_0 k0_t5 k0_t6) a + S1.size a ≤ S40.size a := fun v334_0 k0_hw2 k0_t5 k0_t6 => k0_hw2.2.2.2.2.2.2.2.2.2.1 k0_t5 k0_t6
theorem k0_t7_ok : ∀ (v334_0 : BitVec 32) (k0_hw2 : k0_chk2 v334_0) (k0_t5 : Fin (k0_t5_loop v334_0).trips), (k0_t7_loop v334_0 k0_t5).OK := fun v334_0 k0_hw2 k0_t5 => k0_hw2.2.2.2.2.2.2.2.2.2.2.1 k0_t5
theorem k0_off20_inb : ∀ (v334_0 : BitVec 32) (k0_hw2 : k0_chk2 v334_0) (k0_t5 : Fin (k0_t5_loop v334_0).trips) (k0_t7 : Fin (k0_t7_loop v334_0 k0_t5).trips), ∀ a, (k0_off20 v334_0 k0_t5 k0_t7) a + S1.size a ≤ S40.size a := fun v334_0 k0_hw2 k0_t5 k0_t7 => k0_hw2.2.2.2.2.2.2.2.2.2.2.2 k0_t5 k0_t7

def k0_off21 (v4949 : BitVec 32) (v4991 : BitVec 32) : Fin 1 → Nat :=
  let c64_i32_1391 : BitVec 32 := 64#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c64_i32_1391 v5014
  let v5048 : Index := Scalar.indexCast v5015
  ![v5048.toNat]

def k0_off22 (v4949 : BitVec 32) (v4991 : BitVec 32) : Fin 1 → Nat :=
  let c64_i32_1391 : BitVec 32 := 64#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c64_i32_1391 v5014
  let c16_i32_1397 : BitVec 32 := 16#32
  let v5056 : BitVec 32 := Scalar.addi v5015 c16_i32_1397
  let v5057 : Index := Scalar.indexCast v5056
  ![v5057.toNat]

def k0_chk6 (v4949 : BitVec 32) (v4991 : BitVec 32) : Prop :=
  (∀ a, (k0_off21 v4949 v4991) a + S16.size a ≤ S6144.size a) ∧
  (∀ a, (k0_off22 v4949 v4991) a + S16.size a ≤ S6144.size a)
theorem k0_off21_inb : ∀ (v4949 : BitVec 32) (v4991 : BitVec 32) (k0_hw6 : k0_chk6 v4949 v4991), ∀ a, (k0_off21 v4949 v4991) a + S16.size a ≤ S6144.size a := fun v4949 v4991 k0_hw6 => k0_hw6.1
theorem k0_off22_inb : ∀ (v4949 : BitVec 32) (v4991 : BitVec 32) (k0_hw6 : k0_chk6 v4949 v4991), ∀ a, (k0_off22 v4949 v4991) a + S16.size a ≤ S6144.size a := fun v4949 v4991 k0_hw6 => k0_hw6.2

def k0_off23 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c1_i32_124 : BitVec 32 := 1#32
  let v413 : BitVec 32 := Scalar.addi v29 c1_i32_124
  let v414 : Index := Scalar.indexCast v413
  ![v414.toNat]
def k0_off24 (i : grid0.Coords) (c32_i32_125 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c1_i32_124 : BitVec 32 := 1#32
  let v413 : BitVec 32 := Scalar.addi v29 c1_i32_124
  let v419 : BitVec 32 := Scalar.addi c32_i32_125 v413
  let v420 : Index := Scalar.indexCast v419
  ![v420.toNat]
@[reducible] def k0_t8_loop : Scf.Loop 32 :=
  let c0_i32_198 : BitVec 32 := 0#32
  let c32_i32_199 : BitVec 32 := 32#32
  let v635 : BitVec 32 := Scalar.addi c0_i32_198 c32_i32_199
  let c1_i32_200 : BitVec 32 := 1#32
  ⟨c0_i32_198, v635, c1_i32_200⟩
def k0_off25 (k0_t8 : Fin k0_t8_loop.trips) : Fin 1 → Nat :=
  let c0_i32_198 : BitVec 32 := 0#32
  let c1_i32_200 : BitVec 32 := 1#32
  let arg17 : BitVec 32 := Scf.iv c0_i32_198 c1_i32_200 k0_t8
  let v4944 : Index := Scalar.indexCast arg17
  ![v4944.toNat]
def k0_off26 (arg18 : BitVec 32) : Fin 1 → Nat :=
  let v4988 : Index := Scalar.indexCast arg18
  ![v4988.toNat]
def k0_cond2 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk7 (arg18 : BitVec 32) (v4984 : BitVec 1) : Prop :=
  (∀ (k0_h2 : k0_cond2 v4984 = 1#1), ∀ a, (k0_off26 arg18) a + S1.size a ≤ S40.size a)
theorem k0_off26_inb : ∀ (arg18 : BitVec 32) (v4984 : BitVec 1) (k0_hw7 : k0_chk7 arg18 v4984), ∀ (k0_h2 : k0_cond2 v4984 = 1#1), ∀ a, (k0_off26 arg18) a + S1.size a ≤ S40.size a := fun arg18 v4984 k0_hw7 k0_h2 => k0_hw7 k0_h2

def k0_off27 (k0_t8 : Fin k0_t8_loop.trips) : Fin 1 → Nat :=
  let c0_i32_198 : BitVec 32 := 0#32
  let c1_i32_200 : BitVec 32 := 1#32
  let arg17 : BitVec 32 := Scf.iv c0_i32_198 c1_i32_200 k0_t8
  let v4994 : Index := Scalar.indexCast arg17
  ![v4994.toNat]
def k0_off28 (k0_t8 : Fin k0_t8_loop.trips) (c32_i32_1379 : BitVec 32) : Fin 1 → Nat :=
  let c0_i32_198 : BitVec 32 := 0#32
  let c1_i32_200 : BitVec 32 := 1#32
  let arg17 : BitVec 32 := Scf.iv c0_i32_198 c1_i32_200 k0_t8
  let v5002 : BitVec 32 := Scalar.addi c32_i32_1379 arg17
  let v5003 : Index := Scalar.indexCast v5002
  ![v5003.toNat]
@[reducible] def k0_t9_loop (v636_0 : BitVec 32) : Scf.Loop 32 :=
  let c0_i32_204 : BitVec 32 := 0#32
  let c1_i32_202 : BitVec 32 := 1#32
  let v709 : BitVec 32 := Scalar.subi v636_0 c1_i32_202
  let v710 : BitVec 32 := Scalar.subi v709 c0_i32_204
  let c1_i32_205 : BitVec 32 := 1#32
  let v712 : BitVec 32 := Scalar.divsi v710 c1_i32_205
  let v713 : BitVec 32 := Scalar.muli v712 c1_i32_205
  let v714 : BitVec 32 := Scalar.addi c0_i32_204 v713
  let c1_i32_206 : BitVec 32 := 1#32
  ⟨c0_i32_204, v714, c1_i32_206⟩

def k0_off29 (v636_0 : BitVec 32) (k0_t9 : Fin (k0_t9_loop v636_0).trips) : Fin 1 → Nat :=
  let c0_i32_204 : BitVec 32 := 0#32
  let c1_i32_206 : BitVec 32 := 1#32
  let arg17 : BitVec 32 := Scf.iv c0_i32_204 c1_i32_206 k0_t9
  let v4944 : Index := Scalar.indexCast arg17
  ![v4944.toNat]
@[reducible] def k0_t10_loop (v636_0 : BitVec 32) (k0_t9 : Fin (k0_t9_loop v636_0).trips) : Scf.Loop 32 :=
  let c0_i32_204 : BitVec 32 := 0#32
  let c1_i32_206 : BitVec 32 := 1#32
  let arg17 : BitVec 32 := Scf.iv c0_i32_204 c1_i32_206 k0_t9
  let c1_i32_1372 : BitVec 32 := 1#32
  let v4956 : BitVec 32 := Scalar.addi arg17 c1_i32_1372
  let v4957 : BitVec 32 := Scalar.subi v636_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off30 (v636_0 : BitVec 32) (k0_t9 : Fin (k0_t9_loop v636_0).trips) (k0_t10 : Fin (k0_t10_loop v636_0 k0_t9).trips) : Fin 1 → Nat :=
  let c0_i32_204 : BitVec 32 := 0#32
  let c1_i32_206 : BitVec 32 := 1#32
  let arg17 : BitVec 32 := Scf.iv c0_i32_204 c1_i32_206 k0_t9
  let c1_i32_1372 : BitVec 32 := 1#32
  let v4956 : BitVec 32 := Scalar.addi arg17 c1_i32_1372
  let c1_i32_1375 : BitVec 32 := 1#32
  let arg18 : BitVec 32 := Scf.iv v4956 c1_i32_1375 k0_t10
  let v4962 : Index := Scalar.indexCast arg18
  ![v4962.toNat]
def k0_off31 (v4949 : BitVec 32) (v4991 : BitVec 32) : Fin 1 → Nat :=
  let c448_i32 : BitVec 32 := 448#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c448_i32 v5014
  let v5048 : Index := Scalar.indexCast v5015
  ![v5048.toNat]

def k0_off32 (v4949 : BitVec 32) (v4991 : BitVec 32) : Fin 1 → Nat :=
  let c448_i32 : BitVec 32 := 448#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c448_i32 v5014
  let c16_i32_1396 : BitVec 32 := 16#32
  let v5056 : BitVec 32 := Scalar.addi v5015 c16_i32_1396
  let v5057 : Index := Scalar.indexCast v5056
  ![v5057.toNat]

def k0_chk9 (v4949 : BitVec 32) (v4991 : BitVec 32) : Prop :=
  (∀ a, (k0_off31 v4949 v4991) a + S16.size a ≤ S6144.size a) ∧
  (∀ a, (k0_off32 v4949 v4991) a + S16.size a ≤ S6144.size a)
theorem k0_off31_inb : ∀ (v4949 : BitVec 32) (v4991 : BitVec 32) (k0_hw9 : k0_chk9 v4949 v4991), ∀ a, (k0_off31 v4949 v4991) a + S16.size a ≤ S6144.size a := fun v4949 v4991 k0_hw9 => k0_hw9.1
theorem k0_off32_inb : ∀ (v4949 : BitVec 32) (v4991 : BitVec 32) (k0_hw9 : k0_chk9 v4949 v4991), ∀ a, (k0_off32 v4949 v4991) a + S16.size a ≤ S6144.size a := fun v4949 v4991 k0_hw9 => k0_hw9.2

@[reducible] def k0_t11_loop (v636_0 : BitVec 32) (k0_t9 : Fin (k0_t9_loop v636_0).trips) : Scf.Loop 32 :=
  let c0_i32_204 : BitVec 32 := 0#32
  let c1_i32_206 : BitVec 32 := 1#32
  let arg17 : BitVec 32 := Scf.iv c0_i32_204 c1_i32_206 k0_t9
  let c1_i32_1372 : BitVec 32 := 1#32
  let v4956 : BitVec 32 := Scalar.addi arg17 c1_i32_1372
  let v4957 : BitVec 32 := Scalar.subi v636_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off33 (v636_0 : BitVec 32) (k0_t9 : Fin (k0_t9_loop v636_0).trips) (k0_t11 : Fin (k0_t11_loop v636_0 k0_t9).trips) : Fin 1 → Nat :=
  let c0_i32_204 : BitVec 32 := 0#32
  let c1_i32_206 : BitVec 32 := 1#32
  let arg17 : BitVec 32 := Scf.iv c0_i32_204 c1_i32_206 k0_t9
  let c1_i32_1372 : BitVec 32 := 1#32
  let v4956 : BitVec 32 := Scalar.addi arg17 c1_i32_1372
  let v4957 : BitVec 32 := Scalar.subi v636_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t11
  let v4962 : Index := Scalar.indexCast arg18
  ![v4962.toNat]
def k0_off34 (v4949 : BitVec 32) (v4991 : BitVec 32) : Fin 1 → Nat :=
  let c448_i32 : BitVec 32 := 448#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c448_i32 v5014
  let v5048 : Index := Scalar.indexCast v5015
  ![v5048.toNat]

def k0_off35 (v4949 : BitVec 32) (v4991 : BitVec 32) : Fin 1 → Nat :=
  let c448_i32 : BitVec 32 := 448#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c448_i32 v5014
  let c16_i32_1396 : BitVec 32 := 16#32
  let v5056 : BitVec 32 := Scalar.addi v5015 c16_i32_1396
  let v5057 : Index := Scalar.indexCast v5056
  ![v5057.toNat]

def k0_chk10 (v4949 : BitVec 32) (v4991 : BitVec 32) : Prop :=
  (∀ a, (k0_off34 v4949 v4991) a + S16.size a ≤ S6144.size a) ∧
  (∀ a, (k0_off35 v4949 v4991) a + S16.size a ≤ S6144.size a)
theorem k0_off34_inb : ∀ (v4949 : BitVec 32) (v4991 : BitVec 32) (k0_hw10 : k0_chk10 v4949 v4991), ∀ a, (k0_off34 v4949 v4991) a + S16.size a ≤ S6144.size a := fun v4949 v4991 k0_hw10 => k0_hw10.1
theorem k0_off35_inb : ∀ (v4949 : BitVec 32) (v4991 : BitVec 32) (k0_hw10 : k0_chk10 v4949 v4991), ∀ a, (k0_off35 v4949 v4991) a + S16.size a ≤ S6144.size a := fun v4949 v4991 k0_hw10 => k0_hw10.2

@[reducible] def k0_t12_loop (v636_0 : BitVec 32) : Scf.Loop 32 :=
  let c0_i32_204 : BitVec 32 := 0#32
  let c1_i32_202 : BitVec 32 := 1#32
  let v709 : BitVec 32 := Scalar.subi v636_0 c1_i32_202
  let v710 : BitVec 32 := Scalar.subi v709 c0_i32_204
  let c1_i32_205 : BitVec 32 := 1#32
  let v712 : BitVec 32 := Scalar.divsi v710 c1_i32_205
  let v713 : BitVec 32 := Scalar.muli v712 c1_i32_205
  let v714 : BitVec 32 := Scalar.addi c0_i32_204 v713
  let v711 : BitVec 32 := Scalar.addi c0_i32_204 v710
  let c1_i32_207 : BitVec 32 := 1#32
  ⟨v714, v711, c1_i32_207⟩
def k0_off36 (v636_0 : BitVec 32) (k0_t12 : Fin (k0_t12_loop v636_0).trips) : Fin 1 → Nat :=
  let c0_i32_204 : BitVec 32 := 0#32
  let c1_i32_202 : BitVec 32 := 1#32
  let v709 : BitVec 32 := Scalar.subi v636_0 c1_i32_202
  let v710 : BitVec 32 := Scalar.subi v709 c0_i32_204
  let c1_i32_205 : BitVec 32 := 1#32
  let v712 : BitVec 32 := Scalar.divsi v710 c1_i32_205
  let v713 : BitVec 32 := Scalar.muli v712 c1_i32_205
  let v714 : BitVec 32 := Scalar.addi c0_i32_204 v713
  let c1_i32_207 : BitVec 32 := 1#32
  let arg17 : BitVec 32 := Scf.iv v714 c1_i32_207 k0_t12
  let v4944 : Index := Scalar.indexCast arg17
  ![v4944.toNat]
@[reducible] def k0_t13_loop (v636_0 : BitVec 32) (k0_t12 : Fin (k0_t12_loop v636_0).trips) : Scf.Loop 32 :=
  let c0_i32_204 : BitVec 32 := 0#32
  let c1_i32_202 : BitVec 32 := 1#32
  let v709 : BitVec 32 := Scalar.subi v636_0 c1_i32_202
  let v710 : BitVec 32 := Scalar.subi v709 c0_i32_204
  let c1_i32_205 : BitVec 32 := 1#32
  let v712 : BitVec 32 := Scalar.divsi v710 c1_i32_205
  let v713 : BitVec 32 := Scalar.muli v712 c1_i32_205
  let v714 : BitVec 32 := Scalar.addi c0_i32_204 v713
  let c1_i32_207 : BitVec 32 := 1#32
  let arg17 : BitVec 32 := Scf.iv v714 c1_i32_207 k0_t12
  let c1_i32_1372 : BitVec 32 := 1#32
  let v4956 : BitVec 32 := Scalar.addi arg17 c1_i32_1372
  let v4957 : BitVec 32 := Scalar.subi v636_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off37 (v636_0 : BitVec 32) (k0_t12 : Fin (k0_t12_loop v636_0).trips) (k0_t13 : Fin (k0_t13_loop v636_0 k0_t12).trips) : Fin 1 → Nat :=
  let c0_i32_204 : BitVec 32 := 0#32
  let c1_i32_202 : BitVec 32 := 1#32
  let v709 : BitVec 32 := Scalar.subi v636_0 c1_i32_202
  let v710 : BitVec 32 := Scalar.subi v709 c0_i32_204
  let c1_i32_205 : BitVec 32 := 1#32
  let v712 : BitVec 32 := Scalar.divsi v710 c1_i32_205
  let v713 : BitVec 32 := Scalar.muli v712 c1_i32_205
  let v714 : BitVec 32 := Scalar.addi c0_i32_204 v713
  let c1_i32_207 : BitVec 32 := 1#32
  let arg17 : BitVec 32 := Scf.iv v714 c1_i32_207 k0_t12
  let c1_i32_1372 : BitVec 32 := 1#32
  let v4956 : BitVec 32 := Scalar.addi arg17 c1_i32_1372
  let c1_i32_1375 : BitVec 32 := 1#32
  let arg18 : BitVec 32 := Scf.iv v4956 c1_i32_1375 k0_t13
  let v4962 : Index := Scalar.indexCast arg18
  ![v4962.toNat]
def k0_off38 (v4949 : BitVec 32) (v4991 : BitVec 32) : Fin 1 → Nat :=
  let c448_i32 : BitVec 32 := 448#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c448_i32 v5014
  let v5048 : Index := Scalar.indexCast v5015
  ![v5048.toNat]

def k0_off39 (v4949 : BitVec 32) (v4991 : BitVec 32) : Fin 1 → Nat :=
  let c448_i32 : BitVec 32 := 448#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c448_i32 v5014
  let c16_i32_1396 : BitVec 32 := 16#32
  let v5056 : BitVec 32 := Scalar.addi v5015 c16_i32_1396
  let v5057 : Index := Scalar.indexCast v5056
  ![v5057.toNat]

def k0_chk11 (v4949 : BitVec 32) (v4991 : BitVec 32) : Prop :=
  (∀ a, (k0_off38 v4949 v4991) a + S16.size a ≤ S6144.size a) ∧
  (∀ a, (k0_off39 v4949 v4991) a + S16.size a ≤ S6144.size a)
theorem k0_off38_inb : ∀ (v4949 : BitVec 32) (v4991 : BitVec 32) (k0_hw11 : k0_chk11 v4949 v4991), ∀ a, (k0_off38 v4949 v4991) a + S16.size a ≤ S6144.size a := fun v4949 v4991 k0_hw11 => k0_hw11.1
theorem k0_off39_inb : ∀ (v4949 : BitVec 32) (v4991 : BitVec 32) (k0_hw11 : k0_chk11 v4949 v4991), ∀ a, (k0_off39 v4949 v4991) a + S16.size a ≤ S6144.size a := fun v4949 v4991 k0_hw11 => k0_hw11.2

@[reducible] def k0_t14_loop (v636_0 : BitVec 32) (k0_t12 : Fin (k0_t12_loop v636_0).trips) : Scf.Loop 32 :=
  let c0_i32_204 : BitVec 32 := 0#32
  let c1_i32_202 : BitVec 32 := 1#32
  let v709 : BitVec 32 := Scalar.subi v636_0 c1_i32_202
  let v710 : BitVec 32 := Scalar.subi v709 c0_i32_204
  let c1_i32_205 : BitVec 32 := 1#32
  let v712 : BitVec 32 := Scalar.divsi v710 c1_i32_205
  let v713 : BitVec 32 := Scalar.muli v712 c1_i32_205
  let v714 : BitVec 32 := Scalar.addi c0_i32_204 v713
  let c1_i32_207 : BitVec 32 := 1#32
  let arg17 : BitVec 32 := Scf.iv v714 c1_i32_207 k0_t12
  let c1_i32_1372 : BitVec 32 := 1#32
  let v4956 : BitVec 32 := Scalar.addi arg17 c1_i32_1372
  let v4957 : BitVec 32 := Scalar.subi v636_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off40 (v636_0 : BitVec 32) (k0_t12 : Fin (k0_t12_loop v636_0).trips) (k0_t14 : Fin (k0_t14_loop v636_0 k0_t12).trips) : Fin 1 → Nat :=
  let c0_i32_204 : BitVec 32 := 0#32
  let c1_i32_202 : BitVec 32 := 1#32
  let v709 : BitVec 32 := Scalar.subi v636_0 c1_i32_202
  let v710 : BitVec 32 := Scalar.subi v709 c0_i32_204
  let c1_i32_205 : BitVec 32 := 1#32
  let v712 : BitVec 32 := Scalar.divsi v710 c1_i32_205
  let v713 : BitVec 32 := Scalar.muli v712 c1_i32_205
  let v714 : BitVec 32 := Scalar.addi c0_i32_204 v713
  let c1_i32_207 : BitVec 32 := 1#32
  let arg17 : BitVec 32 := Scf.iv v714 c1_i32_207 k0_t12
  let c1_i32_1372 : BitVec 32 := 1#32
  let v4956 : BitVec 32 := Scalar.addi arg17 c1_i32_1372
  let v4957 : BitVec 32 := Scalar.subi v636_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t14
  let v4962 : Index := Scalar.indexCast arg18
  ![v4962.toNat]

def k0_chk8 (v636_0 : BitVec 32) : Prop :=
  ((k0_t9_loop v636_0).OK) ∧
  (∀ k0_t9 : Fin (k0_t9_loop v636_0).trips, ∀ a, (k0_off29 v636_0 k0_t9) a + S1.size a ≤ S40.size a) ∧
  (∀ k0_t9 : Fin (k0_t9_loop v636_0).trips, (k0_t10_loop v636_0 k0_t9).OK) ∧
  (∀ (k0_t9 : Fin (k0_t9_loop v636_0).trips) (k0_t10 : Fin (k0_t10_loop v636_0 k0_t9).trips), ∀ a, (k0_off30 v636_0 k0_t9 k0_t10) a + S1.size a ≤ S40.size a) ∧
  (∀ k0_t9 : Fin (k0_t9_loop v636_0).trips, (k0_t11_loop v636_0 k0_t9).OK) ∧
  (∀ (k0_t9 : Fin (k0_t9_loop v636_0).trips) (k0_t11 : Fin (k0_t11_loop v636_0 k0_t9).trips), ∀ a, (k0_off33 v636_0 k0_t9 k0_t11) a + S1.size a ≤ S40.size a) ∧
  ((k0_t12_loop v636_0).OK) ∧
  (∀ k0_t12 : Fin (k0_t12_loop v636_0).trips, ∀ a, (k0_off36 v636_0 k0_t12) a + S1.size a ≤ S40.size a) ∧
  (∀ k0_t12 : Fin (k0_t12_loop v636_0).trips, (k0_t13_loop v636_0 k0_t12).OK) ∧
  (∀ (k0_t12 : Fin (k0_t12_loop v636_0).trips) (k0_t13 : Fin (k0_t13_loop v636_0 k0_t12).trips), ∀ a, (k0_off37 v636_0 k0_t12 k0_t13) a + S1.size a ≤ S40.size a) ∧
  (∀ k0_t12 : Fin (k0_t12_loop v636_0).trips, (k0_t14_loop v636_0 k0_t12).OK) ∧
  (∀ (k0_t12 : Fin (k0_t12_loop v636_0).trips) (k0_t14 : Fin (k0_t14_loop v636_0 k0_t12).trips), ∀ a, (k0_off40 v636_0 k0_t12 k0_t14) a + S1.size a ≤ S40.size a)
theorem k0_t9_ok : ∀ (v636_0 : BitVec 32) (k0_hw8 : k0_chk8 v636_0), (k0_t9_loop v636_0).OK := fun v636_0 k0_hw8 => k0_hw8.1
theorem k0_off29_inb : ∀ (v636_0 : BitVec 32) (k0_hw8 : k0_chk8 v636_0) (k0_t9 : Fin (k0_t9_loop v636_0).trips), ∀ a, (k0_off29 v636_0 k0_t9) a + S1.size a ≤ S40.size a := fun v636_0 k0_hw8 k0_t9 => k0_hw8.2.1 k0_t9
theorem k0_t10_ok : ∀ (v636_0 : BitVec 32) (k0_hw8 : k0_chk8 v636_0) (k0_t9 : Fin (k0_t9_loop v636_0).trips), (k0_t10_loop v636_0 k0_t9).OK := fun v636_0 k0_hw8 k0_t9 => k0_hw8.2.2.1 k0_t9
theorem k0_off30_inb : ∀ (v636_0 : BitVec 32) (k0_hw8 : k0_chk8 v636_0) (k0_t9 : Fin (k0_t9_loop v636_0).trips) (k0_t10 : Fin (k0_t10_loop v636_0 k0_t9).trips), ∀ a, (k0_off30 v636_0 k0_t9 k0_t10) a + S1.size a ≤ S40.size a := fun v636_0 k0_hw8 k0_t9 k0_t10 => k0_hw8.2.2.2.1 k0_t9 k0_t10
theorem k0_t11_ok : ∀ (v636_0 : BitVec 32) (k0_hw8 : k0_chk8 v636_0) (k0_t9 : Fin (k0_t9_loop v636_0).trips), (k0_t11_loop v636_0 k0_t9).OK := fun v636_0 k0_hw8 k0_t9 => k0_hw8.2.2.2.2.1 k0_t9
theorem k0_off33_inb : ∀ (v636_0 : BitVec 32) (k0_hw8 : k0_chk8 v636_0) (k0_t9 : Fin (k0_t9_loop v636_0).trips) (k0_t11 : Fin (k0_t11_loop v636_0 k0_t9).trips), ∀ a, (k0_off33 v636_0 k0_t9 k0_t11) a + S1.size a ≤ S40.size a := fun v636_0 k0_hw8 k0_t9 k0_t11 => k0_hw8.2.2.2.2.2.1 k0_t9 k0_t11
theorem k0_t12_ok : ∀ (v636_0 : BitVec 32) (k0_hw8 : k0_chk8 v636_0), (k0_t12_loop v636_0).OK := fun v636_0 k0_hw8 => k0_hw8.2.2.2.2.2.2.1
theorem k0_off36_inb : ∀ (v636_0 : BitVec 32) (k0_hw8 : k0_chk8 v636_0) (k0_t12 : Fin (k0_t12_loop v636_0).trips), ∀ a, (k0_off36 v636_0 k0_t12) a + S1.size a ≤ S40.size a := fun v636_0 k0_hw8 k0_t12 => k0_hw8.2.2.2.2.2.2.2.1 k0_t12
theorem k0_t13_ok : ∀ (v636_0 : BitVec 32) (k0_hw8 : k0_chk8 v636_0) (k0_t12 : Fin (k0_t12_loop v636_0).trips), (k0_t13_loop v636_0 k0_t12).OK := fun v636_0 k0_hw8 k0_t12 => k0_hw8.2.2.2.2.2.2.2.2.1 k0_t12
theorem k0_off37_inb : ∀ (v636_0 : BitVec 32) (k0_hw8 : k0_chk8 v636_0) (k0_t12 : Fin (k0_t12_loop v636_0).trips) (k0_t13 : Fin (k0_t13_loop v636_0 k0_t12).trips), ∀ a, (k0_off37 v636_0 k0_t12 k0_t13) a + S1.size a ≤ S40.size a := fun v636_0 k0_hw8 k0_t12 k0_t13 => k0_hw8.2.2.2.2.2.2.2.2.2.1 k0_t12 k0_t13
theorem k0_t14_ok : ∀ (v636_0 : BitVec 32) (k0_hw8 : k0_chk8 v636_0) (k0_t12 : Fin (k0_t12_loop v636_0).trips), (k0_t14_loop v636_0 k0_t12).OK := fun v636_0 k0_hw8 k0_t12 => k0_hw8.2.2.2.2.2.2.2.2.2.2.1 k0_t12
theorem k0_off40_inb : ∀ (v636_0 : BitVec 32) (k0_hw8 : k0_chk8 v636_0) (k0_t12 : Fin (k0_t12_loop v636_0).trips) (k0_t14 : Fin (k0_t14_loop v636_0 k0_t12).trips), ∀ a, (k0_off40 v636_0 k0_t12 k0_t14) a + S1.size a ≤ S40.size a := fun v636_0 k0_hw8 k0_t12 k0_t14 => k0_hw8.2.2.2.2.2.2.2.2.2.2.2 k0_t12 k0_t14

def k0_off41 (v4949 : BitVec 32) (v4991 : BitVec 32) : Fin 1 → Nat :=
  let c448_i32 : BitVec 32 := 448#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c448_i32 v5014
  let v5048 : Index := Scalar.indexCast v5015
  ![v5048.toNat]

def k0_off42 (v4949 : BitVec 32) (v4991 : BitVec 32) : Fin 1 → Nat :=
  let c448_i32 : BitVec 32 := 448#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c448_i32 v5014
  let c16_i32_1396 : BitVec 32 := 16#32
  let v5056 : BitVec 32 := Scalar.addi v5015 c16_i32_1396
  let v5057 : Index := Scalar.indexCast v5056
  ![v5057.toNat]

def k0_chk12 (v4949 : BitVec 32) (v4991 : BitVec 32) : Prop :=
  (∀ a, (k0_off41 v4949 v4991) a + S16.size a ≤ S6144.size a) ∧
  (∀ a, (k0_off42 v4949 v4991) a + S16.size a ≤ S6144.size a)
theorem k0_off41_inb : ∀ (v4949 : BitVec 32) (v4991 : BitVec 32) (k0_hw12 : k0_chk12 v4949 v4991), ∀ a, (k0_off41 v4949 v4991) a + S16.size a ≤ S6144.size a := fun v4949 v4991 k0_hw12 => k0_hw12.1
theorem k0_off42_inb : ∀ (v4949 : BitVec 32) (v4991 : BitVec 32) (k0_hw12 : k0_chk12 v4949 v4991), ∀ a, (k0_off42 v4949 v4991) a + S16.size a ≤ S6144.size a := fun v4949 v4991 k0_hw12 => k0_hw12.2

def k0_off43 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c2_i32_208 : BitVec 32 := 2#32
  let v715 : BitVec 32 := Scalar.addi v29 c2_i32_208
  let v716 : Index := Scalar.indexCast v715
  ![v716.toNat]
def k0_off44 (i : grid0.Coords) (c32_i32_209 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c2_i32_208 : BitVec 32 := 2#32
  let v715 : BitVec 32 := Scalar.addi v29 c2_i32_208
  let v721 : BitVec 32 := Scalar.addi c32_i32_209 v715
  let v722 : Index := Scalar.indexCast v721
  ![v722.toNat]
@[reducible] def k0_t15_loop : Scf.Loop 32 :=
  let c0_i32_282 : BitVec 32 := 0#32
  let c32_i32_283 : BitVec 32 := 32#32
  let v937 : BitVec 32 := Scalar.addi c0_i32_282 c32_i32_283
  let c1_i32_284 : BitVec 32 := 1#32
  ⟨c0_i32_282, v937, c1_i32_284⟩
def k0_off45 (k0_t15 : Fin k0_t15_loop.trips) : Fin 1 → Nat :=
  let c0_i32_282 : BitVec 32 := 0#32
  let c1_i32_284 : BitVec 32 := 1#32
  let arg17 : BitVec 32 := Scf.iv c0_i32_282 c1_i32_284 k0_t15
  let v4944 : Index := Scalar.indexCast arg17
  ![v4944.toNat]
def k0_off46 (arg18 : BitVec 32) : Fin 1 → Nat :=
  let v4988 : Index := Scalar.indexCast arg18
  ![v4988.toNat]
def k0_cond3 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk13 (arg18 : BitVec 32) (v4984 : BitVec 1) : Prop :=
  (∀ (k0_h3 : k0_cond3 v4984 = 1#1), ∀ a, (k0_off46 arg18) a + S1.size a ≤ S40.size a)
theorem k0_off46_inb : ∀ (arg18 : BitVec 32) (v4984 : BitVec 1) (k0_hw13 : k0_chk13 arg18 v4984), ∀ (k0_h3 : k0_cond3 v4984 = 1#1), ∀ a, (k0_off46 arg18) a + S1.size a ≤ S40.size a := fun arg18 v4984 k0_hw13 k0_h3 => k0_hw13 k0_h3

def k0_off47 (k0_t15 : Fin k0_t15_loop.trips) : Fin 1 → Nat :=
  let c0_i32_282 : BitVec 32 := 0#32
  let c1_i32_284 : BitVec 32 := 1#32
  let arg17 : BitVec 32 := Scf.iv c0_i32_282 c1_i32_284 k0_t15
  let v4994 : Index := Scalar.indexCast arg17
  ![v4994.toNat]
def k0_off48 (k0_t15 : Fin k0_t15_loop.trips) (c32_i32_1379 : BitVec 32) : Fin 1 → Nat :=
  let c0_i32_282 : BitVec 32 := 0#32
  let c1_i32_284 : BitVec 32 := 1#32
  let arg17 : BitVec 32 := Scf.iv c0_i32_282 c1_i32_284 k0_t15
  let v5002 : BitVec 32 := Scalar.addi c32_i32_1379 arg17
  let v5003 : Index := Scalar.indexCast v5002
  ![v5003.toNat]
@[reducible] def k0_t16_loop (v938_0 : BitVec 32) : Scf.Loop 32 :=
  let c0_i32_288 : BitVec 32 := 0#32
  let c1_i32_286 : BitVec 32 := 1#32
  let v1011 : BitVec 32 := Scalar.subi v938_0 c1_i32_286
  let v1012 : BitVec 32 := Scalar.subi v1011 c0_i32_288
  let c1_i32_289 : BitVec 32 := 1#32
  let v1014 : BitVec 32 := Scalar.divsi v1012 c1_i32_289
  let v1015 : BitVec 32 := Scalar.muli v1014 c1_i32_289
  let v1016 : BitVec 32 := Scalar.addi c0_i32_288 v1015
  let c1_i32_290 : BitVec 32 := 1#32
  ⟨c0_i32_288, v1016, c1_i32_290⟩

def k0_off49 (v938_0 : BitVec 32) (k0_t16 : Fin (k0_t16_loop v938_0).trips) : Fin 1 → Nat :=
  let c0_i32_288 : BitVec 32 := 0#32
  let c1_i32_290 : BitVec 32 := 1#32
  let arg17 : BitVec 32 := Scf.iv c0_i32_288 c1_i32_290 k0_t16
  let v4944 : Index := Scalar.indexCast arg17
  ![v4944.toNat]
@[reducible] def k0_t17_loop (v938_0 : BitVec 32) (k0_t16 : Fin (k0_t16_loop v938_0).trips) : Scf.Loop 32 :=
  let c0_i32_288 : BitVec 32 := 0#32
  let c1_i32_290 : BitVec 32 := 1#32
  let arg17 : BitVec 32 := Scf.iv c0_i32_288 c1_i32_290 k0_t16
  let c1_i32_1372 : BitVec 32 := 1#32
  let v4956 : BitVec 32 := Scalar.addi arg17 c1_i32_1372
  let v4957 : BitVec 32 := Scalar.subi v938_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off50 (v938_0 : BitVec 32) (k0_t16 : Fin (k0_t16_loop v938_0).trips) (k0_t17 : Fin (k0_t17_loop v938_0 k0_t16).trips) : Fin 1 → Nat :=
  let c0_i32_288 : BitVec 32 := 0#32
  let c1_i32_290 : BitVec 32 := 1#32
  let arg17 : BitVec 32 := Scf.iv c0_i32_288 c1_i32_290 k0_t16
  let c1_i32_1372 : BitVec 32 := 1#32
  let v4956 : BitVec 32 := Scalar.addi arg17 c1_i32_1372
  let c1_i32_1375 : BitVec 32 := 1#32
  let arg18 : BitVec 32 := Scf.iv v4956 c1_i32_1375 k0_t17
  let v4962 : Index := Scalar.indexCast arg18
  ![v4962.toNat]
def k0_off51 (v4949 : BitVec 32) (v4991 : BitVec 32) : Fin 1 → Nat :=
  let c832_i32 : BitVec 32 := 832#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c832_i32 v5014
  let v5048 : Index := Scalar.indexCast v5015
  ![v5048.toNat]

def k0_off52 (v4949 : BitVec 32) (v4991 : BitVec 32) : Fin 1 → Nat :=
  let c832_i32 : BitVec 32 := 832#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c832_i32 v5014
  let c16_i32_1396 : BitVec 32 := 16#32
  let v5056 : BitVec 32 := Scalar.addi v5015 c16_i32_1396
  let v5057 : Index := Scalar.indexCast v5056
  ![v5057.toNat]

def k0_chk15 (v4949 : BitVec 32) (v4991 : BitVec 32) : Prop :=
  (∀ a, (k0_off51 v4949 v4991) a + S16.size a ≤ S6144.size a) ∧
  (∀ a, (k0_off52 v4949 v4991) a + S16.size a ≤ S6144.size a)
theorem k0_off51_inb : ∀ (v4949 : BitVec 32) (v4991 : BitVec 32) (k0_hw15 : k0_chk15 v4949 v4991), ∀ a, (k0_off51 v4949 v4991) a + S16.size a ≤ S6144.size a := fun v4949 v4991 k0_hw15 => k0_hw15.1
theorem k0_off52_inb : ∀ (v4949 : BitVec 32) (v4991 : BitVec 32) (k0_hw15 : k0_chk15 v4949 v4991), ∀ a, (k0_off52 v4949 v4991) a + S16.size a ≤ S6144.size a := fun v4949 v4991 k0_hw15 => k0_hw15.2

@[reducible] def k0_t18_loop (v938_0 : BitVec 32) (k0_t16 : Fin (k0_t16_loop v938_0).trips) : Scf.Loop 32 :=
  let c0_i32_288 : BitVec 32 := 0#32
  let c1_i32_290 : BitVec 32 := 1#32
  let arg17 : BitVec 32 := Scf.iv c0_i32_288 c1_i32_290 k0_t16
  let c1_i32_1372 : BitVec 32 := 1#32
  let v4956 : BitVec 32 := Scalar.addi arg17 c1_i32_1372
  let v4957 : BitVec 32 := Scalar.subi v938_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off53 (v938_0 : BitVec 32) (k0_t16 : Fin (k0_t16_loop v938_0).trips) (k0_t18 : Fin (k0_t18_loop v938_0 k0_t16).trips) : Fin 1 → Nat :=
  let c0_i32_288 : BitVec 32 := 0#32
  let c1_i32_290 : BitVec 32 := 1#32
  let arg17 : BitVec 32 := Scf.iv c0_i32_288 c1_i32_290 k0_t16
  let c1_i32_1372 : BitVec 32 := 1#32
  let v4956 : BitVec 32 := Scalar.addi arg17 c1_i32_1372
  let v4957 : BitVec 32 := Scalar.subi v938_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t18
  let v4962 : Index := Scalar.indexCast arg18
  ![v4962.toNat]
def k0_off54 (v4949 : BitVec 32) (v4991 : BitVec 32) : Fin 1 → Nat :=
  let c832_i32 : BitVec 32 := 832#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c832_i32 v5014
  let v5048 : Index := Scalar.indexCast v5015
  ![v5048.toNat]

def k0_off55 (v4949 : BitVec 32) (v4991 : BitVec 32) : Fin 1 → Nat :=
  let c832_i32 : BitVec 32 := 832#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c832_i32 v5014
  let c16_i32_1396 : BitVec 32 := 16#32
  let v5056 : BitVec 32 := Scalar.addi v5015 c16_i32_1396
  let v5057 : Index := Scalar.indexCast v5056
  ![v5057.toNat]

def k0_chk16 (v4949 : BitVec 32) (v4991 : BitVec 32) : Prop :=
  (∀ a, (k0_off54 v4949 v4991) a + S16.size a ≤ S6144.size a) ∧
  (∀ a, (k0_off55 v4949 v4991) a + S16.size a ≤ S6144.size a)
theorem k0_off54_inb : ∀ (v4949 : BitVec 32) (v4991 : BitVec 32) (k0_hw16 : k0_chk16 v4949 v4991), ∀ a, (k0_off54 v4949 v4991) a + S16.size a ≤ S6144.size a := fun v4949 v4991 k0_hw16 => k0_hw16.1
theorem k0_off55_inb : ∀ (v4949 : BitVec 32) (v4991 : BitVec 32) (k0_hw16 : k0_chk16 v4949 v4991), ∀ a, (k0_off55 v4949 v4991) a + S16.size a ≤ S6144.size a := fun v4949 v4991 k0_hw16 => k0_hw16.2

@[reducible] def k0_t19_loop (v938_0 : BitVec 32) : Scf.Loop 32 :=
  let c0_i32_288 : BitVec 32 := 0#32
  let c1_i32_286 : BitVec 32 := 1#32
  let v1011 : BitVec 32 := Scalar.subi v938_0 c1_i32_286
  let v1012 : BitVec 32 := Scalar.subi v1011 c0_i32_288
  let c1_i32_289 : BitVec 32 := 1#32
  let v1014 : BitVec 32 := Scalar.divsi v1012 c1_i32_289
  let v1015 : BitVec 32 := Scalar.muli v1014 c1_i32_289
  let v1016 : BitVec 32 := Scalar.addi c0_i32_288 v1015
  let v1013 : BitVec 32 := Scalar.addi c0_i32_288 v1012
  let c1_i32_291 : BitVec 32 := 1#32
  ⟨v1016, v1013, c1_i32_291⟩
def k0_off56 (v938_0 : BitVec 32) (k0_t19 : Fin (k0_t19_loop v938_0).trips) : Fin 1 → Nat :=
  let c0_i32_288 : BitVec 32 := 0#32
  let c1_i32_286 : BitVec 32 := 1#32
  let v1011 : BitVec 32 := Scalar.subi v938_0 c1_i32_286
  let v1012 : BitVec 32 := Scalar.subi v1011 c0_i32_288
  let c1_i32_289 : BitVec 32 := 1#32
  let v1014 : BitVec 32 := Scalar.divsi v1012 c1_i32_289
  let v1015 : BitVec 32 := Scalar.muli v1014 c1_i32_289
  let v1016 : BitVec 32 := Scalar.addi c0_i32_288 v1015
  let c1_i32_291 : BitVec 32 := 1#32
  let arg17 : BitVec 32 := Scf.iv v1016 c1_i32_291 k0_t19
  let v4944 : Index := Scalar.indexCast arg17
  ![v4944.toNat]
@[reducible] def k0_t20_loop (v938_0 : BitVec 32) (k0_t19 : Fin (k0_t19_loop v938_0).trips) : Scf.Loop 32 :=
  let c0_i32_288 : BitVec 32 := 0#32
  let c1_i32_286 : BitVec 32 := 1#32
  let v1011 : BitVec 32 := Scalar.subi v938_0 c1_i32_286
  let v1012 : BitVec 32 := Scalar.subi v1011 c0_i32_288
  let c1_i32_289 : BitVec 32 := 1#32
  let v1014 : BitVec 32 := Scalar.divsi v1012 c1_i32_289
  let v1015 : BitVec 32 := Scalar.muli v1014 c1_i32_289
  let v1016 : BitVec 32 := Scalar.addi c0_i32_288 v1015
  let c1_i32_291 : BitVec 32 := 1#32
  let arg17 : BitVec 32 := Scf.iv v1016 c1_i32_291 k0_t19
  let c1_i32_1372 : BitVec 32 := 1#32
  let v4956 : BitVec 32 := Scalar.addi arg17 c1_i32_1372
  let v4957 : BitVec 32 := Scalar.subi v938_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off57 (v938_0 : BitVec 32) (k0_t19 : Fin (k0_t19_loop v938_0).trips) (k0_t20 : Fin (k0_t20_loop v938_0 k0_t19).trips) : Fin 1 → Nat :=
  let c0_i32_288 : BitVec 32 := 0#32
  let c1_i32_286 : BitVec 32 := 1#32
  let v1011 : BitVec 32 := Scalar.subi v938_0 c1_i32_286
  let v1012 : BitVec 32 := Scalar.subi v1011 c0_i32_288
  let c1_i32_289 : BitVec 32 := 1#32
  let v1014 : BitVec 32 := Scalar.divsi v1012 c1_i32_289
  let v1015 : BitVec 32 := Scalar.muli v1014 c1_i32_289
  let v1016 : BitVec 32 := Scalar.addi c0_i32_288 v1015
  let c1_i32_291 : BitVec 32 := 1#32
  let arg17 : BitVec 32 := Scf.iv v1016 c1_i32_291 k0_t19
  let c1_i32_1372 : BitVec 32 := 1#32
  let v4956 : BitVec 32 := Scalar.addi arg17 c1_i32_1372
  let c1_i32_1375 : BitVec 32 := 1#32
  let arg18 : BitVec 32 := Scf.iv v4956 c1_i32_1375 k0_t20
  let v4962 : Index := Scalar.indexCast arg18
  ![v4962.toNat]
def k0_off58 (v4949 : BitVec 32) (v4991 : BitVec 32) : Fin 1 → Nat :=
  let c832_i32 : BitVec 32 := 832#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c832_i32 v5014
  let v5048 : Index := Scalar.indexCast v5015
  ![v5048.toNat]

def k0_off59 (v4949 : BitVec 32) (v4991 : BitVec 32) : Fin 1 → Nat :=
  let c832_i32 : BitVec 32 := 832#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c832_i32 v5014
  let c16_i32_1396 : BitVec 32 := 16#32
  let v5056 : BitVec 32 := Scalar.addi v5015 c16_i32_1396
  let v5057 : Index := Scalar.indexCast v5056
  ![v5057.toNat]

def k0_chk17 (v4949 : BitVec 32) (v4991 : BitVec 32) : Prop :=
  (∀ a, (k0_off58 v4949 v4991) a + S16.size a ≤ S6144.size a) ∧
  (∀ a, (k0_off59 v4949 v4991) a + S16.size a ≤ S6144.size a)
theorem k0_off58_inb : ∀ (v4949 : BitVec 32) (v4991 : BitVec 32) (k0_hw17 : k0_chk17 v4949 v4991), ∀ a, (k0_off58 v4949 v4991) a + S16.size a ≤ S6144.size a := fun v4949 v4991 k0_hw17 => k0_hw17.1
theorem k0_off59_inb : ∀ (v4949 : BitVec 32) (v4991 : BitVec 32) (k0_hw17 : k0_chk17 v4949 v4991), ∀ a, (k0_off59 v4949 v4991) a + S16.size a ≤ S6144.size a := fun v4949 v4991 k0_hw17 => k0_hw17.2

@[reducible] def k0_t21_loop (v938_0 : BitVec 32) (k0_t19 : Fin (k0_t19_loop v938_0).trips) : Scf.Loop 32 :=
  let c0_i32_288 : BitVec 32 := 0#32
  let c1_i32_286 : BitVec 32 := 1#32
  let v1011 : BitVec 32 := Scalar.subi v938_0 c1_i32_286
  let v1012 : BitVec 32 := Scalar.subi v1011 c0_i32_288
  let c1_i32_289 : BitVec 32 := 1#32
  let v1014 : BitVec 32 := Scalar.divsi v1012 c1_i32_289
  let v1015 : BitVec 32 := Scalar.muli v1014 c1_i32_289
  let v1016 : BitVec 32 := Scalar.addi c0_i32_288 v1015
  let c1_i32_291 : BitVec 32 := 1#32
  let arg17 : BitVec 32 := Scf.iv v1016 c1_i32_291 k0_t19
  let c1_i32_1372 : BitVec 32 := 1#32
  let v4956 : BitVec 32 := Scalar.addi arg17 c1_i32_1372
  let v4957 : BitVec 32 := Scalar.subi v938_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off60 (v938_0 : BitVec 32) (k0_t19 : Fin (k0_t19_loop v938_0).trips) (k0_t21 : Fin (k0_t21_loop v938_0 k0_t19).trips) : Fin 1 → Nat :=
  let c0_i32_288 : BitVec 32 := 0#32
  let c1_i32_286 : BitVec 32 := 1#32
  let v1011 : BitVec 32 := Scalar.subi v938_0 c1_i32_286
  let v1012 : BitVec 32 := Scalar.subi v1011 c0_i32_288
  let c1_i32_289 : BitVec 32 := 1#32
  let v1014 : BitVec 32 := Scalar.divsi v1012 c1_i32_289
  let v1015 : BitVec 32 := Scalar.muli v1014 c1_i32_289
  let v1016 : BitVec 32 := Scalar.addi c0_i32_288 v1015
  let c1_i32_291 : BitVec 32 := 1#32
  let arg17 : BitVec 32 := Scf.iv v1016 c1_i32_291 k0_t19
  let c1_i32_1372 : BitVec 32 := 1#32
  let v4956 : BitVec 32 := Scalar.addi arg17 c1_i32_1372
  let v4957 : BitVec 32 := Scalar.subi v938_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t21
  let v4962 : Index := Scalar.indexCast arg18
  ![v4962.toNat]

def k0_chk14 (v938_0 : BitVec 32) : Prop :=
  ((k0_t16_loop v938_0).OK) ∧
  (∀ k0_t16 : Fin (k0_t16_loop v938_0).trips, ∀ a, (k0_off49 v938_0 k0_t16) a + S1.size a ≤ S40.size a) ∧
  (∀ k0_t16 : Fin (k0_t16_loop v938_0).trips, (k0_t17_loop v938_0 k0_t16).OK) ∧
  (∀ (k0_t16 : Fin (k0_t16_loop v938_0).trips) (k0_t17 : Fin (k0_t17_loop v938_0 k0_t16).trips), ∀ a, (k0_off50 v938_0 k0_t16 k0_t17) a + S1.size a ≤ S40.size a) ∧
  (∀ k0_t16 : Fin (k0_t16_loop v938_0).trips, (k0_t18_loop v938_0 k0_t16).OK) ∧
  (∀ (k0_t16 : Fin (k0_t16_loop v938_0).trips) (k0_t18 : Fin (k0_t18_loop v938_0 k0_t16).trips), ∀ a, (k0_off53 v938_0 k0_t16 k0_t18) a + S1.size a ≤ S40.size a) ∧
  ((k0_t19_loop v938_0).OK) ∧
  (∀ k0_t19 : Fin (k0_t19_loop v938_0).trips, ∀ a, (k0_off56 v938_0 k0_t19) a + S1.size a ≤ S40.size a) ∧
  (∀ k0_t19 : Fin (k0_t19_loop v938_0).trips, (k0_t20_loop v938_0 k0_t19).OK) ∧
  (∀ (k0_t19 : Fin (k0_t19_loop v938_0).trips) (k0_t20 : Fin (k0_t20_loop v938_0 k0_t19).trips), ∀ a, (k0_off57 v938_0 k0_t19 k0_t20) a + S1.size a ≤ S40.size a) ∧
  (∀ k0_t19 : Fin (k0_t19_loop v938_0).trips, (k0_t21_loop v938_0 k0_t19).OK) ∧
  (∀ (k0_t19 : Fin (k0_t19_loop v938_0).trips) (k0_t21 : Fin (k0_t21_loop v938_0 k0_t19).trips), ∀ a, (k0_off60 v938_0 k0_t19 k0_t21) a + S1.size a ≤ S40.size a)
theorem k0_t16_ok : ∀ (v938_0 : BitVec 32) (k0_hw14 : k0_chk14 v938_0), (k0_t16_loop v938_0).OK := fun v938_0 k0_hw14 => k0_hw14.1
theorem k0_off49_inb : ∀ (v938_0 : BitVec 32) (k0_hw14 : k0_chk14 v938_0) (k0_t16 : Fin (k0_t16_loop v938_0).trips), ∀ a, (k0_off49 v938_0 k0_t16) a + S1.size a ≤ S40.size a := fun v938_0 k0_hw14 k0_t16 => k0_hw14.2.1 k0_t16
theorem k0_t17_ok : ∀ (v938_0 : BitVec 32) (k0_hw14 : k0_chk14 v938_0) (k0_t16 : Fin (k0_t16_loop v938_0).trips), (k0_t17_loop v938_0 k0_t16).OK := fun v938_0 k0_hw14 k0_t16 => k0_hw14.2.2.1 k0_t16
theorem k0_off50_inb : ∀ (v938_0 : BitVec 32) (k0_hw14 : k0_chk14 v938_0) (k0_t16 : Fin (k0_t16_loop v938_0).trips) (k0_t17 : Fin (k0_t17_loop v938_0 k0_t16).trips), ∀ a, (k0_off50 v938_0 k0_t16 k0_t17) a + S1.size a ≤ S40.size a := fun v938_0 k0_hw14 k0_t16 k0_t17 => k0_hw14.2.2.2.1 k0_t16 k0_t17
theorem k0_t18_ok : ∀ (v938_0 : BitVec 32) (k0_hw14 : k0_chk14 v938_0) (k0_t16 : Fin (k0_t16_loop v938_0).trips), (k0_t18_loop v938_0 k0_t16).OK := fun v938_0 k0_hw14 k0_t16 => k0_hw14.2.2.2.2.1 k0_t16
theorem k0_off53_inb : ∀ (v938_0 : BitVec 32) (k0_hw14 : k0_chk14 v938_0) (k0_t16 : Fin (k0_t16_loop v938_0).trips) (k0_t18 : Fin (k0_t18_loop v938_0 k0_t16).trips), ∀ a, (k0_off53 v938_0 k0_t16 k0_t18) a + S1.size a ≤ S40.size a := fun v938_0 k0_hw14 k0_t16 k0_t18 => k0_hw14.2.2.2.2.2.1 k0_t16 k0_t18
theorem k0_t19_ok : ∀ (v938_0 : BitVec 32) (k0_hw14 : k0_chk14 v938_0), (k0_t19_loop v938_0).OK := fun v938_0 k0_hw14 => k0_hw14.2.2.2.2.2.2.1
theorem k0_off56_inb : ∀ (v938_0 : BitVec 32) (k0_hw14 : k0_chk14 v938_0) (k0_t19 : Fin (k0_t19_loop v938_0).trips), ∀ a, (k0_off56 v938_0 k0_t19) a + S1.size a ≤ S40.size a := fun v938_0 k0_hw14 k0_t19 => k0_hw14.2.2.2.2.2.2.2.1 k0_t19
theorem k0_t20_ok : ∀ (v938_0 : BitVec 32) (k0_hw14 : k0_chk14 v938_0) (k0_t19 : Fin (k0_t19_loop v938_0).trips), (k0_t20_loop v938_0 k0_t19).OK := fun v938_0 k0_hw14 k0_t19 => k0_hw14.2.2.2.2.2.2.2.2.1 k0_t19
theorem k0_off57_inb : ∀ (v938_0 : BitVec 32) (k0_hw14 : k0_chk14 v938_0) (k0_t19 : Fin (k0_t19_loop v938_0).trips) (k0_t20 : Fin (k0_t20_loop v938_0 k0_t19).trips), ∀ a, (k0_off57 v938_0 k0_t19 k0_t20) a + S1.size a ≤ S40.size a := fun v938_0 k0_hw14 k0_t19 k0_t20 => k0_hw14.2.2.2.2.2.2.2.2.2.1 k0_t19 k0_t20
theorem k0_t21_ok : ∀ (v938_0 : BitVec 32) (k0_hw14 : k0_chk14 v938_0) (k0_t19 : Fin (k0_t19_loop v938_0).trips), (k0_t21_loop v938_0 k0_t19).OK := fun v938_0 k0_hw14 k0_t19 => k0_hw14.2.2.2.2.2.2.2.2.2.2.1 k0_t19
theorem k0_off60_inb : ∀ (v938_0 : BitVec 32) (k0_hw14 : k0_chk14 v938_0) (k0_t19 : Fin (k0_t19_loop v938_0).trips) (k0_t21 : Fin (k0_t21_loop v938_0 k0_t19).trips), ∀ a, (k0_off60 v938_0 k0_t19 k0_t21) a + S1.size a ≤ S40.size a := fun v938_0 k0_hw14 k0_t19 k0_t21 => k0_hw14.2.2.2.2.2.2.2.2.2.2.2 k0_t19 k0_t21

def k0_off61 (v4949 : BitVec 32) (v4991 : BitVec 32) : Fin 1 → Nat :=
  let c832_i32 : BitVec 32 := 832#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c832_i32 v5014
  let v5048 : Index := Scalar.indexCast v5015
  ![v5048.toNat]

def k0_off62 (v4949 : BitVec 32) (v4991 : BitVec 32) : Fin 1 → Nat :=
  let c832_i32 : BitVec 32 := 832#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c832_i32 v5014
  let c16_i32_1396 : BitVec 32 := 16#32
  let v5056 : BitVec 32 := Scalar.addi v5015 c16_i32_1396
  let v5057 : Index := Scalar.indexCast v5056
  ![v5057.toNat]

def k0_chk18 (v4949 : BitVec 32) (v4991 : BitVec 32) : Prop :=
  (∀ a, (k0_off61 v4949 v4991) a + S16.size a ≤ S6144.size a) ∧
  (∀ a, (k0_off62 v4949 v4991) a + S16.size a ≤ S6144.size a)
theorem k0_off61_inb : ∀ (v4949 : BitVec 32) (v4991 : BitVec 32) (k0_hw18 : k0_chk18 v4949 v4991), ∀ a, (k0_off61 v4949 v4991) a + S16.size a ≤ S6144.size a := fun v4949 v4991 k0_hw18 => k0_hw18.1
theorem k0_off62_inb : ∀ (v4949 : BitVec 32) (v4991 : BitVec 32) (k0_hw18 : k0_chk18 v4949 v4991), ∀ a, (k0_off62 v4949 v4991) a + S16.size a ≤ S6144.size a := fun v4949 v4991 k0_hw18 => k0_hw18.2

def k0_off63 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c3_i32 : BitVec 32 := 3#32
  let v1017 : BitVec 32 := Scalar.addi v29 c3_i32
  let v1018 : Index := Scalar.indexCast v1017
  ![v1018.toNat]
def k0_off64 (i : grid0.Coords) (c32_i32_292 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c3_i32 : BitVec 32 := 3#32
  let v1017 : BitVec 32 := Scalar.addi v29 c3_i32
  let v1023 : BitVec 32 := Scalar.addi c32_i32_292 v1017
  let v1024 : Index := Scalar.indexCast v1023
  ![v1024.toNat]
@[reducible] def k0_t22_loop : Scf.Loop 32 :=
  let c0_i32_365 : BitVec 32 := 0#32
  let c32_i32_366 : BitVec 32 := 32#32
  let v1239 : BitVec 32 := Scalar.addi c0_i32_365 c32_i32_366
  let c1_i32_367 : BitVec 32 := 1#32
  ⟨c0_i32_365, v1239, c1_i32_367⟩
def k0_off65 (k0_t22 : Fin k0_t22_loop.trips) : Fin 1 → Nat :=
  let c0_i32_365 : BitVec 32 := 0#32
  let c1_i32_367 : BitVec 32 := 1#32
  let arg17 : BitVec 32 := Scf.iv c0_i32_365 c1_i32_367 k0_t22
  let v4944 : Index := Scalar.indexCast arg17
  ![v4944.toNat]
def k0_off66 (arg18 : BitVec 32) : Fin 1 → Nat :=
  let v4988 : Index := Scalar.indexCast arg18
  ![v4988.toNat]
def k0_cond4 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk19 (arg18 : BitVec 32) (v4984 : BitVec 1) : Prop :=
  (∀ (k0_h4 : k0_cond4 v4984 = 1#1), ∀ a, (k0_off66 arg18) a + S1.size a ≤ S40.size a)
theorem k0_off66_inb : ∀ (arg18 : BitVec 32) (v4984 : BitVec 1) (k0_hw19 : k0_chk19 arg18 v4984), ∀ (k0_h4 : k0_cond4 v4984 = 1#1), ∀ a, (k0_off66 arg18) a + S1.size a ≤ S40.size a := fun arg18 v4984 k0_hw19 k0_h4 => k0_hw19 k0_h4

def k0_off67 (k0_t22 : Fin k0_t22_loop.trips) : Fin 1 → Nat :=
  let c0_i32_365 : BitVec 32 := 0#32
  let c1_i32_367 : BitVec 32 := 1#32
  let arg17 : BitVec 32 := Scf.iv c0_i32_365 c1_i32_367 k0_t22
  let v4994 : Index := Scalar.indexCast arg17
  ![v4994.toNat]
def k0_off68 (k0_t22 : Fin k0_t22_loop.trips) (c32_i32_1379 : BitVec 32) : Fin 1 → Nat :=
  let c0_i32_365 : BitVec 32 := 0#32
  let c1_i32_367 : BitVec 32 := 1#32
  let arg17 : BitVec 32 := Scf.iv c0_i32_365 c1_i32_367 k0_t22
  let v5002 : BitVec 32 := Scalar.addi c32_i32_1379 arg17
  let v5003 : Index := Scalar.indexCast v5002
  ![v5003.toNat]
@[reducible] def k0_t23_loop (v1240_0 : BitVec 32) : Scf.Loop 32 :=
  let c0_i32_371 : BitVec 32 := 0#32
  let c1_i32_369 : BitVec 32 := 1#32
  let v1313 : BitVec 32 := Scalar.subi v1240_0 c1_i32_369
  let v1314 : BitVec 32 := Scalar.subi v1313 c0_i32_371
  let c1_i32_372 : BitVec 32 := 1#32
  let v1316 : BitVec 32 := Scalar.divsi v1314 c1_i32_372
  let v1317 : BitVec 32 := Scalar.muli v1316 c1_i32_372
  let v1318 : BitVec 32 := Scalar.addi c0_i32_371 v1317
  let c1_i32_373 : BitVec 32 := 1#32
  ⟨c0_i32_371, v1318, c1_i32_373⟩

def k0_off69 (v1240_0 : BitVec 32) (k0_t23 : Fin (k0_t23_loop v1240_0).trips) : Fin 1 → Nat :=
  let c0_i32_371 : BitVec 32 := 0#32
  let c1_i32_373 : BitVec 32 := 1#32
  let arg17 : BitVec 32 := Scf.iv c0_i32_371 c1_i32_373 k0_t23
  let v4944 : Index := Scalar.indexCast arg17
  ![v4944.toNat]
@[reducible] def k0_t24_loop (v1240_0 : BitVec 32) (k0_t23 : Fin (k0_t23_loop v1240_0).trips) : Scf.Loop 32 :=
  let c0_i32_371 : BitVec 32 := 0#32
  let c1_i32_373 : BitVec 32 := 1#32
  let arg17 : BitVec 32 := Scf.iv c0_i32_371 c1_i32_373 k0_t23
  let c1_i32_1372 : BitVec 32 := 1#32
  let v4956 : BitVec 32 := Scalar.addi arg17 c1_i32_1372
  let v4957 : BitVec 32 := Scalar.subi v1240_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off70 (v1240_0 : BitVec 32) (k0_t23 : Fin (k0_t23_loop v1240_0).trips) (k0_t24 : Fin (k0_t24_loop v1240_0 k0_t23).trips) : Fin 1 → Nat :=
  let c0_i32_371 : BitVec 32 := 0#32
  let c1_i32_373 : BitVec 32 := 1#32
  let arg17 : BitVec 32 := Scf.iv c0_i32_371 c1_i32_373 k0_t23
  let c1_i32_1372 : BitVec 32 := 1#32
  let v4956 : BitVec 32 := Scalar.addi arg17 c1_i32_1372
  let c1_i32_1375 : BitVec 32 := 1#32
  let arg18 : BitVec 32 := Scf.iv v4956 c1_i32_1375 k0_t24
  let v4962 : Index := Scalar.indexCast arg18
  ![v4962.toNat]
def k0_off71 (v4949 : BitVec 32) (v4991 : BitVec 32) : Fin 1 → Nat :=
  let c1216_i32 : BitVec 32 := 1216#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1216_i32 v5014
  let v5048 : Index := Scalar.indexCast v5015
  ![v5048.toNat]

def k0_off72 (v4949 : BitVec 32) (v4991 : BitVec 32) : Fin 1 → Nat :=
  let c1216_i32 : BitVec 32 := 1216#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1216_i32 v5014
  let c16_i32_1396 : BitVec 32 := 16#32
  let v5056 : BitVec 32 := Scalar.addi v5015 c16_i32_1396
  let v5057 : Index := Scalar.indexCast v5056
  ![v5057.toNat]

def k0_chk21 (v4949 : BitVec 32) (v4991 : BitVec 32) : Prop :=
  (∀ a, (k0_off71 v4949 v4991) a + S16.size a ≤ S6144.size a) ∧
  (∀ a, (k0_off72 v4949 v4991) a + S16.size a ≤ S6144.size a)
theorem k0_off71_inb : ∀ (v4949 : BitVec 32) (v4991 : BitVec 32) (k0_hw21 : k0_chk21 v4949 v4991), ∀ a, (k0_off71 v4949 v4991) a + S16.size a ≤ S6144.size a := fun v4949 v4991 k0_hw21 => k0_hw21.1
theorem k0_off72_inb : ∀ (v4949 : BitVec 32) (v4991 : BitVec 32) (k0_hw21 : k0_chk21 v4949 v4991), ∀ a, (k0_off72 v4949 v4991) a + S16.size a ≤ S6144.size a := fun v4949 v4991 k0_hw21 => k0_hw21.2

@[reducible] def k0_t25_loop (v1240_0 : BitVec 32) (k0_t23 : Fin (k0_t23_loop v1240_0).trips) : Scf.Loop 32 :=
  let c0_i32_371 : BitVec 32 := 0#32
  let c1_i32_373 : BitVec 32 := 1#32
  let arg17 : BitVec 32 := Scf.iv c0_i32_371 c1_i32_373 k0_t23
  let c1_i32_1372 : BitVec 32 := 1#32
  let v4956 : BitVec 32 := Scalar.addi arg17 c1_i32_1372
  let v4957 : BitVec 32 := Scalar.subi v1240_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off73 (v1240_0 : BitVec 32) (k0_t23 : Fin (k0_t23_loop v1240_0).trips) (k0_t25 : Fin (k0_t25_loop v1240_0 k0_t23).trips) : Fin 1 → Nat :=
  let c0_i32_371 : BitVec 32 := 0#32
  let c1_i32_373 : BitVec 32 := 1#32
  let arg17 : BitVec 32 := Scf.iv c0_i32_371 c1_i32_373 k0_t23
  let c1_i32_1372 : BitVec 32 := 1#32
  let v4956 : BitVec 32 := Scalar.addi arg17 c1_i32_1372
  let v4957 : BitVec 32 := Scalar.subi v1240_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t25
  let v4962 : Index := Scalar.indexCast arg18
  ![v4962.toNat]
def k0_off74 (v4949 : BitVec 32) (v4991 : BitVec 32) : Fin 1 → Nat :=
  let c1216_i32 : BitVec 32 := 1216#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1216_i32 v5014
  let v5048 : Index := Scalar.indexCast v5015
  ![v5048.toNat]

def k0_off75 (v4949 : BitVec 32) (v4991 : BitVec 32) : Fin 1 → Nat :=
  let c1216_i32 : BitVec 32 := 1216#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1216_i32 v5014
  let c16_i32_1396 : BitVec 32 := 16#32
  let v5056 : BitVec 32 := Scalar.addi v5015 c16_i32_1396
  let v5057 : Index := Scalar.indexCast v5056
  ![v5057.toNat]

def k0_chk22 (v4949 : BitVec 32) (v4991 : BitVec 32) : Prop :=
  (∀ a, (k0_off74 v4949 v4991) a + S16.size a ≤ S6144.size a) ∧
  (∀ a, (k0_off75 v4949 v4991) a + S16.size a ≤ S6144.size a)
theorem k0_off74_inb : ∀ (v4949 : BitVec 32) (v4991 : BitVec 32) (k0_hw22 : k0_chk22 v4949 v4991), ∀ a, (k0_off74 v4949 v4991) a + S16.size a ≤ S6144.size a := fun v4949 v4991 k0_hw22 => k0_hw22.1
theorem k0_off75_inb : ∀ (v4949 : BitVec 32) (v4991 : BitVec 32) (k0_hw22 : k0_chk22 v4949 v4991), ∀ a, (k0_off75 v4949 v4991) a + S16.size a ≤ S6144.size a := fun v4949 v4991 k0_hw22 => k0_hw22.2

@[reducible] def k0_t26_loop (v1240_0 : BitVec 32) : Scf.Loop 32 :=
  let c0_i32_371 : BitVec 32 := 0#32
  let c1_i32_369 : BitVec 32 := 1#32
  let v1313 : BitVec 32 := Scalar.subi v1240_0 c1_i32_369
  let v1314 : BitVec 32 := Scalar.subi v1313 c0_i32_371
  let c1_i32_372 : BitVec 32 := 1#32
  let v1316 : BitVec 32 := Scalar.divsi v1314 c1_i32_372
  let v1317 : BitVec 32 := Scalar.muli v1316 c1_i32_372
  let v1318 : BitVec 32 := Scalar.addi c0_i32_371 v1317
  let v1315 : BitVec 32 := Scalar.addi c0_i32_371 v1314
  let c1_i32_374 : BitVec 32 := 1#32
  ⟨v1318, v1315, c1_i32_374⟩
def k0_off76 (v1240_0 : BitVec 32) (k0_t26 : Fin (k0_t26_loop v1240_0).trips) : Fin 1 → Nat :=
  let c0_i32_371 : BitVec 32 := 0#32
  let c1_i32_369 : BitVec 32 := 1#32
  let v1313 : BitVec 32 := Scalar.subi v1240_0 c1_i32_369
  let v1314 : BitVec 32 := Scalar.subi v1313 c0_i32_371
  let c1_i32_372 : BitVec 32 := 1#32
  let v1316 : BitVec 32 := Scalar.divsi v1314 c1_i32_372
  let v1317 : BitVec 32 := Scalar.muli v1316 c1_i32_372
  let v1318 : BitVec 32 := Scalar.addi c0_i32_371 v1317
  let c1_i32_374 : BitVec 32 := 1#32
  let arg17 : BitVec 32 := Scf.iv v1318 c1_i32_374 k0_t26
  let v4944 : Index := Scalar.indexCast arg17
  ![v4944.toNat]
@[reducible] def k0_t27_loop (v1240_0 : BitVec 32) (k0_t26 : Fin (k0_t26_loop v1240_0).trips) : Scf.Loop 32 :=
  let c0_i32_371 : BitVec 32 := 0#32
  let c1_i32_369 : BitVec 32 := 1#32
  let v1313 : BitVec 32 := Scalar.subi v1240_0 c1_i32_369
  let v1314 : BitVec 32 := Scalar.subi v1313 c0_i32_371
  let c1_i32_372 : BitVec 32 := 1#32
  let v1316 : BitVec 32 := Scalar.divsi v1314 c1_i32_372
  let v1317 : BitVec 32 := Scalar.muli v1316 c1_i32_372
  let v1318 : BitVec 32 := Scalar.addi c0_i32_371 v1317
  let c1_i32_374 : BitVec 32 := 1#32
  let arg17 : BitVec 32 := Scf.iv v1318 c1_i32_374 k0_t26
  let c1_i32_1372 : BitVec 32 := 1#32
  let v4956 : BitVec 32 := Scalar.addi arg17 c1_i32_1372
  let v4957 : BitVec 32 := Scalar.subi v1240_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off77 (v1240_0 : BitVec 32) (k0_t26 : Fin (k0_t26_loop v1240_0).trips) (k0_t27 : Fin (k0_t27_loop v1240_0 k0_t26).trips) : Fin 1 → Nat :=
  let c0_i32_371 : BitVec 32 := 0#32
  let c1_i32_369 : BitVec 32 := 1#32
  let v1313 : BitVec 32 := Scalar.subi v1240_0 c1_i32_369
  let v1314 : BitVec 32 := Scalar.subi v1313 c0_i32_371
  let c1_i32_372 : BitVec 32 := 1#32
  let v1316 : BitVec 32 := Scalar.divsi v1314 c1_i32_372
  let v1317 : BitVec 32 := Scalar.muli v1316 c1_i32_372
  let v1318 : BitVec 32 := Scalar.addi c0_i32_371 v1317
  let c1_i32_374 : BitVec 32 := 1#32
  let arg17 : BitVec 32 := Scf.iv v1318 c1_i32_374 k0_t26
  let c1_i32_1372 : BitVec 32 := 1#32
  let v4956 : BitVec 32 := Scalar.addi arg17 c1_i32_1372
  let c1_i32_1375 : BitVec 32 := 1#32
  let arg18 : BitVec 32 := Scf.iv v4956 c1_i32_1375 k0_t27
  let v4962 : Index := Scalar.indexCast arg18
  ![v4962.toNat]
def k0_off78 (v4949 : BitVec 32) (v4991 : BitVec 32) : Fin 1 → Nat :=
  let c1216_i32 : BitVec 32 := 1216#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1216_i32 v5014
  let v5048 : Index := Scalar.indexCast v5015
  ![v5048.toNat]

def k0_off79 (v4949 : BitVec 32) (v4991 : BitVec 32) : Fin 1 → Nat :=
  let c1216_i32 : BitVec 32 := 1216#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1216_i32 v5014
  let c16_i32_1396 : BitVec 32 := 16#32
  let v5056 : BitVec 32 := Scalar.addi v5015 c16_i32_1396
  let v5057 : Index := Scalar.indexCast v5056
  ![v5057.toNat]

def k0_chk23 (v4949 : BitVec 32) (v4991 : BitVec 32) : Prop :=
  (∀ a, (k0_off78 v4949 v4991) a + S16.size a ≤ S6144.size a) ∧
  (∀ a, (k0_off79 v4949 v4991) a + S16.size a ≤ S6144.size a)
theorem k0_off78_inb : ∀ (v4949 : BitVec 32) (v4991 : BitVec 32) (k0_hw23 : k0_chk23 v4949 v4991), ∀ a, (k0_off78 v4949 v4991) a + S16.size a ≤ S6144.size a := fun v4949 v4991 k0_hw23 => k0_hw23.1
theorem k0_off79_inb : ∀ (v4949 : BitVec 32) (v4991 : BitVec 32) (k0_hw23 : k0_chk23 v4949 v4991), ∀ a, (k0_off79 v4949 v4991) a + S16.size a ≤ S6144.size a := fun v4949 v4991 k0_hw23 => k0_hw23.2

@[reducible] def k0_t28_loop (v1240_0 : BitVec 32) (k0_t26 : Fin (k0_t26_loop v1240_0).trips) : Scf.Loop 32 :=
  let c0_i32_371 : BitVec 32 := 0#32
  let c1_i32_369 : BitVec 32 := 1#32
  let v1313 : BitVec 32 := Scalar.subi v1240_0 c1_i32_369
  let v1314 : BitVec 32 := Scalar.subi v1313 c0_i32_371
  let c1_i32_372 : BitVec 32 := 1#32
  let v1316 : BitVec 32 := Scalar.divsi v1314 c1_i32_372
  let v1317 : BitVec 32 := Scalar.muli v1316 c1_i32_372
  let v1318 : BitVec 32 := Scalar.addi c0_i32_371 v1317
  let c1_i32_374 : BitVec 32 := 1#32
  let arg17 : BitVec 32 := Scf.iv v1318 c1_i32_374 k0_t26
  let c1_i32_1372 : BitVec 32 := 1#32
  let v4956 : BitVec 32 := Scalar.addi arg17 c1_i32_1372
  let v4957 : BitVec 32 := Scalar.subi v1240_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off80 (v1240_0 : BitVec 32) (k0_t26 : Fin (k0_t26_loop v1240_0).trips) (k0_t28 : Fin (k0_t28_loop v1240_0 k0_t26).trips) : Fin 1 → Nat :=
  let c0_i32_371 : BitVec 32 := 0#32
  let c1_i32_369 : BitVec 32 := 1#32
  let v1313 : BitVec 32 := Scalar.subi v1240_0 c1_i32_369
  let v1314 : BitVec 32 := Scalar.subi v1313 c0_i32_371
  let c1_i32_372 : BitVec 32 := 1#32
  let v1316 : BitVec 32 := Scalar.divsi v1314 c1_i32_372
  let v1317 : BitVec 32 := Scalar.muli v1316 c1_i32_372
  let v1318 : BitVec 32 := Scalar.addi c0_i32_371 v1317
  let c1_i32_374 : BitVec 32 := 1#32
  let arg17 : BitVec 32 := Scf.iv v1318 c1_i32_374 k0_t26
  let c1_i32_1372 : BitVec 32 := 1#32
  let v4956 : BitVec 32 := Scalar.addi arg17 c1_i32_1372
  let v4957 : BitVec 32 := Scalar.subi v1240_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t28
  let v4962 : Index := Scalar.indexCast arg18
  ![v4962.toNat]

def k0_chk20 (v1240_0 : BitVec 32) : Prop :=
  ((k0_t23_loop v1240_0).OK) ∧
  (∀ k0_t23 : Fin (k0_t23_loop v1240_0).trips, ∀ a, (k0_off69 v1240_0 k0_t23) a + S1.size a ≤ S40.size a) ∧
  (∀ k0_t23 : Fin (k0_t23_loop v1240_0).trips, (k0_t24_loop v1240_0 k0_t23).OK) ∧
  (∀ (k0_t23 : Fin (k0_t23_loop v1240_0).trips) (k0_t24 : Fin (k0_t24_loop v1240_0 k0_t23).trips), ∀ a, (k0_off70 v1240_0 k0_t23 k0_t24) a + S1.size a ≤ S40.size a) ∧
  (∀ k0_t23 : Fin (k0_t23_loop v1240_0).trips, (k0_t25_loop v1240_0 k0_t23).OK) ∧
  (∀ (k0_t23 : Fin (k0_t23_loop v1240_0).trips) (k0_t25 : Fin (k0_t25_loop v1240_0 k0_t23).trips), ∀ a, (k0_off73 v1240_0 k0_t23 k0_t25) a + S1.size a ≤ S40.size a) ∧
  ((k0_t26_loop v1240_0).OK) ∧
  (∀ k0_t26 : Fin (k0_t26_loop v1240_0).trips, ∀ a, (k0_off76 v1240_0 k0_t26) a + S1.size a ≤ S40.size a) ∧
  (∀ k0_t26 : Fin (k0_t26_loop v1240_0).trips, (k0_t27_loop v1240_0 k0_t26).OK) ∧
  (∀ (k0_t26 : Fin (k0_t26_loop v1240_0).trips) (k0_t27 : Fin (k0_t27_loop v1240_0 k0_t26).trips), ∀ a, (k0_off77 v1240_0 k0_t26 k0_t27) a + S1.size a ≤ S40.size a) ∧
  (∀ k0_t26 : Fin (k0_t26_loop v1240_0).trips, (k0_t28_loop v1240_0 k0_t26).OK) ∧
  (∀ (k0_t26 : Fin (k0_t26_loop v1240_0).trips) (k0_t28 : Fin (k0_t28_loop v1240_0 k0_t26).trips), ∀ a, (k0_off80 v1240_0 k0_t26 k0_t28) a + S1.size a ≤ S40.size a)
theorem k0_t23_ok : ∀ (v1240_0 : BitVec 32) (k0_hw20 : k0_chk20 v1240_0), (k0_t23_loop v1240_0).OK := fun v1240_0 k0_hw20 => k0_hw20.1
theorem k0_off69_inb : ∀ (v1240_0 : BitVec 32) (k0_hw20 : k0_chk20 v1240_0) (k0_t23 : Fin (k0_t23_loop v1240_0).trips), ∀ a, (k0_off69 v1240_0 k0_t23) a + S1.size a ≤ S40.size a := fun v1240_0 k0_hw20 k0_t23 => k0_hw20.2.1 k0_t23
theorem k0_t24_ok : ∀ (v1240_0 : BitVec 32) (k0_hw20 : k0_chk20 v1240_0) (k0_t23 : Fin (k0_t23_loop v1240_0).trips), (k0_t24_loop v1240_0 k0_t23).OK := fun v1240_0 k0_hw20 k0_t23 => k0_hw20.2.2.1 k0_t23
theorem k0_off70_inb : ∀ (v1240_0 : BitVec 32) (k0_hw20 : k0_chk20 v1240_0) (k0_t23 : Fin (k0_t23_loop v1240_0).trips) (k0_t24 : Fin (k0_t24_loop v1240_0 k0_t23).trips), ∀ a, (k0_off70 v1240_0 k0_t23 k0_t24) a + S1.size a ≤ S40.size a := fun v1240_0 k0_hw20 k0_t23 k0_t24 => k0_hw20.2.2.2.1 k0_t23 k0_t24
theorem k0_t25_ok : ∀ (v1240_0 : BitVec 32) (k0_hw20 : k0_chk20 v1240_0) (k0_t23 : Fin (k0_t23_loop v1240_0).trips), (k0_t25_loop v1240_0 k0_t23).OK := fun v1240_0 k0_hw20 k0_t23 => k0_hw20.2.2.2.2.1 k0_t23
theorem k0_off73_inb : ∀ (v1240_0 : BitVec 32) (k0_hw20 : k0_chk20 v1240_0) (k0_t23 : Fin (k0_t23_loop v1240_0).trips) (k0_t25 : Fin (k0_t25_loop v1240_0 k0_t23).trips), ∀ a, (k0_off73 v1240_0 k0_t23 k0_t25) a + S1.size a ≤ S40.size a := fun v1240_0 k0_hw20 k0_t23 k0_t25 => k0_hw20.2.2.2.2.2.1 k0_t23 k0_t25
theorem k0_t26_ok : ∀ (v1240_0 : BitVec 32) (k0_hw20 : k0_chk20 v1240_0), (k0_t26_loop v1240_0).OK := fun v1240_0 k0_hw20 => k0_hw20.2.2.2.2.2.2.1
theorem k0_off76_inb : ∀ (v1240_0 : BitVec 32) (k0_hw20 : k0_chk20 v1240_0) (k0_t26 : Fin (k0_t26_loop v1240_0).trips), ∀ a, (k0_off76 v1240_0 k0_t26) a + S1.size a ≤ S40.size a := fun v1240_0 k0_hw20 k0_t26 => k0_hw20.2.2.2.2.2.2.2.1 k0_t26
theorem k0_t27_ok : ∀ (v1240_0 : BitVec 32) (k0_hw20 : k0_chk20 v1240_0) (k0_t26 : Fin (k0_t26_loop v1240_0).trips), (k0_t27_loop v1240_0 k0_t26).OK := fun v1240_0 k0_hw20 k0_t26 => k0_hw20.2.2.2.2.2.2.2.2.1 k0_t26
theorem k0_off77_inb : ∀ (v1240_0 : BitVec 32) (k0_hw20 : k0_chk20 v1240_0) (k0_t26 : Fin (k0_t26_loop v1240_0).trips) (k0_t27 : Fin (k0_t27_loop v1240_0 k0_t26).trips), ∀ a, (k0_off77 v1240_0 k0_t26 k0_t27) a + S1.size a ≤ S40.size a := fun v1240_0 k0_hw20 k0_t26 k0_t27 => k0_hw20.2.2.2.2.2.2.2.2.2.1 k0_t26 k0_t27
theorem k0_t28_ok : ∀ (v1240_0 : BitVec 32) (k0_hw20 : k0_chk20 v1240_0) (k0_t26 : Fin (k0_t26_loop v1240_0).trips), (k0_t28_loop v1240_0 k0_t26).OK := fun v1240_0 k0_hw20 k0_t26 => k0_hw20.2.2.2.2.2.2.2.2.2.2.1 k0_t26
theorem k0_off80_inb : ∀ (v1240_0 : BitVec 32) (k0_hw20 : k0_chk20 v1240_0) (k0_t26 : Fin (k0_t26_loop v1240_0).trips) (k0_t28 : Fin (k0_t28_loop v1240_0 k0_t26).trips), ∀ a, (k0_off80 v1240_0 k0_t26 k0_t28) a + S1.size a ≤ S40.size a := fun v1240_0 k0_hw20 k0_t26 k0_t28 => k0_hw20.2.2.2.2.2.2.2.2.2.2.2 k0_t26 k0_t28

def k0_off81 (v4949 : BitVec 32) (v4991 : BitVec 32) : Fin 1 → Nat :=
  let c1216_i32 : BitVec 32 := 1216#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1216_i32 v5014
  let v5048 : Index := Scalar.indexCast v5015
  ![v5048.toNat]

def k0_off82 (v4949 : BitVec 32) (v4991 : BitVec 32) : Fin 1 → Nat :=
  let c1216_i32 : BitVec 32 := 1216#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1216_i32 v5014
  let c16_i32_1396 : BitVec 32 := 16#32
  let v5056 : BitVec 32 := Scalar.addi v5015 c16_i32_1396
  let v5057 : Index := Scalar.indexCast v5056
  ![v5057.toNat]

def k0_chk24 (v4949 : BitVec 32) (v4991 : BitVec 32) : Prop :=
  (∀ a, (k0_off81 v4949 v4991) a + S16.size a ≤ S6144.size a) ∧
  (∀ a, (k0_off82 v4949 v4991) a + S16.size a ≤ S6144.size a)
theorem k0_off81_inb : ∀ (v4949 : BitVec 32) (v4991 : BitVec 32) (k0_hw24 : k0_chk24 v4949 v4991), ∀ a, (k0_off81 v4949 v4991) a + S16.size a ≤ S6144.size a := fun v4949 v4991 k0_hw24 => k0_hw24.1
theorem k0_off82_inb : ∀ (v4949 : BitVec 32) (v4991 : BitVec 32) (k0_hw24 : k0_chk24 v4949 v4991), ∀ a, (k0_off82 v4949 v4991) a + S16.size a ≤ S6144.size a := fun v4949 v4991 k0_hw24 => k0_hw24.2

def k0_off83 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c4_i32 : BitVec 32 := 4#32
  let v1319 : BitVec 32 := Scalar.addi v29 c4_i32
  let v1320 : Index := Scalar.indexCast v1319
  ![v1320.toNat]
def k0_off84 (i : grid0.Coords) (c32_i32_375 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c4_i32 : BitVec 32 := 4#32
  let v1319 : BitVec 32 := Scalar.addi v29 c4_i32
  let v1325 : BitVec 32 := Scalar.addi c32_i32_375 v1319
  let v1326 : Index := Scalar.indexCast v1325
  ![v1326.toNat]
@[reducible] def k0_t29_loop : Scf.Loop 32 :=
  let c0_i32_448 : BitVec 32 := 0#32
  let c32_i32_449 : BitVec 32 := 32#32
  let v1541 : BitVec 32 := Scalar.addi c0_i32_448 c32_i32_449
  let c1_i32_450 : BitVec 32 := 1#32
  ⟨c0_i32_448, v1541, c1_i32_450⟩
def k0_off85 (k0_t29 : Fin k0_t29_loop.trips) : Fin 1 → Nat :=
  let c0_i32_448 : BitVec 32 := 0#32
  let c1_i32_450 : BitVec 32 := 1#32
  let arg17 : BitVec 32 := Scf.iv c0_i32_448 c1_i32_450 k0_t29
  let v4944 : Index := Scalar.indexCast arg17
  ![v4944.toNat]
def k0_off86 (arg18 : BitVec 32) : Fin 1 → Nat :=
  let v4988 : Index := Scalar.indexCast arg18
  ![v4988.toNat]
def k0_cond5 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk25 (arg18 : BitVec 32) (v4984 : BitVec 1) : Prop :=
  (∀ (k0_h5 : k0_cond5 v4984 = 1#1), ∀ a, (k0_off86 arg18) a + S1.size a ≤ S40.size a)
theorem k0_off86_inb : ∀ (arg18 : BitVec 32) (v4984 : BitVec 1) (k0_hw25 : k0_chk25 arg18 v4984), ∀ (k0_h5 : k0_cond5 v4984 = 1#1), ∀ a, (k0_off86 arg18) a + S1.size a ≤ S40.size a := fun arg18 v4984 k0_hw25 k0_h5 => k0_hw25 k0_h5

def k0_off87 (k0_t29 : Fin k0_t29_loop.trips) : Fin 1 → Nat :=
  let c0_i32_448 : BitVec 32 := 0#32
  let c1_i32_450 : BitVec 32 := 1#32
  let arg17 : BitVec 32 := Scf.iv c0_i32_448 c1_i32_450 k0_t29
  let v4994 : Index := Scalar.indexCast arg17
  ![v4994.toNat]
def k0_off88 (k0_t29 : Fin k0_t29_loop.trips) (c32_i32_1379 : BitVec 32) : Fin 1 → Nat :=
  let c0_i32_448 : BitVec 32 := 0#32
  let c1_i32_450 : BitVec 32 := 1#32
  let arg17 : BitVec 32 := Scf.iv c0_i32_448 c1_i32_450 k0_t29
  let v5002 : BitVec 32 := Scalar.addi c32_i32_1379 arg17
  let v5003 : Index := Scalar.indexCast v5002
  ![v5003.toNat]
@[reducible] def k0_t30_loop (v1542_0 : BitVec 32) : Scf.Loop 32 :=
  let c0_i32_454 : BitVec 32 := 0#32
  let c1_i32_452 : BitVec 32 := 1#32
  let v1615 : BitVec 32 := Scalar.subi v1542_0 c1_i32_452
  let v1616 : BitVec 32 := Scalar.subi v1615 c0_i32_454
  let c1_i32_455 : BitVec 32 := 1#32
  let v1618 : BitVec 32 := Scalar.divsi v1616 c1_i32_455
  let v1619 : BitVec 32 := Scalar.muli v1618 c1_i32_455
  let v1620 : BitVec 32 := Scalar.addi c0_i32_454 v1619
  let c1_i32_456 : BitVec 32 := 1#32
  ⟨c0_i32_454, v1620, c1_i32_456⟩

def k0_off89 (v1542_0 : BitVec 32) (k0_t30 : Fin (k0_t30_loop v1542_0).trips) : Fin 1 → Nat :=
  let c0_i32_454 : BitVec 32 := 0#32
  let c1_i32_456 : BitVec 32 := 1#32
  let arg17 : BitVec 32 := Scf.iv c0_i32_454 c1_i32_456 k0_t30
  let v4944 : Index := Scalar.indexCast arg17
  ![v4944.toNat]
@[reducible] def k0_t31_loop (v1542_0 : BitVec 32) (k0_t30 : Fin (k0_t30_loop v1542_0).trips) : Scf.Loop 32 :=
  let c0_i32_454 : BitVec 32 := 0#32
  let c1_i32_456 : BitVec 32 := 1#32
  let arg17 : BitVec 32 := Scf.iv c0_i32_454 c1_i32_456 k0_t30
  let c1_i32_1372 : BitVec 32 := 1#32
  let v4956 : BitVec 32 := Scalar.addi arg17 c1_i32_1372
  let v4957 : BitVec 32 := Scalar.subi v1542_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off90 (v1542_0 : BitVec 32) (k0_t30 : Fin (k0_t30_loop v1542_0).trips) (k0_t31 : Fin (k0_t31_loop v1542_0 k0_t30).trips) : Fin 1 → Nat :=
  let c0_i32_454 : BitVec 32 := 0#32
  let c1_i32_456 : BitVec 32 := 1#32
  let arg17 : BitVec 32 := Scf.iv c0_i32_454 c1_i32_456 k0_t30
  let c1_i32_1372 : BitVec 32 := 1#32
  let v4956 : BitVec 32 := Scalar.addi arg17 c1_i32_1372
  let c1_i32_1375 : BitVec 32 := 1#32
  let arg18 : BitVec 32 := Scf.iv v4956 c1_i32_1375 k0_t31
  let v4962 : Index := Scalar.indexCast arg18
  ![v4962.toNat]
def k0_off91 (v4949 : BitVec 32) (v4991 : BitVec 32) : Fin 1 → Nat :=
  let c1600_i32 : BitVec 32 := 1600#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1600_i32 v5014
  let v5048 : Index := Scalar.indexCast v5015
  ![v5048.toNat]

def k0_off92 (v4949 : BitVec 32) (v4991 : BitVec 32) : Fin 1 → Nat :=
  let c1600_i32 : BitVec 32 := 1600#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1600_i32 v5014
  let c16_i32_1396 : BitVec 32 := 16#32
  let v5056 : BitVec 32 := Scalar.addi v5015 c16_i32_1396
  let v5057 : Index := Scalar.indexCast v5056
  ![v5057.toNat]

def k0_chk27 (v4949 : BitVec 32) (v4991 : BitVec 32) : Prop :=
  (∀ a, (k0_off91 v4949 v4991) a + S16.size a ≤ S6144.size a) ∧
  (∀ a, (k0_off92 v4949 v4991) a + S16.size a ≤ S6144.size a)
theorem k0_off91_inb : ∀ (v4949 : BitVec 32) (v4991 : BitVec 32) (k0_hw27 : k0_chk27 v4949 v4991), ∀ a, (k0_off91 v4949 v4991) a + S16.size a ≤ S6144.size a := fun v4949 v4991 k0_hw27 => k0_hw27.1
theorem k0_off92_inb : ∀ (v4949 : BitVec 32) (v4991 : BitVec 32) (k0_hw27 : k0_chk27 v4949 v4991), ∀ a, (k0_off92 v4949 v4991) a + S16.size a ≤ S6144.size a := fun v4949 v4991 k0_hw27 => k0_hw27.2

@[reducible] def k0_t32_loop (v1542_0 : BitVec 32) (k0_t30 : Fin (k0_t30_loop v1542_0).trips) : Scf.Loop 32 :=
  let c0_i32_454 : BitVec 32 := 0#32
  let c1_i32_456 : BitVec 32 := 1#32
  let arg17 : BitVec 32 := Scf.iv c0_i32_454 c1_i32_456 k0_t30
  let c1_i32_1372 : BitVec 32 := 1#32
  let v4956 : BitVec 32 := Scalar.addi arg17 c1_i32_1372
  let v4957 : BitVec 32 := Scalar.subi v1542_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off93 (v1542_0 : BitVec 32) (k0_t30 : Fin (k0_t30_loop v1542_0).trips) (k0_t32 : Fin (k0_t32_loop v1542_0 k0_t30).trips) : Fin 1 → Nat :=
  let c0_i32_454 : BitVec 32 := 0#32
  let c1_i32_456 : BitVec 32 := 1#32
  let arg17 : BitVec 32 := Scf.iv c0_i32_454 c1_i32_456 k0_t30
  let c1_i32_1372 : BitVec 32 := 1#32
  let v4956 : BitVec 32 := Scalar.addi arg17 c1_i32_1372
  let v4957 : BitVec 32 := Scalar.subi v1542_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t32
  let v4962 : Index := Scalar.indexCast arg18
  ![v4962.toNat]
def k0_off94 (v4949 : BitVec 32) (v4991 : BitVec 32) : Fin 1 → Nat :=
  let c1600_i32 : BitVec 32 := 1600#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1600_i32 v5014
  let v5048 : Index := Scalar.indexCast v5015
  ![v5048.toNat]

def k0_off95 (v4949 : BitVec 32) (v4991 : BitVec 32) : Fin 1 → Nat :=
  let c1600_i32 : BitVec 32 := 1600#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1600_i32 v5014
  let c16_i32_1396 : BitVec 32 := 16#32
  let v5056 : BitVec 32 := Scalar.addi v5015 c16_i32_1396
  let v5057 : Index := Scalar.indexCast v5056
  ![v5057.toNat]

def k0_chk28 (v4949 : BitVec 32) (v4991 : BitVec 32) : Prop :=
  (∀ a, (k0_off94 v4949 v4991) a + S16.size a ≤ S6144.size a) ∧
  (∀ a, (k0_off95 v4949 v4991) a + S16.size a ≤ S6144.size a)
theorem k0_off94_inb : ∀ (v4949 : BitVec 32) (v4991 : BitVec 32) (k0_hw28 : k0_chk28 v4949 v4991), ∀ a, (k0_off94 v4949 v4991) a + S16.size a ≤ S6144.size a := fun v4949 v4991 k0_hw28 => k0_hw28.1
theorem k0_off95_inb : ∀ (v4949 : BitVec 32) (v4991 : BitVec 32) (k0_hw28 : k0_chk28 v4949 v4991), ∀ a, (k0_off95 v4949 v4991) a + S16.size a ≤ S6144.size a := fun v4949 v4991 k0_hw28 => k0_hw28.2

@[reducible] def k0_t33_loop (v1542_0 : BitVec 32) : Scf.Loop 32 :=
  let c0_i32_454 : BitVec 32 := 0#32
  let c1_i32_452 : BitVec 32 := 1#32
  let v1615 : BitVec 32 := Scalar.subi v1542_0 c1_i32_452
  let v1616 : BitVec 32 := Scalar.subi v1615 c0_i32_454
  let c1_i32_455 : BitVec 32 := 1#32
  let v1618 : BitVec 32 := Scalar.divsi v1616 c1_i32_455
  let v1619 : BitVec 32 := Scalar.muli v1618 c1_i32_455
  let v1620 : BitVec 32 := Scalar.addi c0_i32_454 v1619
  let v1617 : BitVec 32 := Scalar.addi c0_i32_454 v1616
  let c1_i32_457 : BitVec 32 := 1#32
  ⟨v1620, v1617, c1_i32_457⟩
def k0_off96 (v1542_0 : BitVec 32) (k0_t33 : Fin (k0_t33_loop v1542_0).trips) : Fin 1 → Nat :=
  let c0_i32_454 : BitVec 32 := 0#32
  let c1_i32_452 : BitVec 32 := 1#32
  let v1615 : BitVec 32 := Scalar.subi v1542_0 c1_i32_452
  let v1616 : BitVec 32 := Scalar.subi v1615 c0_i32_454
  let c1_i32_455 : BitVec 32 := 1#32
  let v1618 : BitVec 32 := Scalar.divsi v1616 c1_i32_455
  let v1619 : BitVec 32 := Scalar.muli v1618 c1_i32_455
  let v1620 : BitVec 32 := Scalar.addi c0_i32_454 v1619
  let c1_i32_457 : BitVec 32 := 1#32
  let arg17 : BitVec 32 := Scf.iv v1620 c1_i32_457 k0_t33
  let v4944 : Index := Scalar.indexCast arg17
  ![v4944.toNat]
@[reducible] def k0_t34_loop (v1542_0 : BitVec 32) (k0_t33 : Fin (k0_t33_loop v1542_0).trips) : Scf.Loop 32 :=
  let c0_i32_454 : BitVec 32 := 0#32
  let c1_i32_452 : BitVec 32 := 1#32
  let v1615 : BitVec 32 := Scalar.subi v1542_0 c1_i32_452
  let v1616 : BitVec 32 := Scalar.subi v1615 c0_i32_454
  let c1_i32_455 : BitVec 32 := 1#32
  let v1618 : BitVec 32 := Scalar.divsi v1616 c1_i32_455
  let v1619 : BitVec 32 := Scalar.muli v1618 c1_i32_455
  let v1620 : BitVec 32 := Scalar.addi c0_i32_454 v1619
  let c1_i32_457 : BitVec 32 := 1#32
  let arg17 : BitVec 32 := Scf.iv v1620 c1_i32_457 k0_t33
  let c1_i32_1372 : BitVec 32 := 1#32
  let v4956 : BitVec 32 := Scalar.addi arg17 c1_i32_1372
  let v4957 : BitVec 32 := Scalar.subi v1542_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off97 (v1542_0 : BitVec 32) (k0_t33 : Fin (k0_t33_loop v1542_0).trips) (k0_t34 : Fin (k0_t34_loop v1542_0 k0_t33).trips) : Fin 1 → Nat :=
  let c0_i32_454 : BitVec 32 := 0#32
  let c1_i32_452 : BitVec 32 := 1#32
  let v1615 : BitVec 32 := Scalar.subi v1542_0 c1_i32_452
  let v1616 : BitVec 32 := Scalar.subi v1615 c0_i32_454
  let c1_i32_455 : BitVec 32 := 1#32
  let v1618 : BitVec 32 := Scalar.divsi v1616 c1_i32_455
  let v1619 : BitVec 32 := Scalar.muli v1618 c1_i32_455
  let v1620 : BitVec 32 := Scalar.addi c0_i32_454 v1619
  let c1_i32_457 : BitVec 32 := 1#32
  let arg17 : BitVec 32 := Scf.iv v1620 c1_i32_457 k0_t33
  let c1_i32_1372 : BitVec 32 := 1#32
  let v4956 : BitVec 32 := Scalar.addi arg17 c1_i32_1372
  let c1_i32_1375 : BitVec 32 := 1#32
  let arg18 : BitVec 32 := Scf.iv v4956 c1_i32_1375 k0_t34
  let v4962 : Index := Scalar.indexCast arg18
  ![v4962.toNat]
def k0_off98 (v4949 : BitVec 32) (v4991 : BitVec 32) : Fin 1 → Nat :=
  let c1600_i32 : BitVec 32 := 1600#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1600_i32 v5014
  let v5048 : Index := Scalar.indexCast v5015
  ![v5048.toNat]

def k0_off99 (v4949 : BitVec 32) (v4991 : BitVec 32) : Fin 1 → Nat :=
  let c1600_i32 : BitVec 32 := 1600#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1600_i32 v5014
  let c16_i32_1396 : BitVec 32 := 16#32
  let v5056 : BitVec 32 := Scalar.addi v5015 c16_i32_1396
  let v5057 : Index := Scalar.indexCast v5056
  ![v5057.toNat]

def k0_chk29 (v4949 : BitVec 32) (v4991 : BitVec 32) : Prop :=
  (∀ a, (k0_off98 v4949 v4991) a + S16.size a ≤ S6144.size a) ∧
  (∀ a, (k0_off99 v4949 v4991) a + S16.size a ≤ S6144.size a)
theorem k0_off98_inb : ∀ (v4949 : BitVec 32) (v4991 : BitVec 32) (k0_hw29 : k0_chk29 v4949 v4991), ∀ a, (k0_off98 v4949 v4991) a + S16.size a ≤ S6144.size a := fun v4949 v4991 k0_hw29 => k0_hw29.1
theorem k0_off99_inb : ∀ (v4949 : BitVec 32) (v4991 : BitVec 32) (k0_hw29 : k0_chk29 v4949 v4991), ∀ a, (k0_off99 v4949 v4991) a + S16.size a ≤ S6144.size a := fun v4949 v4991 k0_hw29 => k0_hw29.2

@[reducible] def k0_t35_loop (v1542_0 : BitVec 32) (k0_t33 : Fin (k0_t33_loop v1542_0).trips) : Scf.Loop 32 :=
  let c0_i32_454 : BitVec 32 := 0#32
  let c1_i32_452 : BitVec 32 := 1#32
  let v1615 : BitVec 32 := Scalar.subi v1542_0 c1_i32_452
  let v1616 : BitVec 32 := Scalar.subi v1615 c0_i32_454
  let c1_i32_455 : BitVec 32 := 1#32
  let v1618 : BitVec 32 := Scalar.divsi v1616 c1_i32_455
  let v1619 : BitVec 32 := Scalar.muli v1618 c1_i32_455
  let v1620 : BitVec 32 := Scalar.addi c0_i32_454 v1619
  let c1_i32_457 : BitVec 32 := 1#32
  let arg17 : BitVec 32 := Scf.iv v1620 c1_i32_457 k0_t33
  let c1_i32_1372 : BitVec 32 := 1#32
  let v4956 : BitVec 32 := Scalar.addi arg17 c1_i32_1372
  let v4957 : BitVec 32 := Scalar.subi v1542_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off100 (v1542_0 : BitVec 32) (k0_t33 : Fin (k0_t33_loop v1542_0).trips) (k0_t35 : Fin (k0_t35_loop v1542_0 k0_t33).trips) : Fin 1 → Nat :=
  let c0_i32_454 : BitVec 32 := 0#32
  let c1_i32_452 : BitVec 32 := 1#32
  let v1615 : BitVec 32 := Scalar.subi v1542_0 c1_i32_452
  let v1616 : BitVec 32 := Scalar.subi v1615 c0_i32_454
  let c1_i32_455 : BitVec 32 := 1#32
  let v1618 : BitVec 32 := Scalar.divsi v1616 c1_i32_455
  let v1619 : BitVec 32 := Scalar.muli v1618 c1_i32_455
  let v1620 : BitVec 32 := Scalar.addi c0_i32_454 v1619
  let c1_i32_457 : BitVec 32 := 1#32
  let arg17 : BitVec 32 := Scf.iv v1620 c1_i32_457 k0_t33
  let c1_i32_1372 : BitVec 32 := 1#32
  let v4956 : BitVec 32 := Scalar.addi arg17 c1_i32_1372
  let v4957 : BitVec 32 := Scalar.subi v1542_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t35
  let v4962 : Index := Scalar.indexCast arg18
  ![v4962.toNat]

def k0_chk26 (v1542_0 : BitVec 32) : Prop :=
  ((k0_t30_loop v1542_0).OK) ∧
  (∀ k0_t30 : Fin (k0_t30_loop v1542_0).trips, ∀ a, (k0_off89 v1542_0 k0_t30) a + S1.size a ≤ S40.size a) ∧
  (∀ k0_t30 : Fin (k0_t30_loop v1542_0).trips, (k0_t31_loop v1542_0 k0_t30).OK) ∧
  (∀ (k0_t30 : Fin (k0_t30_loop v1542_0).trips) (k0_t31 : Fin (k0_t31_loop v1542_0 k0_t30).trips), ∀ a, (k0_off90 v1542_0 k0_t30 k0_t31) a + S1.size a ≤ S40.size a) ∧
  (∀ k0_t30 : Fin (k0_t30_loop v1542_0).trips, (k0_t32_loop v1542_0 k0_t30).OK) ∧
  (∀ (k0_t30 : Fin (k0_t30_loop v1542_0).trips) (k0_t32 : Fin (k0_t32_loop v1542_0 k0_t30).trips), ∀ a, (k0_off93 v1542_0 k0_t30 k0_t32) a + S1.size a ≤ S40.size a) ∧
  ((k0_t33_loop v1542_0).OK) ∧
  (∀ k0_t33 : Fin (k0_t33_loop v1542_0).trips, ∀ a, (k0_off96 v1542_0 k0_t33) a + S1.size a ≤ S40.size a) ∧
  (∀ k0_t33 : Fin (k0_t33_loop v1542_0).trips, (k0_t34_loop v1542_0 k0_t33).OK) ∧
  (∀ (k0_t33 : Fin (k0_t33_loop v1542_0).trips) (k0_t34 : Fin (k0_t34_loop v1542_0 k0_t33).trips), ∀ a, (k0_off97 v1542_0 k0_t33 k0_t34) a + S1.size a ≤ S40.size a) ∧
  (∀ k0_t33 : Fin (k0_t33_loop v1542_0).trips, (k0_t35_loop v1542_0 k0_t33).OK) ∧
  (∀ (k0_t33 : Fin (k0_t33_loop v1542_0).trips) (k0_t35 : Fin (k0_t35_loop v1542_0 k0_t33).trips), ∀ a, (k0_off100 v1542_0 k0_t33 k0_t35) a + S1.size a ≤ S40.size a)
theorem k0_t30_ok : ∀ (v1542_0 : BitVec 32) (k0_hw26 : k0_chk26 v1542_0), (k0_t30_loop v1542_0).OK := fun v1542_0 k0_hw26 => k0_hw26.1
theorem k0_off89_inb : ∀ (v1542_0 : BitVec 32) (k0_hw26 : k0_chk26 v1542_0) (k0_t30 : Fin (k0_t30_loop v1542_0).trips), ∀ a, (k0_off89 v1542_0 k0_t30) a + S1.size a ≤ S40.size a := fun v1542_0 k0_hw26 k0_t30 => k0_hw26.2.1 k0_t30
theorem k0_t31_ok : ∀ (v1542_0 : BitVec 32) (k0_hw26 : k0_chk26 v1542_0) (k0_t30 : Fin (k0_t30_loop v1542_0).trips), (k0_t31_loop v1542_0 k0_t30).OK := fun v1542_0 k0_hw26 k0_t30 => k0_hw26.2.2.1 k0_t30
theorem k0_off90_inb : ∀ (v1542_0 : BitVec 32) (k0_hw26 : k0_chk26 v1542_0) (k0_t30 : Fin (k0_t30_loop v1542_0).trips) (k0_t31 : Fin (k0_t31_loop v1542_0 k0_t30).trips), ∀ a, (k0_off90 v1542_0 k0_t30 k0_t31) a + S1.size a ≤ S40.size a := fun v1542_0 k0_hw26 k0_t30 k0_t31 => k0_hw26.2.2.2.1 k0_t30 k0_t31
theorem k0_t32_ok : ∀ (v1542_0 : BitVec 32) (k0_hw26 : k0_chk26 v1542_0) (k0_t30 : Fin (k0_t30_loop v1542_0).trips), (k0_t32_loop v1542_0 k0_t30).OK := fun v1542_0 k0_hw26 k0_t30 => k0_hw26.2.2.2.2.1 k0_t30
theorem k0_off93_inb : ∀ (v1542_0 : BitVec 32) (k0_hw26 : k0_chk26 v1542_0) (k0_t30 : Fin (k0_t30_loop v1542_0).trips) (k0_t32 : Fin (k0_t32_loop v1542_0 k0_t30).trips), ∀ a, (k0_off93 v1542_0 k0_t30 k0_t32) a + S1.size a ≤ S40.size a := fun v1542_0 k0_hw26 k0_t30 k0_t32 => k0_hw26.2.2.2.2.2.1 k0_t30 k0_t32
theorem k0_t33_ok : ∀ (v1542_0 : BitVec 32) (k0_hw26 : k0_chk26 v1542_0), (k0_t33_loop v1542_0).OK := fun v1542_0 k0_hw26 => k0_hw26.2.2.2.2.2.2.1
theorem k0_off96_inb : ∀ (v1542_0 : BitVec 32) (k0_hw26 : k0_chk26 v1542_0) (k0_t33 : Fin (k0_t33_loop v1542_0).trips), ∀ a, (k0_off96 v1542_0 k0_t33) a + S1.size a ≤ S40.size a := fun v1542_0 k0_hw26 k0_t33 => k0_hw26.2.2.2.2.2.2.2.1 k0_t33
theorem k0_t34_ok : ∀ (v1542_0 : BitVec 32) (k0_hw26 : k0_chk26 v1542_0) (k0_t33 : Fin (k0_t33_loop v1542_0).trips), (k0_t34_loop v1542_0 k0_t33).OK := fun v1542_0 k0_hw26 k0_t33 => k0_hw26.2.2.2.2.2.2.2.2.1 k0_t33
theorem k0_off97_inb : ∀ (v1542_0 : BitVec 32) (k0_hw26 : k0_chk26 v1542_0) (k0_t33 : Fin (k0_t33_loop v1542_0).trips) (k0_t34 : Fin (k0_t34_loop v1542_0 k0_t33).trips), ∀ a, (k0_off97 v1542_0 k0_t33 k0_t34) a + S1.size a ≤ S40.size a := fun v1542_0 k0_hw26 k0_t33 k0_t34 => k0_hw26.2.2.2.2.2.2.2.2.2.1 k0_t33 k0_t34
theorem k0_t35_ok : ∀ (v1542_0 : BitVec 32) (k0_hw26 : k0_chk26 v1542_0) (k0_t33 : Fin (k0_t33_loop v1542_0).trips), (k0_t35_loop v1542_0 k0_t33).OK := fun v1542_0 k0_hw26 k0_t33 => k0_hw26.2.2.2.2.2.2.2.2.2.2.1 k0_t33
theorem k0_off100_inb : ∀ (v1542_0 : BitVec 32) (k0_hw26 : k0_chk26 v1542_0) (k0_t33 : Fin (k0_t33_loop v1542_0).trips) (k0_t35 : Fin (k0_t35_loop v1542_0 k0_t33).trips), ∀ a, (k0_off100 v1542_0 k0_t33 k0_t35) a + S1.size a ≤ S40.size a := fun v1542_0 k0_hw26 k0_t33 k0_t35 => k0_hw26.2.2.2.2.2.2.2.2.2.2.2 k0_t33 k0_t35

def k0_off101 (v4949 : BitVec 32) (v4991 : BitVec 32) : Fin 1 → Nat :=
  let c1600_i32 : BitVec 32 := 1600#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1600_i32 v5014
  let v5048 : Index := Scalar.indexCast v5015
  ![v5048.toNat]

def k0_off102 (v4949 : BitVec 32) (v4991 : BitVec 32) : Fin 1 → Nat :=
  let c1600_i32 : BitVec 32 := 1600#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1600_i32 v5014
  let c16_i32_1396 : BitVec 32 := 16#32
  let v5056 : BitVec 32 := Scalar.addi v5015 c16_i32_1396
  let v5057 : Index := Scalar.indexCast v5056
  ![v5057.toNat]

def k0_chk30 (v4949 : BitVec 32) (v4991 : BitVec 32) : Prop :=
  (∀ a, (k0_off101 v4949 v4991) a + S16.size a ≤ S6144.size a) ∧
  (∀ a, (k0_off102 v4949 v4991) a + S16.size a ≤ S6144.size a)
theorem k0_off101_inb : ∀ (v4949 : BitVec 32) (v4991 : BitVec 32) (k0_hw30 : k0_chk30 v4949 v4991), ∀ a, (k0_off101 v4949 v4991) a + S16.size a ≤ S6144.size a := fun v4949 v4991 k0_hw30 => k0_hw30.1
theorem k0_off102_inb : ∀ (v4949 : BitVec 32) (v4991 : BitVec 32) (k0_hw30 : k0_chk30 v4949 v4991), ∀ a, (k0_off102 v4949 v4991) a + S16.size a ≤ S6144.size a := fun v4949 v4991 k0_hw30 => k0_hw30.2

def k0_off103 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c5_i32 : BitVec 32 := 5#32
  let v1621 : BitVec 32 := Scalar.addi v29 c5_i32
  let v1622 : Index := Scalar.indexCast v1621
  ![v1622.toNat]
def k0_off104 (i : grid0.Coords) (c32_i32_458 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c5_i32 : BitVec 32 := 5#32
  let v1621 : BitVec 32 := Scalar.addi v29 c5_i32
  let v1627 : BitVec 32 := Scalar.addi c32_i32_458 v1621
  let v1628 : Index := Scalar.indexCast v1627
  ![v1628.toNat]
@[reducible] def k0_t36_loop : Scf.Loop 32 :=
  let c0_i32_531 : BitVec 32 := 0#32
  let c32_i32_532 : BitVec 32 := 32#32
  let v1843 : BitVec 32 := Scalar.addi c0_i32_531 c32_i32_532
  let c1_i32_533 : BitVec 32 := 1#32
  ⟨c0_i32_531, v1843, c1_i32_533⟩
def k0_off105 (k0_t36 : Fin k0_t36_loop.trips) : Fin 1 → Nat :=
  let c0_i32_531 : BitVec 32 := 0#32
  let c1_i32_533 : BitVec 32 := 1#32
  let arg17 : BitVec 32 := Scf.iv c0_i32_531 c1_i32_533 k0_t36
  let v4944 : Index := Scalar.indexCast arg17
  ![v4944.toNat]
def k0_off106 (arg18 : BitVec 32) : Fin 1 → Nat :=
  let v4988 : Index := Scalar.indexCast arg18
  ![v4988.toNat]
def k0_cond6 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk31 (arg18 : BitVec 32) (v4984 : BitVec 1) : Prop :=
  (∀ (k0_h6 : k0_cond6 v4984 = 1#1), ∀ a, (k0_off106 arg18) a + S1.size a ≤ S40.size a)
theorem k0_off106_inb : ∀ (arg18 : BitVec 32) (v4984 : BitVec 1) (k0_hw31 : k0_chk31 arg18 v4984), ∀ (k0_h6 : k0_cond6 v4984 = 1#1), ∀ a, (k0_off106 arg18) a + S1.size a ≤ S40.size a := fun arg18 v4984 k0_hw31 k0_h6 => k0_hw31 k0_h6

def k0_off107 (k0_t36 : Fin k0_t36_loop.trips) : Fin 1 → Nat :=
  let c0_i32_531 : BitVec 32 := 0#32
  let c1_i32_533 : BitVec 32 := 1#32
  let arg17 : BitVec 32 := Scf.iv c0_i32_531 c1_i32_533 k0_t36
  let v4994 : Index := Scalar.indexCast arg17
  ![v4994.toNat]
def k0_off108 (k0_t36 : Fin k0_t36_loop.trips) (c32_i32_1379 : BitVec 32) : Fin 1 → Nat :=
  let c0_i32_531 : BitVec 32 := 0#32
  let c1_i32_533 : BitVec 32 := 1#32
  let arg17 : BitVec 32 := Scf.iv c0_i32_531 c1_i32_533 k0_t36
  let v5002 : BitVec 32 := Scalar.addi c32_i32_1379 arg17
  let v5003 : Index := Scalar.indexCast v5002
  ![v5003.toNat]
@[reducible] def k0_t37_loop (v1844_0 : BitVec 32) : Scf.Loop 32 :=
  let c0_i32_537 : BitVec 32 := 0#32
  let c1_i32_535 : BitVec 32 := 1#32
  let v1917 : BitVec 32 := Scalar.subi v1844_0 c1_i32_535
  let v1918 : BitVec 32 := Scalar.subi v1917 c0_i32_537
  let c1_i32_538 : BitVec 32 := 1#32
  let v1920 : BitVec 32 := Scalar.divsi v1918 c1_i32_538
  let v1921 : BitVec 32 := Scalar.muli v1920 c1_i32_538
  let v1922 : BitVec 32 := Scalar.addi c0_i32_537 v1921
  let c1_i32_539 : BitVec 32 := 1#32
  ⟨c0_i32_537, v1922, c1_i32_539⟩

def k0_off109 (v1844_0 : BitVec 32) (k0_t37 : Fin (k0_t37_loop v1844_0).trips) : Fin 1 → Nat :=
  let c0_i32_537 : BitVec 32 := 0#32
  let c1_i32_539 : BitVec 32 := 1#32
  let arg17 : BitVec 32 := Scf.iv c0_i32_537 c1_i32_539 k0_t37
  let v4944 : Index := Scalar.indexCast arg17
  ![v4944.toNat]
@[reducible] def k0_t38_loop (v1844_0 : BitVec 32) (k0_t37 : Fin (k0_t37_loop v1844_0).trips) : Scf.Loop 32 :=
  let c0_i32_537 : BitVec 32 := 0#32
  let c1_i32_539 : BitVec 32 := 1#32
  let arg17 : BitVec 32 := Scf.iv c0_i32_537 c1_i32_539 k0_t37
  let c1_i32_1372 : BitVec 32 := 1#32
  let v4956 : BitVec 32 := Scalar.addi arg17 c1_i32_1372
  let v4957 : BitVec 32 := Scalar.subi v1844_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off110 (v1844_0 : BitVec 32) (k0_t37 : Fin (k0_t37_loop v1844_0).trips) (k0_t38 : Fin (k0_t38_loop v1844_0 k0_t37).trips) : Fin 1 → Nat :=
  let c0_i32_537 : BitVec 32 := 0#32
  let c1_i32_539 : BitVec 32 := 1#32
  let arg17 : BitVec 32 := Scf.iv c0_i32_537 c1_i32_539 k0_t37
  let c1_i32_1372 : BitVec 32 := 1#32
  let v4956 : BitVec 32 := Scalar.addi arg17 c1_i32_1372
  let c1_i32_1375 : BitVec 32 := 1#32
  let arg18 : BitVec 32 := Scf.iv v4956 c1_i32_1375 k0_t38
  let v4962 : Index := Scalar.indexCast arg18
  ![v4962.toNat]
def k0_off111 (v4949 : BitVec 32) (v4991 : BitVec 32) : Fin 1 → Nat :=
  let c1984_i32 : BitVec 32 := 1984#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1984_i32 v5014
  let v5048 : Index := Scalar.indexCast v5015
  ![v5048.toNat]

def k0_off112 (v4949 : BitVec 32) (v4991 : BitVec 32) : Fin 1 → Nat :=
  let c1984_i32 : BitVec 32 := 1984#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1984_i32 v5014
  let c16_i32_1396 : BitVec 32 := 16#32
  let v5056 : BitVec 32 := Scalar.addi v5015 c16_i32_1396
  let v5057 : Index := Scalar.indexCast v5056
  ![v5057.toNat]

def k0_chk33 (v4949 : BitVec 32) (v4991 : BitVec 32) : Prop :=
  (∀ a, (k0_off111 v4949 v4991) a + S16.size a ≤ S6144.size a) ∧
  (∀ a, (k0_off112 v4949 v4991) a + S16.size a ≤ S6144.size a)
theorem k0_off111_inb : ∀ (v4949 : BitVec 32) (v4991 : BitVec 32) (k0_hw33 : k0_chk33 v4949 v4991), ∀ a, (k0_off111 v4949 v4991) a + S16.size a ≤ S6144.size a := fun v4949 v4991 k0_hw33 => k0_hw33.1
theorem k0_off112_inb : ∀ (v4949 : BitVec 32) (v4991 : BitVec 32) (k0_hw33 : k0_chk33 v4949 v4991), ∀ a, (k0_off112 v4949 v4991) a + S16.size a ≤ S6144.size a := fun v4949 v4991 k0_hw33 => k0_hw33.2

@[reducible] def k0_t39_loop (v1844_0 : BitVec 32) (k0_t37 : Fin (k0_t37_loop v1844_0).trips) : Scf.Loop 32 :=
  let c0_i32_537 : BitVec 32 := 0#32
  let c1_i32_539 : BitVec 32 := 1#32
  let arg17 : BitVec 32 := Scf.iv c0_i32_537 c1_i32_539 k0_t37
  let c1_i32_1372 : BitVec 32 := 1#32
  let v4956 : BitVec 32 := Scalar.addi arg17 c1_i32_1372
  let v4957 : BitVec 32 := Scalar.subi v1844_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off113 (v1844_0 : BitVec 32) (k0_t37 : Fin (k0_t37_loop v1844_0).trips) (k0_t39 : Fin (k0_t39_loop v1844_0 k0_t37).trips) : Fin 1 → Nat :=
  let c0_i32_537 : BitVec 32 := 0#32
  let c1_i32_539 : BitVec 32 := 1#32
  let arg17 : BitVec 32 := Scf.iv c0_i32_537 c1_i32_539 k0_t37
  let c1_i32_1372 : BitVec 32 := 1#32
  let v4956 : BitVec 32 := Scalar.addi arg17 c1_i32_1372
  let v4957 : BitVec 32 := Scalar.subi v1844_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t39
  let v4962 : Index := Scalar.indexCast arg18
  ![v4962.toNat]
def k0_off114 (v4949 : BitVec 32) (v4991 : BitVec 32) : Fin 1 → Nat :=
  let c1984_i32 : BitVec 32 := 1984#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1984_i32 v5014
  let v5048 : Index := Scalar.indexCast v5015
  ![v5048.toNat]

def k0_off115 (v4949 : BitVec 32) (v4991 : BitVec 32) : Fin 1 → Nat :=
  let c1984_i32 : BitVec 32 := 1984#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1984_i32 v5014
  let c16_i32_1396 : BitVec 32 := 16#32
  let v5056 : BitVec 32 := Scalar.addi v5015 c16_i32_1396
  let v5057 : Index := Scalar.indexCast v5056
  ![v5057.toNat]

def k0_chk34 (v4949 : BitVec 32) (v4991 : BitVec 32) : Prop :=
  (∀ a, (k0_off114 v4949 v4991) a + S16.size a ≤ S6144.size a) ∧
  (∀ a, (k0_off115 v4949 v4991) a + S16.size a ≤ S6144.size a)
theorem k0_off114_inb : ∀ (v4949 : BitVec 32) (v4991 : BitVec 32) (k0_hw34 : k0_chk34 v4949 v4991), ∀ a, (k0_off114 v4949 v4991) a + S16.size a ≤ S6144.size a := fun v4949 v4991 k0_hw34 => k0_hw34.1
theorem k0_off115_inb : ∀ (v4949 : BitVec 32) (v4991 : BitVec 32) (k0_hw34 : k0_chk34 v4949 v4991), ∀ a, (k0_off115 v4949 v4991) a + S16.size a ≤ S6144.size a := fun v4949 v4991 k0_hw34 => k0_hw34.2

@[reducible] def k0_t40_loop (v1844_0 : BitVec 32) : Scf.Loop 32 :=
  let c0_i32_537 : BitVec 32 := 0#32
  let c1_i32_535 : BitVec 32 := 1#32
  let v1917 : BitVec 32 := Scalar.subi v1844_0 c1_i32_535
  let v1918 : BitVec 32 := Scalar.subi v1917 c0_i32_537
  let c1_i32_538 : BitVec 32 := 1#32
  let v1920 : BitVec 32 := Scalar.divsi v1918 c1_i32_538
  let v1921 : BitVec 32 := Scalar.muli v1920 c1_i32_538
  let v1922 : BitVec 32 := Scalar.addi c0_i32_537 v1921
  let v1919 : BitVec 32 := Scalar.addi c0_i32_537 v1918
  let c1_i32_540 : BitVec 32 := 1#32
  ⟨v1922, v1919, c1_i32_540⟩
def k0_off116 (v1844_0 : BitVec 32) (k0_t40 : Fin (k0_t40_loop v1844_0).trips) : Fin 1 → Nat :=
  let c0_i32_537 : BitVec 32 := 0#32
  let c1_i32_535 : BitVec 32 := 1#32
  let v1917 : BitVec 32 := Scalar.subi v1844_0 c1_i32_535
  let v1918 : BitVec 32 := Scalar.subi v1917 c0_i32_537
  let c1_i32_538 : BitVec 32 := 1#32
  let v1920 : BitVec 32 := Scalar.divsi v1918 c1_i32_538
  let v1921 : BitVec 32 := Scalar.muli v1920 c1_i32_538
  let v1922 : BitVec 32 := Scalar.addi c0_i32_537 v1921
  let c1_i32_540 : BitVec 32 := 1#32
  let arg17 : BitVec 32 := Scf.iv v1922 c1_i32_540 k0_t40
  let v4944 : Index := Scalar.indexCast arg17
  ![v4944.toNat]
@[reducible] def k0_t41_loop (v1844_0 : BitVec 32) (k0_t40 : Fin (k0_t40_loop v1844_0).trips) : Scf.Loop 32 :=
  let c0_i32_537 : BitVec 32 := 0#32
  let c1_i32_535 : BitVec 32 := 1#32
  let v1917 : BitVec 32 := Scalar.subi v1844_0 c1_i32_535
  let v1918 : BitVec 32 := Scalar.subi v1917 c0_i32_537
  let c1_i32_538 : BitVec 32 := 1#32
  let v1920 : BitVec 32 := Scalar.divsi v1918 c1_i32_538
  let v1921 : BitVec 32 := Scalar.muli v1920 c1_i32_538
  let v1922 : BitVec 32 := Scalar.addi c0_i32_537 v1921
  let c1_i32_540 : BitVec 32 := 1#32
  let arg17 : BitVec 32 := Scf.iv v1922 c1_i32_540 k0_t40
  let c1_i32_1372 : BitVec 32 := 1#32
  let v4956 : BitVec 32 := Scalar.addi arg17 c1_i32_1372
  let v4957 : BitVec 32 := Scalar.subi v1844_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off117 (v1844_0 : BitVec 32) (k0_t40 : Fin (k0_t40_loop v1844_0).trips) (k0_t41 : Fin (k0_t41_loop v1844_0 k0_t40).trips) : Fin 1 → Nat :=
  let c0_i32_537 : BitVec 32 := 0#32
  let c1_i32_535 : BitVec 32 := 1#32
  let v1917 : BitVec 32 := Scalar.subi v1844_0 c1_i32_535
  let v1918 : BitVec 32 := Scalar.subi v1917 c0_i32_537
  let c1_i32_538 : BitVec 32 := 1#32
  let v1920 : BitVec 32 := Scalar.divsi v1918 c1_i32_538
  let v1921 : BitVec 32 := Scalar.muli v1920 c1_i32_538
  let v1922 : BitVec 32 := Scalar.addi c0_i32_537 v1921
  let c1_i32_540 : BitVec 32 := 1#32
  let arg17 : BitVec 32 := Scf.iv v1922 c1_i32_540 k0_t40
  let c1_i32_1372 : BitVec 32 := 1#32
  let v4956 : BitVec 32 := Scalar.addi arg17 c1_i32_1372
  let c1_i32_1375 : BitVec 32 := 1#32
  let arg18 : BitVec 32 := Scf.iv v4956 c1_i32_1375 k0_t41
  let v4962 : Index := Scalar.indexCast arg18
  ![v4962.toNat]
def k0_off118 (v4949 : BitVec 32) (v4991 : BitVec 32) : Fin 1 → Nat :=
  let c1984_i32 : BitVec 32 := 1984#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1984_i32 v5014
  let v5048 : Index := Scalar.indexCast v5015
  ![v5048.toNat]

def k0_off119 (v4949 : BitVec 32) (v4991 : BitVec 32) : Fin 1 → Nat :=
  let c1984_i32 : BitVec 32 := 1984#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1984_i32 v5014
  let c16_i32_1396 : BitVec 32 := 16#32
  let v5056 : BitVec 32 := Scalar.addi v5015 c16_i32_1396
  let v5057 : Index := Scalar.indexCast v5056
  ![v5057.toNat]

def k0_chk35 (v4949 : BitVec 32) (v4991 : BitVec 32) : Prop :=
  (∀ a, (k0_off118 v4949 v4991) a + S16.size a ≤ S6144.size a) ∧
  (∀ a, (k0_off119 v4949 v4991) a + S16.size a ≤ S6144.size a)
theorem k0_off118_inb : ∀ (v4949 : BitVec 32) (v4991 : BitVec 32) (k0_hw35 : k0_chk35 v4949 v4991), ∀ a, (k0_off118 v4949 v4991) a + S16.size a ≤ S6144.size a := fun v4949 v4991 k0_hw35 => k0_hw35.1
theorem k0_off119_inb : ∀ (v4949 : BitVec 32) (v4991 : BitVec 32) (k0_hw35 : k0_chk35 v4949 v4991), ∀ a, (k0_off119 v4949 v4991) a + S16.size a ≤ S6144.size a := fun v4949 v4991 k0_hw35 => k0_hw35.2

@[reducible] def k0_t42_loop (v1844_0 : BitVec 32) (k0_t40 : Fin (k0_t40_loop v1844_0).trips) : Scf.Loop 32 :=
  let c0_i32_537 : BitVec 32 := 0#32
  let c1_i32_535 : BitVec 32 := 1#32
  let v1917 : BitVec 32 := Scalar.subi v1844_0 c1_i32_535
  let v1918 : BitVec 32 := Scalar.subi v1917 c0_i32_537
  let c1_i32_538 : BitVec 32 := 1#32
  let v1920 : BitVec 32 := Scalar.divsi v1918 c1_i32_538
  let v1921 : BitVec 32 := Scalar.muli v1920 c1_i32_538
  let v1922 : BitVec 32 := Scalar.addi c0_i32_537 v1921
  let c1_i32_540 : BitVec 32 := 1#32
  let arg17 : BitVec 32 := Scf.iv v1922 c1_i32_540 k0_t40
  let c1_i32_1372 : BitVec 32 := 1#32
  let v4956 : BitVec 32 := Scalar.addi arg17 c1_i32_1372
  let v4957 : BitVec 32 := Scalar.subi v1844_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off120 (v1844_0 : BitVec 32) (k0_t40 : Fin (k0_t40_loop v1844_0).trips) (k0_t42 : Fin (k0_t42_loop v1844_0 k0_t40).trips) : Fin 1 → Nat :=
  let c0_i32_537 : BitVec 32 := 0#32
  let c1_i32_535 : BitVec 32 := 1#32
  let v1917 : BitVec 32 := Scalar.subi v1844_0 c1_i32_535
  let v1918 : BitVec 32 := Scalar.subi v1917 c0_i32_537
  let c1_i32_538 : BitVec 32 := 1#32
  let v1920 : BitVec 32 := Scalar.divsi v1918 c1_i32_538
  let v1921 : BitVec 32 := Scalar.muli v1920 c1_i32_538
  let v1922 : BitVec 32 := Scalar.addi c0_i32_537 v1921
  let c1_i32_540 : BitVec 32 := 1#32
  let arg17 : BitVec 32 := Scf.iv v1922 c1_i32_540 k0_t40
  let c1_i32_1372 : BitVec 32 := 1#32
  let v4956 : BitVec 32 := Scalar.addi arg17 c1_i32_1372
  let v4957 : BitVec 32 := Scalar.subi v1844_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t42
  let v4962 : Index := Scalar.indexCast arg18
  ![v4962.toNat]

def k0_chk32 (v1844_0 : BitVec 32) : Prop :=
  ((k0_t37_loop v1844_0).OK) ∧
  (∀ k0_t37 : Fin (k0_t37_loop v1844_0).trips, ∀ a, (k0_off109 v1844_0 k0_t37) a + S1.size a ≤ S40.size a) ∧
  (∀ k0_t37 : Fin (k0_t37_loop v1844_0).trips, (k0_t38_loop v1844_0 k0_t37).OK) ∧
  (∀ (k0_t37 : Fin (k0_t37_loop v1844_0).trips) (k0_t38 : Fin (k0_t38_loop v1844_0 k0_t37).trips), ∀ a, (k0_off110 v1844_0 k0_t37 k0_t38) a + S1.size a ≤ S40.size a) ∧
  (∀ k0_t37 : Fin (k0_t37_loop v1844_0).trips, (k0_t39_loop v1844_0 k0_t37).OK) ∧
  (∀ (k0_t37 : Fin (k0_t37_loop v1844_0).trips) (k0_t39 : Fin (k0_t39_loop v1844_0 k0_t37).trips), ∀ a, (k0_off113 v1844_0 k0_t37 k0_t39) a + S1.size a ≤ S40.size a) ∧
  ((k0_t40_loop v1844_0).OK) ∧
  (∀ k0_t40 : Fin (k0_t40_loop v1844_0).trips, ∀ a, (k0_off116 v1844_0 k0_t40) a + S1.size a ≤ S40.size a) ∧
  (∀ k0_t40 : Fin (k0_t40_loop v1844_0).trips, (k0_t41_loop v1844_0 k0_t40).OK) ∧
  (∀ (k0_t40 : Fin (k0_t40_loop v1844_0).trips) (k0_t41 : Fin (k0_t41_loop v1844_0 k0_t40).trips), ∀ a, (k0_off117 v1844_0 k0_t40 k0_t41) a + S1.size a ≤ S40.size a) ∧
  (∀ k0_t40 : Fin (k0_t40_loop v1844_0).trips, (k0_t42_loop v1844_0 k0_t40).OK) ∧
  (∀ (k0_t40 : Fin (k0_t40_loop v1844_0).trips) (k0_t42 : Fin (k0_t42_loop v1844_0 k0_t40).trips), ∀ a, (k0_off120 v1844_0 k0_t40 k0_t42) a + S1.size a ≤ S40.size a)
theorem k0_t37_ok : ∀ (v1844_0 : BitVec 32) (k0_hw32 : k0_chk32 v1844_0), (k0_t37_loop v1844_0).OK := fun v1844_0 k0_hw32 => k0_hw32.1
theorem k0_off109_inb : ∀ (v1844_0 : BitVec 32) (k0_hw32 : k0_chk32 v1844_0) (k0_t37 : Fin (k0_t37_loop v1844_0).trips), ∀ a, (k0_off109 v1844_0 k0_t37) a + S1.size a ≤ S40.size a := fun v1844_0 k0_hw32 k0_t37 => k0_hw32.2.1 k0_t37
theorem k0_t38_ok : ∀ (v1844_0 : BitVec 32) (k0_hw32 : k0_chk32 v1844_0) (k0_t37 : Fin (k0_t37_loop v1844_0).trips), (k0_t38_loop v1844_0 k0_t37).OK := fun v1844_0 k0_hw32 k0_t37 => k0_hw32.2.2.1 k0_t37
theorem k0_off110_inb : ∀ (v1844_0 : BitVec 32) (k0_hw32 : k0_chk32 v1844_0) (k0_t37 : Fin (k0_t37_loop v1844_0).trips) (k0_t38 : Fin (k0_t38_loop v1844_0 k0_t37).trips), ∀ a, (k0_off110 v1844_0 k0_t37 k0_t38) a + S1.size a ≤ S40.size a := fun v1844_0 k0_hw32 k0_t37 k0_t38 => k0_hw32.2.2.2.1 k0_t37 k0_t38
theorem k0_t39_ok : ∀ (v1844_0 : BitVec 32) (k0_hw32 : k0_chk32 v1844_0) (k0_t37 : Fin (k0_t37_loop v1844_0).trips), (k0_t39_loop v1844_0 k0_t37).OK := fun v1844_0 k0_hw32 k0_t37 => k0_hw32.2.2.2.2.1 k0_t37
theorem k0_off113_inb : ∀ (v1844_0 : BitVec 32) (k0_hw32 : k0_chk32 v1844_0) (k0_t37 : Fin (k0_t37_loop v1844_0).trips) (k0_t39 : Fin (k0_t39_loop v1844_0 k0_t37).trips), ∀ a, (k0_off113 v1844_0 k0_t37 k0_t39) a + S1.size a ≤ S40.size a := fun v1844_0 k0_hw32 k0_t37 k0_t39 => k0_hw32.2.2.2.2.2.1 k0_t37 k0_t39
theorem k0_t40_ok : ∀ (v1844_0 : BitVec 32) (k0_hw32 : k0_chk32 v1844_0), (k0_t40_loop v1844_0).OK := fun v1844_0 k0_hw32 => k0_hw32.2.2.2.2.2.2.1
theorem k0_off116_inb : ∀ (v1844_0 : BitVec 32) (k0_hw32 : k0_chk32 v1844_0) (k0_t40 : Fin (k0_t40_loop v1844_0).trips), ∀ a, (k0_off116 v1844_0 k0_t40) a + S1.size a ≤ S40.size a := fun v1844_0 k0_hw32 k0_t40 => k0_hw32.2.2.2.2.2.2.2.1 k0_t40
theorem k0_t41_ok : ∀ (v1844_0 : BitVec 32) (k0_hw32 : k0_chk32 v1844_0) (k0_t40 : Fin (k0_t40_loop v1844_0).trips), (k0_t41_loop v1844_0 k0_t40).OK := fun v1844_0 k0_hw32 k0_t40 => k0_hw32.2.2.2.2.2.2.2.2.1 k0_t40
theorem k0_off117_inb : ∀ (v1844_0 : BitVec 32) (k0_hw32 : k0_chk32 v1844_0) (k0_t40 : Fin (k0_t40_loop v1844_0).trips) (k0_t41 : Fin (k0_t41_loop v1844_0 k0_t40).trips), ∀ a, (k0_off117 v1844_0 k0_t40 k0_t41) a + S1.size a ≤ S40.size a := fun v1844_0 k0_hw32 k0_t40 k0_t41 => k0_hw32.2.2.2.2.2.2.2.2.2.1 k0_t40 k0_t41
theorem k0_t42_ok : ∀ (v1844_0 : BitVec 32) (k0_hw32 : k0_chk32 v1844_0) (k0_t40 : Fin (k0_t40_loop v1844_0).trips), (k0_t42_loop v1844_0 k0_t40).OK := fun v1844_0 k0_hw32 k0_t40 => k0_hw32.2.2.2.2.2.2.2.2.2.2.1 k0_t40
theorem k0_off120_inb : ∀ (v1844_0 : BitVec 32) (k0_hw32 : k0_chk32 v1844_0) (k0_t40 : Fin (k0_t40_loop v1844_0).trips) (k0_t42 : Fin (k0_t42_loop v1844_0 k0_t40).trips), ∀ a, (k0_off120 v1844_0 k0_t40 k0_t42) a + S1.size a ≤ S40.size a := fun v1844_0 k0_hw32 k0_t40 k0_t42 => k0_hw32.2.2.2.2.2.2.2.2.2.2.2 k0_t40 k0_t42

def k0_off121 (v4949 : BitVec 32) (v4991 : BitVec 32) : Fin 1 → Nat :=
  let c1984_i32 : BitVec 32 := 1984#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1984_i32 v5014
  let v5048 : Index := Scalar.indexCast v5015
  ![v5048.toNat]

def k0_off122 (v4949 : BitVec 32) (v4991 : BitVec 32) : Fin 1 → Nat :=
  let c1984_i32 : BitVec 32 := 1984#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c1984_i32 v5014
  let c16_i32_1396 : BitVec 32 := 16#32
  let v5056 : BitVec 32 := Scalar.addi v5015 c16_i32_1396
  let v5057 : Index := Scalar.indexCast v5056
  ![v5057.toNat]

def k0_chk36 (v4949 : BitVec 32) (v4991 : BitVec 32) : Prop :=
  (∀ a, (k0_off121 v4949 v4991) a + S16.size a ≤ S6144.size a) ∧
  (∀ a, (k0_off122 v4949 v4991) a + S16.size a ≤ S6144.size a)
theorem k0_off121_inb : ∀ (v4949 : BitVec 32) (v4991 : BitVec 32) (k0_hw36 : k0_chk36 v4949 v4991), ∀ a, (k0_off121 v4949 v4991) a + S16.size a ≤ S6144.size a := fun v4949 v4991 k0_hw36 => k0_hw36.1
theorem k0_off122_inb : ∀ (v4949 : BitVec 32) (v4991 : BitVec 32) (k0_hw36 : k0_chk36 v4949 v4991), ∀ a, (k0_off122 v4949 v4991) a + S16.size a ≤ S6144.size a := fun v4949 v4991 k0_hw36 => k0_hw36.2

def k0_off123 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c6_i32 : BitVec 32 := 6#32
  let v1923 : BitVec 32 := Scalar.addi v29 c6_i32
  let v1924 : Index := Scalar.indexCast v1923
  ![v1924.toNat]
def k0_off124 (i : grid0.Coords) (c32_i32_541 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c6_i32 : BitVec 32 := 6#32
  let v1923 : BitVec 32 := Scalar.addi v29 c6_i32
  let v1929 : BitVec 32 := Scalar.addi c32_i32_541 v1923
  let v1930 : Index := Scalar.indexCast v1929
  ![v1930.toNat]
@[reducible] def k0_t43_loop : Scf.Loop 32 :=
  let c0_i32_614 : BitVec 32 := 0#32
  let c32_i32_615 : BitVec 32 := 32#32
  let v2145 : BitVec 32 := Scalar.addi c0_i32_614 c32_i32_615
  let c1_i32_616 : BitVec 32 := 1#32
  ⟨c0_i32_614, v2145, c1_i32_616⟩
def k0_off125 (k0_t43 : Fin k0_t43_loop.trips) : Fin 1 → Nat :=
  let c0_i32_614 : BitVec 32 := 0#32
  let c1_i32_616 : BitVec 32 := 1#32
  let arg17 : BitVec 32 := Scf.iv c0_i32_614 c1_i32_616 k0_t43
  let v4944 : Index := Scalar.indexCast arg17
  ![v4944.toNat]
def k0_off126 (arg18 : BitVec 32) : Fin 1 → Nat :=
  let v4988 : Index := Scalar.indexCast arg18
  ![v4988.toNat]
def k0_cond7 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk37 (arg18 : BitVec 32) (v4984 : BitVec 1) : Prop :=
  (∀ (k0_h7 : k0_cond7 v4984 = 1#1), ∀ a, (k0_off126 arg18) a + S1.size a ≤ S40.size a)
theorem k0_off126_inb : ∀ (arg18 : BitVec 32) (v4984 : BitVec 1) (k0_hw37 : k0_chk37 arg18 v4984), ∀ (k0_h7 : k0_cond7 v4984 = 1#1), ∀ a, (k0_off126 arg18) a + S1.size a ≤ S40.size a := fun arg18 v4984 k0_hw37 k0_h7 => k0_hw37 k0_h7

def k0_off127 (k0_t43 : Fin k0_t43_loop.trips) : Fin 1 → Nat :=
  let c0_i32_614 : BitVec 32 := 0#32
  let c1_i32_616 : BitVec 32 := 1#32
  let arg17 : BitVec 32 := Scf.iv c0_i32_614 c1_i32_616 k0_t43
  let v4994 : Index := Scalar.indexCast arg17
  ![v4994.toNat]
def k0_off128 (k0_t43 : Fin k0_t43_loop.trips) (c32_i32_1379 : BitVec 32) : Fin 1 → Nat :=
  let c0_i32_614 : BitVec 32 := 0#32
  let c1_i32_616 : BitVec 32 := 1#32
  let arg17 : BitVec 32 := Scf.iv c0_i32_614 c1_i32_616 k0_t43
  let v5002 : BitVec 32 := Scalar.addi c32_i32_1379 arg17
  let v5003 : Index := Scalar.indexCast v5002
  ![v5003.toNat]
@[reducible] def k0_t44_loop (v2146_0 : BitVec 32) : Scf.Loop 32 :=
  let c0_i32_620 : BitVec 32 := 0#32
  let c1_i32_618 : BitVec 32 := 1#32
  let v2219 : BitVec 32 := Scalar.subi v2146_0 c1_i32_618
  let v2220 : BitVec 32 := Scalar.subi v2219 c0_i32_620
  let c1_i32_621 : BitVec 32 := 1#32
  let v2222 : BitVec 32 := Scalar.divsi v2220 c1_i32_621
  let v2223 : BitVec 32 := Scalar.muli v2222 c1_i32_621
  let v2224 : BitVec 32 := Scalar.addi c0_i32_620 v2223
  let c1_i32_622 : BitVec 32 := 1#32
  ⟨c0_i32_620, v2224, c1_i32_622⟩

def k0_off129 (v2146_0 : BitVec 32) (k0_t44 : Fin (k0_t44_loop v2146_0).trips) : Fin 1 → Nat :=
  let c0_i32_620 : BitVec 32 := 0#32
  let c1_i32_622 : BitVec 32 := 1#32
  let arg17 : BitVec 32 := Scf.iv c0_i32_620 c1_i32_622 k0_t44
  let v4944 : Index := Scalar.indexCast arg17
  ![v4944.toNat]
@[reducible] def k0_t45_loop (v2146_0 : BitVec 32) (k0_t44 : Fin (k0_t44_loop v2146_0).trips) : Scf.Loop 32 :=
  let c0_i32_620 : BitVec 32 := 0#32
  let c1_i32_622 : BitVec 32 := 1#32
  let arg17 : BitVec 32 := Scf.iv c0_i32_620 c1_i32_622 k0_t44
  let c1_i32_1372 : BitVec 32 := 1#32
  let v4956 : BitVec 32 := Scalar.addi arg17 c1_i32_1372
  let v4957 : BitVec 32 := Scalar.subi v2146_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off130 (v2146_0 : BitVec 32) (k0_t44 : Fin (k0_t44_loop v2146_0).trips) (k0_t45 : Fin (k0_t45_loop v2146_0 k0_t44).trips) : Fin 1 → Nat :=
  let c0_i32_620 : BitVec 32 := 0#32
  let c1_i32_622 : BitVec 32 := 1#32
  let arg17 : BitVec 32 := Scf.iv c0_i32_620 c1_i32_622 k0_t44
  let c1_i32_1372 : BitVec 32 := 1#32
  let v4956 : BitVec 32 := Scalar.addi arg17 c1_i32_1372
  let c1_i32_1375 : BitVec 32 := 1#32
  let arg18 : BitVec 32 := Scf.iv v4956 c1_i32_1375 k0_t45
  let v4962 : Index := Scalar.indexCast arg18
  ![v4962.toNat]
def k0_off131 (v4949 : BitVec 32) (v4991 : BitVec 32) : Fin 1 → Nat :=
  let c2368_i32 : BitVec 32 := 2368#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2368_i32 v5014
  let v5048 : Index := Scalar.indexCast v5015
  ![v5048.toNat]

def k0_off132 (v4949 : BitVec 32) (v4991 : BitVec 32) : Fin 1 → Nat :=
  let c2368_i32 : BitVec 32 := 2368#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2368_i32 v5014
  let c16_i32_1396 : BitVec 32 := 16#32
  let v5056 : BitVec 32 := Scalar.addi v5015 c16_i32_1396
  let v5057 : Index := Scalar.indexCast v5056
  ![v5057.toNat]

def k0_chk39 (v4949 : BitVec 32) (v4991 : BitVec 32) : Prop :=
  (∀ a, (k0_off131 v4949 v4991) a + S16.size a ≤ S6144.size a) ∧
  (∀ a, (k0_off132 v4949 v4991) a + S16.size a ≤ S6144.size a)
theorem k0_off131_inb : ∀ (v4949 : BitVec 32) (v4991 : BitVec 32) (k0_hw39 : k0_chk39 v4949 v4991), ∀ a, (k0_off131 v4949 v4991) a + S16.size a ≤ S6144.size a := fun v4949 v4991 k0_hw39 => k0_hw39.1
theorem k0_off132_inb : ∀ (v4949 : BitVec 32) (v4991 : BitVec 32) (k0_hw39 : k0_chk39 v4949 v4991), ∀ a, (k0_off132 v4949 v4991) a + S16.size a ≤ S6144.size a := fun v4949 v4991 k0_hw39 => k0_hw39.2

@[reducible] def k0_t46_loop (v2146_0 : BitVec 32) (k0_t44 : Fin (k0_t44_loop v2146_0).trips) : Scf.Loop 32 :=
  let c0_i32_620 : BitVec 32 := 0#32
  let c1_i32_622 : BitVec 32 := 1#32
  let arg17 : BitVec 32 := Scf.iv c0_i32_620 c1_i32_622 k0_t44
  let c1_i32_1372 : BitVec 32 := 1#32
  let v4956 : BitVec 32 := Scalar.addi arg17 c1_i32_1372
  let v4957 : BitVec 32 := Scalar.subi v2146_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off133 (v2146_0 : BitVec 32) (k0_t44 : Fin (k0_t44_loop v2146_0).trips) (k0_t46 : Fin (k0_t46_loop v2146_0 k0_t44).trips) : Fin 1 → Nat :=
  let c0_i32_620 : BitVec 32 := 0#32
  let c1_i32_622 : BitVec 32 := 1#32
  let arg17 : BitVec 32 := Scf.iv c0_i32_620 c1_i32_622 k0_t44
  let c1_i32_1372 : BitVec 32 := 1#32
  let v4956 : BitVec 32 := Scalar.addi arg17 c1_i32_1372
  let v4957 : BitVec 32 := Scalar.subi v2146_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t46
  let v4962 : Index := Scalar.indexCast arg18
  ![v4962.toNat]
def k0_off134 (v4949 : BitVec 32) (v4991 : BitVec 32) : Fin 1 → Nat :=
  let c2368_i32 : BitVec 32 := 2368#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2368_i32 v5014
  let v5048 : Index := Scalar.indexCast v5015
  ![v5048.toNat]

def k0_off135 (v4949 : BitVec 32) (v4991 : BitVec 32) : Fin 1 → Nat :=
  let c2368_i32 : BitVec 32 := 2368#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2368_i32 v5014
  let c16_i32_1396 : BitVec 32 := 16#32
  let v5056 : BitVec 32 := Scalar.addi v5015 c16_i32_1396
  let v5057 : Index := Scalar.indexCast v5056
  ![v5057.toNat]

def k0_chk40 (v4949 : BitVec 32) (v4991 : BitVec 32) : Prop :=
  (∀ a, (k0_off134 v4949 v4991) a + S16.size a ≤ S6144.size a) ∧
  (∀ a, (k0_off135 v4949 v4991) a + S16.size a ≤ S6144.size a)
theorem k0_off134_inb : ∀ (v4949 : BitVec 32) (v4991 : BitVec 32) (k0_hw40 : k0_chk40 v4949 v4991), ∀ a, (k0_off134 v4949 v4991) a + S16.size a ≤ S6144.size a := fun v4949 v4991 k0_hw40 => k0_hw40.1
theorem k0_off135_inb : ∀ (v4949 : BitVec 32) (v4991 : BitVec 32) (k0_hw40 : k0_chk40 v4949 v4991), ∀ a, (k0_off135 v4949 v4991) a + S16.size a ≤ S6144.size a := fun v4949 v4991 k0_hw40 => k0_hw40.2

@[reducible] def k0_t47_loop (v2146_0 : BitVec 32) : Scf.Loop 32 :=
  let c0_i32_620 : BitVec 32 := 0#32
  let c1_i32_618 : BitVec 32 := 1#32
  let v2219 : BitVec 32 := Scalar.subi v2146_0 c1_i32_618
  let v2220 : BitVec 32 := Scalar.subi v2219 c0_i32_620
  let c1_i32_621 : BitVec 32 := 1#32
  let v2222 : BitVec 32 := Scalar.divsi v2220 c1_i32_621
  let v2223 : BitVec 32 := Scalar.muli v2222 c1_i32_621
  let v2224 : BitVec 32 := Scalar.addi c0_i32_620 v2223
  let v2221 : BitVec 32 := Scalar.addi c0_i32_620 v2220
  let c1_i32_623 : BitVec 32 := 1#32
  ⟨v2224, v2221, c1_i32_623⟩
def k0_off136 (v2146_0 : BitVec 32) (k0_t47 : Fin (k0_t47_loop v2146_0).trips) : Fin 1 → Nat :=
  let c0_i32_620 : BitVec 32 := 0#32
  let c1_i32_618 : BitVec 32 := 1#32
  let v2219 : BitVec 32 := Scalar.subi v2146_0 c1_i32_618
  let v2220 : BitVec 32 := Scalar.subi v2219 c0_i32_620
  let c1_i32_621 : BitVec 32 := 1#32
  let v2222 : BitVec 32 := Scalar.divsi v2220 c1_i32_621
  let v2223 : BitVec 32 := Scalar.muli v2222 c1_i32_621
  let v2224 : BitVec 32 := Scalar.addi c0_i32_620 v2223
  let c1_i32_623 : BitVec 32 := 1#32
  let arg17 : BitVec 32 := Scf.iv v2224 c1_i32_623 k0_t47
  let v4944 : Index := Scalar.indexCast arg17
  ![v4944.toNat]
@[reducible] def k0_t48_loop (v2146_0 : BitVec 32) (k0_t47 : Fin (k0_t47_loop v2146_0).trips) : Scf.Loop 32 :=
  let c0_i32_620 : BitVec 32 := 0#32
  let c1_i32_618 : BitVec 32 := 1#32
  let v2219 : BitVec 32 := Scalar.subi v2146_0 c1_i32_618
  let v2220 : BitVec 32 := Scalar.subi v2219 c0_i32_620
  let c1_i32_621 : BitVec 32 := 1#32
  let v2222 : BitVec 32 := Scalar.divsi v2220 c1_i32_621
  let v2223 : BitVec 32 := Scalar.muli v2222 c1_i32_621
  let v2224 : BitVec 32 := Scalar.addi c0_i32_620 v2223
  let c1_i32_623 : BitVec 32 := 1#32
  let arg17 : BitVec 32 := Scf.iv v2224 c1_i32_623 k0_t47
  let c1_i32_1372 : BitVec 32 := 1#32
  let v4956 : BitVec 32 := Scalar.addi arg17 c1_i32_1372
  let v4957 : BitVec 32 := Scalar.subi v2146_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off137 (v2146_0 : BitVec 32) (k0_t47 : Fin (k0_t47_loop v2146_0).trips) (k0_t48 : Fin (k0_t48_loop v2146_0 k0_t47).trips) : Fin 1 → Nat :=
  let c0_i32_620 : BitVec 32 := 0#32
  let c1_i32_618 : BitVec 32 := 1#32
  let v2219 : BitVec 32 := Scalar.subi v2146_0 c1_i32_618
  let v2220 : BitVec 32 := Scalar.subi v2219 c0_i32_620
  let c1_i32_621 : BitVec 32 := 1#32
  let v2222 : BitVec 32 := Scalar.divsi v2220 c1_i32_621
  let v2223 : BitVec 32 := Scalar.muli v2222 c1_i32_621
  let v2224 : BitVec 32 := Scalar.addi c0_i32_620 v2223
  let c1_i32_623 : BitVec 32 := 1#32
  let arg17 : BitVec 32 := Scf.iv v2224 c1_i32_623 k0_t47
  let c1_i32_1372 : BitVec 32 := 1#32
  let v4956 : BitVec 32 := Scalar.addi arg17 c1_i32_1372
  let c1_i32_1375 : BitVec 32 := 1#32
  let arg18 : BitVec 32 := Scf.iv v4956 c1_i32_1375 k0_t48
  let v4962 : Index := Scalar.indexCast arg18
  ![v4962.toNat]
def k0_off138 (v4949 : BitVec 32) (v4991 : BitVec 32) : Fin 1 → Nat :=
  let c2368_i32 : BitVec 32 := 2368#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2368_i32 v5014
  let v5048 : Index := Scalar.indexCast v5015
  ![v5048.toNat]

def k0_off139 (v4949 : BitVec 32) (v4991 : BitVec 32) : Fin 1 → Nat :=
  let c2368_i32 : BitVec 32 := 2368#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2368_i32 v5014
  let c16_i32_1396 : BitVec 32 := 16#32
  let v5056 : BitVec 32 := Scalar.addi v5015 c16_i32_1396
  let v5057 : Index := Scalar.indexCast v5056
  ![v5057.toNat]

def k0_chk41 (v4949 : BitVec 32) (v4991 : BitVec 32) : Prop :=
  (∀ a, (k0_off138 v4949 v4991) a + S16.size a ≤ S6144.size a) ∧
  (∀ a, (k0_off139 v4949 v4991) a + S16.size a ≤ S6144.size a)
theorem k0_off138_inb : ∀ (v4949 : BitVec 32) (v4991 : BitVec 32) (k0_hw41 : k0_chk41 v4949 v4991), ∀ a, (k0_off138 v4949 v4991) a + S16.size a ≤ S6144.size a := fun v4949 v4991 k0_hw41 => k0_hw41.1
theorem k0_off139_inb : ∀ (v4949 : BitVec 32) (v4991 : BitVec 32) (k0_hw41 : k0_chk41 v4949 v4991), ∀ a, (k0_off139 v4949 v4991) a + S16.size a ≤ S6144.size a := fun v4949 v4991 k0_hw41 => k0_hw41.2

@[reducible] def k0_t49_loop (v2146_0 : BitVec 32) (k0_t47 : Fin (k0_t47_loop v2146_0).trips) : Scf.Loop 32 :=
  let c0_i32_620 : BitVec 32 := 0#32
  let c1_i32_618 : BitVec 32 := 1#32
  let v2219 : BitVec 32 := Scalar.subi v2146_0 c1_i32_618
  let v2220 : BitVec 32 := Scalar.subi v2219 c0_i32_620
  let c1_i32_621 : BitVec 32 := 1#32
  let v2222 : BitVec 32 := Scalar.divsi v2220 c1_i32_621
  let v2223 : BitVec 32 := Scalar.muli v2222 c1_i32_621
  let v2224 : BitVec 32 := Scalar.addi c0_i32_620 v2223
  let c1_i32_623 : BitVec 32 := 1#32
  let arg17 : BitVec 32 := Scf.iv v2224 c1_i32_623 k0_t47
  let c1_i32_1372 : BitVec 32 := 1#32
  let v4956 : BitVec 32 := Scalar.addi arg17 c1_i32_1372
  let v4957 : BitVec 32 := Scalar.subi v2146_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off140 (v2146_0 : BitVec 32) (k0_t47 : Fin (k0_t47_loop v2146_0).trips) (k0_t49 : Fin (k0_t49_loop v2146_0 k0_t47).trips) : Fin 1 → Nat :=
  let c0_i32_620 : BitVec 32 := 0#32
  let c1_i32_618 : BitVec 32 := 1#32
  let v2219 : BitVec 32 := Scalar.subi v2146_0 c1_i32_618
  let v2220 : BitVec 32 := Scalar.subi v2219 c0_i32_620
  let c1_i32_621 : BitVec 32 := 1#32
  let v2222 : BitVec 32 := Scalar.divsi v2220 c1_i32_621
  let v2223 : BitVec 32 := Scalar.muli v2222 c1_i32_621
  let v2224 : BitVec 32 := Scalar.addi c0_i32_620 v2223
  let c1_i32_623 : BitVec 32 := 1#32
  let arg17 : BitVec 32 := Scf.iv v2224 c1_i32_623 k0_t47
  let c1_i32_1372 : BitVec 32 := 1#32
  let v4956 : BitVec 32 := Scalar.addi arg17 c1_i32_1372
  let v4957 : BitVec 32 := Scalar.subi v2146_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t49
  let v4962 : Index := Scalar.indexCast arg18
  ![v4962.toNat]

def k0_chk38 (v2146_0 : BitVec 32) : Prop :=
  ((k0_t44_loop v2146_0).OK) ∧
  (∀ k0_t44 : Fin (k0_t44_loop v2146_0).trips, ∀ a, (k0_off129 v2146_0 k0_t44) a + S1.size a ≤ S40.size a) ∧
  (∀ k0_t44 : Fin (k0_t44_loop v2146_0).trips, (k0_t45_loop v2146_0 k0_t44).OK) ∧
  (∀ (k0_t44 : Fin (k0_t44_loop v2146_0).trips) (k0_t45 : Fin (k0_t45_loop v2146_0 k0_t44).trips), ∀ a, (k0_off130 v2146_0 k0_t44 k0_t45) a + S1.size a ≤ S40.size a) ∧
  (∀ k0_t44 : Fin (k0_t44_loop v2146_0).trips, (k0_t46_loop v2146_0 k0_t44).OK) ∧
  (∀ (k0_t44 : Fin (k0_t44_loop v2146_0).trips) (k0_t46 : Fin (k0_t46_loop v2146_0 k0_t44).trips), ∀ a, (k0_off133 v2146_0 k0_t44 k0_t46) a + S1.size a ≤ S40.size a) ∧
  ((k0_t47_loop v2146_0).OK) ∧
  (∀ k0_t47 : Fin (k0_t47_loop v2146_0).trips, ∀ a, (k0_off136 v2146_0 k0_t47) a + S1.size a ≤ S40.size a) ∧
  (∀ k0_t47 : Fin (k0_t47_loop v2146_0).trips, (k0_t48_loop v2146_0 k0_t47).OK) ∧
  (∀ (k0_t47 : Fin (k0_t47_loop v2146_0).trips) (k0_t48 : Fin (k0_t48_loop v2146_0 k0_t47).trips), ∀ a, (k0_off137 v2146_0 k0_t47 k0_t48) a + S1.size a ≤ S40.size a) ∧
  (∀ k0_t47 : Fin (k0_t47_loop v2146_0).trips, (k0_t49_loop v2146_0 k0_t47).OK) ∧
  (∀ (k0_t47 : Fin (k0_t47_loop v2146_0).trips) (k0_t49 : Fin (k0_t49_loop v2146_0 k0_t47).trips), ∀ a, (k0_off140 v2146_0 k0_t47 k0_t49) a + S1.size a ≤ S40.size a)
theorem k0_t44_ok : ∀ (v2146_0 : BitVec 32) (k0_hw38 : k0_chk38 v2146_0), (k0_t44_loop v2146_0).OK := fun v2146_0 k0_hw38 => k0_hw38.1
theorem k0_off129_inb : ∀ (v2146_0 : BitVec 32) (k0_hw38 : k0_chk38 v2146_0) (k0_t44 : Fin (k0_t44_loop v2146_0).trips), ∀ a, (k0_off129 v2146_0 k0_t44) a + S1.size a ≤ S40.size a := fun v2146_0 k0_hw38 k0_t44 => k0_hw38.2.1 k0_t44
theorem k0_t45_ok : ∀ (v2146_0 : BitVec 32) (k0_hw38 : k0_chk38 v2146_0) (k0_t44 : Fin (k0_t44_loop v2146_0).trips), (k0_t45_loop v2146_0 k0_t44).OK := fun v2146_0 k0_hw38 k0_t44 => k0_hw38.2.2.1 k0_t44
theorem k0_off130_inb : ∀ (v2146_0 : BitVec 32) (k0_hw38 : k0_chk38 v2146_0) (k0_t44 : Fin (k0_t44_loop v2146_0).trips) (k0_t45 : Fin (k0_t45_loop v2146_0 k0_t44).trips), ∀ a, (k0_off130 v2146_0 k0_t44 k0_t45) a + S1.size a ≤ S40.size a := fun v2146_0 k0_hw38 k0_t44 k0_t45 => k0_hw38.2.2.2.1 k0_t44 k0_t45
theorem k0_t46_ok : ∀ (v2146_0 : BitVec 32) (k0_hw38 : k0_chk38 v2146_0) (k0_t44 : Fin (k0_t44_loop v2146_0).trips), (k0_t46_loop v2146_0 k0_t44).OK := fun v2146_0 k0_hw38 k0_t44 => k0_hw38.2.2.2.2.1 k0_t44
theorem k0_off133_inb : ∀ (v2146_0 : BitVec 32) (k0_hw38 : k0_chk38 v2146_0) (k0_t44 : Fin (k0_t44_loop v2146_0).trips) (k0_t46 : Fin (k0_t46_loop v2146_0 k0_t44).trips), ∀ a, (k0_off133 v2146_0 k0_t44 k0_t46) a + S1.size a ≤ S40.size a := fun v2146_0 k0_hw38 k0_t44 k0_t46 => k0_hw38.2.2.2.2.2.1 k0_t44 k0_t46
theorem k0_t47_ok : ∀ (v2146_0 : BitVec 32) (k0_hw38 : k0_chk38 v2146_0), (k0_t47_loop v2146_0).OK := fun v2146_0 k0_hw38 => k0_hw38.2.2.2.2.2.2.1
theorem k0_off136_inb : ∀ (v2146_0 : BitVec 32) (k0_hw38 : k0_chk38 v2146_0) (k0_t47 : Fin (k0_t47_loop v2146_0).trips), ∀ a, (k0_off136 v2146_0 k0_t47) a + S1.size a ≤ S40.size a := fun v2146_0 k0_hw38 k0_t47 => k0_hw38.2.2.2.2.2.2.2.1 k0_t47
theorem k0_t48_ok : ∀ (v2146_0 : BitVec 32) (k0_hw38 : k0_chk38 v2146_0) (k0_t47 : Fin (k0_t47_loop v2146_0).trips), (k0_t48_loop v2146_0 k0_t47).OK := fun v2146_0 k0_hw38 k0_t47 => k0_hw38.2.2.2.2.2.2.2.2.1 k0_t47
theorem k0_off137_inb : ∀ (v2146_0 : BitVec 32) (k0_hw38 : k0_chk38 v2146_0) (k0_t47 : Fin (k0_t47_loop v2146_0).trips) (k0_t48 : Fin (k0_t48_loop v2146_0 k0_t47).trips), ∀ a, (k0_off137 v2146_0 k0_t47 k0_t48) a + S1.size a ≤ S40.size a := fun v2146_0 k0_hw38 k0_t47 k0_t48 => k0_hw38.2.2.2.2.2.2.2.2.2.1 k0_t47 k0_t48
theorem k0_t49_ok : ∀ (v2146_0 : BitVec 32) (k0_hw38 : k0_chk38 v2146_0) (k0_t47 : Fin (k0_t47_loop v2146_0).trips), (k0_t49_loop v2146_0 k0_t47).OK := fun v2146_0 k0_hw38 k0_t47 => k0_hw38.2.2.2.2.2.2.2.2.2.2.1 k0_t47
theorem k0_off140_inb : ∀ (v2146_0 : BitVec 32) (k0_hw38 : k0_chk38 v2146_0) (k0_t47 : Fin (k0_t47_loop v2146_0).trips) (k0_t49 : Fin (k0_t49_loop v2146_0 k0_t47).trips), ∀ a, (k0_off140 v2146_0 k0_t47 k0_t49) a + S1.size a ≤ S40.size a := fun v2146_0 k0_hw38 k0_t47 k0_t49 => k0_hw38.2.2.2.2.2.2.2.2.2.2.2 k0_t47 k0_t49

def k0_off141 (v4949 : BitVec 32) (v4991 : BitVec 32) : Fin 1 → Nat :=
  let c2368_i32 : BitVec 32 := 2368#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2368_i32 v5014
  let v5048 : Index := Scalar.indexCast v5015
  ![v5048.toNat]

def k0_off142 (v4949 : BitVec 32) (v4991 : BitVec 32) : Fin 1 → Nat :=
  let c2368_i32 : BitVec 32 := 2368#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2368_i32 v5014
  let c16_i32_1396 : BitVec 32 := 16#32
  let v5056 : BitVec 32 := Scalar.addi v5015 c16_i32_1396
  let v5057 : Index := Scalar.indexCast v5056
  ![v5057.toNat]

def k0_chk42 (v4949 : BitVec 32) (v4991 : BitVec 32) : Prop :=
  (∀ a, (k0_off141 v4949 v4991) a + S16.size a ≤ S6144.size a) ∧
  (∀ a, (k0_off142 v4949 v4991) a + S16.size a ≤ S6144.size a)
theorem k0_off141_inb : ∀ (v4949 : BitVec 32) (v4991 : BitVec 32) (k0_hw42 : k0_chk42 v4949 v4991), ∀ a, (k0_off141 v4949 v4991) a + S16.size a ≤ S6144.size a := fun v4949 v4991 k0_hw42 => k0_hw42.1
theorem k0_off142_inb : ∀ (v4949 : BitVec 32) (v4991 : BitVec 32) (k0_hw42 : k0_chk42 v4949 v4991), ∀ a, (k0_off142 v4949 v4991) a + S16.size a ≤ S6144.size a := fun v4949 v4991 k0_hw42 => k0_hw42.2

def k0_off143 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c7_i32 : BitVec 32 := 7#32
  let v2225 : BitVec 32 := Scalar.addi v29 c7_i32
  let v2226 : Index := Scalar.indexCast v2225
  ![v2226.toNat]
def k0_off144 (i : grid0.Coords) (c32_i32_624 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c7_i32 : BitVec 32 := 7#32
  let v2225 : BitVec 32 := Scalar.addi v29 c7_i32
  let v2231 : BitVec 32 := Scalar.addi c32_i32_624 v2225
  let v2232 : Index := Scalar.indexCast v2231
  ![v2232.toNat]
@[reducible] def k0_t50_loop : Scf.Loop 32 :=
  let c0_i32_697 : BitVec 32 := 0#32
  let c32_i32_698 : BitVec 32 := 32#32
  let v2447 : BitVec 32 := Scalar.addi c0_i32_697 c32_i32_698
  let c1_i32_699 : BitVec 32 := 1#32
  ⟨c0_i32_697, v2447, c1_i32_699⟩
def k0_off145 (k0_t50 : Fin k0_t50_loop.trips) : Fin 1 → Nat :=
  let c0_i32_697 : BitVec 32 := 0#32
  let c1_i32_699 : BitVec 32 := 1#32
  let arg17 : BitVec 32 := Scf.iv c0_i32_697 c1_i32_699 k0_t50
  let v4944 : Index := Scalar.indexCast arg17
  ![v4944.toNat]
def k0_off146 (arg18 : BitVec 32) : Fin 1 → Nat :=
  let v4988 : Index := Scalar.indexCast arg18
  ![v4988.toNat]
def k0_cond8 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk43 (arg18 : BitVec 32) (v4984 : BitVec 1) : Prop :=
  (∀ (k0_h8 : k0_cond8 v4984 = 1#1), ∀ a, (k0_off146 arg18) a + S1.size a ≤ S40.size a)
theorem k0_off146_inb : ∀ (arg18 : BitVec 32) (v4984 : BitVec 1) (k0_hw43 : k0_chk43 arg18 v4984), ∀ (k0_h8 : k0_cond8 v4984 = 1#1), ∀ a, (k0_off146 arg18) a + S1.size a ≤ S40.size a := fun arg18 v4984 k0_hw43 k0_h8 => k0_hw43 k0_h8

def k0_off147 (k0_t50 : Fin k0_t50_loop.trips) : Fin 1 → Nat :=
  let c0_i32_697 : BitVec 32 := 0#32
  let c1_i32_699 : BitVec 32 := 1#32
  let arg17 : BitVec 32 := Scf.iv c0_i32_697 c1_i32_699 k0_t50
  let v4994 : Index := Scalar.indexCast arg17
  ![v4994.toNat]
def k0_off148 (k0_t50 : Fin k0_t50_loop.trips) (c32_i32_1379 : BitVec 32) : Fin 1 → Nat :=
  let c0_i32_697 : BitVec 32 := 0#32
  let c1_i32_699 : BitVec 32 := 1#32
  let arg17 : BitVec 32 := Scf.iv c0_i32_697 c1_i32_699 k0_t50
  let v5002 : BitVec 32 := Scalar.addi c32_i32_1379 arg17
  let v5003 : Index := Scalar.indexCast v5002
  ![v5003.toNat]
@[reducible] def k0_t51_loop (v2448_0 : BitVec 32) : Scf.Loop 32 :=
  let c0_i32_703 : BitVec 32 := 0#32
  let c1_i32_701 : BitVec 32 := 1#32
  let v2521 : BitVec 32 := Scalar.subi v2448_0 c1_i32_701
  let v2522 : BitVec 32 := Scalar.subi v2521 c0_i32_703
  let c1_i32_704 : BitVec 32 := 1#32
  let v2524 : BitVec 32 := Scalar.divsi v2522 c1_i32_704
  let v2525 : BitVec 32 := Scalar.muli v2524 c1_i32_704
  let v2526 : BitVec 32 := Scalar.addi c0_i32_703 v2525
  let c1_i32_705 : BitVec 32 := 1#32
  ⟨c0_i32_703, v2526, c1_i32_705⟩

def k0_off149 (v2448_0 : BitVec 32) (k0_t51 : Fin (k0_t51_loop v2448_0).trips) : Fin 1 → Nat :=
  let c0_i32_703 : BitVec 32 := 0#32
  let c1_i32_705 : BitVec 32 := 1#32
  let arg17 : BitVec 32 := Scf.iv c0_i32_703 c1_i32_705 k0_t51
  let v4944 : Index := Scalar.indexCast arg17
  ![v4944.toNat]
@[reducible] def k0_t52_loop (v2448_0 : BitVec 32) (k0_t51 : Fin (k0_t51_loop v2448_0).trips) : Scf.Loop 32 :=
  let c0_i32_703 : BitVec 32 := 0#32
  let c1_i32_705 : BitVec 32 := 1#32
  let arg17 : BitVec 32 := Scf.iv c0_i32_703 c1_i32_705 k0_t51
  let c1_i32_1372 : BitVec 32 := 1#32
  let v4956 : BitVec 32 := Scalar.addi arg17 c1_i32_1372
  let v4957 : BitVec 32 := Scalar.subi v2448_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off150 (v2448_0 : BitVec 32) (k0_t51 : Fin (k0_t51_loop v2448_0).trips) (k0_t52 : Fin (k0_t52_loop v2448_0 k0_t51).trips) : Fin 1 → Nat :=
  let c0_i32_703 : BitVec 32 := 0#32
  let c1_i32_705 : BitVec 32 := 1#32
  let arg17 : BitVec 32 := Scf.iv c0_i32_703 c1_i32_705 k0_t51
  let c1_i32_1372 : BitVec 32 := 1#32
  let v4956 : BitVec 32 := Scalar.addi arg17 c1_i32_1372
  let c1_i32_1375 : BitVec 32 := 1#32
  let arg18 : BitVec 32 := Scf.iv v4956 c1_i32_1375 k0_t52
  let v4962 : Index := Scalar.indexCast arg18
  ![v4962.toNat]
def k0_off151 (v4949 : BitVec 32) (v4991 : BitVec 32) : Fin 1 → Nat :=
  let c2752_i32 : BitVec 32 := 2752#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2752_i32 v5014
  let v5048 : Index := Scalar.indexCast v5015
  ![v5048.toNat]

def k0_off152 (v4949 : BitVec 32) (v4991 : BitVec 32) : Fin 1 → Nat :=
  let c2752_i32 : BitVec 32 := 2752#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2752_i32 v5014
  let c16_i32_1396 : BitVec 32 := 16#32
  let v5056 : BitVec 32 := Scalar.addi v5015 c16_i32_1396
  let v5057 : Index := Scalar.indexCast v5056
  ![v5057.toNat]

def k0_chk45 (v4949 : BitVec 32) (v4991 : BitVec 32) : Prop :=
  (∀ a, (k0_off151 v4949 v4991) a + S16.size a ≤ S6144.size a) ∧
  (∀ a, (k0_off152 v4949 v4991) a + S16.size a ≤ S6144.size a)
theorem k0_off151_inb : ∀ (v4949 : BitVec 32) (v4991 : BitVec 32) (k0_hw45 : k0_chk45 v4949 v4991), ∀ a, (k0_off151 v4949 v4991) a + S16.size a ≤ S6144.size a := fun v4949 v4991 k0_hw45 => k0_hw45.1
theorem k0_off152_inb : ∀ (v4949 : BitVec 32) (v4991 : BitVec 32) (k0_hw45 : k0_chk45 v4949 v4991), ∀ a, (k0_off152 v4949 v4991) a + S16.size a ≤ S6144.size a := fun v4949 v4991 k0_hw45 => k0_hw45.2

@[reducible] def k0_t53_loop (v2448_0 : BitVec 32) (k0_t51 : Fin (k0_t51_loop v2448_0).trips) : Scf.Loop 32 :=
  let c0_i32_703 : BitVec 32 := 0#32
  let c1_i32_705 : BitVec 32 := 1#32
  let arg17 : BitVec 32 := Scf.iv c0_i32_703 c1_i32_705 k0_t51
  let c1_i32_1372 : BitVec 32 := 1#32
  let v4956 : BitVec 32 := Scalar.addi arg17 c1_i32_1372
  let v4957 : BitVec 32 := Scalar.subi v2448_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off153 (v2448_0 : BitVec 32) (k0_t51 : Fin (k0_t51_loop v2448_0).trips) (k0_t53 : Fin (k0_t53_loop v2448_0 k0_t51).trips) : Fin 1 → Nat :=
  let c0_i32_703 : BitVec 32 := 0#32
  let c1_i32_705 : BitVec 32 := 1#32
  let arg17 : BitVec 32 := Scf.iv c0_i32_703 c1_i32_705 k0_t51
  let c1_i32_1372 : BitVec 32 := 1#32
  let v4956 : BitVec 32 := Scalar.addi arg17 c1_i32_1372
  let v4957 : BitVec 32 := Scalar.subi v2448_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t53
  let v4962 : Index := Scalar.indexCast arg18
  ![v4962.toNat]
def k0_off154 (v4949 : BitVec 32) (v4991 : BitVec 32) : Fin 1 → Nat :=
  let c2752_i32 : BitVec 32 := 2752#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2752_i32 v5014
  let v5048 : Index := Scalar.indexCast v5015
  ![v5048.toNat]

def k0_off155 (v4949 : BitVec 32) (v4991 : BitVec 32) : Fin 1 → Nat :=
  let c2752_i32 : BitVec 32 := 2752#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2752_i32 v5014
  let c16_i32_1396 : BitVec 32 := 16#32
  let v5056 : BitVec 32 := Scalar.addi v5015 c16_i32_1396
  let v5057 : Index := Scalar.indexCast v5056
  ![v5057.toNat]

def k0_chk46 (v4949 : BitVec 32) (v4991 : BitVec 32) : Prop :=
  (∀ a, (k0_off154 v4949 v4991) a + S16.size a ≤ S6144.size a) ∧
  (∀ a, (k0_off155 v4949 v4991) a + S16.size a ≤ S6144.size a)
theorem k0_off154_inb : ∀ (v4949 : BitVec 32) (v4991 : BitVec 32) (k0_hw46 : k0_chk46 v4949 v4991), ∀ a, (k0_off154 v4949 v4991) a + S16.size a ≤ S6144.size a := fun v4949 v4991 k0_hw46 => k0_hw46.1
theorem k0_off155_inb : ∀ (v4949 : BitVec 32) (v4991 : BitVec 32) (k0_hw46 : k0_chk46 v4949 v4991), ∀ a, (k0_off155 v4949 v4991) a + S16.size a ≤ S6144.size a := fun v4949 v4991 k0_hw46 => k0_hw46.2

@[reducible] def k0_t54_loop (v2448_0 : BitVec 32) : Scf.Loop 32 :=
  let c0_i32_703 : BitVec 32 := 0#32
  let c1_i32_701 : BitVec 32 := 1#32
  let v2521 : BitVec 32 := Scalar.subi v2448_0 c1_i32_701
  let v2522 : BitVec 32 := Scalar.subi v2521 c0_i32_703
  let c1_i32_704 : BitVec 32 := 1#32
  let v2524 : BitVec 32 := Scalar.divsi v2522 c1_i32_704
  let v2525 : BitVec 32 := Scalar.muli v2524 c1_i32_704
  let v2526 : BitVec 32 := Scalar.addi c0_i32_703 v2525
  let v2523 : BitVec 32 := Scalar.addi c0_i32_703 v2522
  let c1_i32_706 : BitVec 32 := 1#32
  ⟨v2526, v2523, c1_i32_706⟩
def k0_off156 (v2448_0 : BitVec 32) (k0_t54 : Fin (k0_t54_loop v2448_0).trips) : Fin 1 → Nat :=
  let c0_i32_703 : BitVec 32 := 0#32
  let c1_i32_701 : BitVec 32 := 1#32
  let v2521 : BitVec 32 := Scalar.subi v2448_0 c1_i32_701
  let v2522 : BitVec 32 := Scalar.subi v2521 c0_i32_703
  let c1_i32_704 : BitVec 32 := 1#32
  let v2524 : BitVec 32 := Scalar.divsi v2522 c1_i32_704
  let v2525 : BitVec 32 := Scalar.muli v2524 c1_i32_704
  let v2526 : BitVec 32 := Scalar.addi c0_i32_703 v2525
  let c1_i32_706 : BitVec 32 := 1#32
  let arg17 : BitVec 32 := Scf.iv v2526 c1_i32_706 k0_t54
  let v4944 : Index := Scalar.indexCast arg17
  ![v4944.toNat]
@[reducible] def k0_t55_loop (v2448_0 : BitVec 32) (k0_t54 : Fin (k0_t54_loop v2448_0).trips) : Scf.Loop 32 :=
  let c0_i32_703 : BitVec 32 := 0#32
  let c1_i32_701 : BitVec 32 := 1#32
  let v2521 : BitVec 32 := Scalar.subi v2448_0 c1_i32_701
  let v2522 : BitVec 32 := Scalar.subi v2521 c0_i32_703
  let c1_i32_704 : BitVec 32 := 1#32
  let v2524 : BitVec 32 := Scalar.divsi v2522 c1_i32_704
  let v2525 : BitVec 32 := Scalar.muli v2524 c1_i32_704
  let v2526 : BitVec 32 := Scalar.addi c0_i32_703 v2525
  let c1_i32_706 : BitVec 32 := 1#32
  let arg17 : BitVec 32 := Scf.iv v2526 c1_i32_706 k0_t54
  let c1_i32_1372 : BitVec 32 := 1#32
  let v4956 : BitVec 32 := Scalar.addi arg17 c1_i32_1372
  let v4957 : BitVec 32 := Scalar.subi v2448_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off157 (v2448_0 : BitVec 32) (k0_t54 : Fin (k0_t54_loop v2448_0).trips) (k0_t55 : Fin (k0_t55_loop v2448_0 k0_t54).trips) : Fin 1 → Nat :=
  let c0_i32_703 : BitVec 32 := 0#32
  let c1_i32_701 : BitVec 32 := 1#32
  let v2521 : BitVec 32 := Scalar.subi v2448_0 c1_i32_701
  let v2522 : BitVec 32 := Scalar.subi v2521 c0_i32_703
  let c1_i32_704 : BitVec 32 := 1#32
  let v2524 : BitVec 32 := Scalar.divsi v2522 c1_i32_704
  let v2525 : BitVec 32 := Scalar.muli v2524 c1_i32_704
  let v2526 : BitVec 32 := Scalar.addi c0_i32_703 v2525
  let c1_i32_706 : BitVec 32 := 1#32
  let arg17 : BitVec 32 := Scf.iv v2526 c1_i32_706 k0_t54
  let c1_i32_1372 : BitVec 32 := 1#32
  let v4956 : BitVec 32 := Scalar.addi arg17 c1_i32_1372
  let c1_i32_1375 : BitVec 32 := 1#32
  let arg18 : BitVec 32 := Scf.iv v4956 c1_i32_1375 k0_t55
  let v4962 : Index := Scalar.indexCast arg18
  ![v4962.toNat]
def k0_off158 (v4949 : BitVec 32) (v4991 : BitVec 32) : Fin 1 → Nat :=
  let c2752_i32 : BitVec 32 := 2752#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2752_i32 v5014
  let v5048 : Index := Scalar.indexCast v5015
  ![v5048.toNat]

def k0_off159 (v4949 : BitVec 32) (v4991 : BitVec 32) : Fin 1 → Nat :=
  let c2752_i32 : BitVec 32 := 2752#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2752_i32 v5014
  let c16_i32_1396 : BitVec 32 := 16#32
  let v5056 : BitVec 32 := Scalar.addi v5015 c16_i32_1396
  let v5057 : Index := Scalar.indexCast v5056
  ![v5057.toNat]

def k0_chk47 (v4949 : BitVec 32) (v4991 : BitVec 32) : Prop :=
  (∀ a, (k0_off158 v4949 v4991) a + S16.size a ≤ S6144.size a) ∧
  (∀ a, (k0_off159 v4949 v4991) a + S16.size a ≤ S6144.size a)
theorem k0_off158_inb : ∀ (v4949 : BitVec 32) (v4991 : BitVec 32) (k0_hw47 : k0_chk47 v4949 v4991), ∀ a, (k0_off158 v4949 v4991) a + S16.size a ≤ S6144.size a := fun v4949 v4991 k0_hw47 => k0_hw47.1
theorem k0_off159_inb : ∀ (v4949 : BitVec 32) (v4991 : BitVec 32) (k0_hw47 : k0_chk47 v4949 v4991), ∀ a, (k0_off159 v4949 v4991) a + S16.size a ≤ S6144.size a := fun v4949 v4991 k0_hw47 => k0_hw47.2

@[reducible] def k0_t56_loop (v2448_0 : BitVec 32) (k0_t54 : Fin (k0_t54_loop v2448_0).trips) : Scf.Loop 32 :=
  let c0_i32_703 : BitVec 32 := 0#32
  let c1_i32_701 : BitVec 32 := 1#32
  let v2521 : BitVec 32 := Scalar.subi v2448_0 c1_i32_701
  let v2522 : BitVec 32 := Scalar.subi v2521 c0_i32_703
  let c1_i32_704 : BitVec 32 := 1#32
  let v2524 : BitVec 32 := Scalar.divsi v2522 c1_i32_704
  let v2525 : BitVec 32 := Scalar.muli v2524 c1_i32_704
  let v2526 : BitVec 32 := Scalar.addi c0_i32_703 v2525
  let c1_i32_706 : BitVec 32 := 1#32
  let arg17 : BitVec 32 := Scf.iv v2526 c1_i32_706 k0_t54
  let c1_i32_1372 : BitVec 32 := 1#32
  let v4956 : BitVec 32 := Scalar.addi arg17 c1_i32_1372
  let v4957 : BitVec 32 := Scalar.subi v2448_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off160 (v2448_0 : BitVec 32) (k0_t54 : Fin (k0_t54_loop v2448_0).trips) (k0_t56 : Fin (k0_t56_loop v2448_0 k0_t54).trips) : Fin 1 → Nat :=
  let c0_i32_703 : BitVec 32 := 0#32
  let c1_i32_701 : BitVec 32 := 1#32
  let v2521 : BitVec 32 := Scalar.subi v2448_0 c1_i32_701
  let v2522 : BitVec 32 := Scalar.subi v2521 c0_i32_703
  let c1_i32_704 : BitVec 32 := 1#32
  let v2524 : BitVec 32 := Scalar.divsi v2522 c1_i32_704
  let v2525 : BitVec 32 := Scalar.muli v2524 c1_i32_704
  let v2526 : BitVec 32 := Scalar.addi c0_i32_703 v2525
  let c1_i32_706 : BitVec 32 := 1#32
  let arg17 : BitVec 32 := Scf.iv v2526 c1_i32_706 k0_t54
  let c1_i32_1372 : BitVec 32 := 1#32
  let v4956 : BitVec 32 := Scalar.addi arg17 c1_i32_1372
  let v4957 : BitVec 32 := Scalar.subi v2448_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t56
  let v4962 : Index := Scalar.indexCast arg18
  ![v4962.toNat]

def k0_chk44 (v2448_0 : BitVec 32) : Prop :=
  ((k0_t51_loop v2448_0).OK) ∧
  (∀ k0_t51 : Fin (k0_t51_loop v2448_0).trips, ∀ a, (k0_off149 v2448_0 k0_t51) a + S1.size a ≤ S40.size a) ∧
  (∀ k0_t51 : Fin (k0_t51_loop v2448_0).trips, (k0_t52_loop v2448_0 k0_t51).OK) ∧
  (∀ (k0_t51 : Fin (k0_t51_loop v2448_0).trips) (k0_t52 : Fin (k0_t52_loop v2448_0 k0_t51).trips), ∀ a, (k0_off150 v2448_0 k0_t51 k0_t52) a + S1.size a ≤ S40.size a) ∧
  (∀ k0_t51 : Fin (k0_t51_loop v2448_0).trips, (k0_t53_loop v2448_0 k0_t51).OK) ∧
  (∀ (k0_t51 : Fin (k0_t51_loop v2448_0).trips) (k0_t53 : Fin (k0_t53_loop v2448_0 k0_t51).trips), ∀ a, (k0_off153 v2448_0 k0_t51 k0_t53) a + S1.size a ≤ S40.size a) ∧
  ((k0_t54_loop v2448_0).OK) ∧
  (∀ k0_t54 : Fin (k0_t54_loop v2448_0).trips, ∀ a, (k0_off156 v2448_0 k0_t54) a + S1.size a ≤ S40.size a) ∧
  (∀ k0_t54 : Fin (k0_t54_loop v2448_0).trips, (k0_t55_loop v2448_0 k0_t54).OK) ∧
  (∀ (k0_t54 : Fin (k0_t54_loop v2448_0).trips) (k0_t55 : Fin (k0_t55_loop v2448_0 k0_t54).trips), ∀ a, (k0_off157 v2448_0 k0_t54 k0_t55) a + S1.size a ≤ S40.size a) ∧
  (∀ k0_t54 : Fin (k0_t54_loop v2448_0).trips, (k0_t56_loop v2448_0 k0_t54).OK) ∧
  (∀ (k0_t54 : Fin (k0_t54_loop v2448_0).trips) (k0_t56 : Fin (k0_t56_loop v2448_0 k0_t54).trips), ∀ a, (k0_off160 v2448_0 k0_t54 k0_t56) a + S1.size a ≤ S40.size a)
theorem k0_t51_ok : ∀ (v2448_0 : BitVec 32) (k0_hw44 : k0_chk44 v2448_0), (k0_t51_loop v2448_0).OK := fun v2448_0 k0_hw44 => k0_hw44.1
theorem k0_off149_inb : ∀ (v2448_0 : BitVec 32) (k0_hw44 : k0_chk44 v2448_0) (k0_t51 : Fin (k0_t51_loop v2448_0).trips), ∀ a, (k0_off149 v2448_0 k0_t51) a + S1.size a ≤ S40.size a := fun v2448_0 k0_hw44 k0_t51 => k0_hw44.2.1 k0_t51
theorem k0_t52_ok : ∀ (v2448_0 : BitVec 32) (k0_hw44 : k0_chk44 v2448_0) (k0_t51 : Fin (k0_t51_loop v2448_0).trips), (k0_t52_loop v2448_0 k0_t51).OK := fun v2448_0 k0_hw44 k0_t51 => k0_hw44.2.2.1 k0_t51
theorem k0_off150_inb : ∀ (v2448_0 : BitVec 32) (k0_hw44 : k0_chk44 v2448_0) (k0_t51 : Fin (k0_t51_loop v2448_0).trips) (k0_t52 : Fin (k0_t52_loop v2448_0 k0_t51).trips), ∀ a, (k0_off150 v2448_0 k0_t51 k0_t52) a + S1.size a ≤ S40.size a := fun v2448_0 k0_hw44 k0_t51 k0_t52 => k0_hw44.2.2.2.1 k0_t51 k0_t52
theorem k0_t53_ok : ∀ (v2448_0 : BitVec 32) (k0_hw44 : k0_chk44 v2448_0) (k0_t51 : Fin (k0_t51_loop v2448_0).trips), (k0_t53_loop v2448_0 k0_t51).OK := fun v2448_0 k0_hw44 k0_t51 => k0_hw44.2.2.2.2.1 k0_t51
theorem k0_off153_inb : ∀ (v2448_0 : BitVec 32) (k0_hw44 : k0_chk44 v2448_0) (k0_t51 : Fin (k0_t51_loop v2448_0).trips) (k0_t53 : Fin (k0_t53_loop v2448_0 k0_t51).trips), ∀ a, (k0_off153 v2448_0 k0_t51 k0_t53) a + S1.size a ≤ S40.size a := fun v2448_0 k0_hw44 k0_t51 k0_t53 => k0_hw44.2.2.2.2.2.1 k0_t51 k0_t53
theorem k0_t54_ok : ∀ (v2448_0 : BitVec 32) (k0_hw44 : k0_chk44 v2448_0), (k0_t54_loop v2448_0).OK := fun v2448_0 k0_hw44 => k0_hw44.2.2.2.2.2.2.1
theorem k0_off156_inb : ∀ (v2448_0 : BitVec 32) (k0_hw44 : k0_chk44 v2448_0) (k0_t54 : Fin (k0_t54_loop v2448_0).trips), ∀ a, (k0_off156 v2448_0 k0_t54) a + S1.size a ≤ S40.size a := fun v2448_0 k0_hw44 k0_t54 => k0_hw44.2.2.2.2.2.2.2.1 k0_t54
theorem k0_t55_ok : ∀ (v2448_0 : BitVec 32) (k0_hw44 : k0_chk44 v2448_0) (k0_t54 : Fin (k0_t54_loop v2448_0).trips), (k0_t55_loop v2448_0 k0_t54).OK := fun v2448_0 k0_hw44 k0_t54 => k0_hw44.2.2.2.2.2.2.2.2.1 k0_t54
theorem k0_off157_inb : ∀ (v2448_0 : BitVec 32) (k0_hw44 : k0_chk44 v2448_0) (k0_t54 : Fin (k0_t54_loop v2448_0).trips) (k0_t55 : Fin (k0_t55_loop v2448_0 k0_t54).trips), ∀ a, (k0_off157 v2448_0 k0_t54 k0_t55) a + S1.size a ≤ S40.size a := fun v2448_0 k0_hw44 k0_t54 k0_t55 => k0_hw44.2.2.2.2.2.2.2.2.2.1 k0_t54 k0_t55
theorem k0_t56_ok : ∀ (v2448_0 : BitVec 32) (k0_hw44 : k0_chk44 v2448_0) (k0_t54 : Fin (k0_t54_loop v2448_0).trips), (k0_t56_loop v2448_0 k0_t54).OK := fun v2448_0 k0_hw44 k0_t54 => k0_hw44.2.2.2.2.2.2.2.2.2.2.1 k0_t54
theorem k0_off160_inb : ∀ (v2448_0 : BitVec 32) (k0_hw44 : k0_chk44 v2448_0) (k0_t54 : Fin (k0_t54_loop v2448_0).trips) (k0_t56 : Fin (k0_t56_loop v2448_0 k0_t54).trips), ∀ a, (k0_off160 v2448_0 k0_t54 k0_t56) a + S1.size a ≤ S40.size a := fun v2448_0 k0_hw44 k0_t54 k0_t56 => k0_hw44.2.2.2.2.2.2.2.2.2.2.2 k0_t54 k0_t56

def k0_off161 (v4949 : BitVec 32) (v4991 : BitVec 32) : Fin 1 → Nat :=
  let c2752_i32 : BitVec 32 := 2752#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2752_i32 v5014
  let v5048 : Index := Scalar.indexCast v5015
  ![v5048.toNat]

def k0_off162 (v4949 : BitVec 32) (v4991 : BitVec 32) : Fin 1 → Nat :=
  let c2752_i32 : BitVec 32 := 2752#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c2752_i32 v5014
  let c16_i32_1396 : BitVec 32 := 16#32
  let v5056 : BitVec 32 := Scalar.addi v5015 c16_i32_1396
  let v5057 : Index := Scalar.indexCast v5056
  ![v5057.toNat]

def k0_chk48 (v4949 : BitVec 32) (v4991 : BitVec 32) : Prop :=
  (∀ a, (k0_off161 v4949 v4991) a + S16.size a ≤ S6144.size a) ∧
  (∀ a, (k0_off162 v4949 v4991) a + S16.size a ≤ S6144.size a)
theorem k0_off161_inb : ∀ (v4949 : BitVec 32) (v4991 : BitVec 32) (k0_hw48 : k0_chk48 v4949 v4991), ∀ a, (k0_off161 v4949 v4991) a + S16.size a ≤ S6144.size a := fun v4949 v4991 k0_hw48 => k0_hw48.1
theorem k0_off162_inb : ∀ (v4949 : BitVec 32) (v4991 : BitVec 32) (k0_hw48 : k0_chk48 v4949 v4991), ∀ a, (k0_off162 v4949 v4991) a + S16.size a ≤ S6144.size a := fun v4949 v4991 k0_hw48 => k0_hw48.2

def k0_off163 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c8_i32_707 : BitVec 32 := 8#32
  let v2527 : BitVec 32 := Scalar.addi v29 c8_i32_707
  let v2528 : Index := Scalar.indexCast v2527
  ![v2528.toNat]
def k0_off164 (i : grid0.Coords) (c32_i32_708 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c8_i32_707 : BitVec 32 := 8#32
  let v2527 : BitVec 32 := Scalar.addi v29 c8_i32_707
  let v2533 : BitVec 32 := Scalar.addi c32_i32_708 v2527
  let v2534 : Index := Scalar.indexCast v2533
  ![v2534.toNat]
@[reducible] def k0_t57_loop : Scf.Loop 32 :=
  let c0_i32_781 : BitVec 32 := 0#32
  let c32_i32_782 : BitVec 32 := 32#32
  let v2749 : BitVec 32 := Scalar.addi c0_i32_781 c32_i32_782
  let c1_i32_783 : BitVec 32 := 1#32
  ⟨c0_i32_781, v2749, c1_i32_783⟩
def k0_off165 (k0_t57 : Fin k0_t57_loop.trips) : Fin 1 → Nat :=
  let c0_i32_781 : BitVec 32 := 0#32
  let c1_i32_783 : BitVec 32 := 1#32
  let arg17 : BitVec 32 := Scf.iv c0_i32_781 c1_i32_783 k0_t57
  let v4944 : Index := Scalar.indexCast arg17
  ![v4944.toNat]
def k0_off166 (arg18 : BitVec 32) : Fin 1 → Nat :=
  let v4988 : Index := Scalar.indexCast arg18
  ![v4988.toNat]
def k0_cond9 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk49 (arg18 : BitVec 32) (v4984 : BitVec 1) : Prop :=
  (∀ (k0_h9 : k0_cond9 v4984 = 1#1), ∀ a, (k0_off166 arg18) a + S1.size a ≤ S40.size a)
theorem k0_off166_inb : ∀ (arg18 : BitVec 32) (v4984 : BitVec 1) (k0_hw49 : k0_chk49 arg18 v4984), ∀ (k0_h9 : k0_cond9 v4984 = 1#1), ∀ a, (k0_off166 arg18) a + S1.size a ≤ S40.size a := fun arg18 v4984 k0_hw49 k0_h9 => k0_hw49 k0_h9

def k0_off167 (k0_t57 : Fin k0_t57_loop.trips) : Fin 1 → Nat :=
  let c0_i32_781 : BitVec 32 := 0#32
  let c1_i32_783 : BitVec 32 := 1#32
  let arg17 : BitVec 32 := Scf.iv c0_i32_781 c1_i32_783 k0_t57
  let v4994 : Index := Scalar.indexCast arg17
  ![v4994.toNat]
def k0_off168 (k0_t57 : Fin k0_t57_loop.trips) (c32_i32_1379 : BitVec 32) : Fin 1 → Nat :=
  let c0_i32_781 : BitVec 32 := 0#32
  let c1_i32_783 : BitVec 32 := 1#32
  let arg17 : BitVec 32 := Scf.iv c0_i32_781 c1_i32_783 k0_t57
  let v5002 : BitVec 32 := Scalar.addi c32_i32_1379 arg17
  let v5003 : Index := Scalar.indexCast v5002
  ![v5003.toNat]
@[reducible] def k0_t58_loop (v2750_0 : BitVec 32) : Scf.Loop 32 :=
  let c0_i32_787 : BitVec 32 := 0#32
  let c1_i32_785 : BitVec 32 := 1#32
  let v2823 : BitVec 32 := Scalar.subi v2750_0 c1_i32_785
  let v2824 : BitVec 32 := Scalar.subi v2823 c0_i32_787
  let c1_i32_788 : BitVec 32 := 1#32
  let v2826 : BitVec 32 := Scalar.divsi v2824 c1_i32_788
  let v2827 : BitVec 32 := Scalar.muli v2826 c1_i32_788
  let v2828 : BitVec 32 := Scalar.addi c0_i32_787 v2827
  let c1_i32_789 : BitVec 32 := 1#32
  ⟨c0_i32_787, v2828, c1_i32_789⟩

def k0_off169 (v2750_0 : BitVec 32) (k0_t58 : Fin (k0_t58_loop v2750_0).trips) : Fin 1 → Nat :=
  let c0_i32_787 : BitVec 32 := 0#32
  let c1_i32_789 : BitVec 32 := 1#32
  let arg17 : BitVec 32 := Scf.iv c0_i32_787 c1_i32_789 k0_t58
  let v4944 : Index := Scalar.indexCast arg17
  ![v4944.toNat]
@[reducible] def k0_t59_loop (v2750_0 : BitVec 32) (k0_t58 : Fin (k0_t58_loop v2750_0).trips) : Scf.Loop 32 :=
  let c0_i32_787 : BitVec 32 := 0#32
  let c1_i32_789 : BitVec 32 := 1#32
  let arg17 : BitVec 32 := Scf.iv c0_i32_787 c1_i32_789 k0_t58
  let c1_i32_1372 : BitVec 32 := 1#32
  let v4956 : BitVec 32 := Scalar.addi arg17 c1_i32_1372
  let v4957 : BitVec 32 := Scalar.subi v2750_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off170 (v2750_0 : BitVec 32) (k0_t58 : Fin (k0_t58_loop v2750_0).trips) (k0_t59 : Fin (k0_t59_loop v2750_0 k0_t58).trips) : Fin 1 → Nat :=
  let c0_i32_787 : BitVec 32 := 0#32
  let c1_i32_789 : BitVec 32 := 1#32
  let arg17 : BitVec 32 := Scf.iv c0_i32_787 c1_i32_789 k0_t58
  let c1_i32_1372 : BitVec 32 := 1#32
  let v4956 : BitVec 32 := Scalar.addi arg17 c1_i32_1372
  let c1_i32_1375 : BitVec 32 := 1#32
  let arg18 : BitVec 32 := Scf.iv v4956 c1_i32_1375 k0_t59
  let v4962 : Index := Scalar.indexCast arg18
  ![v4962.toNat]
def k0_off171 (v4949 : BitVec 32) (v4991 : BitVec 32) : Fin 1 → Nat :=
  let c3136_i32 : BitVec 32 := 3136#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3136_i32 v5014
  let v5048 : Index := Scalar.indexCast v5015
  ![v5048.toNat]

def k0_off172 (v4949 : BitVec 32) (v4991 : BitVec 32) : Fin 1 → Nat :=
  let c3136_i32 : BitVec 32 := 3136#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3136_i32 v5014
  let c16_i32_1396 : BitVec 32 := 16#32
  let v5056 : BitVec 32 := Scalar.addi v5015 c16_i32_1396
  let v5057 : Index := Scalar.indexCast v5056
  ![v5057.toNat]

def k0_chk51 (v4949 : BitVec 32) (v4991 : BitVec 32) : Prop :=
  (∀ a, (k0_off171 v4949 v4991) a + S16.size a ≤ S6144.size a) ∧
  (∀ a, (k0_off172 v4949 v4991) a + S16.size a ≤ S6144.size a)
theorem k0_off171_inb : ∀ (v4949 : BitVec 32) (v4991 : BitVec 32) (k0_hw51 : k0_chk51 v4949 v4991), ∀ a, (k0_off171 v4949 v4991) a + S16.size a ≤ S6144.size a := fun v4949 v4991 k0_hw51 => k0_hw51.1
theorem k0_off172_inb : ∀ (v4949 : BitVec 32) (v4991 : BitVec 32) (k0_hw51 : k0_chk51 v4949 v4991), ∀ a, (k0_off172 v4949 v4991) a + S16.size a ≤ S6144.size a := fun v4949 v4991 k0_hw51 => k0_hw51.2

@[reducible] def k0_t60_loop (v2750_0 : BitVec 32) (k0_t58 : Fin (k0_t58_loop v2750_0).trips) : Scf.Loop 32 :=
  let c0_i32_787 : BitVec 32 := 0#32
  let c1_i32_789 : BitVec 32 := 1#32
  let arg17 : BitVec 32 := Scf.iv c0_i32_787 c1_i32_789 k0_t58
  let c1_i32_1372 : BitVec 32 := 1#32
  let v4956 : BitVec 32 := Scalar.addi arg17 c1_i32_1372
  let v4957 : BitVec 32 := Scalar.subi v2750_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off173 (v2750_0 : BitVec 32) (k0_t58 : Fin (k0_t58_loop v2750_0).trips) (k0_t60 : Fin (k0_t60_loop v2750_0 k0_t58).trips) : Fin 1 → Nat :=
  let c0_i32_787 : BitVec 32 := 0#32
  let c1_i32_789 : BitVec 32 := 1#32
  let arg17 : BitVec 32 := Scf.iv c0_i32_787 c1_i32_789 k0_t58
  let c1_i32_1372 : BitVec 32 := 1#32
  let v4956 : BitVec 32 := Scalar.addi arg17 c1_i32_1372
  let v4957 : BitVec 32 := Scalar.subi v2750_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t60
  let v4962 : Index := Scalar.indexCast arg18
  ![v4962.toNat]
def k0_off174 (v4949 : BitVec 32) (v4991 : BitVec 32) : Fin 1 → Nat :=
  let c3136_i32 : BitVec 32 := 3136#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3136_i32 v5014
  let v5048 : Index := Scalar.indexCast v5015
  ![v5048.toNat]

def k0_off175 (v4949 : BitVec 32) (v4991 : BitVec 32) : Fin 1 → Nat :=
  let c3136_i32 : BitVec 32 := 3136#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3136_i32 v5014
  let c16_i32_1396 : BitVec 32 := 16#32
  let v5056 : BitVec 32 := Scalar.addi v5015 c16_i32_1396
  let v5057 : Index := Scalar.indexCast v5056
  ![v5057.toNat]

def k0_chk52 (v4949 : BitVec 32) (v4991 : BitVec 32) : Prop :=
  (∀ a, (k0_off174 v4949 v4991) a + S16.size a ≤ S6144.size a) ∧
  (∀ a, (k0_off175 v4949 v4991) a + S16.size a ≤ S6144.size a)
theorem k0_off174_inb : ∀ (v4949 : BitVec 32) (v4991 : BitVec 32) (k0_hw52 : k0_chk52 v4949 v4991), ∀ a, (k0_off174 v4949 v4991) a + S16.size a ≤ S6144.size a := fun v4949 v4991 k0_hw52 => k0_hw52.1
theorem k0_off175_inb : ∀ (v4949 : BitVec 32) (v4991 : BitVec 32) (k0_hw52 : k0_chk52 v4949 v4991), ∀ a, (k0_off175 v4949 v4991) a + S16.size a ≤ S6144.size a := fun v4949 v4991 k0_hw52 => k0_hw52.2

@[reducible] def k0_t61_loop (v2750_0 : BitVec 32) : Scf.Loop 32 :=
  let c0_i32_787 : BitVec 32 := 0#32
  let c1_i32_785 : BitVec 32 := 1#32
  let v2823 : BitVec 32 := Scalar.subi v2750_0 c1_i32_785
  let v2824 : BitVec 32 := Scalar.subi v2823 c0_i32_787
  let c1_i32_788 : BitVec 32 := 1#32
  let v2826 : BitVec 32 := Scalar.divsi v2824 c1_i32_788
  let v2827 : BitVec 32 := Scalar.muli v2826 c1_i32_788
  let v2828 : BitVec 32 := Scalar.addi c0_i32_787 v2827
  let v2825 : BitVec 32 := Scalar.addi c0_i32_787 v2824
  let c1_i32_790 : BitVec 32 := 1#32
  ⟨v2828, v2825, c1_i32_790⟩
def k0_off176 (v2750_0 : BitVec 32) (k0_t61 : Fin (k0_t61_loop v2750_0).trips) : Fin 1 → Nat :=
  let c0_i32_787 : BitVec 32 := 0#32
  let c1_i32_785 : BitVec 32 := 1#32
  let v2823 : BitVec 32 := Scalar.subi v2750_0 c1_i32_785
  let v2824 : BitVec 32 := Scalar.subi v2823 c0_i32_787
  let c1_i32_788 : BitVec 32 := 1#32
  let v2826 : BitVec 32 := Scalar.divsi v2824 c1_i32_788
  let v2827 : BitVec 32 := Scalar.muli v2826 c1_i32_788
  let v2828 : BitVec 32 := Scalar.addi c0_i32_787 v2827
  let c1_i32_790 : BitVec 32 := 1#32
  let arg17 : BitVec 32 := Scf.iv v2828 c1_i32_790 k0_t61
  let v4944 : Index := Scalar.indexCast arg17
  ![v4944.toNat]
@[reducible] def k0_t62_loop (v2750_0 : BitVec 32) (k0_t61 : Fin (k0_t61_loop v2750_0).trips) : Scf.Loop 32 :=
  let c0_i32_787 : BitVec 32 := 0#32
  let c1_i32_785 : BitVec 32 := 1#32
  let v2823 : BitVec 32 := Scalar.subi v2750_0 c1_i32_785
  let v2824 : BitVec 32 := Scalar.subi v2823 c0_i32_787
  let c1_i32_788 : BitVec 32 := 1#32
  let v2826 : BitVec 32 := Scalar.divsi v2824 c1_i32_788
  let v2827 : BitVec 32 := Scalar.muli v2826 c1_i32_788
  let v2828 : BitVec 32 := Scalar.addi c0_i32_787 v2827
  let c1_i32_790 : BitVec 32 := 1#32
  let arg17 : BitVec 32 := Scf.iv v2828 c1_i32_790 k0_t61
  let c1_i32_1372 : BitVec 32 := 1#32
  let v4956 : BitVec 32 := Scalar.addi arg17 c1_i32_1372
  let v4957 : BitVec 32 := Scalar.subi v2750_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off177 (v2750_0 : BitVec 32) (k0_t61 : Fin (k0_t61_loop v2750_0).trips) (k0_t62 : Fin (k0_t62_loop v2750_0 k0_t61).trips) : Fin 1 → Nat :=
  let c0_i32_787 : BitVec 32 := 0#32
  let c1_i32_785 : BitVec 32 := 1#32
  let v2823 : BitVec 32 := Scalar.subi v2750_0 c1_i32_785
  let v2824 : BitVec 32 := Scalar.subi v2823 c0_i32_787
  let c1_i32_788 : BitVec 32 := 1#32
  let v2826 : BitVec 32 := Scalar.divsi v2824 c1_i32_788
  let v2827 : BitVec 32 := Scalar.muli v2826 c1_i32_788
  let v2828 : BitVec 32 := Scalar.addi c0_i32_787 v2827
  let c1_i32_790 : BitVec 32 := 1#32
  let arg17 : BitVec 32 := Scf.iv v2828 c1_i32_790 k0_t61
  let c1_i32_1372 : BitVec 32 := 1#32
  let v4956 : BitVec 32 := Scalar.addi arg17 c1_i32_1372
  let c1_i32_1375 : BitVec 32 := 1#32
  let arg18 : BitVec 32 := Scf.iv v4956 c1_i32_1375 k0_t62
  let v4962 : Index := Scalar.indexCast arg18
  ![v4962.toNat]
def k0_off178 (v4949 : BitVec 32) (v4991 : BitVec 32) : Fin 1 → Nat :=
  let c3136_i32 : BitVec 32 := 3136#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3136_i32 v5014
  let v5048 : Index := Scalar.indexCast v5015
  ![v5048.toNat]

def k0_off179 (v4949 : BitVec 32) (v4991 : BitVec 32) : Fin 1 → Nat :=
  let c3136_i32 : BitVec 32 := 3136#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3136_i32 v5014
  let c16_i32_1396 : BitVec 32 := 16#32
  let v5056 : BitVec 32 := Scalar.addi v5015 c16_i32_1396
  let v5057 : Index := Scalar.indexCast v5056
  ![v5057.toNat]

def k0_chk53 (v4949 : BitVec 32) (v4991 : BitVec 32) : Prop :=
  (∀ a, (k0_off178 v4949 v4991) a + S16.size a ≤ S6144.size a) ∧
  (∀ a, (k0_off179 v4949 v4991) a + S16.size a ≤ S6144.size a)
theorem k0_off178_inb : ∀ (v4949 : BitVec 32) (v4991 : BitVec 32) (k0_hw53 : k0_chk53 v4949 v4991), ∀ a, (k0_off178 v4949 v4991) a + S16.size a ≤ S6144.size a := fun v4949 v4991 k0_hw53 => k0_hw53.1
theorem k0_off179_inb : ∀ (v4949 : BitVec 32) (v4991 : BitVec 32) (k0_hw53 : k0_chk53 v4949 v4991), ∀ a, (k0_off179 v4949 v4991) a + S16.size a ≤ S6144.size a := fun v4949 v4991 k0_hw53 => k0_hw53.2

@[reducible] def k0_t63_loop (v2750_0 : BitVec 32) (k0_t61 : Fin (k0_t61_loop v2750_0).trips) : Scf.Loop 32 :=
  let c0_i32_787 : BitVec 32 := 0#32
  let c1_i32_785 : BitVec 32 := 1#32
  let v2823 : BitVec 32 := Scalar.subi v2750_0 c1_i32_785
  let v2824 : BitVec 32 := Scalar.subi v2823 c0_i32_787
  let c1_i32_788 : BitVec 32 := 1#32
  let v2826 : BitVec 32 := Scalar.divsi v2824 c1_i32_788
  let v2827 : BitVec 32 := Scalar.muli v2826 c1_i32_788
  let v2828 : BitVec 32 := Scalar.addi c0_i32_787 v2827
  let c1_i32_790 : BitVec 32 := 1#32
  let arg17 : BitVec 32 := Scf.iv v2828 c1_i32_790 k0_t61
  let c1_i32_1372 : BitVec 32 := 1#32
  let v4956 : BitVec 32 := Scalar.addi arg17 c1_i32_1372
  let v4957 : BitVec 32 := Scalar.subi v2750_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off180 (v2750_0 : BitVec 32) (k0_t61 : Fin (k0_t61_loop v2750_0).trips) (k0_t63 : Fin (k0_t63_loop v2750_0 k0_t61).trips) : Fin 1 → Nat :=
  let c0_i32_787 : BitVec 32 := 0#32
  let c1_i32_785 : BitVec 32 := 1#32
  let v2823 : BitVec 32 := Scalar.subi v2750_0 c1_i32_785
  let v2824 : BitVec 32 := Scalar.subi v2823 c0_i32_787
  let c1_i32_788 : BitVec 32 := 1#32
  let v2826 : BitVec 32 := Scalar.divsi v2824 c1_i32_788
  let v2827 : BitVec 32 := Scalar.muli v2826 c1_i32_788
  let v2828 : BitVec 32 := Scalar.addi c0_i32_787 v2827
  let c1_i32_790 : BitVec 32 := 1#32
  let arg17 : BitVec 32 := Scf.iv v2828 c1_i32_790 k0_t61
  let c1_i32_1372 : BitVec 32 := 1#32
  let v4956 : BitVec 32 := Scalar.addi arg17 c1_i32_1372
  let v4957 : BitVec 32 := Scalar.subi v2750_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t63
  let v4962 : Index := Scalar.indexCast arg18
  ![v4962.toNat]

def k0_chk50 (v2750_0 : BitVec 32) : Prop :=
  ((k0_t58_loop v2750_0).OK) ∧
  (∀ k0_t58 : Fin (k0_t58_loop v2750_0).trips, ∀ a, (k0_off169 v2750_0 k0_t58) a + S1.size a ≤ S40.size a) ∧
  (∀ k0_t58 : Fin (k0_t58_loop v2750_0).trips, (k0_t59_loop v2750_0 k0_t58).OK) ∧
  (∀ (k0_t58 : Fin (k0_t58_loop v2750_0).trips) (k0_t59 : Fin (k0_t59_loop v2750_0 k0_t58).trips), ∀ a, (k0_off170 v2750_0 k0_t58 k0_t59) a + S1.size a ≤ S40.size a) ∧
  (∀ k0_t58 : Fin (k0_t58_loop v2750_0).trips, (k0_t60_loop v2750_0 k0_t58).OK) ∧
  (∀ (k0_t58 : Fin (k0_t58_loop v2750_0).trips) (k0_t60 : Fin (k0_t60_loop v2750_0 k0_t58).trips), ∀ a, (k0_off173 v2750_0 k0_t58 k0_t60) a + S1.size a ≤ S40.size a) ∧
  ((k0_t61_loop v2750_0).OK) ∧
  (∀ k0_t61 : Fin (k0_t61_loop v2750_0).trips, ∀ a, (k0_off176 v2750_0 k0_t61) a + S1.size a ≤ S40.size a) ∧
  (∀ k0_t61 : Fin (k0_t61_loop v2750_0).trips, (k0_t62_loop v2750_0 k0_t61).OK) ∧
  (∀ (k0_t61 : Fin (k0_t61_loop v2750_0).trips) (k0_t62 : Fin (k0_t62_loop v2750_0 k0_t61).trips), ∀ a, (k0_off177 v2750_0 k0_t61 k0_t62) a + S1.size a ≤ S40.size a) ∧
  (∀ k0_t61 : Fin (k0_t61_loop v2750_0).trips, (k0_t63_loop v2750_0 k0_t61).OK) ∧
  (∀ (k0_t61 : Fin (k0_t61_loop v2750_0).trips) (k0_t63 : Fin (k0_t63_loop v2750_0 k0_t61).trips), ∀ a, (k0_off180 v2750_0 k0_t61 k0_t63) a + S1.size a ≤ S40.size a)
theorem k0_t58_ok : ∀ (v2750_0 : BitVec 32) (k0_hw50 : k0_chk50 v2750_0), (k0_t58_loop v2750_0).OK := fun v2750_0 k0_hw50 => k0_hw50.1
theorem k0_off169_inb : ∀ (v2750_0 : BitVec 32) (k0_hw50 : k0_chk50 v2750_0) (k0_t58 : Fin (k0_t58_loop v2750_0).trips), ∀ a, (k0_off169 v2750_0 k0_t58) a + S1.size a ≤ S40.size a := fun v2750_0 k0_hw50 k0_t58 => k0_hw50.2.1 k0_t58
theorem k0_t59_ok : ∀ (v2750_0 : BitVec 32) (k0_hw50 : k0_chk50 v2750_0) (k0_t58 : Fin (k0_t58_loop v2750_0).trips), (k0_t59_loop v2750_0 k0_t58).OK := fun v2750_0 k0_hw50 k0_t58 => k0_hw50.2.2.1 k0_t58
theorem k0_off170_inb : ∀ (v2750_0 : BitVec 32) (k0_hw50 : k0_chk50 v2750_0) (k0_t58 : Fin (k0_t58_loop v2750_0).trips) (k0_t59 : Fin (k0_t59_loop v2750_0 k0_t58).trips), ∀ a, (k0_off170 v2750_0 k0_t58 k0_t59) a + S1.size a ≤ S40.size a := fun v2750_0 k0_hw50 k0_t58 k0_t59 => k0_hw50.2.2.2.1 k0_t58 k0_t59
theorem k0_t60_ok : ∀ (v2750_0 : BitVec 32) (k0_hw50 : k0_chk50 v2750_0) (k0_t58 : Fin (k0_t58_loop v2750_0).trips), (k0_t60_loop v2750_0 k0_t58).OK := fun v2750_0 k0_hw50 k0_t58 => k0_hw50.2.2.2.2.1 k0_t58
theorem k0_off173_inb : ∀ (v2750_0 : BitVec 32) (k0_hw50 : k0_chk50 v2750_0) (k0_t58 : Fin (k0_t58_loop v2750_0).trips) (k0_t60 : Fin (k0_t60_loop v2750_0 k0_t58).trips), ∀ a, (k0_off173 v2750_0 k0_t58 k0_t60) a + S1.size a ≤ S40.size a := fun v2750_0 k0_hw50 k0_t58 k0_t60 => k0_hw50.2.2.2.2.2.1 k0_t58 k0_t60
theorem k0_t61_ok : ∀ (v2750_0 : BitVec 32) (k0_hw50 : k0_chk50 v2750_0), (k0_t61_loop v2750_0).OK := fun v2750_0 k0_hw50 => k0_hw50.2.2.2.2.2.2.1
theorem k0_off176_inb : ∀ (v2750_0 : BitVec 32) (k0_hw50 : k0_chk50 v2750_0) (k0_t61 : Fin (k0_t61_loop v2750_0).trips), ∀ a, (k0_off176 v2750_0 k0_t61) a + S1.size a ≤ S40.size a := fun v2750_0 k0_hw50 k0_t61 => k0_hw50.2.2.2.2.2.2.2.1 k0_t61
theorem k0_t62_ok : ∀ (v2750_0 : BitVec 32) (k0_hw50 : k0_chk50 v2750_0) (k0_t61 : Fin (k0_t61_loop v2750_0).trips), (k0_t62_loop v2750_0 k0_t61).OK := fun v2750_0 k0_hw50 k0_t61 => k0_hw50.2.2.2.2.2.2.2.2.1 k0_t61
theorem k0_off177_inb : ∀ (v2750_0 : BitVec 32) (k0_hw50 : k0_chk50 v2750_0) (k0_t61 : Fin (k0_t61_loop v2750_0).trips) (k0_t62 : Fin (k0_t62_loop v2750_0 k0_t61).trips), ∀ a, (k0_off177 v2750_0 k0_t61 k0_t62) a + S1.size a ≤ S40.size a := fun v2750_0 k0_hw50 k0_t61 k0_t62 => k0_hw50.2.2.2.2.2.2.2.2.2.1 k0_t61 k0_t62
theorem k0_t63_ok : ∀ (v2750_0 : BitVec 32) (k0_hw50 : k0_chk50 v2750_0) (k0_t61 : Fin (k0_t61_loop v2750_0).trips), (k0_t63_loop v2750_0 k0_t61).OK := fun v2750_0 k0_hw50 k0_t61 => k0_hw50.2.2.2.2.2.2.2.2.2.2.1 k0_t61
theorem k0_off180_inb : ∀ (v2750_0 : BitVec 32) (k0_hw50 : k0_chk50 v2750_0) (k0_t61 : Fin (k0_t61_loop v2750_0).trips) (k0_t63 : Fin (k0_t63_loop v2750_0 k0_t61).trips), ∀ a, (k0_off180 v2750_0 k0_t61 k0_t63) a + S1.size a ≤ S40.size a := fun v2750_0 k0_hw50 k0_t61 k0_t63 => k0_hw50.2.2.2.2.2.2.2.2.2.2.2 k0_t61 k0_t63

def k0_off181 (v4949 : BitVec 32) (v4991 : BitVec 32) : Fin 1 → Nat :=
  let c3136_i32 : BitVec 32 := 3136#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3136_i32 v5014
  let v5048 : Index := Scalar.indexCast v5015
  ![v5048.toNat]

def k0_off182 (v4949 : BitVec 32) (v4991 : BitVec 32) : Fin 1 → Nat :=
  let c3136_i32 : BitVec 32 := 3136#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3136_i32 v5014
  let c16_i32_1396 : BitVec 32 := 16#32
  let v5056 : BitVec 32 := Scalar.addi v5015 c16_i32_1396
  let v5057 : Index := Scalar.indexCast v5056
  ![v5057.toNat]

def k0_chk54 (v4949 : BitVec 32) (v4991 : BitVec 32) : Prop :=
  (∀ a, (k0_off181 v4949 v4991) a + S16.size a ≤ S6144.size a) ∧
  (∀ a, (k0_off182 v4949 v4991) a + S16.size a ≤ S6144.size a)
theorem k0_off181_inb : ∀ (v4949 : BitVec 32) (v4991 : BitVec 32) (k0_hw54 : k0_chk54 v4949 v4991), ∀ a, (k0_off181 v4949 v4991) a + S16.size a ≤ S6144.size a := fun v4949 v4991 k0_hw54 => k0_hw54.1
theorem k0_off182_inb : ∀ (v4949 : BitVec 32) (v4991 : BitVec 32) (k0_hw54 : k0_chk54 v4949 v4991), ∀ a, (k0_off182 v4949 v4991) a + S16.size a ≤ S6144.size a := fun v4949 v4991 k0_hw54 => k0_hw54.2

def k0_off183 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c9_i32 : BitVec 32 := 9#32
  let v2829 : BitVec 32 := Scalar.addi v29 c9_i32
  let v2830 : Index := Scalar.indexCast v2829
  ![v2830.toNat]
def k0_off184 (i : grid0.Coords) (c32_i32_791 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c9_i32 : BitVec 32 := 9#32
  let v2829 : BitVec 32 := Scalar.addi v29 c9_i32
  let v2835 : BitVec 32 := Scalar.addi c32_i32_791 v2829
  let v2836 : Index := Scalar.indexCast v2835
  ![v2836.toNat]
@[reducible] def k0_t64_loop : Scf.Loop 32 :=
  let c0_i32_864 : BitVec 32 := 0#32
  let c32_i32_865 : BitVec 32 := 32#32
  let v3051 : BitVec 32 := Scalar.addi c0_i32_864 c32_i32_865
  let c1_i32_866 : BitVec 32 := 1#32
  ⟨c0_i32_864, v3051, c1_i32_866⟩
def k0_off185 (k0_t64 : Fin k0_t64_loop.trips) : Fin 1 → Nat :=
  let c0_i32_864 : BitVec 32 := 0#32
  let c1_i32_866 : BitVec 32 := 1#32
  let arg17 : BitVec 32 := Scf.iv c0_i32_864 c1_i32_866 k0_t64
  let v4944 : Index := Scalar.indexCast arg17
  ![v4944.toNat]
def k0_off186 (arg18 : BitVec 32) : Fin 1 → Nat :=
  let v4988 : Index := Scalar.indexCast arg18
  ![v4988.toNat]
def k0_cond10 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk55 (arg18 : BitVec 32) (v4984 : BitVec 1) : Prop :=
  (∀ (k0_h10 : k0_cond10 v4984 = 1#1), ∀ a, (k0_off186 arg18) a + S1.size a ≤ S40.size a)
theorem k0_off186_inb : ∀ (arg18 : BitVec 32) (v4984 : BitVec 1) (k0_hw55 : k0_chk55 arg18 v4984), ∀ (k0_h10 : k0_cond10 v4984 = 1#1), ∀ a, (k0_off186 arg18) a + S1.size a ≤ S40.size a := fun arg18 v4984 k0_hw55 k0_h10 => k0_hw55 k0_h10

def k0_off187 (k0_t64 : Fin k0_t64_loop.trips) : Fin 1 → Nat :=
  let c0_i32_864 : BitVec 32 := 0#32
  let c1_i32_866 : BitVec 32 := 1#32
  let arg17 : BitVec 32 := Scf.iv c0_i32_864 c1_i32_866 k0_t64
  let v4994 : Index := Scalar.indexCast arg17
  ![v4994.toNat]
def k0_off188 (k0_t64 : Fin k0_t64_loop.trips) (c32_i32_1379 : BitVec 32) : Fin 1 → Nat :=
  let c0_i32_864 : BitVec 32 := 0#32
  let c1_i32_866 : BitVec 32 := 1#32
  let arg17 : BitVec 32 := Scf.iv c0_i32_864 c1_i32_866 k0_t64
  let v5002 : BitVec 32 := Scalar.addi c32_i32_1379 arg17
  let v5003 : Index := Scalar.indexCast v5002
  ![v5003.toNat]
@[reducible] def k0_t65_loop (v3052_0 : BitVec 32) : Scf.Loop 32 :=
  let c0_i32_870 : BitVec 32 := 0#32
  let c1_i32_868 : BitVec 32 := 1#32
  let v3125 : BitVec 32 := Scalar.subi v3052_0 c1_i32_868
  let v3126 : BitVec 32 := Scalar.subi v3125 c0_i32_870
  let c1_i32_871 : BitVec 32 := 1#32
  let v3128 : BitVec 32 := Scalar.divsi v3126 c1_i32_871
  let v3129 : BitVec 32 := Scalar.muli v3128 c1_i32_871
  let v3130 : BitVec 32 := Scalar.addi c0_i32_870 v3129
  let c1_i32_872 : BitVec 32 := 1#32
  ⟨c0_i32_870, v3130, c1_i32_872⟩

def k0_off189 (v3052_0 : BitVec 32) (k0_t65 : Fin (k0_t65_loop v3052_0).trips) : Fin 1 → Nat :=
  let c0_i32_870 : BitVec 32 := 0#32
  let c1_i32_872 : BitVec 32 := 1#32
  let arg17 : BitVec 32 := Scf.iv c0_i32_870 c1_i32_872 k0_t65
  let v4944 : Index := Scalar.indexCast arg17
  ![v4944.toNat]
@[reducible] def k0_t66_loop (v3052_0 : BitVec 32) (k0_t65 : Fin (k0_t65_loop v3052_0).trips) : Scf.Loop 32 :=
  let c0_i32_870 : BitVec 32 := 0#32
  let c1_i32_872 : BitVec 32 := 1#32
  let arg17 : BitVec 32 := Scf.iv c0_i32_870 c1_i32_872 k0_t65
  let c1_i32_1372 : BitVec 32 := 1#32
  let v4956 : BitVec 32 := Scalar.addi arg17 c1_i32_1372
  let v4957 : BitVec 32 := Scalar.subi v3052_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off190 (v3052_0 : BitVec 32) (k0_t65 : Fin (k0_t65_loop v3052_0).trips) (k0_t66 : Fin (k0_t66_loop v3052_0 k0_t65).trips) : Fin 1 → Nat :=
  let c0_i32_870 : BitVec 32 := 0#32
  let c1_i32_872 : BitVec 32 := 1#32
  let arg17 : BitVec 32 := Scf.iv c0_i32_870 c1_i32_872 k0_t65
  let c1_i32_1372 : BitVec 32 := 1#32
  let v4956 : BitVec 32 := Scalar.addi arg17 c1_i32_1372
  let c1_i32_1375 : BitVec 32 := 1#32
  let arg18 : BitVec 32 := Scf.iv v4956 c1_i32_1375 k0_t66
  let v4962 : Index := Scalar.indexCast arg18
  ![v4962.toNat]
def k0_off191 (v4949 : BitVec 32) (v4991 : BitVec 32) : Fin 1 → Nat :=
  let c3520_i32 : BitVec 32 := 3520#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3520_i32 v5014
  let v5048 : Index := Scalar.indexCast v5015
  ![v5048.toNat]

def k0_off192 (v4949 : BitVec 32) (v4991 : BitVec 32) : Fin 1 → Nat :=
  let c3520_i32 : BitVec 32 := 3520#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3520_i32 v5014
  let c16_i32_1396 : BitVec 32 := 16#32
  let v5056 : BitVec 32 := Scalar.addi v5015 c16_i32_1396
  let v5057 : Index := Scalar.indexCast v5056
  ![v5057.toNat]

def k0_chk57 (v4949 : BitVec 32) (v4991 : BitVec 32) : Prop :=
  (∀ a, (k0_off191 v4949 v4991) a + S16.size a ≤ S6144.size a) ∧
  (∀ a, (k0_off192 v4949 v4991) a + S16.size a ≤ S6144.size a)
theorem k0_off191_inb : ∀ (v4949 : BitVec 32) (v4991 : BitVec 32) (k0_hw57 : k0_chk57 v4949 v4991), ∀ a, (k0_off191 v4949 v4991) a + S16.size a ≤ S6144.size a := fun v4949 v4991 k0_hw57 => k0_hw57.1
theorem k0_off192_inb : ∀ (v4949 : BitVec 32) (v4991 : BitVec 32) (k0_hw57 : k0_chk57 v4949 v4991), ∀ a, (k0_off192 v4949 v4991) a + S16.size a ≤ S6144.size a := fun v4949 v4991 k0_hw57 => k0_hw57.2

@[reducible] def k0_t67_loop (v3052_0 : BitVec 32) (k0_t65 : Fin (k0_t65_loop v3052_0).trips) : Scf.Loop 32 :=
  let c0_i32_870 : BitVec 32 := 0#32
  let c1_i32_872 : BitVec 32 := 1#32
  let arg17 : BitVec 32 := Scf.iv c0_i32_870 c1_i32_872 k0_t65
  let c1_i32_1372 : BitVec 32 := 1#32
  let v4956 : BitVec 32 := Scalar.addi arg17 c1_i32_1372
  let v4957 : BitVec 32 := Scalar.subi v3052_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off193 (v3052_0 : BitVec 32) (k0_t65 : Fin (k0_t65_loop v3052_0).trips) (k0_t67 : Fin (k0_t67_loop v3052_0 k0_t65).trips) : Fin 1 → Nat :=
  let c0_i32_870 : BitVec 32 := 0#32
  let c1_i32_872 : BitVec 32 := 1#32
  let arg17 : BitVec 32 := Scf.iv c0_i32_870 c1_i32_872 k0_t65
  let c1_i32_1372 : BitVec 32 := 1#32
  let v4956 : BitVec 32 := Scalar.addi arg17 c1_i32_1372
  let v4957 : BitVec 32 := Scalar.subi v3052_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t67
  let v4962 : Index := Scalar.indexCast arg18
  ![v4962.toNat]
def k0_off194 (v4949 : BitVec 32) (v4991 : BitVec 32) : Fin 1 → Nat :=
  let c3520_i32 : BitVec 32 := 3520#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3520_i32 v5014
  let v5048 : Index := Scalar.indexCast v5015
  ![v5048.toNat]

def k0_off195 (v4949 : BitVec 32) (v4991 : BitVec 32) : Fin 1 → Nat :=
  let c3520_i32 : BitVec 32 := 3520#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3520_i32 v5014
  let c16_i32_1396 : BitVec 32 := 16#32
  let v5056 : BitVec 32 := Scalar.addi v5015 c16_i32_1396
  let v5057 : Index := Scalar.indexCast v5056
  ![v5057.toNat]

def k0_chk58 (v4949 : BitVec 32) (v4991 : BitVec 32) : Prop :=
  (∀ a, (k0_off194 v4949 v4991) a + S16.size a ≤ S6144.size a) ∧
  (∀ a, (k0_off195 v4949 v4991) a + S16.size a ≤ S6144.size a)
theorem k0_off194_inb : ∀ (v4949 : BitVec 32) (v4991 : BitVec 32) (k0_hw58 : k0_chk58 v4949 v4991), ∀ a, (k0_off194 v4949 v4991) a + S16.size a ≤ S6144.size a := fun v4949 v4991 k0_hw58 => k0_hw58.1
theorem k0_off195_inb : ∀ (v4949 : BitVec 32) (v4991 : BitVec 32) (k0_hw58 : k0_chk58 v4949 v4991), ∀ a, (k0_off195 v4949 v4991) a + S16.size a ≤ S6144.size a := fun v4949 v4991 k0_hw58 => k0_hw58.2

@[reducible] def k0_t68_loop (v3052_0 : BitVec 32) : Scf.Loop 32 :=
  let c0_i32_870 : BitVec 32 := 0#32
  let c1_i32_868 : BitVec 32 := 1#32
  let v3125 : BitVec 32 := Scalar.subi v3052_0 c1_i32_868
  let v3126 : BitVec 32 := Scalar.subi v3125 c0_i32_870
  let c1_i32_871 : BitVec 32 := 1#32
  let v3128 : BitVec 32 := Scalar.divsi v3126 c1_i32_871
  let v3129 : BitVec 32 := Scalar.muli v3128 c1_i32_871
  let v3130 : BitVec 32 := Scalar.addi c0_i32_870 v3129
  let v3127 : BitVec 32 := Scalar.addi c0_i32_870 v3126
  let c1_i32_873 : BitVec 32 := 1#32
  ⟨v3130, v3127, c1_i32_873⟩
def k0_off196 (v3052_0 : BitVec 32) (k0_t68 : Fin (k0_t68_loop v3052_0).trips) : Fin 1 → Nat :=
  let c0_i32_870 : BitVec 32 := 0#32
  let c1_i32_868 : BitVec 32 := 1#32
  let v3125 : BitVec 32 := Scalar.subi v3052_0 c1_i32_868
  let v3126 : BitVec 32 := Scalar.subi v3125 c0_i32_870
  let c1_i32_871 : BitVec 32 := 1#32
  let v3128 : BitVec 32 := Scalar.divsi v3126 c1_i32_871
  let v3129 : BitVec 32 := Scalar.muli v3128 c1_i32_871
  let v3130 : BitVec 32 := Scalar.addi c0_i32_870 v3129
  let c1_i32_873 : BitVec 32 := 1#32
  let arg17 : BitVec 32 := Scf.iv v3130 c1_i32_873 k0_t68
  let v4944 : Index := Scalar.indexCast arg17
  ![v4944.toNat]
@[reducible] def k0_t69_loop (v3052_0 : BitVec 32) (k0_t68 : Fin (k0_t68_loop v3052_0).trips) : Scf.Loop 32 :=
  let c0_i32_870 : BitVec 32 := 0#32
  let c1_i32_868 : BitVec 32 := 1#32
  let v3125 : BitVec 32 := Scalar.subi v3052_0 c1_i32_868
  let v3126 : BitVec 32 := Scalar.subi v3125 c0_i32_870
  let c1_i32_871 : BitVec 32 := 1#32
  let v3128 : BitVec 32 := Scalar.divsi v3126 c1_i32_871
  let v3129 : BitVec 32 := Scalar.muli v3128 c1_i32_871
  let v3130 : BitVec 32 := Scalar.addi c0_i32_870 v3129
  let c1_i32_873 : BitVec 32 := 1#32
  let arg17 : BitVec 32 := Scf.iv v3130 c1_i32_873 k0_t68
  let c1_i32_1372 : BitVec 32 := 1#32
  let v4956 : BitVec 32 := Scalar.addi arg17 c1_i32_1372
  let v4957 : BitVec 32 := Scalar.subi v3052_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off197 (v3052_0 : BitVec 32) (k0_t68 : Fin (k0_t68_loop v3052_0).trips) (k0_t69 : Fin (k0_t69_loop v3052_0 k0_t68).trips) : Fin 1 → Nat :=
  let c0_i32_870 : BitVec 32 := 0#32
  let c1_i32_868 : BitVec 32 := 1#32
  let v3125 : BitVec 32 := Scalar.subi v3052_0 c1_i32_868
  let v3126 : BitVec 32 := Scalar.subi v3125 c0_i32_870
  let c1_i32_871 : BitVec 32 := 1#32
  let v3128 : BitVec 32 := Scalar.divsi v3126 c1_i32_871
  let v3129 : BitVec 32 := Scalar.muli v3128 c1_i32_871
  let v3130 : BitVec 32 := Scalar.addi c0_i32_870 v3129
  let c1_i32_873 : BitVec 32 := 1#32
  let arg17 : BitVec 32 := Scf.iv v3130 c1_i32_873 k0_t68
  let c1_i32_1372 : BitVec 32 := 1#32
  let v4956 : BitVec 32 := Scalar.addi arg17 c1_i32_1372
  let c1_i32_1375 : BitVec 32 := 1#32
  let arg18 : BitVec 32 := Scf.iv v4956 c1_i32_1375 k0_t69
  let v4962 : Index := Scalar.indexCast arg18
  ![v4962.toNat]
def k0_off198 (v4949 : BitVec 32) (v4991 : BitVec 32) : Fin 1 → Nat :=
  let c3520_i32 : BitVec 32 := 3520#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3520_i32 v5014
  let v5048 : Index := Scalar.indexCast v5015
  ![v5048.toNat]

def k0_off199 (v4949 : BitVec 32) (v4991 : BitVec 32) : Fin 1 → Nat :=
  let c3520_i32 : BitVec 32 := 3520#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3520_i32 v5014
  let c16_i32_1396 : BitVec 32 := 16#32
  let v5056 : BitVec 32 := Scalar.addi v5015 c16_i32_1396
  let v5057 : Index := Scalar.indexCast v5056
  ![v5057.toNat]

def k0_chk59 (v4949 : BitVec 32) (v4991 : BitVec 32) : Prop :=
  (∀ a, (k0_off198 v4949 v4991) a + S16.size a ≤ S6144.size a) ∧
  (∀ a, (k0_off199 v4949 v4991) a + S16.size a ≤ S6144.size a)
theorem k0_off198_inb : ∀ (v4949 : BitVec 32) (v4991 : BitVec 32) (k0_hw59 : k0_chk59 v4949 v4991), ∀ a, (k0_off198 v4949 v4991) a + S16.size a ≤ S6144.size a := fun v4949 v4991 k0_hw59 => k0_hw59.1
theorem k0_off199_inb : ∀ (v4949 : BitVec 32) (v4991 : BitVec 32) (k0_hw59 : k0_chk59 v4949 v4991), ∀ a, (k0_off199 v4949 v4991) a + S16.size a ≤ S6144.size a := fun v4949 v4991 k0_hw59 => k0_hw59.2

@[reducible] def k0_t70_loop (v3052_0 : BitVec 32) (k0_t68 : Fin (k0_t68_loop v3052_0).trips) : Scf.Loop 32 :=
  let c0_i32_870 : BitVec 32 := 0#32
  let c1_i32_868 : BitVec 32 := 1#32
  let v3125 : BitVec 32 := Scalar.subi v3052_0 c1_i32_868
  let v3126 : BitVec 32 := Scalar.subi v3125 c0_i32_870
  let c1_i32_871 : BitVec 32 := 1#32
  let v3128 : BitVec 32 := Scalar.divsi v3126 c1_i32_871
  let v3129 : BitVec 32 := Scalar.muli v3128 c1_i32_871
  let v3130 : BitVec 32 := Scalar.addi c0_i32_870 v3129
  let c1_i32_873 : BitVec 32 := 1#32
  let arg17 : BitVec 32 := Scf.iv v3130 c1_i32_873 k0_t68
  let c1_i32_1372 : BitVec 32 := 1#32
  let v4956 : BitVec 32 := Scalar.addi arg17 c1_i32_1372
  let v4957 : BitVec 32 := Scalar.subi v3052_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off200 (v3052_0 : BitVec 32) (k0_t68 : Fin (k0_t68_loop v3052_0).trips) (k0_t70 : Fin (k0_t70_loop v3052_0 k0_t68).trips) : Fin 1 → Nat :=
  let c0_i32_870 : BitVec 32 := 0#32
  let c1_i32_868 : BitVec 32 := 1#32
  let v3125 : BitVec 32 := Scalar.subi v3052_0 c1_i32_868
  let v3126 : BitVec 32 := Scalar.subi v3125 c0_i32_870
  let c1_i32_871 : BitVec 32 := 1#32
  let v3128 : BitVec 32 := Scalar.divsi v3126 c1_i32_871
  let v3129 : BitVec 32 := Scalar.muli v3128 c1_i32_871
  let v3130 : BitVec 32 := Scalar.addi c0_i32_870 v3129
  let c1_i32_873 : BitVec 32 := 1#32
  let arg17 : BitVec 32 := Scf.iv v3130 c1_i32_873 k0_t68
  let c1_i32_1372 : BitVec 32 := 1#32
  let v4956 : BitVec 32 := Scalar.addi arg17 c1_i32_1372
  let v4957 : BitVec 32 := Scalar.subi v3052_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t70
  let v4962 : Index := Scalar.indexCast arg18
  ![v4962.toNat]

def k0_chk56 (v3052_0 : BitVec 32) : Prop :=
  ((k0_t65_loop v3052_0).OK) ∧
  (∀ k0_t65 : Fin (k0_t65_loop v3052_0).trips, ∀ a, (k0_off189 v3052_0 k0_t65) a + S1.size a ≤ S40.size a) ∧
  (∀ k0_t65 : Fin (k0_t65_loop v3052_0).trips, (k0_t66_loop v3052_0 k0_t65).OK) ∧
  (∀ (k0_t65 : Fin (k0_t65_loop v3052_0).trips) (k0_t66 : Fin (k0_t66_loop v3052_0 k0_t65).trips), ∀ a, (k0_off190 v3052_0 k0_t65 k0_t66) a + S1.size a ≤ S40.size a) ∧
  (∀ k0_t65 : Fin (k0_t65_loop v3052_0).trips, (k0_t67_loop v3052_0 k0_t65).OK) ∧
  (∀ (k0_t65 : Fin (k0_t65_loop v3052_0).trips) (k0_t67 : Fin (k0_t67_loop v3052_0 k0_t65).trips), ∀ a, (k0_off193 v3052_0 k0_t65 k0_t67) a + S1.size a ≤ S40.size a) ∧
  ((k0_t68_loop v3052_0).OK) ∧
  (∀ k0_t68 : Fin (k0_t68_loop v3052_0).trips, ∀ a, (k0_off196 v3052_0 k0_t68) a + S1.size a ≤ S40.size a) ∧
  (∀ k0_t68 : Fin (k0_t68_loop v3052_0).trips, (k0_t69_loop v3052_0 k0_t68).OK) ∧
  (∀ (k0_t68 : Fin (k0_t68_loop v3052_0).trips) (k0_t69 : Fin (k0_t69_loop v3052_0 k0_t68).trips), ∀ a, (k0_off197 v3052_0 k0_t68 k0_t69) a + S1.size a ≤ S40.size a) ∧
  (∀ k0_t68 : Fin (k0_t68_loop v3052_0).trips, (k0_t70_loop v3052_0 k0_t68).OK) ∧
  (∀ (k0_t68 : Fin (k0_t68_loop v3052_0).trips) (k0_t70 : Fin (k0_t70_loop v3052_0 k0_t68).trips), ∀ a, (k0_off200 v3052_0 k0_t68 k0_t70) a + S1.size a ≤ S40.size a)
theorem k0_t65_ok : ∀ (v3052_0 : BitVec 32) (k0_hw56 : k0_chk56 v3052_0), (k0_t65_loop v3052_0).OK := fun v3052_0 k0_hw56 => k0_hw56.1
theorem k0_off189_inb : ∀ (v3052_0 : BitVec 32) (k0_hw56 : k0_chk56 v3052_0) (k0_t65 : Fin (k0_t65_loop v3052_0).trips), ∀ a, (k0_off189 v3052_0 k0_t65) a + S1.size a ≤ S40.size a := fun v3052_0 k0_hw56 k0_t65 => k0_hw56.2.1 k0_t65
theorem k0_t66_ok : ∀ (v3052_0 : BitVec 32) (k0_hw56 : k0_chk56 v3052_0) (k0_t65 : Fin (k0_t65_loop v3052_0).trips), (k0_t66_loop v3052_0 k0_t65).OK := fun v3052_0 k0_hw56 k0_t65 => k0_hw56.2.2.1 k0_t65
theorem k0_off190_inb : ∀ (v3052_0 : BitVec 32) (k0_hw56 : k0_chk56 v3052_0) (k0_t65 : Fin (k0_t65_loop v3052_0).trips) (k0_t66 : Fin (k0_t66_loop v3052_0 k0_t65).trips), ∀ a, (k0_off190 v3052_0 k0_t65 k0_t66) a + S1.size a ≤ S40.size a := fun v3052_0 k0_hw56 k0_t65 k0_t66 => k0_hw56.2.2.2.1 k0_t65 k0_t66
theorem k0_t67_ok : ∀ (v3052_0 : BitVec 32) (k0_hw56 : k0_chk56 v3052_0) (k0_t65 : Fin (k0_t65_loop v3052_0).trips), (k0_t67_loop v3052_0 k0_t65).OK := fun v3052_0 k0_hw56 k0_t65 => k0_hw56.2.2.2.2.1 k0_t65
theorem k0_off193_inb : ∀ (v3052_0 : BitVec 32) (k0_hw56 : k0_chk56 v3052_0) (k0_t65 : Fin (k0_t65_loop v3052_0).trips) (k0_t67 : Fin (k0_t67_loop v3052_0 k0_t65).trips), ∀ a, (k0_off193 v3052_0 k0_t65 k0_t67) a + S1.size a ≤ S40.size a := fun v3052_0 k0_hw56 k0_t65 k0_t67 => k0_hw56.2.2.2.2.2.1 k0_t65 k0_t67
theorem k0_t68_ok : ∀ (v3052_0 : BitVec 32) (k0_hw56 : k0_chk56 v3052_0), (k0_t68_loop v3052_0).OK := fun v3052_0 k0_hw56 => k0_hw56.2.2.2.2.2.2.1
theorem k0_off196_inb : ∀ (v3052_0 : BitVec 32) (k0_hw56 : k0_chk56 v3052_0) (k0_t68 : Fin (k0_t68_loop v3052_0).trips), ∀ a, (k0_off196 v3052_0 k0_t68) a + S1.size a ≤ S40.size a := fun v3052_0 k0_hw56 k0_t68 => k0_hw56.2.2.2.2.2.2.2.1 k0_t68
theorem k0_t69_ok : ∀ (v3052_0 : BitVec 32) (k0_hw56 : k0_chk56 v3052_0) (k0_t68 : Fin (k0_t68_loop v3052_0).trips), (k0_t69_loop v3052_0 k0_t68).OK := fun v3052_0 k0_hw56 k0_t68 => k0_hw56.2.2.2.2.2.2.2.2.1 k0_t68
theorem k0_off197_inb : ∀ (v3052_0 : BitVec 32) (k0_hw56 : k0_chk56 v3052_0) (k0_t68 : Fin (k0_t68_loop v3052_0).trips) (k0_t69 : Fin (k0_t69_loop v3052_0 k0_t68).trips), ∀ a, (k0_off197 v3052_0 k0_t68 k0_t69) a + S1.size a ≤ S40.size a := fun v3052_0 k0_hw56 k0_t68 k0_t69 => k0_hw56.2.2.2.2.2.2.2.2.2.1 k0_t68 k0_t69
theorem k0_t70_ok : ∀ (v3052_0 : BitVec 32) (k0_hw56 : k0_chk56 v3052_0) (k0_t68 : Fin (k0_t68_loop v3052_0).trips), (k0_t70_loop v3052_0 k0_t68).OK := fun v3052_0 k0_hw56 k0_t68 => k0_hw56.2.2.2.2.2.2.2.2.2.2.1 k0_t68
theorem k0_off200_inb : ∀ (v3052_0 : BitVec 32) (k0_hw56 : k0_chk56 v3052_0) (k0_t68 : Fin (k0_t68_loop v3052_0).trips) (k0_t70 : Fin (k0_t70_loop v3052_0 k0_t68).trips), ∀ a, (k0_off200 v3052_0 k0_t68 k0_t70) a + S1.size a ≤ S40.size a := fun v3052_0 k0_hw56 k0_t68 k0_t70 => k0_hw56.2.2.2.2.2.2.2.2.2.2.2 k0_t68 k0_t70

def k0_off201 (v4949 : BitVec 32) (v4991 : BitVec 32) : Fin 1 → Nat :=
  let c3520_i32 : BitVec 32 := 3520#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3520_i32 v5014
  let v5048 : Index := Scalar.indexCast v5015
  ![v5048.toNat]

def k0_off202 (v4949 : BitVec 32) (v4991 : BitVec 32) : Fin 1 → Nat :=
  let c3520_i32 : BitVec 32 := 3520#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3520_i32 v5014
  let c16_i32_1396 : BitVec 32 := 16#32
  let v5056 : BitVec 32 := Scalar.addi v5015 c16_i32_1396
  let v5057 : Index := Scalar.indexCast v5056
  ![v5057.toNat]

def k0_chk60 (v4949 : BitVec 32) (v4991 : BitVec 32) : Prop :=
  (∀ a, (k0_off201 v4949 v4991) a + S16.size a ≤ S6144.size a) ∧
  (∀ a, (k0_off202 v4949 v4991) a + S16.size a ≤ S6144.size a)
theorem k0_off201_inb : ∀ (v4949 : BitVec 32) (v4991 : BitVec 32) (k0_hw60 : k0_chk60 v4949 v4991), ∀ a, (k0_off201 v4949 v4991) a + S16.size a ≤ S6144.size a := fun v4949 v4991 k0_hw60 => k0_hw60.1
theorem k0_off202_inb : ∀ (v4949 : BitVec 32) (v4991 : BitVec 32) (k0_hw60 : k0_chk60 v4949 v4991), ∀ a, (k0_off202 v4949 v4991) a + S16.size a ≤ S6144.size a := fun v4949 v4991 k0_hw60 => k0_hw60.2

def k0_off203 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c10_i32 : BitVec 32 := 10#32
  let v3131 : BitVec 32 := Scalar.addi v29 c10_i32
  let v3132 : Index := Scalar.indexCast v3131
  ![v3132.toNat]
def k0_off204 (i : grid0.Coords) (c32_i32_874 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c10_i32 : BitVec 32 := 10#32
  let v3131 : BitVec 32 := Scalar.addi v29 c10_i32
  let v3137 : BitVec 32 := Scalar.addi c32_i32_874 v3131
  let v3138 : Index := Scalar.indexCast v3137
  ![v3138.toNat]
@[reducible] def k0_t71_loop : Scf.Loop 32 :=
  let c0_i32_947 : BitVec 32 := 0#32
  let c32_i32_948 : BitVec 32 := 32#32
  let v3353 : BitVec 32 := Scalar.addi c0_i32_947 c32_i32_948
  let c1_i32_949 : BitVec 32 := 1#32
  ⟨c0_i32_947, v3353, c1_i32_949⟩
def k0_off205 (k0_t71 : Fin k0_t71_loop.trips) : Fin 1 → Nat :=
  let c0_i32_947 : BitVec 32 := 0#32
  let c1_i32_949 : BitVec 32 := 1#32
  let arg17 : BitVec 32 := Scf.iv c0_i32_947 c1_i32_949 k0_t71
  let v4944 : Index := Scalar.indexCast arg17
  ![v4944.toNat]
def k0_off206 (arg18 : BitVec 32) : Fin 1 → Nat :=
  let v4988 : Index := Scalar.indexCast arg18
  ![v4988.toNat]
def k0_cond11 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk61 (arg18 : BitVec 32) (v4984 : BitVec 1) : Prop :=
  (∀ (k0_h11 : k0_cond11 v4984 = 1#1), ∀ a, (k0_off206 arg18) a + S1.size a ≤ S40.size a)
theorem k0_off206_inb : ∀ (arg18 : BitVec 32) (v4984 : BitVec 1) (k0_hw61 : k0_chk61 arg18 v4984), ∀ (k0_h11 : k0_cond11 v4984 = 1#1), ∀ a, (k0_off206 arg18) a + S1.size a ≤ S40.size a := fun arg18 v4984 k0_hw61 k0_h11 => k0_hw61 k0_h11

def k0_off207 (k0_t71 : Fin k0_t71_loop.trips) : Fin 1 → Nat :=
  let c0_i32_947 : BitVec 32 := 0#32
  let c1_i32_949 : BitVec 32 := 1#32
  let arg17 : BitVec 32 := Scf.iv c0_i32_947 c1_i32_949 k0_t71
  let v4994 : Index := Scalar.indexCast arg17
  ![v4994.toNat]
def k0_off208 (k0_t71 : Fin k0_t71_loop.trips) (c32_i32_1379 : BitVec 32) : Fin 1 → Nat :=
  let c0_i32_947 : BitVec 32 := 0#32
  let c1_i32_949 : BitVec 32 := 1#32
  let arg17 : BitVec 32 := Scf.iv c0_i32_947 c1_i32_949 k0_t71
  let v5002 : BitVec 32 := Scalar.addi c32_i32_1379 arg17
  let v5003 : Index := Scalar.indexCast v5002
  ![v5003.toNat]
@[reducible] def k0_t72_loop (v3354_0 : BitVec 32) : Scf.Loop 32 :=
  let c0_i32_953 : BitVec 32 := 0#32
  let c1_i32_951 : BitVec 32 := 1#32
  let v3427 : BitVec 32 := Scalar.subi v3354_0 c1_i32_951
  let v3428 : BitVec 32 := Scalar.subi v3427 c0_i32_953
  let c1_i32_954 : BitVec 32 := 1#32
  let v3430 : BitVec 32 := Scalar.divsi v3428 c1_i32_954
  let v3431 : BitVec 32 := Scalar.muli v3430 c1_i32_954
  let v3432 : BitVec 32 := Scalar.addi c0_i32_953 v3431
  let c1_i32_955 : BitVec 32 := 1#32
  ⟨c0_i32_953, v3432, c1_i32_955⟩

def k0_off209 (v3354_0 : BitVec 32) (k0_t72 : Fin (k0_t72_loop v3354_0).trips) : Fin 1 → Nat :=
  let c0_i32_953 : BitVec 32 := 0#32
  let c1_i32_955 : BitVec 32 := 1#32
  let arg17 : BitVec 32 := Scf.iv c0_i32_953 c1_i32_955 k0_t72
  let v4944 : Index := Scalar.indexCast arg17
  ![v4944.toNat]
@[reducible] def k0_t73_loop (v3354_0 : BitVec 32) (k0_t72 : Fin (k0_t72_loop v3354_0).trips) : Scf.Loop 32 :=
  let c0_i32_953 : BitVec 32 := 0#32
  let c1_i32_955 : BitVec 32 := 1#32
  let arg17 : BitVec 32 := Scf.iv c0_i32_953 c1_i32_955 k0_t72
  let c1_i32_1372 : BitVec 32 := 1#32
  let v4956 : BitVec 32 := Scalar.addi arg17 c1_i32_1372
  let v4957 : BitVec 32 := Scalar.subi v3354_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off210 (v3354_0 : BitVec 32) (k0_t72 : Fin (k0_t72_loop v3354_0).trips) (k0_t73 : Fin (k0_t73_loop v3354_0 k0_t72).trips) : Fin 1 → Nat :=
  let c0_i32_953 : BitVec 32 := 0#32
  let c1_i32_955 : BitVec 32 := 1#32
  let arg17 : BitVec 32 := Scf.iv c0_i32_953 c1_i32_955 k0_t72
  let c1_i32_1372 : BitVec 32 := 1#32
  let v4956 : BitVec 32 := Scalar.addi arg17 c1_i32_1372
  let c1_i32_1375 : BitVec 32 := 1#32
  let arg18 : BitVec 32 := Scf.iv v4956 c1_i32_1375 k0_t73
  let v4962 : Index := Scalar.indexCast arg18
  ![v4962.toNat]
def k0_off211 (v4949 : BitVec 32) (v4991 : BitVec 32) : Fin 1 → Nat :=
  let c3904_i32 : BitVec 32 := 3904#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3904_i32 v5014
  let v5048 : Index := Scalar.indexCast v5015
  ![v5048.toNat]

def k0_off212 (v4949 : BitVec 32) (v4991 : BitVec 32) : Fin 1 → Nat :=
  let c3904_i32 : BitVec 32 := 3904#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3904_i32 v5014
  let c16_i32_1396 : BitVec 32 := 16#32
  let v5056 : BitVec 32 := Scalar.addi v5015 c16_i32_1396
  let v5057 : Index := Scalar.indexCast v5056
  ![v5057.toNat]

def k0_chk63 (v4949 : BitVec 32) (v4991 : BitVec 32) : Prop :=
  (∀ a, (k0_off211 v4949 v4991) a + S16.size a ≤ S6144.size a) ∧
  (∀ a, (k0_off212 v4949 v4991) a + S16.size a ≤ S6144.size a)
theorem k0_off211_inb : ∀ (v4949 : BitVec 32) (v4991 : BitVec 32) (k0_hw63 : k0_chk63 v4949 v4991), ∀ a, (k0_off211 v4949 v4991) a + S16.size a ≤ S6144.size a := fun v4949 v4991 k0_hw63 => k0_hw63.1
theorem k0_off212_inb : ∀ (v4949 : BitVec 32) (v4991 : BitVec 32) (k0_hw63 : k0_chk63 v4949 v4991), ∀ a, (k0_off212 v4949 v4991) a + S16.size a ≤ S6144.size a := fun v4949 v4991 k0_hw63 => k0_hw63.2

@[reducible] def k0_t74_loop (v3354_0 : BitVec 32) (k0_t72 : Fin (k0_t72_loop v3354_0).trips) : Scf.Loop 32 :=
  let c0_i32_953 : BitVec 32 := 0#32
  let c1_i32_955 : BitVec 32 := 1#32
  let arg17 : BitVec 32 := Scf.iv c0_i32_953 c1_i32_955 k0_t72
  let c1_i32_1372 : BitVec 32 := 1#32
  let v4956 : BitVec 32 := Scalar.addi arg17 c1_i32_1372
  let v4957 : BitVec 32 := Scalar.subi v3354_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off213 (v3354_0 : BitVec 32) (k0_t72 : Fin (k0_t72_loop v3354_0).trips) (k0_t74 : Fin (k0_t74_loop v3354_0 k0_t72).trips) : Fin 1 → Nat :=
  let c0_i32_953 : BitVec 32 := 0#32
  let c1_i32_955 : BitVec 32 := 1#32
  let arg17 : BitVec 32 := Scf.iv c0_i32_953 c1_i32_955 k0_t72
  let c1_i32_1372 : BitVec 32 := 1#32
  let v4956 : BitVec 32 := Scalar.addi arg17 c1_i32_1372
  let v4957 : BitVec 32 := Scalar.subi v3354_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t74
  let v4962 : Index := Scalar.indexCast arg18
  ![v4962.toNat]
def k0_off214 (v4949 : BitVec 32) (v4991 : BitVec 32) : Fin 1 → Nat :=
  let c3904_i32 : BitVec 32 := 3904#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3904_i32 v5014
  let v5048 : Index := Scalar.indexCast v5015
  ![v5048.toNat]

def k0_off215 (v4949 : BitVec 32) (v4991 : BitVec 32) : Fin 1 → Nat :=
  let c3904_i32 : BitVec 32 := 3904#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3904_i32 v5014
  let c16_i32_1396 : BitVec 32 := 16#32
  let v5056 : BitVec 32 := Scalar.addi v5015 c16_i32_1396
  let v5057 : Index := Scalar.indexCast v5056
  ![v5057.toNat]

def k0_chk64 (v4949 : BitVec 32) (v4991 : BitVec 32) : Prop :=
  (∀ a, (k0_off214 v4949 v4991) a + S16.size a ≤ S6144.size a) ∧
  (∀ a, (k0_off215 v4949 v4991) a + S16.size a ≤ S6144.size a)
theorem k0_off214_inb : ∀ (v4949 : BitVec 32) (v4991 : BitVec 32) (k0_hw64 : k0_chk64 v4949 v4991), ∀ a, (k0_off214 v4949 v4991) a + S16.size a ≤ S6144.size a := fun v4949 v4991 k0_hw64 => k0_hw64.1
theorem k0_off215_inb : ∀ (v4949 : BitVec 32) (v4991 : BitVec 32) (k0_hw64 : k0_chk64 v4949 v4991), ∀ a, (k0_off215 v4949 v4991) a + S16.size a ≤ S6144.size a := fun v4949 v4991 k0_hw64 => k0_hw64.2

@[reducible] def k0_t75_loop (v3354_0 : BitVec 32) : Scf.Loop 32 :=
  let c0_i32_953 : BitVec 32 := 0#32
  let c1_i32_951 : BitVec 32 := 1#32
  let v3427 : BitVec 32 := Scalar.subi v3354_0 c1_i32_951
  let v3428 : BitVec 32 := Scalar.subi v3427 c0_i32_953
  let c1_i32_954 : BitVec 32 := 1#32
  let v3430 : BitVec 32 := Scalar.divsi v3428 c1_i32_954
  let v3431 : BitVec 32 := Scalar.muli v3430 c1_i32_954
  let v3432 : BitVec 32 := Scalar.addi c0_i32_953 v3431
  let v3429 : BitVec 32 := Scalar.addi c0_i32_953 v3428
  let c1_i32_956 : BitVec 32 := 1#32
  ⟨v3432, v3429, c1_i32_956⟩
def k0_off216 (v3354_0 : BitVec 32) (k0_t75 : Fin (k0_t75_loop v3354_0).trips) : Fin 1 → Nat :=
  let c0_i32_953 : BitVec 32 := 0#32
  let c1_i32_951 : BitVec 32 := 1#32
  let v3427 : BitVec 32 := Scalar.subi v3354_0 c1_i32_951
  let v3428 : BitVec 32 := Scalar.subi v3427 c0_i32_953
  let c1_i32_954 : BitVec 32 := 1#32
  let v3430 : BitVec 32 := Scalar.divsi v3428 c1_i32_954
  let v3431 : BitVec 32 := Scalar.muli v3430 c1_i32_954
  let v3432 : BitVec 32 := Scalar.addi c0_i32_953 v3431
  let c1_i32_956 : BitVec 32 := 1#32
  let arg17 : BitVec 32 := Scf.iv v3432 c1_i32_956 k0_t75
  let v4944 : Index := Scalar.indexCast arg17
  ![v4944.toNat]
@[reducible] def k0_t76_loop (v3354_0 : BitVec 32) (k0_t75 : Fin (k0_t75_loop v3354_0).trips) : Scf.Loop 32 :=
  let c0_i32_953 : BitVec 32 := 0#32
  let c1_i32_951 : BitVec 32 := 1#32
  let v3427 : BitVec 32 := Scalar.subi v3354_0 c1_i32_951
  let v3428 : BitVec 32 := Scalar.subi v3427 c0_i32_953
  let c1_i32_954 : BitVec 32 := 1#32
  let v3430 : BitVec 32 := Scalar.divsi v3428 c1_i32_954
  let v3431 : BitVec 32 := Scalar.muli v3430 c1_i32_954
  let v3432 : BitVec 32 := Scalar.addi c0_i32_953 v3431
  let c1_i32_956 : BitVec 32 := 1#32
  let arg17 : BitVec 32 := Scf.iv v3432 c1_i32_956 k0_t75
  let c1_i32_1372 : BitVec 32 := 1#32
  let v4956 : BitVec 32 := Scalar.addi arg17 c1_i32_1372
  let v4957 : BitVec 32 := Scalar.subi v3354_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off217 (v3354_0 : BitVec 32) (k0_t75 : Fin (k0_t75_loop v3354_0).trips) (k0_t76 : Fin (k0_t76_loop v3354_0 k0_t75).trips) : Fin 1 → Nat :=
  let c0_i32_953 : BitVec 32 := 0#32
  let c1_i32_951 : BitVec 32 := 1#32
  let v3427 : BitVec 32 := Scalar.subi v3354_0 c1_i32_951
  let v3428 : BitVec 32 := Scalar.subi v3427 c0_i32_953
  let c1_i32_954 : BitVec 32 := 1#32
  let v3430 : BitVec 32 := Scalar.divsi v3428 c1_i32_954
  let v3431 : BitVec 32 := Scalar.muli v3430 c1_i32_954
  let v3432 : BitVec 32 := Scalar.addi c0_i32_953 v3431
  let c1_i32_956 : BitVec 32 := 1#32
  let arg17 : BitVec 32 := Scf.iv v3432 c1_i32_956 k0_t75
  let c1_i32_1372 : BitVec 32 := 1#32
  let v4956 : BitVec 32 := Scalar.addi arg17 c1_i32_1372
  let c1_i32_1375 : BitVec 32 := 1#32
  let arg18 : BitVec 32 := Scf.iv v4956 c1_i32_1375 k0_t76
  let v4962 : Index := Scalar.indexCast arg18
  ![v4962.toNat]
def k0_off218 (v4949 : BitVec 32) (v4991 : BitVec 32) : Fin 1 → Nat :=
  let c3904_i32 : BitVec 32 := 3904#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3904_i32 v5014
  let v5048 : Index := Scalar.indexCast v5015
  ![v5048.toNat]

def k0_off219 (v4949 : BitVec 32) (v4991 : BitVec 32) : Fin 1 → Nat :=
  let c3904_i32 : BitVec 32 := 3904#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3904_i32 v5014
  let c16_i32_1396 : BitVec 32 := 16#32
  let v5056 : BitVec 32 := Scalar.addi v5015 c16_i32_1396
  let v5057 : Index := Scalar.indexCast v5056
  ![v5057.toNat]

def k0_chk65 (v4949 : BitVec 32) (v4991 : BitVec 32) : Prop :=
  (∀ a, (k0_off218 v4949 v4991) a + S16.size a ≤ S6144.size a) ∧
  (∀ a, (k0_off219 v4949 v4991) a + S16.size a ≤ S6144.size a)
theorem k0_off218_inb : ∀ (v4949 : BitVec 32) (v4991 : BitVec 32) (k0_hw65 : k0_chk65 v4949 v4991), ∀ a, (k0_off218 v4949 v4991) a + S16.size a ≤ S6144.size a := fun v4949 v4991 k0_hw65 => k0_hw65.1
theorem k0_off219_inb : ∀ (v4949 : BitVec 32) (v4991 : BitVec 32) (k0_hw65 : k0_chk65 v4949 v4991), ∀ a, (k0_off219 v4949 v4991) a + S16.size a ≤ S6144.size a := fun v4949 v4991 k0_hw65 => k0_hw65.2

@[reducible] def k0_t77_loop (v3354_0 : BitVec 32) (k0_t75 : Fin (k0_t75_loop v3354_0).trips) : Scf.Loop 32 :=
  let c0_i32_953 : BitVec 32 := 0#32
  let c1_i32_951 : BitVec 32 := 1#32
  let v3427 : BitVec 32 := Scalar.subi v3354_0 c1_i32_951
  let v3428 : BitVec 32 := Scalar.subi v3427 c0_i32_953
  let c1_i32_954 : BitVec 32 := 1#32
  let v3430 : BitVec 32 := Scalar.divsi v3428 c1_i32_954
  let v3431 : BitVec 32 := Scalar.muli v3430 c1_i32_954
  let v3432 : BitVec 32 := Scalar.addi c0_i32_953 v3431
  let c1_i32_956 : BitVec 32 := 1#32
  let arg17 : BitVec 32 := Scf.iv v3432 c1_i32_956 k0_t75
  let c1_i32_1372 : BitVec 32 := 1#32
  let v4956 : BitVec 32 := Scalar.addi arg17 c1_i32_1372
  let v4957 : BitVec 32 := Scalar.subi v3354_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off220 (v3354_0 : BitVec 32) (k0_t75 : Fin (k0_t75_loop v3354_0).trips) (k0_t77 : Fin (k0_t77_loop v3354_0 k0_t75).trips) : Fin 1 → Nat :=
  let c0_i32_953 : BitVec 32 := 0#32
  let c1_i32_951 : BitVec 32 := 1#32
  let v3427 : BitVec 32 := Scalar.subi v3354_0 c1_i32_951
  let v3428 : BitVec 32 := Scalar.subi v3427 c0_i32_953
  let c1_i32_954 : BitVec 32 := 1#32
  let v3430 : BitVec 32 := Scalar.divsi v3428 c1_i32_954
  let v3431 : BitVec 32 := Scalar.muli v3430 c1_i32_954
  let v3432 : BitVec 32 := Scalar.addi c0_i32_953 v3431
  let c1_i32_956 : BitVec 32 := 1#32
  let arg17 : BitVec 32 := Scf.iv v3432 c1_i32_956 k0_t75
  let c1_i32_1372 : BitVec 32 := 1#32
  let v4956 : BitVec 32 := Scalar.addi arg17 c1_i32_1372
  let v4957 : BitVec 32 := Scalar.subi v3354_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t77
  let v4962 : Index := Scalar.indexCast arg18
  ![v4962.toNat]

def k0_chk62 (v3354_0 : BitVec 32) : Prop :=
  ((k0_t72_loop v3354_0).OK) ∧
  (∀ k0_t72 : Fin (k0_t72_loop v3354_0).trips, ∀ a, (k0_off209 v3354_0 k0_t72) a + S1.size a ≤ S40.size a) ∧
  (∀ k0_t72 : Fin (k0_t72_loop v3354_0).trips, (k0_t73_loop v3354_0 k0_t72).OK) ∧
  (∀ (k0_t72 : Fin (k0_t72_loop v3354_0).trips) (k0_t73 : Fin (k0_t73_loop v3354_0 k0_t72).trips), ∀ a, (k0_off210 v3354_0 k0_t72 k0_t73) a + S1.size a ≤ S40.size a) ∧
  (∀ k0_t72 : Fin (k0_t72_loop v3354_0).trips, (k0_t74_loop v3354_0 k0_t72).OK) ∧
  (∀ (k0_t72 : Fin (k0_t72_loop v3354_0).trips) (k0_t74 : Fin (k0_t74_loop v3354_0 k0_t72).trips), ∀ a, (k0_off213 v3354_0 k0_t72 k0_t74) a + S1.size a ≤ S40.size a) ∧
  ((k0_t75_loop v3354_0).OK) ∧
  (∀ k0_t75 : Fin (k0_t75_loop v3354_0).trips, ∀ a, (k0_off216 v3354_0 k0_t75) a + S1.size a ≤ S40.size a) ∧
  (∀ k0_t75 : Fin (k0_t75_loop v3354_0).trips, (k0_t76_loop v3354_0 k0_t75).OK) ∧
  (∀ (k0_t75 : Fin (k0_t75_loop v3354_0).trips) (k0_t76 : Fin (k0_t76_loop v3354_0 k0_t75).trips), ∀ a, (k0_off217 v3354_0 k0_t75 k0_t76) a + S1.size a ≤ S40.size a) ∧
  (∀ k0_t75 : Fin (k0_t75_loop v3354_0).trips, (k0_t77_loop v3354_0 k0_t75).OK) ∧
  (∀ (k0_t75 : Fin (k0_t75_loop v3354_0).trips) (k0_t77 : Fin (k0_t77_loop v3354_0 k0_t75).trips), ∀ a, (k0_off220 v3354_0 k0_t75 k0_t77) a + S1.size a ≤ S40.size a)
theorem k0_t72_ok : ∀ (v3354_0 : BitVec 32) (k0_hw62 : k0_chk62 v3354_0), (k0_t72_loop v3354_0).OK := fun v3354_0 k0_hw62 => k0_hw62.1
theorem k0_off209_inb : ∀ (v3354_0 : BitVec 32) (k0_hw62 : k0_chk62 v3354_0) (k0_t72 : Fin (k0_t72_loop v3354_0).trips), ∀ a, (k0_off209 v3354_0 k0_t72) a + S1.size a ≤ S40.size a := fun v3354_0 k0_hw62 k0_t72 => k0_hw62.2.1 k0_t72
theorem k0_t73_ok : ∀ (v3354_0 : BitVec 32) (k0_hw62 : k0_chk62 v3354_0) (k0_t72 : Fin (k0_t72_loop v3354_0).trips), (k0_t73_loop v3354_0 k0_t72).OK := fun v3354_0 k0_hw62 k0_t72 => k0_hw62.2.2.1 k0_t72
theorem k0_off210_inb : ∀ (v3354_0 : BitVec 32) (k0_hw62 : k0_chk62 v3354_0) (k0_t72 : Fin (k0_t72_loop v3354_0).trips) (k0_t73 : Fin (k0_t73_loop v3354_0 k0_t72).trips), ∀ a, (k0_off210 v3354_0 k0_t72 k0_t73) a + S1.size a ≤ S40.size a := fun v3354_0 k0_hw62 k0_t72 k0_t73 => k0_hw62.2.2.2.1 k0_t72 k0_t73
theorem k0_t74_ok : ∀ (v3354_0 : BitVec 32) (k0_hw62 : k0_chk62 v3354_0) (k0_t72 : Fin (k0_t72_loop v3354_0).trips), (k0_t74_loop v3354_0 k0_t72).OK := fun v3354_0 k0_hw62 k0_t72 => k0_hw62.2.2.2.2.1 k0_t72
theorem k0_off213_inb : ∀ (v3354_0 : BitVec 32) (k0_hw62 : k0_chk62 v3354_0) (k0_t72 : Fin (k0_t72_loop v3354_0).trips) (k0_t74 : Fin (k0_t74_loop v3354_0 k0_t72).trips), ∀ a, (k0_off213 v3354_0 k0_t72 k0_t74) a + S1.size a ≤ S40.size a := fun v3354_0 k0_hw62 k0_t72 k0_t74 => k0_hw62.2.2.2.2.2.1 k0_t72 k0_t74
theorem k0_t75_ok : ∀ (v3354_0 : BitVec 32) (k0_hw62 : k0_chk62 v3354_0), (k0_t75_loop v3354_0).OK := fun v3354_0 k0_hw62 => k0_hw62.2.2.2.2.2.2.1
theorem k0_off216_inb : ∀ (v3354_0 : BitVec 32) (k0_hw62 : k0_chk62 v3354_0) (k0_t75 : Fin (k0_t75_loop v3354_0).trips), ∀ a, (k0_off216 v3354_0 k0_t75) a + S1.size a ≤ S40.size a := fun v3354_0 k0_hw62 k0_t75 => k0_hw62.2.2.2.2.2.2.2.1 k0_t75
theorem k0_t76_ok : ∀ (v3354_0 : BitVec 32) (k0_hw62 : k0_chk62 v3354_0) (k0_t75 : Fin (k0_t75_loop v3354_0).trips), (k0_t76_loop v3354_0 k0_t75).OK := fun v3354_0 k0_hw62 k0_t75 => k0_hw62.2.2.2.2.2.2.2.2.1 k0_t75
theorem k0_off217_inb : ∀ (v3354_0 : BitVec 32) (k0_hw62 : k0_chk62 v3354_0) (k0_t75 : Fin (k0_t75_loop v3354_0).trips) (k0_t76 : Fin (k0_t76_loop v3354_0 k0_t75).trips), ∀ a, (k0_off217 v3354_0 k0_t75 k0_t76) a + S1.size a ≤ S40.size a := fun v3354_0 k0_hw62 k0_t75 k0_t76 => k0_hw62.2.2.2.2.2.2.2.2.2.1 k0_t75 k0_t76
theorem k0_t77_ok : ∀ (v3354_0 : BitVec 32) (k0_hw62 : k0_chk62 v3354_0) (k0_t75 : Fin (k0_t75_loop v3354_0).trips), (k0_t77_loop v3354_0 k0_t75).OK := fun v3354_0 k0_hw62 k0_t75 => k0_hw62.2.2.2.2.2.2.2.2.2.2.1 k0_t75
theorem k0_off220_inb : ∀ (v3354_0 : BitVec 32) (k0_hw62 : k0_chk62 v3354_0) (k0_t75 : Fin (k0_t75_loop v3354_0).trips) (k0_t77 : Fin (k0_t77_loop v3354_0 k0_t75).trips), ∀ a, (k0_off220 v3354_0 k0_t75 k0_t77) a + S1.size a ≤ S40.size a := fun v3354_0 k0_hw62 k0_t75 k0_t77 => k0_hw62.2.2.2.2.2.2.2.2.2.2.2 k0_t75 k0_t77

def k0_off221 (v4949 : BitVec 32) (v4991 : BitVec 32) : Fin 1 → Nat :=
  let c3904_i32 : BitVec 32 := 3904#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3904_i32 v5014
  let v5048 : Index := Scalar.indexCast v5015
  ![v5048.toNat]

def k0_off222 (v4949 : BitVec 32) (v4991 : BitVec 32) : Fin 1 → Nat :=
  let c3904_i32 : BitVec 32 := 3904#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c3904_i32 v5014
  let c16_i32_1396 : BitVec 32 := 16#32
  let v5056 : BitVec 32 := Scalar.addi v5015 c16_i32_1396
  let v5057 : Index := Scalar.indexCast v5056
  ![v5057.toNat]

def k0_chk66 (v4949 : BitVec 32) (v4991 : BitVec 32) : Prop :=
  (∀ a, (k0_off221 v4949 v4991) a + S16.size a ≤ S6144.size a) ∧
  (∀ a, (k0_off222 v4949 v4991) a + S16.size a ≤ S6144.size a)
theorem k0_off221_inb : ∀ (v4949 : BitVec 32) (v4991 : BitVec 32) (k0_hw66 : k0_chk66 v4949 v4991), ∀ a, (k0_off221 v4949 v4991) a + S16.size a ≤ S6144.size a := fun v4949 v4991 k0_hw66 => k0_hw66.1
theorem k0_off222_inb : ∀ (v4949 : BitVec 32) (v4991 : BitVec 32) (k0_hw66 : k0_chk66 v4949 v4991), ∀ a, (k0_off222 v4949 v4991) a + S16.size a ≤ S6144.size a := fun v4949 v4991 k0_hw66 => k0_hw66.2

def k0_off223 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c11_i32 : BitVec 32 := 11#32
  let v3433 : BitVec 32 := Scalar.addi v29 c11_i32
  let v3434 : Index := Scalar.indexCast v3433
  ![v3434.toNat]
def k0_off224 (i : grid0.Coords) (c32_i32_957 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c11_i32 : BitVec 32 := 11#32
  let v3433 : BitVec 32 := Scalar.addi v29 c11_i32
  let v3439 : BitVec 32 := Scalar.addi c32_i32_957 v3433
  let v3440 : Index := Scalar.indexCast v3439
  ![v3440.toNat]
@[reducible] def k0_t78_loop : Scf.Loop 32 :=
  let c0_i32_1030 : BitVec 32 := 0#32
  let c32_i32_1031 : BitVec 32 := 32#32
  let v3655 : BitVec 32 := Scalar.addi c0_i32_1030 c32_i32_1031
  let c1_i32_1032 : BitVec 32 := 1#32
  ⟨c0_i32_1030, v3655, c1_i32_1032⟩
def k0_off225 (k0_t78 : Fin k0_t78_loop.trips) : Fin 1 → Nat :=
  let c0_i32_1030 : BitVec 32 := 0#32
  let c1_i32_1032 : BitVec 32 := 1#32
  let arg17 : BitVec 32 := Scf.iv c0_i32_1030 c1_i32_1032 k0_t78
  let v4944 : Index := Scalar.indexCast arg17
  ![v4944.toNat]
def k0_off226 (arg18 : BitVec 32) : Fin 1 → Nat :=
  let v4988 : Index := Scalar.indexCast arg18
  ![v4988.toNat]
def k0_cond12 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk67 (arg18 : BitVec 32) (v4984 : BitVec 1) : Prop :=
  (∀ (k0_h12 : k0_cond12 v4984 = 1#1), ∀ a, (k0_off226 arg18) a + S1.size a ≤ S40.size a)
theorem k0_off226_inb : ∀ (arg18 : BitVec 32) (v4984 : BitVec 1) (k0_hw67 : k0_chk67 arg18 v4984), ∀ (k0_h12 : k0_cond12 v4984 = 1#1), ∀ a, (k0_off226 arg18) a + S1.size a ≤ S40.size a := fun arg18 v4984 k0_hw67 k0_h12 => k0_hw67 k0_h12

def k0_off227 (k0_t78 : Fin k0_t78_loop.trips) : Fin 1 → Nat :=
  let c0_i32_1030 : BitVec 32 := 0#32
  let c1_i32_1032 : BitVec 32 := 1#32
  let arg17 : BitVec 32 := Scf.iv c0_i32_1030 c1_i32_1032 k0_t78
  let v4994 : Index := Scalar.indexCast arg17
  ![v4994.toNat]
def k0_off228 (k0_t78 : Fin k0_t78_loop.trips) (c32_i32_1379 : BitVec 32) : Fin 1 → Nat :=
  let c0_i32_1030 : BitVec 32 := 0#32
  let c1_i32_1032 : BitVec 32 := 1#32
  let arg17 : BitVec 32 := Scf.iv c0_i32_1030 c1_i32_1032 k0_t78
  let v5002 : BitVec 32 := Scalar.addi c32_i32_1379 arg17
  let v5003 : Index := Scalar.indexCast v5002
  ![v5003.toNat]
@[reducible] def k0_t79_loop (v3656_0 : BitVec 32) : Scf.Loop 32 :=
  let c0_i32_1036 : BitVec 32 := 0#32
  let c1_i32_1034 : BitVec 32 := 1#32
  let v3729 : BitVec 32 := Scalar.subi v3656_0 c1_i32_1034
  let v3730 : BitVec 32 := Scalar.subi v3729 c0_i32_1036
  let c1_i32_1037 : BitVec 32 := 1#32
  let v3732 : BitVec 32 := Scalar.divsi v3730 c1_i32_1037
  let v3733 : BitVec 32 := Scalar.muli v3732 c1_i32_1037
  let v3734 : BitVec 32 := Scalar.addi c0_i32_1036 v3733
  let c1_i32_1038 : BitVec 32 := 1#32
  ⟨c0_i32_1036, v3734, c1_i32_1038⟩

def k0_off229 (v3656_0 : BitVec 32) (k0_t79 : Fin (k0_t79_loop v3656_0).trips) : Fin 1 → Nat :=
  let c0_i32_1036 : BitVec 32 := 0#32
  let c1_i32_1038 : BitVec 32 := 1#32
  let arg17 : BitVec 32 := Scf.iv c0_i32_1036 c1_i32_1038 k0_t79
  let v4944 : Index := Scalar.indexCast arg17
  ![v4944.toNat]
@[reducible] def k0_t80_loop (v3656_0 : BitVec 32) (k0_t79 : Fin (k0_t79_loop v3656_0).trips) : Scf.Loop 32 :=
  let c0_i32_1036 : BitVec 32 := 0#32
  let c1_i32_1038 : BitVec 32 := 1#32
  let arg17 : BitVec 32 := Scf.iv c0_i32_1036 c1_i32_1038 k0_t79
  let c1_i32_1372 : BitVec 32 := 1#32
  let v4956 : BitVec 32 := Scalar.addi arg17 c1_i32_1372
  let v4957 : BitVec 32 := Scalar.subi v3656_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off230 (v3656_0 : BitVec 32) (k0_t79 : Fin (k0_t79_loop v3656_0).trips) (k0_t80 : Fin (k0_t80_loop v3656_0 k0_t79).trips) : Fin 1 → Nat :=
  let c0_i32_1036 : BitVec 32 := 0#32
  let c1_i32_1038 : BitVec 32 := 1#32
  let arg17 : BitVec 32 := Scf.iv c0_i32_1036 c1_i32_1038 k0_t79
  let c1_i32_1372 : BitVec 32 := 1#32
  let v4956 : BitVec 32 := Scalar.addi arg17 c1_i32_1372
  let c1_i32_1375 : BitVec 32 := 1#32
  let arg18 : BitVec 32 := Scf.iv v4956 c1_i32_1375 k0_t80
  let v4962 : Index := Scalar.indexCast arg18
  ![v4962.toNat]
def k0_off231 (v4949 : BitVec 32) (v4991 : BitVec 32) : Fin 1 → Nat :=
  let c4288_i32 : BitVec 32 := 4288#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4288_i32 v5014
  let v5048 : Index := Scalar.indexCast v5015
  ![v5048.toNat]

def k0_off232 (v4949 : BitVec 32) (v4991 : BitVec 32) : Fin 1 → Nat :=
  let c4288_i32 : BitVec 32 := 4288#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4288_i32 v5014
  let c16_i32_1396 : BitVec 32 := 16#32
  let v5056 : BitVec 32 := Scalar.addi v5015 c16_i32_1396
  let v5057 : Index := Scalar.indexCast v5056
  ![v5057.toNat]

def k0_chk69 (v4949 : BitVec 32) (v4991 : BitVec 32) : Prop :=
  (∀ a, (k0_off231 v4949 v4991) a + S16.size a ≤ S6144.size a) ∧
  (∀ a, (k0_off232 v4949 v4991) a + S16.size a ≤ S6144.size a)
theorem k0_off231_inb : ∀ (v4949 : BitVec 32) (v4991 : BitVec 32) (k0_hw69 : k0_chk69 v4949 v4991), ∀ a, (k0_off231 v4949 v4991) a + S16.size a ≤ S6144.size a := fun v4949 v4991 k0_hw69 => k0_hw69.1
theorem k0_off232_inb : ∀ (v4949 : BitVec 32) (v4991 : BitVec 32) (k0_hw69 : k0_chk69 v4949 v4991), ∀ a, (k0_off232 v4949 v4991) a + S16.size a ≤ S6144.size a := fun v4949 v4991 k0_hw69 => k0_hw69.2

@[reducible] def k0_t81_loop (v3656_0 : BitVec 32) (k0_t79 : Fin (k0_t79_loop v3656_0).trips) : Scf.Loop 32 :=
  let c0_i32_1036 : BitVec 32 := 0#32
  let c1_i32_1038 : BitVec 32 := 1#32
  let arg17 : BitVec 32 := Scf.iv c0_i32_1036 c1_i32_1038 k0_t79
  let c1_i32_1372 : BitVec 32 := 1#32
  let v4956 : BitVec 32 := Scalar.addi arg17 c1_i32_1372
  let v4957 : BitVec 32 := Scalar.subi v3656_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off233 (v3656_0 : BitVec 32) (k0_t79 : Fin (k0_t79_loop v3656_0).trips) (k0_t81 : Fin (k0_t81_loop v3656_0 k0_t79).trips) : Fin 1 → Nat :=
  let c0_i32_1036 : BitVec 32 := 0#32
  let c1_i32_1038 : BitVec 32 := 1#32
  let arg17 : BitVec 32 := Scf.iv c0_i32_1036 c1_i32_1038 k0_t79
  let c1_i32_1372 : BitVec 32 := 1#32
  let v4956 : BitVec 32 := Scalar.addi arg17 c1_i32_1372
  let v4957 : BitVec 32 := Scalar.subi v3656_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t81
  let v4962 : Index := Scalar.indexCast arg18
  ![v4962.toNat]
def k0_off234 (v4949 : BitVec 32) (v4991 : BitVec 32) : Fin 1 → Nat :=
  let c4288_i32 : BitVec 32 := 4288#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4288_i32 v5014
  let v5048 : Index := Scalar.indexCast v5015
  ![v5048.toNat]

def k0_off235 (v4949 : BitVec 32) (v4991 : BitVec 32) : Fin 1 → Nat :=
  let c4288_i32 : BitVec 32 := 4288#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4288_i32 v5014
  let c16_i32_1396 : BitVec 32 := 16#32
  let v5056 : BitVec 32 := Scalar.addi v5015 c16_i32_1396
  let v5057 : Index := Scalar.indexCast v5056
  ![v5057.toNat]

def k0_chk70 (v4949 : BitVec 32) (v4991 : BitVec 32) : Prop :=
  (∀ a, (k0_off234 v4949 v4991) a + S16.size a ≤ S6144.size a) ∧
  (∀ a, (k0_off235 v4949 v4991) a + S16.size a ≤ S6144.size a)
theorem k0_off234_inb : ∀ (v4949 : BitVec 32) (v4991 : BitVec 32) (k0_hw70 : k0_chk70 v4949 v4991), ∀ a, (k0_off234 v4949 v4991) a + S16.size a ≤ S6144.size a := fun v4949 v4991 k0_hw70 => k0_hw70.1
theorem k0_off235_inb : ∀ (v4949 : BitVec 32) (v4991 : BitVec 32) (k0_hw70 : k0_chk70 v4949 v4991), ∀ a, (k0_off235 v4949 v4991) a + S16.size a ≤ S6144.size a := fun v4949 v4991 k0_hw70 => k0_hw70.2

@[reducible] def k0_t82_loop (v3656_0 : BitVec 32) : Scf.Loop 32 :=
  let c0_i32_1036 : BitVec 32 := 0#32
  let c1_i32_1034 : BitVec 32 := 1#32
  let v3729 : BitVec 32 := Scalar.subi v3656_0 c1_i32_1034
  let v3730 : BitVec 32 := Scalar.subi v3729 c0_i32_1036
  let c1_i32_1037 : BitVec 32 := 1#32
  let v3732 : BitVec 32 := Scalar.divsi v3730 c1_i32_1037
  let v3733 : BitVec 32 := Scalar.muli v3732 c1_i32_1037
  let v3734 : BitVec 32 := Scalar.addi c0_i32_1036 v3733
  let v3731 : BitVec 32 := Scalar.addi c0_i32_1036 v3730
  let c1_i32_1039 : BitVec 32 := 1#32
  ⟨v3734, v3731, c1_i32_1039⟩
def k0_off236 (v3656_0 : BitVec 32) (k0_t82 : Fin (k0_t82_loop v3656_0).trips) : Fin 1 → Nat :=
  let c0_i32_1036 : BitVec 32 := 0#32
  let c1_i32_1034 : BitVec 32 := 1#32
  let v3729 : BitVec 32 := Scalar.subi v3656_0 c1_i32_1034
  let v3730 : BitVec 32 := Scalar.subi v3729 c0_i32_1036
  let c1_i32_1037 : BitVec 32 := 1#32
  let v3732 : BitVec 32 := Scalar.divsi v3730 c1_i32_1037
  let v3733 : BitVec 32 := Scalar.muli v3732 c1_i32_1037
  let v3734 : BitVec 32 := Scalar.addi c0_i32_1036 v3733
  let c1_i32_1039 : BitVec 32 := 1#32
  let arg17 : BitVec 32 := Scf.iv v3734 c1_i32_1039 k0_t82
  let v4944 : Index := Scalar.indexCast arg17
  ![v4944.toNat]
@[reducible] def k0_t83_loop (v3656_0 : BitVec 32) (k0_t82 : Fin (k0_t82_loop v3656_0).trips) : Scf.Loop 32 :=
  let c0_i32_1036 : BitVec 32 := 0#32
  let c1_i32_1034 : BitVec 32 := 1#32
  let v3729 : BitVec 32 := Scalar.subi v3656_0 c1_i32_1034
  let v3730 : BitVec 32 := Scalar.subi v3729 c0_i32_1036
  let c1_i32_1037 : BitVec 32 := 1#32
  let v3732 : BitVec 32 := Scalar.divsi v3730 c1_i32_1037
  let v3733 : BitVec 32 := Scalar.muli v3732 c1_i32_1037
  let v3734 : BitVec 32 := Scalar.addi c0_i32_1036 v3733
  let c1_i32_1039 : BitVec 32 := 1#32
  let arg17 : BitVec 32 := Scf.iv v3734 c1_i32_1039 k0_t82
  let c1_i32_1372 : BitVec 32 := 1#32
  let v4956 : BitVec 32 := Scalar.addi arg17 c1_i32_1372
  let v4957 : BitVec 32 := Scalar.subi v3656_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off237 (v3656_0 : BitVec 32) (k0_t82 : Fin (k0_t82_loop v3656_0).trips) (k0_t83 : Fin (k0_t83_loop v3656_0 k0_t82).trips) : Fin 1 → Nat :=
  let c0_i32_1036 : BitVec 32 := 0#32
  let c1_i32_1034 : BitVec 32 := 1#32
  let v3729 : BitVec 32 := Scalar.subi v3656_0 c1_i32_1034
  let v3730 : BitVec 32 := Scalar.subi v3729 c0_i32_1036
  let c1_i32_1037 : BitVec 32 := 1#32
  let v3732 : BitVec 32 := Scalar.divsi v3730 c1_i32_1037
  let v3733 : BitVec 32 := Scalar.muli v3732 c1_i32_1037
  let v3734 : BitVec 32 := Scalar.addi c0_i32_1036 v3733
  let c1_i32_1039 : BitVec 32 := 1#32
  let arg17 : BitVec 32 := Scf.iv v3734 c1_i32_1039 k0_t82
  let c1_i32_1372 : BitVec 32 := 1#32
  let v4956 : BitVec 32 := Scalar.addi arg17 c1_i32_1372
  let c1_i32_1375 : BitVec 32 := 1#32
  let arg18 : BitVec 32 := Scf.iv v4956 c1_i32_1375 k0_t83
  let v4962 : Index := Scalar.indexCast arg18
  ![v4962.toNat]
def k0_off238 (v4949 : BitVec 32) (v4991 : BitVec 32) : Fin 1 → Nat :=
  let c4288_i32 : BitVec 32 := 4288#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4288_i32 v5014
  let v5048 : Index := Scalar.indexCast v5015
  ![v5048.toNat]

def k0_off239 (v4949 : BitVec 32) (v4991 : BitVec 32) : Fin 1 → Nat :=
  let c4288_i32 : BitVec 32 := 4288#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4288_i32 v5014
  let c16_i32_1396 : BitVec 32 := 16#32
  let v5056 : BitVec 32 := Scalar.addi v5015 c16_i32_1396
  let v5057 : Index := Scalar.indexCast v5056
  ![v5057.toNat]

def k0_chk71 (v4949 : BitVec 32) (v4991 : BitVec 32) : Prop :=
  (∀ a, (k0_off238 v4949 v4991) a + S16.size a ≤ S6144.size a) ∧
  (∀ a, (k0_off239 v4949 v4991) a + S16.size a ≤ S6144.size a)
theorem k0_off238_inb : ∀ (v4949 : BitVec 32) (v4991 : BitVec 32) (k0_hw71 : k0_chk71 v4949 v4991), ∀ a, (k0_off238 v4949 v4991) a + S16.size a ≤ S6144.size a := fun v4949 v4991 k0_hw71 => k0_hw71.1
theorem k0_off239_inb : ∀ (v4949 : BitVec 32) (v4991 : BitVec 32) (k0_hw71 : k0_chk71 v4949 v4991), ∀ a, (k0_off239 v4949 v4991) a + S16.size a ≤ S6144.size a := fun v4949 v4991 k0_hw71 => k0_hw71.2

@[reducible] def k0_t84_loop (v3656_0 : BitVec 32) (k0_t82 : Fin (k0_t82_loop v3656_0).trips) : Scf.Loop 32 :=
  let c0_i32_1036 : BitVec 32 := 0#32
  let c1_i32_1034 : BitVec 32 := 1#32
  let v3729 : BitVec 32 := Scalar.subi v3656_0 c1_i32_1034
  let v3730 : BitVec 32 := Scalar.subi v3729 c0_i32_1036
  let c1_i32_1037 : BitVec 32 := 1#32
  let v3732 : BitVec 32 := Scalar.divsi v3730 c1_i32_1037
  let v3733 : BitVec 32 := Scalar.muli v3732 c1_i32_1037
  let v3734 : BitVec 32 := Scalar.addi c0_i32_1036 v3733
  let c1_i32_1039 : BitVec 32 := 1#32
  let arg17 : BitVec 32 := Scf.iv v3734 c1_i32_1039 k0_t82
  let c1_i32_1372 : BitVec 32 := 1#32
  let v4956 : BitVec 32 := Scalar.addi arg17 c1_i32_1372
  let v4957 : BitVec 32 := Scalar.subi v3656_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off240 (v3656_0 : BitVec 32) (k0_t82 : Fin (k0_t82_loop v3656_0).trips) (k0_t84 : Fin (k0_t84_loop v3656_0 k0_t82).trips) : Fin 1 → Nat :=
  let c0_i32_1036 : BitVec 32 := 0#32
  let c1_i32_1034 : BitVec 32 := 1#32
  let v3729 : BitVec 32 := Scalar.subi v3656_0 c1_i32_1034
  let v3730 : BitVec 32 := Scalar.subi v3729 c0_i32_1036
  let c1_i32_1037 : BitVec 32 := 1#32
  let v3732 : BitVec 32 := Scalar.divsi v3730 c1_i32_1037
  let v3733 : BitVec 32 := Scalar.muli v3732 c1_i32_1037
  let v3734 : BitVec 32 := Scalar.addi c0_i32_1036 v3733
  let c1_i32_1039 : BitVec 32 := 1#32
  let arg17 : BitVec 32 := Scf.iv v3734 c1_i32_1039 k0_t82
  let c1_i32_1372 : BitVec 32 := 1#32
  let v4956 : BitVec 32 := Scalar.addi arg17 c1_i32_1372
  let v4957 : BitVec 32 := Scalar.subi v3656_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t84
  let v4962 : Index := Scalar.indexCast arg18
  ![v4962.toNat]

def k0_chk68 (v3656_0 : BitVec 32) : Prop :=
  ((k0_t79_loop v3656_0).OK) ∧
  (∀ k0_t79 : Fin (k0_t79_loop v3656_0).trips, ∀ a, (k0_off229 v3656_0 k0_t79) a + S1.size a ≤ S40.size a) ∧
  (∀ k0_t79 : Fin (k0_t79_loop v3656_0).trips, (k0_t80_loop v3656_0 k0_t79).OK) ∧
  (∀ (k0_t79 : Fin (k0_t79_loop v3656_0).trips) (k0_t80 : Fin (k0_t80_loop v3656_0 k0_t79).trips), ∀ a, (k0_off230 v3656_0 k0_t79 k0_t80) a + S1.size a ≤ S40.size a) ∧
  (∀ k0_t79 : Fin (k0_t79_loop v3656_0).trips, (k0_t81_loop v3656_0 k0_t79).OK) ∧
  (∀ (k0_t79 : Fin (k0_t79_loop v3656_0).trips) (k0_t81 : Fin (k0_t81_loop v3656_0 k0_t79).trips), ∀ a, (k0_off233 v3656_0 k0_t79 k0_t81) a + S1.size a ≤ S40.size a) ∧
  ((k0_t82_loop v3656_0).OK) ∧
  (∀ k0_t82 : Fin (k0_t82_loop v3656_0).trips, ∀ a, (k0_off236 v3656_0 k0_t82) a + S1.size a ≤ S40.size a) ∧
  (∀ k0_t82 : Fin (k0_t82_loop v3656_0).trips, (k0_t83_loop v3656_0 k0_t82).OK) ∧
  (∀ (k0_t82 : Fin (k0_t82_loop v3656_0).trips) (k0_t83 : Fin (k0_t83_loop v3656_0 k0_t82).trips), ∀ a, (k0_off237 v3656_0 k0_t82 k0_t83) a + S1.size a ≤ S40.size a) ∧
  (∀ k0_t82 : Fin (k0_t82_loop v3656_0).trips, (k0_t84_loop v3656_0 k0_t82).OK) ∧
  (∀ (k0_t82 : Fin (k0_t82_loop v3656_0).trips) (k0_t84 : Fin (k0_t84_loop v3656_0 k0_t82).trips), ∀ a, (k0_off240 v3656_0 k0_t82 k0_t84) a + S1.size a ≤ S40.size a)
theorem k0_t79_ok : ∀ (v3656_0 : BitVec 32) (k0_hw68 : k0_chk68 v3656_0), (k0_t79_loop v3656_0).OK := fun v3656_0 k0_hw68 => k0_hw68.1
theorem k0_off229_inb : ∀ (v3656_0 : BitVec 32) (k0_hw68 : k0_chk68 v3656_0) (k0_t79 : Fin (k0_t79_loop v3656_0).trips), ∀ a, (k0_off229 v3656_0 k0_t79) a + S1.size a ≤ S40.size a := fun v3656_0 k0_hw68 k0_t79 => k0_hw68.2.1 k0_t79
theorem k0_t80_ok : ∀ (v3656_0 : BitVec 32) (k0_hw68 : k0_chk68 v3656_0) (k0_t79 : Fin (k0_t79_loop v3656_0).trips), (k0_t80_loop v3656_0 k0_t79).OK := fun v3656_0 k0_hw68 k0_t79 => k0_hw68.2.2.1 k0_t79
theorem k0_off230_inb : ∀ (v3656_0 : BitVec 32) (k0_hw68 : k0_chk68 v3656_0) (k0_t79 : Fin (k0_t79_loop v3656_0).trips) (k0_t80 : Fin (k0_t80_loop v3656_0 k0_t79).trips), ∀ a, (k0_off230 v3656_0 k0_t79 k0_t80) a + S1.size a ≤ S40.size a := fun v3656_0 k0_hw68 k0_t79 k0_t80 => k0_hw68.2.2.2.1 k0_t79 k0_t80
theorem k0_t81_ok : ∀ (v3656_0 : BitVec 32) (k0_hw68 : k0_chk68 v3656_0) (k0_t79 : Fin (k0_t79_loop v3656_0).trips), (k0_t81_loop v3656_0 k0_t79).OK := fun v3656_0 k0_hw68 k0_t79 => k0_hw68.2.2.2.2.1 k0_t79
theorem k0_off233_inb : ∀ (v3656_0 : BitVec 32) (k0_hw68 : k0_chk68 v3656_0) (k0_t79 : Fin (k0_t79_loop v3656_0).trips) (k0_t81 : Fin (k0_t81_loop v3656_0 k0_t79).trips), ∀ a, (k0_off233 v3656_0 k0_t79 k0_t81) a + S1.size a ≤ S40.size a := fun v3656_0 k0_hw68 k0_t79 k0_t81 => k0_hw68.2.2.2.2.2.1 k0_t79 k0_t81
theorem k0_t82_ok : ∀ (v3656_0 : BitVec 32) (k0_hw68 : k0_chk68 v3656_0), (k0_t82_loop v3656_0).OK := fun v3656_0 k0_hw68 => k0_hw68.2.2.2.2.2.2.1
theorem k0_off236_inb : ∀ (v3656_0 : BitVec 32) (k0_hw68 : k0_chk68 v3656_0) (k0_t82 : Fin (k0_t82_loop v3656_0).trips), ∀ a, (k0_off236 v3656_0 k0_t82) a + S1.size a ≤ S40.size a := fun v3656_0 k0_hw68 k0_t82 => k0_hw68.2.2.2.2.2.2.2.1 k0_t82
theorem k0_t83_ok : ∀ (v3656_0 : BitVec 32) (k0_hw68 : k0_chk68 v3656_0) (k0_t82 : Fin (k0_t82_loop v3656_0).trips), (k0_t83_loop v3656_0 k0_t82).OK := fun v3656_0 k0_hw68 k0_t82 => k0_hw68.2.2.2.2.2.2.2.2.1 k0_t82
theorem k0_off237_inb : ∀ (v3656_0 : BitVec 32) (k0_hw68 : k0_chk68 v3656_0) (k0_t82 : Fin (k0_t82_loop v3656_0).trips) (k0_t83 : Fin (k0_t83_loop v3656_0 k0_t82).trips), ∀ a, (k0_off237 v3656_0 k0_t82 k0_t83) a + S1.size a ≤ S40.size a := fun v3656_0 k0_hw68 k0_t82 k0_t83 => k0_hw68.2.2.2.2.2.2.2.2.2.1 k0_t82 k0_t83
theorem k0_t84_ok : ∀ (v3656_0 : BitVec 32) (k0_hw68 : k0_chk68 v3656_0) (k0_t82 : Fin (k0_t82_loop v3656_0).trips), (k0_t84_loop v3656_0 k0_t82).OK := fun v3656_0 k0_hw68 k0_t82 => k0_hw68.2.2.2.2.2.2.2.2.2.2.1 k0_t82
theorem k0_off240_inb : ∀ (v3656_0 : BitVec 32) (k0_hw68 : k0_chk68 v3656_0) (k0_t82 : Fin (k0_t82_loop v3656_0).trips) (k0_t84 : Fin (k0_t84_loop v3656_0 k0_t82).trips), ∀ a, (k0_off240 v3656_0 k0_t82 k0_t84) a + S1.size a ≤ S40.size a := fun v3656_0 k0_hw68 k0_t82 k0_t84 => k0_hw68.2.2.2.2.2.2.2.2.2.2.2 k0_t82 k0_t84

def k0_off241 (v4949 : BitVec 32) (v4991 : BitVec 32) : Fin 1 → Nat :=
  let c4288_i32 : BitVec 32 := 4288#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4288_i32 v5014
  let v5048 : Index := Scalar.indexCast v5015
  ![v5048.toNat]

def k0_off242 (v4949 : BitVec 32) (v4991 : BitVec 32) : Fin 1 → Nat :=
  let c4288_i32 : BitVec 32 := 4288#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4288_i32 v5014
  let c16_i32_1396 : BitVec 32 := 16#32
  let v5056 : BitVec 32 := Scalar.addi v5015 c16_i32_1396
  let v5057 : Index := Scalar.indexCast v5056
  ![v5057.toNat]

def k0_chk72 (v4949 : BitVec 32) (v4991 : BitVec 32) : Prop :=
  (∀ a, (k0_off241 v4949 v4991) a + S16.size a ≤ S6144.size a) ∧
  (∀ a, (k0_off242 v4949 v4991) a + S16.size a ≤ S6144.size a)
theorem k0_off241_inb : ∀ (v4949 : BitVec 32) (v4991 : BitVec 32) (k0_hw72 : k0_chk72 v4949 v4991), ∀ a, (k0_off241 v4949 v4991) a + S16.size a ≤ S6144.size a := fun v4949 v4991 k0_hw72 => k0_hw72.1
theorem k0_off242_inb : ∀ (v4949 : BitVec 32) (v4991 : BitVec 32) (k0_hw72 : k0_chk72 v4949 v4991), ∀ a, (k0_off242 v4949 v4991) a + S16.size a ≤ S6144.size a := fun v4949 v4991 k0_hw72 => k0_hw72.2

def k0_off243 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c12_i32 : BitVec 32 := 12#32
  let v3735 : BitVec 32 := Scalar.addi v29 c12_i32
  let v3736 : Index := Scalar.indexCast v3735
  ![v3736.toNat]
def k0_off244 (i : grid0.Coords) (c32_i32_1040 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c12_i32 : BitVec 32 := 12#32
  let v3735 : BitVec 32 := Scalar.addi v29 c12_i32
  let v3741 : BitVec 32 := Scalar.addi c32_i32_1040 v3735
  let v3742 : Index := Scalar.indexCast v3741
  ![v3742.toNat]
@[reducible] def k0_t85_loop : Scf.Loop 32 :=
  let c0_i32_1113 : BitVec 32 := 0#32
  let c32_i32_1114 : BitVec 32 := 32#32
  let v3957 : BitVec 32 := Scalar.addi c0_i32_1113 c32_i32_1114
  let c1_i32_1115 : BitVec 32 := 1#32
  ⟨c0_i32_1113, v3957, c1_i32_1115⟩
def k0_off245 (k0_t85 : Fin k0_t85_loop.trips) : Fin 1 → Nat :=
  let c0_i32_1113 : BitVec 32 := 0#32
  let c1_i32_1115 : BitVec 32 := 1#32
  let arg17 : BitVec 32 := Scf.iv c0_i32_1113 c1_i32_1115 k0_t85
  let v4944 : Index := Scalar.indexCast arg17
  ![v4944.toNat]
def k0_off246 (arg18 : BitVec 32) : Fin 1 → Nat :=
  let v4988 : Index := Scalar.indexCast arg18
  ![v4988.toNat]
def k0_cond13 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk73 (arg18 : BitVec 32) (v4984 : BitVec 1) : Prop :=
  (∀ (k0_h13 : k0_cond13 v4984 = 1#1), ∀ a, (k0_off246 arg18) a + S1.size a ≤ S40.size a)
theorem k0_off246_inb : ∀ (arg18 : BitVec 32) (v4984 : BitVec 1) (k0_hw73 : k0_chk73 arg18 v4984), ∀ (k0_h13 : k0_cond13 v4984 = 1#1), ∀ a, (k0_off246 arg18) a + S1.size a ≤ S40.size a := fun arg18 v4984 k0_hw73 k0_h13 => k0_hw73 k0_h13

def k0_off247 (k0_t85 : Fin k0_t85_loop.trips) : Fin 1 → Nat :=
  let c0_i32_1113 : BitVec 32 := 0#32
  let c1_i32_1115 : BitVec 32 := 1#32
  let arg17 : BitVec 32 := Scf.iv c0_i32_1113 c1_i32_1115 k0_t85
  let v4994 : Index := Scalar.indexCast arg17
  ![v4994.toNat]
def k0_off248 (k0_t85 : Fin k0_t85_loop.trips) (c32_i32_1379 : BitVec 32) : Fin 1 → Nat :=
  let c0_i32_1113 : BitVec 32 := 0#32
  let c1_i32_1115 : BitVec 32 := 1#32
  let arg17 : BitVec 32 := Scf.iv c0_i32_1113 c1_i32_1115 k0_t85
  let v5002 : BitVec 32 := Scalar.addi c32_i32_1379 arg17
  let v5003 : Index := Scalar.indexCast v5002
  ![v5003.toNat]
@[reducible] def k0_t86_loop (v3958_0 : BitVec 32) : Scf.Loop 32 :=
  let c0_i32_1119 : BitVec 32 := 0#32
  let c1_i32_1117 : BitVec 32 := 1#32
  let v4031 : BitVec 32 := Scalar.subi v3958_0 c1_i32_1117
  let v4032 : BitVec 32 := Scalar.subi v4031 c0_i32_1119
  let c1_i32_1120 : BitVec 32 := 1#32
  let v4034 : BitVec 32 := Scalar.divsi v4032 c1_i32_1120
  let v4035 : BitVec 32 := Scalar.muli v4034 c1_i32_1120
  let v4036 : BitVec 32 := Scalar.addi c0_i32_1119 v4035
  let c1_i32_1121 : BitVec 32 := 1#32
  ⟨c0_i32_1119, v4036, c1_i32_1121⟩

def k0_off249 (v3958_0 : BitVec 32) (k0_t86 : Fin (k0_t86_loop v3958_0).trips) : Fin 1 → Nat :=
  let c0_i32_1119 : BitVec 32 := 0#32
  let c1_i32_1121 : BitVec 32 := 1#32
  let arg17 : BitVec 32 := Scf.iv c0_i32_1119 c1_i32_1121 k0_t86
  let v4944 : Index := Scalar.indexCast arg17
  ![v4944.toNat]
@[reducible] def k0_t87_loop (v3958_0 : BitVec 32) (k0_t86 : Fin (k0_t86_loop v3958_0).trips) : Scf.Loop 32 :=
  let c0_i32_1119 : BitVec 32 := 0#32
  let c1_i32_1121 : BitVec 32 := 1#32
  let arg17 : BitVec 32 := Scf.iv c0_i32_1119 c1_i32_1121 k0_t86
  let c1_i32_1372 : BitVec 32 := 1#32
  let v4956 : BitVec 32 := Scalar.addi arg17 c1_i32_1372
  let v4957 : BitVec 32 := Scalar.subi v3958_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off250 (v3958_0 : BitVec 32) (k0_t86 : Fin (k0_t86_loop v3958_0).trips) (k0_t87 : Fin (k0_t87_loop v3958_0 k0_t86).trips) : Fin 1 → Nat :=
  let c0_i32_1119 : BitVec 32 := 0#32
  let c1_i32_1121 : BitVec 32 := 1#32
  let arg17 : BitVec 32 := Scf.iv c0_i32_1119 c1_i32_1121 k0_t86
  let c1_i32_1372 : BitVec 32 := 1#32
  let v4956 : BitVec 32 := Scalar.addi arg17 c1_i32_1372
  let c1_i32_1375 : BitVec 32 := 1#32
  let arg18 : BitVec 32 := Scf.iv v4956 c1_i32_1375 k0_t87
  let v4962 : Index := Scalar.indexCast arg18
  ![v4962.toNat]
def k0_off251 (v4949 : BitVec 32) (v4991 : BitVec 32) : Fin 1 → Nat :=
  let c4672_i32 : BitVec 32 := 4672#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4672_i32 v5014
  let v5048 : Index := Scalar.indexCast v5015
  ![v5048.toNat]

def k0_off252 (v4949 : BitVec 32) (v4991 : BitVec 32) : Fin 1 → Nat :=
  let c4672_i32 : BitVec 32 := 4672#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4672_i32 v5014
  let c16_i32_1396 : BitVec 32 := 16#32
  let v5056 : BitVec 32 := Scalar.addi v5015 c16_i32_1396
  let v5057 : Index := Scalar.indexCast v5056
  ![v5057.toNat]

def k0_chk75 (v4949 : BitVec 32) (v4991 : BitVec 32) : Prop :=
  (∀ a, (k0_off251 v4949 v4991) a + S16.size a ≤ S6144.size a) ∧
  (∀ a, (k0_off252 v4949 v4991) a + S16.size a ≤ S6144.size a)
theorem k0_off251_inb : ∀ (v4949 : BitVec 32) (v4991 : BitVec 32) (k0_hw75 : k0_chk75 v4949 v4991), ∀ a, (k0_off251 v4949 v4991) a + S16.size a ≤ S6144.size a := fun v4949 v4991 k0_hw75 => k0_hw75.1
theorem k0_off252_inb : ∀ (v4949 : BitVec 32) (v4991 : BitVec 32) (k0_hw75 : k0_chk75 v4949 v4991), ∀ a, (k0_off252 v4949 v4991) a + S16.size a ≤ S6144.size a := fun v4949 v4991 k0_hw75 => k0_hw75.2

@[reducible] def k0_t88_loop (v3958_0 : BitVec 32) (k0_t86 : Fin (k0_t86_loop v3958_0).trips) : Scf.Loop 32 :=
  let c0_i32_1119 : BitVec 32 := 0#32
  let c1_i32_1121 : BitVec 32 := 1#32
  let arg17 : BitVec 32 := Scf.iv c0_i32_1119 c1_i32_1121 k0_t86
  let c1_i32_1372 : BitVec 32 := 1#32
  let v4956 : BitVec 32 := Scalar.addi arg17 c1_i32_1372
  let v4957 : BitVec 32 := Scalar.subi v3958_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off253 (v3958_0 : BitVec 32) (k0_t86 : Fin (k0_t86_loop v3958_0).trips) (k0_t88 : Fin (k0_t88_loop v3958_0 k0_t86).trips) : Fin 1 → Nat :=
  let c0_i32_1119 : BitVec 32 := 0#32
  let c1_i32_1121 : BitVec 32 := 1#32
  let arg17 : BitVec 32 := Scf.iv c0_i32_1119 c1_i32_1121 k0_t86
  let c1_i32_1372 : BitVec 32 := 1#32
  let v4956 : BitVec 32 := Scalar.addi arg17 c1_i32_1372
  let v4957 : BitVec 32 := Scalar.subi v3958_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t88
  let v4962 : Index := Scalar.indexCast arg18
  ![v4962.toNat]
def k0_off254 (v4949 : BitVec 32) (v4991 : BitVec 32) : Fin 1 → Nat :=
  let c4672_i32 : BitVec 32 := 4672#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4672_i32 v5014
  let v5048 : Index := Scalar.indexCast v5015
  ![v5048.toNat]

def k0_off255 (v4949 : BitVec 32) (v4991 : BitVec 32) : Fin 1 → Nat :=
  let c4672_i32 : BitVec 32 := 4672#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4672_i32 v5014
  let c16_i32_1396 : BitVec 32 := 16#32
  let v5056 : BitVec 32 := Scalar.addi v5015 c16_i32_1396
  let v5057 : Index := Scalar.indexCast v5056
  ![v5057.toNat]

def k0_chk76 (v4949 : BitVec 32) (v4991 : BitVec 32) : Prop :=
  (∀ a, (k0_off254 v4949 v4991) a + S16.size a ≤ S6144.size a) ∧
  (∀ a, (k0_off255 v4949 v4991) a + S16.size a ≤ S6144.size a)
theorem k0_off254_inb : ∀ (v4949 : BitVec 32) (v4991 : BitVec 32) (k0_hw76 : k0_chk76 v4949 v4991), ∀ a, (k0_off254 v4949 v4991) a + S16.size a ≤ S6144.size a := fun v4949 v4991 k0_hw76 => k0_hw76.1
theorem k0_off255_inb : ∀ (v4949 : BitVec 32) (v4991 : BitVec 32) (k0_hw76 : k0_chk76 v4949 v4991), ∀ a, (k0_off255 v4949 v4991) a + S16.size a ≤ S6144.size a := fun v4949 v4991 k0_hw76 => k0_hw76.2

@[reducible] def k0_t89_loop (v3958_0 : BitVec 32) : Scf.Loop 32 :=
  let c0_i32_1119 : BitVec 32 := 0#32
  let c1_i32_1117 : BitVec 32 := 1#32
  let v4031 : BitVec 32 := Scalar.subi v3958_0 c1_i32_1117
  let v4032 : BitVec 32 := Scalar.subi v4031 c0_i32_1119
  let c1_i32_1120 : BitVec 32 := 1#32
  let v4034 : BitVec 32 := Scalar.divsi v4032 c1_i32_1120
  let v4035 : BitVec 32 := Scalar.muli v4034 c1_i32_1120
  let v4036 : BitVec 32 := Scalar.addi c0_i32_1119 v4035
  let v4033 : BitVec 32 := Scalar.addi c0_i32_1119 v4032
  let c1_i32_1122 : BitVec 32 := 1#32
  ⟨v4036, v4033, c1_i32_1122⟩
def k0_off256 (v3958_0 : BitVec 32) (k0_t89 : Fin (k0_t89_loop v3958_0).trips) : Fin 1 → Nat :=
  let c0_i32_1119 : BitVec 32 := 0#32
  let c1_i32_1117 : BitVec 32 := 1#32
  let v4031 : BitVec 32 := Scalar.subi v3958_0 c1_i32_1117
  let v4032 : BitVec 32 := Scalar.subi v4031 c0_i32_1119
  let c1_i32_1120 : BitVec 32 := 1#32
  let v4034 : BitVec 32 := Scalar.divsi v4032 c1_i32_1120
  let v4035 : BitVec 32 := Scalar.muli v4034 c1_i32_1120
  let v4036 : BitVec 32 := Scalar.addi c0_i32_1119 v4035
  let c1_i32_1122 : BitVec 32 := 1#32
  let arg17 : BitVec 32 := Scf.iv v4036 c1_i32_1122 k0_t89
  let v4944 : Index := Scalar.indexCast arg17
  ![v4944.toNat]
@[reducible] def k0_t90_loop (v3958_0 : BitVec 32) (k0_t89 : Fin (k0_t89_loop v3958_0).trips) : Scf.Loop 32 :=
  let c0_i32_1119 : BitVec 32 := 0#32
  let c1_i32_1117 : BitVec 32 := 1#32
  let v4031 : BitVec 32 := Scalar.subi v3958_0 c1_i32_1117
  let v4032 : BitVec 32 := Scalar.subi v4031 c0_i32_1119
  let c1_i32_1120 : BitVec 32 := 1#32
  let v4034 : BitVec 32 := Scalar.divsi v4032 c1_i32_1120
  let v4035 : BitVec 32 := Scalar.muli v4034 c1_i32_1120
  let v4036 : BitVec 32 := Scalar.addi c0_i32_1119 v4035
  let c1_i32_1122 : BitVec 32 := 1#32
  let arg17 : BitVec 32 := Scf.iv v4036 c1_i32_1122 k0_t89
  let c1_i32_1372 : BitVec 32 := 1#32
  let v4956 : BitVec 32 := Scalar.addi arg17 c1_i32_1372
  let v4957 : BitVec 32 := Scalar.subi v3958_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off257 (v3958_0 : BitVec 32) (k0_t89 : Fin (k0_t89_loop v3958_0).trips) (k0_t90 : Fin (k0_t90_loop v3958_0 k0_t89).trips) : Fin 1 → Nat :=
  let c0_i32_1119 : BitVec 32 := 0#32
  let c1_i32_1117 : BitVec 32 := 1#32
  let v4031 : BitVec 32 := Scalar.subi v3958_0 c1_i32_1117
  let v4032 : BitVec 32 := Scalar.subi v4031 c0_i32_1119
  let c1_i32_1120 : BitVec 32 := 1#32
  let v4034 : BitVec 32 := Scalar.divsi v4032 c1_i32_1120
  let v4035 : BitVec 32 := Scalar.muli v4034 c1_i32_1120
  let v4036 : BitVec 32 := Scalar.addi c0_i32_1119 v4035
  let c1_i32_1122 : BitVec 32 := 1#32
  let arg17 : BitVec 32 := Scf.iv v4036 c1_i32_1122 k0_t89
  let c1_i32_1372 : BitVec 32 := 1#32
  let v4956 : BitVec 32 := Scalar.addi arg17 c1_i32_1372
  let c1_i32_1375 : BitVec 32 := 1#32
  let arg18 : BitVec 32 := Scf.iv v4956 c1_i32_1375 k0_t90
  let v4962 : Index := Scalar.indexCast arg18
  ![v4962.toNat]
def k0_off258 (v4949 : BitVec 32) (v4991 : BitVec 32) : Fin 1 → Nat :=
  let c4672_i32 : BitVec 32 := 4672#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4672_i32 v5014
  let v5048 : Index := Scalar.indexCast v5015
  ![v5048.toNat]

def k0_off259 (v4949 : BitVec 32) (v4991 : BitVec 32) : Fin 1 → Nat :=
  let c4672_i32 : BitVec 32 := 4672#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4672_i32 v5014
  let c16_i32_1396 : BitVec 32 := 16#32
  let v5056 : BitVec 32 := Scalar.addi v5015 c16_i32_1396
  let v5057 : Index := Scalar.indexCast v5056
  ![v5057.toNat]

def k0_chk77 (v4949 : BitVec 32) (v4991 : BitVec 32) : Prop :=
  (∀ a, (k0_off258 v4949 v4991) a + S16.size a ≤ S6144.size a) ∧
  (∀ a, (k0_off259 v4949 v4991) a + S16.size a ≤ S6144.size a)
theorem k0_off258_inb : ∀ (v4949 : BitVec 32) (v4991 : BitVec 32) (k0_hw77 : k0_chk77 v4949 v4991), ∀ a, (k0_off258 v4949 v4991) a + S16.size a ≤ S6144.size a := fun v4949 v4991 k0_hw77 => k0_hw77.1
theorem k0_off259_inb : ∀ (v4949 : BitVec 32) (v4991 : BitVec 32) (k0_hw77 : k0_chk77 v4949 v4991), ∀ a, (k0_off259 v4949 v4991) a + S16.size a ≤ S6144.size a := fun v4949 v4991 k0_hw77 => k0_hw77.2

@[reducible] def k0_t91_loop (v3958_0 : BitVec 32) (k0_t89 : Fin (k0_t89_loop v3958_0).trips) : Scf.Loop 32 :=
  let c0_i32_1119 : BitVec 32 := 0#32
  let c1_i32_1117 : BitVec 32 := 1#32
  let v4031 : BitVec 32 := Scalar.subi v3958_0 c1_i32_1117
  let v4032 : BitVec 32 := Scalar.subi v4031 c0_i32_1119
  let c1_i32_1120 : BitVec 32 := 1#32
  let v4034 : BitVec 32 := Scalar.divsi v4032 c1_i32_1120
  let v4035 : BitVec 32 := Scalar.muli v4034 c1_i32_1120
  let v4036 : BitVec 32 := Scalar.addi c0_i32_1119 v4035
  let c1_i32_1122 : BitVec 32 := 1#32
  let arg17 : BitVec 32 := Scf.iv v4036 c1_i32_1122 k0_t89
  let c1_i32_1372 : BitVec 32 := 1#32
  let v4956 : BitVec 32 := Scalar.addi arg17 c1_i32_1372
  let v4957 : BitVec 32 := Scalar.subi v3958_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off260 (v3958_0 : BitVec 32) (k0_t89 : Fin (k0_t89_loop v3958_0).trips) (k0_t91 : Fin (k0_t91_loop v3958_0 k0_t89).trips) : Fin 1 → Nat :=
  let c0_i32_1119 : BitVec 32 := 0#32
  let c1_i32_1117 : BitVec 32 := 1#32
  let v4031 : BitVec 32 := Scalar.subi v3958_0 c1_i32_1117
  let v4032 : BitVec 32 := Scalar.subi v4031 c0_i32_1119
  let c1_i32_1120 : BitVec 32 := 1#32
  let v4034 : BitVec 32 := Scalar.divsi v4032 c1_i32_1120
  let v4035 : BitVec 32 := Scalar.muli v4034 c1_i32_1120
  let v4036 : BitVec 32 := Scalar.addi c0_i32_1119 v4035
  let c1_i32_1122 : BitVec 32 := 1#32
  let arg17 : BitVec 32 := Scf.iv v4036 c1_i32_1122 k0_t89
  let c1_i32_1372 : BitVec 32 := 1#32
  let v4956 : BitVec 32 := Scalar.addi arg17 c1_i32_1372
  let v4957 : BitVec 32 := Scalar.subi v3958_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t91
  let v4962 : Index := Scalar.indexCast arg18
  ![v4962.toNat]

def k0_chk74 (v3958_0 : BitVec 32) : Prop :=
  ((k0_t86_loop v3958_0).OK) ∧
  (∀ k0_t86 : Fin (k0_t86_loop v3958_0).trips, ∀ a, (k0_off249 v3958_0 k0_t86) a + S1.size a ≤ S40.size a) ∧
  (∀ k0_t86 : Fin (k0_t86_loop v3958_0).trips, (k0_t87_loop v3958_0 k0_t86).OK) ∧
  (∀ (k0_t86 : Fin (k0_t86_loop v3958_0).trips) (k0_t87 : Fin (k0_t87_loop v3958_0 k0_t86).trips), ∀ a, (k0_off250 v3958_0 k0_t86 k0_t87) a + S1.size a ≤ S40.size a) ∧
  (∀ k0_t86 : Fin (k0_t86_loop v3958_0).trips, (k0_t88_loop v3958_0 k0_t86).OK) ∧
  (∀ (k0_t86 : Fin (k0_t86_loop v3958_0).trips) (k0_t88 : Fin (k0_t88_loop v3958_0 k0_t86).trips), ∀ a, (k0_off253 v3958_0 k0_t86 k0_t88) a + S1.size a ≤ S40.size a) ∧
  ((k0_t89_loop v3958_0).OK) ∧
  (∀ k0_t89 : Fin (k0_t89_loop v3958_0).trips, ∀ a, (k0_off256 v3958_0 k0_t89) a + S1.size a ≤ S40.size a) ∧
  (∀ k0_t89 : Fin (k0_t89_loop v3958_0).trips, (k0_t90_loop v3958_0 k0_t89).OK) ∧
  (∀ (k0_t89 : Fin (k0_t89_loop v3958_0).trips) (k0_t90 : Fin (k0_t90_loop v3958_0 k0_t89).trips), ∀ a, (k0_off257 v3958_0 k0_t89 k0_t90) a + S1.size a ≤ S40.size a) ∧
  (∀ k0_t89 : Fin (k0_t89_loop v3958_0).trips, (k0_t91_loop v3958_0 k0_t89).OK) ∧
  (∀ (k0_t89 : Fin (k0_t89_loop v3958_0).trips) (k0_t91 : Fin (k0_t91_loop v3958_0 k0_t89).trips), ∀ a, (k0_off260 v3958_0 k0_t89 k0_t91) a + S1.size a ≤ S40.size a)
theorem k0_t86_ok : ∀ (v3958_0 : BitVec 32) (k0_hw74 : k0_chk74 v3958_0), (k0_t86_loop v3958_0).OK := fun v3958_0 k0_hw74 => k0_hw74.1
theorem k0_off249_inb : ∀ (v3958_0 : BitVec 32) (k0_hw74 : k0_chk74 v3958_0) (k0_t86 : Fin (k0_t86_loop v3958_0).trips), ∀ a, (k0_off249 v3958_0 k0_t86) a + S1.size a ≤ S40.size a := fun v3958_0 k0_hw74 k0_t86 => k0_hw74.2.1 k0_t86
theorem k0_t87_ok : ∀ (v3958_0 : BitVec 32) (k0_hw74 : k0_chk74 v3958_0) (k0_t86 : Fin (k0_t86_loop v3958_0).trips), (k0_t87_loop v3958_0 k0_t86).OK := fun v3958_0 k0_hw74 k0_t86 => k0_hw74.2.2.1 k0_t86
theorem k0_off250_inb : ∀ (v3958_0 : BitVec 32) (k0_hw74 : k0_chk74 v3958_0) (k0_t86 : Fin (k0_t86_loop v3958_0).trips) (k0_t87 : Fin (k0_t87_loop v3958_0 k0_t86).trips), ∀ a, (k0_off250 v3958_0 k0_t86 k0_t87) a + S1.size a ≤ S40.size a := fun v3958_0 k0_hw74 k0_t86 k0_t87 => k0_hw74.2.2.2.1 k0_t86 k0_t87
theorem k0_t88_ok : ∀ (v3958_0 : BitVec 32) (k0_hw74 : k0_chk74 v3958_0) (k0_t86 : Fin (k0_t86_loop v3958_0).trips), (k0_t88_loop v3958_0 k0_t86).OK := fun v3958_0 k0_hw74 k0_t86 => k0_hw74.2.2.2.2.1 k0_t86
theorem k0_off253_inb : ∀ (v3958_0 : BitVec 32) (k0_hw74 : k0_chk74 v3958_0) (k0_t86 : Fin (k0_t86_loop v3958_0).trips) (k0_t88 : Fin (k0_t88_loop v3958_0 k0_t86).trips), ∀ a, (k0_off253 v3958_0 k0_t86 k0_t88) a + S1.size a ≤ S40.size a := fun v3958_0 k0_hw74 k0_t86 k0_t88 => k0_hw74.2.2.2.2.2.1 k0_t86 k0_t88
theorem k0_t89_ok : ∀ (v3958_0 : BitVec 32) (k0_hw74 : k0_chk74 v3958_0), (k0_t89_loop v3958_0).OK := fun v3958_0 k0_hw74 => k0_hw74.2.2.2.2.2.2.1
theorem k0_off256_inb : ∀ (v3958_0 : BitVec 32) (k0_hw74 : k0_chk74 v3958_0) (k0_t89 : Fin (k0_t89_loop v3958_0).trips), ∀ a, (k0_off256 v3958_0 k0_t89) a + S1.size a ≤ S40.size a := fun v3958_0 k0_hw74 k0_t89 => k0_hw74.2.2.2.2.2.2.2.1 k0_t89
theorem k0_t90_ok : ∀ (v3958_0 : BitVec 32) (k0_hw74 : k0_chk74 v3958_0) (k0_t89 : Fin (k0_t89_loop v3958_0).trips), (k0_t90_loop v3958_0 k0_t89).OK := fun v3958_0 k0_hw74 k0_t89 => k0_hw74.2.2.2.2.2.2.2.2.1 k0_t89
theorem k0_off257_inb : ∀ (v3958_0 : BitVec 32) (k0_hw74 : k0_chk74 v3958_0) (k0_t89 : Fin (k0_t89_loop v3958_0).trips) (k0_t90 : Fin (k0_t90_loop v3958_0 k0_t89).trips), ∀ a, (k0_off257 v3958_0 k0_t89 k0_t90) a + S1.size a ≤ S40.size a := fun v3958_0 k0_hw74 k0_t89 k0_t90 => k0_hw74.2.2.2.2.2.2.2.2.2.1 k0_t89 k0_t90
theorem k0_t91_ok : ∀ (v3958_0 : BitVec 32) (k0_hw74 : k0_chk74 v3958_0) (k0_t89 : Fin (k0_t89_loop v3958_0).trips), (k0_t91_loop v3958_0 k0_t89).OK := fun v3958_0 k0_hw74 k0_t89 => k0_hw74.2.2.2.2.2.2.2.2.2.2.1 k0_t89
theorem k0_off260_inb : ∀ (v3958_0 : BitVec 32) (k0_hw74 : k0_chk74 v3958_0) (k0_t89 : Fin (k0_t89_loop v3958_0).trips) (k0_t91 : Fin (k0_t91_loop v3958_0 k0_t89).trips), ∀ a, (k0_off260 v3958_0 k0_t89 k0_t91) a + S1.size a ≤ S40.size a := fun v3958_0 k0_hw74 k0_t89 k0_t91 => k0_hw74.2.2.2.2.2.2.2.2.2.2.2 k0_t89 k0_t91

def k0_off261 (v4949 : BitVec 32) (v4991 : BitVec 32) : Fin 1 → Nat :=
  let c4672_i32 : BitVec 32 := 4672#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4672_i32 v5014
  let v5048 : Index := Scalar.indexCast v5015
  ![v5048.toNat]

def k0_off262 (v4949 : BitVec 32) (v4991 : BitVec 32) : Fin 1 → Nat :=
  let c4672_i32 : BitVec 32 := 4672#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c4672_i32 v5014
  let c16_i32_1396 : BitVec 32 := 16#32
  let v5056 : BitVec 32 := Scalar.addi v5015 c16_i32_1396
  let v5057 : Index := Scalar.indexCast v5056
  ![v5057.toNat]

def k0_chk78 (v4949 : BitVec 32) (v4991 : BitVec 32) : Prop :=
  (∀ a, (k0_off261 v4949 v4991) a + S16.size a ≤ S6144.size a) ∧
  (∀ a, (k0_off262 v4949 v4991) a + S16.size a ≤ S6144.size a)
theorem k0_off261_inb : ∀ (v4949 : BitVec 32) (v4991 : BitVec 32) (k0_hw78 : k0_chk78 v4949 v4991), ∀ a, (k0_off261 v4949 v4991) a + S16.size a ≤ S6144.size a := fun v4949 v4991 k0_hw78 => k0_hw78.1
theorem k0_off262_inb : ∀ (v4949 : BitVec 32) (v4991 : BitVec 32) (k0_hw78 : k0_chk78 v4949 v4991), ∀ a, (k0_off262 v4949 v4991) a + S16.size a ≤ S6144.size a := fun v4949 v4991 k0_hw78 => k0_hw78.2

def k0_off263 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c13_i32 : BitVec 32 := 13#32
  let v4037 : BitVec 32 := Scalar.addi v29 c13_i32
  let v4038 : Index := Scalar.indexCast v4037
  ![v4038.toNat]
def k0_off264 (i : grid0.Coords) (c32_i32_1123 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c13_i32 : BitVec 32 := 13#32
  let v4037 : BitVec 32 := Scalar.addi v29 c13_i32
  let v4043 : BitVec 32 := Scalar.addi c32_i32_1123 v4037
  let v4044 : Index := Scalar.indexCast v4043
  ![v4044.toNat]
@[reducible] def k0_t92_loop : Scf.Loop 32 :=
  let c0_i32_1196 : BitVec 32 := 0#32
  let c32_i32_1197 : BitVec 32 := 32#32
  let v4259 : BitVec 32 := Scalar.addi c0_i32_1196 c32_i32_1197
  let c1_i32_1198 : BitVec 32 := 1#32
  ⟨c0_i32_1196, v4259, c1_i32_1198⟩
def k0_off265 (k0_t92 : Fin k0_t92_loop.trips) : Fin 1 → Nat :=
  let c0_i32_1196 : BitVec 32 := 0#32
  let c1_i32_1198 : BitVec 32 := 1#32
  let arg17 : BitVec 32 := Scf.iv c0_i32_1196 c1_i32_1198 k0_t92
  let v4944 : Index := Scalar.indexCast arg17
  ![v4944.toNat]
def k0_off266 (arg18 : BitVec 32) : Fin 1 → Nat :=
  let v4988 : Index := Scalar.indexCast arg18
  ![v4988.toNat]
def k0_cond14 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk79 (arg18 : BitVec 32) (v4984 : BitVec 1) : Prop :=
  (∀ (k0_h14 : k0_cond14 v4984 = 1#1), ∀ a, (k0_off266 arg18) a + S1.size a ≤ S40.size a)
theorem k0_off266_inb : ∀ (arg18 : BitVec 32) (v4984 : BitVec 1) (k0_hw79 : k0_chk79 arg18 v4984), ∀ (k0_h14 : k0_cond14 v4984 = 1#1), ∀ a, (k0_off266 arg18) a + S1.size a ≤ S40.size a := fun arg18 v4984 k0_hw79 k0_h14 => k0_hw79 k0_h14

def k0_off267 (k0_t92 : Fin k0_t92_loop.trips) : Fin 1 → Nat :=
  let c0_i32_1196 : BitVec 32 := 0#32
  let c1_i32_1198 : BitVec 32 := 1#32
  let arg17 : BitVec 32 := Scf.iv c0_i32_1196 c1_i32_1198 k0_t92
  let v4994 : Index := Scalar.indexCast arg17
  ![v4994.toNat]
def k0_off268 (k0_t92 : Fin k0_t92_loop.trips) (c32_i32_1379 : BitVec 32) : Fin 1 → Nat :=
  let c0_i32_1196 : BitVec 32 := 0#32
  let c1_i32_1198 : BitVec 32 := 1#32
  let arg17 : BitVec 32 := Scf.iv c0_i32_1196 c1_i32_1198 k0_t92
  let v5002 : BitVec 32 := Scalar.addi c32_i32_1379 arg17
  let v5003 : Index := Scalar.indexCast v5002
  ![v5003.toNat]
@[reducible] def k0_t93_loop (v4260_0 : BitVec 32) : Scf.Loop 32 :=
  let c0_i32_1202 : BitVec 32 := 0#32
  let c1_i32_1200 : BitVec 32 := 1#32
  let v4333 : BitVec 32 := Scalar.subi v4260_0 c1_i32_1200
  let v4334 : BitVec 32 := Scalar.subi v4333 c0_i32_1202
  let c1_i32_1203 : BitVec 32 := 1#32
  let v4336 : BitVec 32 := Scalar.divsi v4334 c1_i32_1203
  let v4337 : BitVec 32 := Scalar.muli v4336 c1_i32_1203
  let v4338 : BitVec 32 := Scalar.addi c0_i32_1202 v4337
  let c1_i32_1204 : BitVec 32 := 1#32
  ⟨c0_i32_1202, v4338, c1_i32_1204⟩

def k0_off269 (v4260_0 : BitVec 32) (k0_t93 : Fin (k0_t93_loop v4260_0).trips) : Fin 1 → Nat :=
  let c0_i32_1202 : BitVec 32 := 0#32
  let c1_i32_1204 : BitVec 32 := 1#32
  let arg17 : BitVec 32 := Scf.iv c0_i32_1202 c1_i32_1204 k0_t93
  let v4944 : Index := Scalar.indexCast arg17
  ![v4944.toNat]
@[reducible] def k0_t94_loop (v4260_0 : BitVec 32) (k0_t93 : Fin (k0_t93_loop v4260_0).trips) : Scf.Loop 32 :=
  let c0_i32_1202 : BitVec 32 := 0#32
  let c1_i32_1204 : BitVec 32 := 1#32
  let arg17 : BitVec 32 := Scf.iv c0_i32_1202 c1_i32_1204 k0_t93
  let c1_i32_1372 : BitVec 32 := 1#32
  let v4956 : BitVec 32 := Scalar.addi arg17 c1_i32_1372
  let v4957 : BitVec 32 := Scalar.subi v4260_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off270 (v4260_0 : BitVec 32) (k0_t93 : Fin (k0_t93_loop v4260_0).trips) (k0_t94 : Fin (k0_t94_loop v4260_0 k0_t93).trips) : Fin 1 → Nat :=
  let c0_i32_1202 : BitVec 32 := 0#32
  let c1_i32_1204 : BitVec 32 := 1#32
  let arg17 : BitVec 32 := Scf.iv c0_i32_1202 c1_i32_1204 k0_t93
  let c1_i32_1372 : BitVec 32 := 1#32
  let v4956 : BitVec 32 := Scalar.addi arg17 c1_i32_1372
  let c1_i32_1375 : BitVec 32 := 1#32
  let arg18 : BitVec 32 := Scf.iv v4956 c1_i32_1375 k0_t94
  let v4962 : Index := Scalar.indexCast arg18
  ![v4962.toNat]
def k0_off271 (v4949 : BitVec 32) (v4991 : BitVec 32) : Fin 1 → Nat :=
  let c5056_i32 : BitVec 32 := 5056#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5056_i32 v5014
  let v5048 : Index := Scalar.indexCast v5015
  ![v5048.toNat]

def k0_off272 (v4949 : BitVec 32) (v4991 : BitVec 32) : Fin 1 → Nat :=
  let c5056_i32 : BitVec 32 := 5056#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5056_i32 v5014
  let c16_i32_1396 : BitVec 32 := 16#32
  let v5056 : BitVec 32 := Scalar.addi v5015 c16_i32_1396
  let v5057 : Index := Scalar.indexCast v5056
  ![v5057.toNat]

def k0_chk81 (v4949 : BitVec 32) (v4991 : BitVec 32) : Prop :=
  (∀ a, (k0_off271 v4949 v4991) a + S16.size a ≤ S6144.size a) ∧
  (∀ a, (k0_off272 v4949 v4991) a + S16.size a ≤ S6144.size a)
theorem k0_off271_inb : ∀ (v4949 : BitVec 32) (v4991 : BitVec 32) (k0_hw81 : k0_chk81 v4949 v4991), ∀ a, (k0_off271 v4949 v4991) a + S16.size a ≤ S6144.size a := fun v4949 v4991 k0_hw81 => k0_hw81.1
theorem k0_off272_inb : ∀ (v4949 : BitVec 32) (v4991 : BitVec 32) (k0_hw81 : k0_chk81 v4949 v4991), ∀ a, (k0_off272 v4949 v4991) a + S16.size a ≤ S6144.size a := fun v4949 v4991 k0_hw81 => k0_hw81.2

@[reducible] def k0_t95_loop (v4260_0 : BitVec 32) (k0_t93 : Fin (k0_t93_loop v4260_0).trips) : Scf.Loop 32 :=
  let c0_i32_1202 : BitVec 32 := 0#32
  let c1_i32_1204 : BitVec 32 := 1#32
  let arg17 : BitVec 32 := Scf.iv c0_i32_1202 c1_i32_1204 k0_t93
  let c1_i32_1372 : BitVec 32 := 1#32
  let v4956 : BitVec 32 := Scalar.addi arg17 c1_i32_1372
  let v4957 : BitVec 32 := Scalar.subi v4260_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off273 (v4260_0 : BitVec 32) (k0_t93 : Fin (k0_t93_loop v4260_0).trips) (k0_t95 : Fin (k0_t95_loop v4260_0 k0_t93).trips) : Fin 1 → Nat :=
  let c0_i32_1202 : BitVec 32 := 0#32
  let c1_i32_1204 : BitVec 32 := 1#32
  let arg17 : BitVec 32 := Scf.iv c0_i32_1202 c1_i32_1204 k0_t93
  let c1_i32_1372 : BitVec 32 := 1#32
  let v4956 : BitVec 32 := Scalar.addi arg17 c1_i32_1372
  let v4957 : BitVec 32 := Scalar.subi v4260_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t95
  let v4962 : Index := Scalar.indexCast arg18
  ![v4962.toNat]
def k0_off274 (v4949 : BitVec 32) (v4991 : BitVec 32) : Fin 1 → Nat :=
  let c5056_i32 : BitVec 32 := 5056#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5056_i32 v5014
  let v5048 : Index := Scalar.indexCast v5015
  ![v5048.toNat]

def k0_off275 (v4949 : BitVec 32) (v4991 : BitVec 32) : Fin 1 → Nat :=
  let c5056_i32 : BitVec 32 := 5056#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5056_i32 v5014
  let c16_i32_1396 : BitVec 32 := 16#32
  let v5056 : BitVec 32 := Scalar.addi v5015 c16_i32_1396
  let v5057 : Index := Scalar.indexCast v5056
  ![v5057.toNat]

def k0_chk82 (v4949 : BitVec 32) (v4991 : BitVec 32) : Prop :=
  (∀ a, (k0_off274 v4949 v4991) a + S16.size a ≤ S6144.size a) ∧
  (∀ a, (k0_off275 v4949 v4991) a + S16.size a ≤ S6144.size a)
theorem k0_off274_inb : ∀ (v4949 : BitVec 32) (v4991 : BitVec 32) (k0_hw82 : k0_chk82 v4949 v4991), ∀ a, (k0_off274 v4949 v4991) a + S16.size a ≤ S6144.size a := fun v4949 v4991 k0_hw82 => k0_hw82.1
theorem k0_off275_inb : ∀ (v4949 : BitVec 32) (v4991 : BitVec 32) (k0_hw82 : k0_chk82 v4949 v4991), ∀ a, (k0_off275 v4949 v4991) a + S16.size a ≤ S6144.size a := fun v4949 v4991 k0_hw82 => k0_hw82.2

@[reducible] def k0_t96_loop (v4260_0 : BitVec 32) : Scf.Loop 32 :=
  let c0_i32_1202 : BitVec 32 := 0#32
  let c1_i32_1200 : BitVec 32 := 1#32
  let v4333 : BitVec 32 := Scalar.subi v4260_0 c1_i32_1200
  let v4334 : BitVec 32 := Scalar.subi v4333 c0_i32_1202
  let c1_i32_1203 : BitVec 32 := 1#32
  let v4336 : BitVec 32 := Scalar.divsi v4334 c1_i32_1203
  let v4337 : BitVec 32 := Scalar.muli v4336 c1_i32_1203
  let v4338 : BitVec 32 := Scalar.addi c0_i32_1202 v4337
  let v4335 : BitVec 32 := Scalar.addi c0_i32_1202 v4334
  let c1_i32_1205 : BitVec 32 := 1#32
  ⟨v4338, v4335, c1_i32_1205⟩
def k0_off276 (v4260_0 : BitVec 32) (k0_t96 : Fin (k0_t96_loop v4260_0).trips) : Fin 1 → Nat :=
  let c0_i32_1202 : BitVec 32 := 0#32
  let c1_i32_1200 : BitVec 32 := 1#32
  let v4333 : BitVec 32 := Scalar.subi v4260_0 c1_i32_1200
  let v4334 : BitVec 32 := Scalar.subi v4333 c0_i32_1202
  let c1_i32_1203 : BitVec 32 := 1#32
  let v4336 : BitVec 32 := Scalar.divsi v4334 c1_i32_1203
  let v4337 : BitVec 32 := Scalar.muli v4336 c1_i32_1203
  let v4338 : BitVec 32 := Scalar.addi c0_i32_1202 v4337
  let c1_i32_1205 : BitVec 32 := 1#32
  let arg17 : BitVec 32 := Scf.iv v4338 c1_i32_1205 k0_t96
  let v4944 : Index := Scalar.indexCast arg17
  ![v4944.toNat]
@[reducible] def k0_t97_loop (v4260_0 : BitVec 32) (k0_t96 : Fin (k0_t96_loop v4260_0).trips) : Scf.Loop 32 :=
  let c0_i32_1202 : BitVec 32 := 0#32
  let c1_i32_1200 : BitVec 32 := 1#32
  let v4333 : BitVec 32 := Scalar.subi v4260_0 c1_i32_1200
  let v4334 : BitVec 32 := Scalar.subi v4333 c0_i32_1202
  let c1_i32_1203 : BitVec 32 := 1#32
  let v4336 : BitVec 32 := Scalar.divsi v4334 c1_i32_1203
  let v4337 : BitVec 32 := Scalar.muli v4336 c1_i32_1203
  let v4338 : BitVec 32 := Scalar.addi c0_i32_1202 v4337
  let c1_i32_1205 : BitVec 32 := 1#32
  let arg17 : BitVec 32 := Scf.iv v4338 c1_i32_1205 k0_t96
  let c1_i32_1372 : BitVec 32 := 1#32
  let v4956 : BitVec 32 := Scalar.addi arg17 c1_i32_1372
  let v4957 : BitVec 32 := Scalar.subi v4260_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off277 (v4260_0 : BitVec 32) (k0_t96 : Fin (k0_t96_loop v4260_0).trips) (k0_t97 : Fin (k0_t97_loop v4260_0 k0_t96).trips) : Fin 1 → Nat :=
  let c0_i32_1202 : BitVec 32 := 0#32
  let c1_i32_1200 : BitVec 32 := 1#32
  let v4333 : BitVec 32 := Scalar.subi v4260_0 c1_i32_1200
  let v4334 : BitVec 32 := Scalar.subi v4333 c0_i32_1202
  let c1_i32_1203 : BitVec 32 := 1#32
  let v4336 : BitVec 32 := Scalar.divsi v4334 c1_i32_1203
  let v4337 : BitVec 32 := Scalar.muli v4336 c1_i32_1203
  let v4338 : BitVec 32 := Scalar.addi c0_i32_1202 v4337
  let c1_i32_1205 : BitVec 32 := 1#32
  let arg17 : BitVec 32 := Scf.iv v4338 c1_i32_1205 k0_t96
  let c1_i32_1372 : BitVec 32 := 1#32
  let v4956 : BitVec 32 := Scalar.addi arg17 c1_i32_1372
  let c1_i32_1375 : BitVec 32 := 1#32
  let arg18 : BitVec 32 := Scf.iv v4956 c1_i32_1375 k0_t97
  let v4962 : Index := Scalar.indexCast arg18
  ![v4962.toNat]
def k0_off278 (v4949 : BitVec 32) (v4991 : BitVec 32) : Fin 1 → Nat :=
  let c5056_i32 : BitVec 32 := 5056#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5056_i32 v5014
  let v5048 : Index := Scalar.indexCast v5015
  ![v5048.toNat]

def k0_off279 (v4949 : BitVec 32) (v4991 : BitVec 32) : Fin 1 → Nat :=
  let c5056_i32 : BitVec 32 := 5056#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5056_i32 v5014
  let c16_i32_1396 : BitVec 32 := 16#32
  let v5056 : BitVec 32 := Scalar.addi v5015 c16_i32_1396
  let v5057 : Index := Scalar.indexCast v5056
  ![v5057.toNat]

def k0_chk83 (v4949 : BitVec 32) (v4991 : BitVec 32) : Prop :=
  (∀ a, (k0_off278 v4949 v4991) a + S16.size a ≤ S6144.size a) ∧
  (∀ a, (k0_off279 v4949 v4991) a + S16.size a ≤ S6144.size a)
theorem k0_off278_inb : ∀ (v4949 : BitVec 32) (v4991 : BitVec 32) (k0_hw83 : k0_chk83 v4949 v4991), ∀ a, (k0_off278 v4949 v4991) a + S16.size a ≤ S6144.size a := fun v4949 v4991 k0_hw83 => k0_hw83.1
theorem k0_off279_inb : ∀ (v4949 : BitVec 32) (v4991 : BitVec 32) (k0_hw83 : k0_chk83 v4949 v4991), ∀ a, (k0_off279 v4949 v4991) a + S16.size a ≤ S6144.size a := fun v4949 v4991 k0_hw83 => k0_hw83.2

@[reducible] def k0_t98_loop (v4260_0 : BitVec 32) (k0_t96 : Fin (k0_t96_loop v4260_0).trips) : Scf.Loop 32 :=
  let c0_i32_1202 : BitVec 32 := 0#32
  let c1_i32_1200 : BitVec 32 := 1#32
  let v4333 : BitVec 32 := Scalar.subi v4260_0 c1_i32_1200
  let v4334 : BitVec 32 := Scalar.subi v4333 c0_i32_1202
  let c1_i32_1203 : BitVec 32 := 1#32
  let v4336 : BitVec 32 := Scalar.divsi v4334 c1_i32_1203
  let v4337 : BitVec 32 := Scalar.muli v4336 c1_i32_1203
  let v4338 : BitVec 32 := Scalar.addi c0_i32_1202 v4337
  let c1_i32_1205 : BitVec 32 := 1#32
  let arg17 : BitVec 32 := Scf.iv v4338 c1_i32_1205 k0_t96
  let c1_i32_1372 : BitVec 32 := 1#32
  let v4956 : BitVec 32 := Scalar.addi arg17 c1_i32_1372
  let v4957 : BitVec 32 := Scalar.subi v4260_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off280 (v4260_0 : BitVec 32) (k0_t96 : Fin (k0_t96_loop v4260_0).trips) (k0_t98 : Fin (k0_t98_loop v4260_0 k0_t96).trips) : Fin 1 → Nat :=
  let c0_i32_1202 : BitVec 32 := 0#32
  let c1_i32_1200 : BitVec 32 := 1#32
  let v4333 : BitVec 32 := Scalar.subi v4260_0 c1_i32_1200
  let v4334 : BitVec 32 := Scalar.subi v4333 c0_i32_1202
  let c1_i32_1203 : BitVec 32 := 1#32
  let v4336 : BitVec 32 := Scalar.divsi v4334 c1_i32_1203
  let v4337 : BitVec 32 := Scalar.muli v4336 c1_i32_1203
  let v4338 : BitVec 32 := Scalar.addi c0_i32_1202 v4337
  let c1_i32_1205 : BitVec 32 := 1#32
  let arg17 : BitVec 32 := Scf.iv v4338 c1_i32_1205 k0_t96
  let c1_i32_1372 : BitVec 32 := 1#32
  let v4956 : BitVec 32 := Scalar.addi arg17 c1_i32_1372
  let v4957 : BitVec 32 := Scalar.subi v4260_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t98
  let v4962 : Index := Scalar.indexCast arg18
  ![v4962.toNat]

def k0_chk80 (v4260_0 : BitVec 32) : Prop :=
  ((k0_t93_loop v4260_0).OK) ∧
  (∀ k0_t93 : Fin (k0_t93_loop v4260_0).trips, ∀ a, (k0_off269 v4260_0 k0_t93) a + S1.size a ≤ S40.size a) ∧
  (∀ k0_t93 : Fin (k0_t93_loop v4260_0).trips, (k0_t94_loop v4260_0 k0_t93).OK) ∧
  (∀ (k0_t93 : Fin (k0_t93_loop v4260_0).trips) (k0_t94 : Fin (k0_t94_loop v4260_0 k0_t93).trips), ∀ a, (k0_off270 v4260_0 k0_t93 k0_t94) a + S1.size a ≤ S40.size a) ∧
  (∀ k0_t93 : Fin (k0_t93_loop v4260_0).trips, (k0_t95_loop v4260_0 k0_t93).OK) ∧
  (∀ (k0_t93 : Fin (k0_t93_loop v4260_0).trips) (k0_t95 : Fin (k0_t95_loop v4260_0 k0_t93).trips), ∀ a, (k0_off273 v4260_0 k0_t93 k0_t95) a + S1.size a ≤ S40.size a) ∧
  ((k0_t96_loop v4260_0).OK) ∧
  (∀ k0_t96 : Fin (k0_t96_loop v4260_0).trips, ∀ a, (k0_off276 v4260_0 k0_t96) a + S1.size a ≤ S40.size a) ∧
  (∀ k0_t96 : Fin (k0_t96_loop v4260_0).trips, (k0_t97_loop v4260_0 k0_t96).OK) ∧
  (∀ (k0_t96 : Fin (k0_t96_loop v4260_0).trips) (k0_t97 : Fin (k0_t97_loop v4260_0 k0_t96).trips), ∀ a, (k0_off277 v4260_0 k0_t96 k0_t97) a + S1.size a ≤ S40.size a) ∧
  (∀ k0_t96 : Fin (k0_t96_loop v4260_0).trips, (k0_t98_loop v4260_0 k0_t96).OK) ∧
  (∀ (k0_t96 : Fin (k0_t96_loop v4260_0).trips) (k0_t98 : Fin (k0_t98_loop v4260_0 k0_t96).trips), ∀ a, (k0_off280 v4260_0 k0_t96 k0_t98) a + S1.size a ≤ S40.size a)
theorem k0_t93_ok : ∀ (v4260_0 : BitVec 32) (k0_hw80 : k0_chk80 v4260_0), (k0_t93_loop v4260_0).OK := fun v4260_0 k0_hw80 => k0_hw80.1
theorem k0_off269_inb : ∀ (v4260_0 : BitVec 32) (k0_hw80 : k0_chk80 v4260_0) (k0_t93 : Fin (k0_t93_loop v4260_0).trips), ∀ a, (k0_off269 v4260_0 k0_t93) a + S1.size a ≤ S40.size a := fun v4260_0 k0_hw80 k0_t93 => k0_hw80.2.1 k0_t93
theorem k0_t94_ok : ∀ (v4260_0 : BitVec 32) (k0_hw80 : k0_chk80 v4260_0) (k0_t93 : Fin (k0_t93_loop v4260_0).trips), (k0_t94_loop v4260_0 k0_t93).OK := fun v4260_0 k0_hw80 k0_t93 => k0_hw80.2.2.1 k0_t93
theorem k0_off270_inb : ∀ (v4260_0 : BitVec 32) (k0_hw80 : k0_chk80 v4260_0) (k0_t93 : Fin (k0_t93_loop v4260_0).trips) (k0_t94 : Fin (k0_t94_loop v4260_0 k0_t93).trips), ∀ a, (k0_off270 v4260_0 k0_t93 k0_t94) a + S1.size a ≤ S40.size a := fun v4260_0 k0_hw80 k0_t93 k0_t94 => k0_hw80.2.2.2.1 k0_t93 k0_t94
theorem k0_t95_ok : ∀ (v4260_0 : BitVec 32) (k0_hw80 : k0_chk80 v4260_0) (k0_t93 : Fin (k0_t93_loop v4260_0).trips), (k0_t95_loop v4260_0 k0_t93).OK := fun v4260_0 k0_hw80 k0_t93 => k0_hw80.2.2.2.2.1 k0_t93
theorem k0_off273_inb : ∀ (v4260_0 : BitVec 32) (k0_hw80 : k0_chk80 v4260_0) (k0_t93 : Fin (k0_t93_loop v4260_0).trips) (k0_t95 : Fin (k0_t95_loop v4260_0 k0_t93).trips), ∀ a, (k0_off273 v4260_0 k0_t93 k0_t95) a + S1.size a ≤ S40.size a := fun v4260_0 k0_hw80 k0_t93 k0_t95 => k0_hw80.2.2.2.2.2.1 k0_t93 k0_t95
theorem k0_t96_ok : ∀ (v4260_0 : BitVec 32) (k0_hw80 : k0_chk80 v4260_0), (k0_t96_loop v4260_0).OK := fun v4260_0 k0_hw80 => k0_hw80.2.2.2.2.2.2.1
theorem k0_off276_inb : ∀ (v4260_0 : BitVec 32) (k0_hw80 : k0_chk80 v4260_0) (k0_t96 : Fin (k0_t96_loop v4260_0).trips), ∀ a, (k0_off276 v4260_0 k0_t96) a + S1.size a ≤ S40.size a := fun v4260_0 k0_hw80 k0_t96 => k0_hw80.2.2.2.2.2.2.2.1 k0_t96
theorem k0_t97_ok : ∀ (v4260_0 : BitVec 32) (k0_hw80 : k0_chk80 v4260_0) (k0_t96 : Fin (k0_t96_loop v4260_0).trips), (k0_t97_loop v4260_0 k0_t96).OK := fun v4260_0 k0_hw80 k0_t96 => k0_hw80.2.2.2.2.2.2.2.2.1 k0_t96
theorem k0_off277_inb : ∀ (v4260_0 : BitVec 32) (k0_hw80 : k0_chk80 v4260_0) (k0_t96 : Fin (k0_t96_loop v4260_0).trips) (k0_t97 : Fin (k0_t97_loop v4260_0 k0_t96).trips), ∀ a, (k0_off277 v4260_0 k0_t96 k0_t97) a + S1.size a ≤ S40.size a := fun v4260_0 k0_hw80 k0_t96 k0_t97 => k0_hw80.2.2.2.2.2.2.2.2.2.1 k0_t96 k0_t97
theorem k0_t98_ok : ∀ (v4260_0 : BitVec 32) (k0_hw80 : k0_chk80 v4260_0) (k0_t96 : Fin (k0_t96_loop v4260_0).trips), (k0_t98_loop v4260_0 k0_t96).OK := fun v4260_0 k0_hw80 k0_t96 => k0_hw80.2.2.2.2.2.2.2.2.2.2.1 k0_t96
theorem k0_off280_inb : ∀ (v4260_0 : BitVec 32) (k0_hw80 : k0_chk80 v4260_0) (k0_t96 : Fin (k0_t96_loop v4260_0).trips) (k0_t98 : Fin (k0_t98_loop v4260_0 k0_t96).trips), ∀ a, (k0_off280 v4260_0 k0_t96 k0_t98) a + S1.size a ≤ S40.size a := fun v4260_0 k0_hw80 k0_t96 k0_t98 => k0_hw80.2.2.2.2.2.2.2.2.2.2.2 k0_t96 k0_t98

def k0_off281 (v4949 : BitVec 32) (v4991 : BitVec 32) : Fin 1 → Nat :=
  let c5056_i32 : BitVec 32 := 5056#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5056_i32 v5014
  let v5048 : Index := Scalar.indexCast v5015
  ![v5048.toNat]

def k0_off282 (v4949 : BitVec 32) (v4991 : BitVec 32) : Fin 1 → Nat :=
  let c5056_i32 : BitVec 32 := 5056#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5056_i32 v5014
  let c16_i32_1396 : BitVec 32 := 16#32
  let v5056 : BitVec 32 := Scalar.addi v5015 c16_i32_1396
  let v5057 : Index := Scalar.indexCast v5056
  ![v5057.toNat]

def k0_chk84 (v4949 : BitVec 32) (v4991 : BitVec 32) : Prop :=
  (∀ a, (k0_off281 v4949 v4991) a + S16.size a ≤ S6144.size a) ∧
  (∀ a, (k0_off282 v4949 v4991) a + S16.size a ≤ S6144.size a)
theorem k0_off281_inb : ∀ (v4949 : BitVec 32) (v4991 : BitVec 32) (k0_hw84 : k0_chk84 v4949 v4991), ∀ a, (k0_off281 v4949 v4991) a + S16.size a ≤ S6144.size a := fun v4949 v4991 k0_hw84 => k0_hw84.1
theorem k0_off282_inb : ∀ (v4949 : BitVec 32) (v4991 : BitVec 32) (k0_hw84 : k0_chk84 v4949 v4991), ∀ a, (k0_off282 v4949 v4991) a + S16.size a ≤ S6144.size a := fun v4949 v4991 k0_hw84 => k0_hw84.2

def k0_off283 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c14_i32 : BitVec 32 := 14#32
  let v4339 : BitVec 32 := Scalar.addi v29 c14_i32
  let v4340 : Index := Scalar.indexCast v4339
  ![v4340.toNat]
def k0_off284 (i : grid0.Coords) (c32_i32_1206 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c14_i32 : BitVec 32 := 14#32
  let v4339 : BitVec 32 := Scalar.addi v29 c14_i32
  let v4345 : BitVec 32 := Scalar.addi c32_i32_1206 v4339
  let v4346 : Index := Scalar.indexCast v4345
  ![v4346.toNat]
@[reducible] def k0_t99_loop : Scf.Loop 32 :=
  let c0_i32_1279 : BitVec 32 := 0#32
  let c32_i32_1280 : BitVec 32 := 32#32
  let v4561 : BitVec 32 := Scalar.addi c0_i32_1279 c32_i32_1280
  let c1_i32_1281 : BitVec 32 := 1#32
  ⟨c0_i32_1279, v4561, c1_i32_1281⟩
def k0_off285 (k0_t99 : Fin k0_t99_loop.trips) : Fin 1 → Nat :=
  let c0_i32_1279 : BitVec 32 := 0#32
  let c1_i32_1281 : BitVec 32 := 1#32
  let arg17 : BitVec 32 := Scf.iv c0_i32_1279 c1_i32_1281 k0_t99
  let v4944 : Index := Scalar.indexCast arg17
  ![v4944.toNat]
def k0_off286 (arg18 : BitVec 32) : Fin 1 → Nat :=
  let v4988 : Index := Scalar.indexCast arg18
  ![v4988.toNat]
def k0_cond15 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk85 (arg18 : BitVec 32) (v4984 : BitVec 1) : Prop :=
  (∀ (k0_h15 : k0_cond15 v4984 = 1#1), ∀ a, (k0_off286 arg18) a + S1.size a ≤ S40.size a)
theorem k0_off286_inb : ∀ (arg18 : BitVec 32) (v4984 : BitVec 1) (k0_hw85 : k0_chk85 arg18 v4984), ∀ (k0_h15 : k0_cond15 v4984 = 1#1), ∀ a, (k0_off286 arg18) a + S1.size a ≤ S40.size a := fun arg18 v4984 k0_hw85 k0_h15 => k0_hw85 k0_h15

def k0_off287 (k0_t99 : Fin k0_t99_loop.trips) : Fin 1 → Nat :=
  let c0_i32_1279 : BitVec 32 := 0#32
  let c1_i32_1281 : BitVec 32 := 1#32
  let arg17 : BitVec 32 := Scf.iv c0_i32_1279 c1_i32_1281 k0_t99
  let v4994 : Index := Scalar.indexCast arg17
  ![v4994.toNat]
def k0_off288 (k0_t99 : Fin k0_t99_loop.trips) (c32_i32_1379 : BitVec 32) : Fin 1 → Nat :=
  let c0_i32_1279 : BitVec 32 := 0#32
  let c1_i32_1281 : BitVec 32 := 1#32
  let arg17 : BitVec 32 := Scf.iv c0_i32_1279 c1_i32_1281 k0_t99
  let v5002 : BitVec 32 := Scalar.addi c32_i32_1379 arg17
  let v5003 : Index := Scalar.indexCast v5002
  ![v5003.toNat]
@[reducible] def k0_t100_loop (v4562_0 : BitVec 32) : Scf.Loop 32 :=
  let c0_i32_1285 : BitVec 32 := 0#32
  let c1_i32_1283 : BitVec 32 := 1#32
  let v4635 : BitVec 32 := Scalar.subi v4562_0 c1_i32_1283
  let v4636 : BitVec 32 := Scalar.subi v4635 c0_i32_1285
  let c1_i32_1286 : BitVec 32 := 1#32
  let v4638 : BitVec 32 := Scalar.divsi v4636 c1_i32_1286
  let v4639 : BitVec 32 := Scalar.muli v4638 c1_i32_1286
  let v4640 : BitVec 32 := Scalar.addi c0_i32_1285 v4639
  let c1_i32_1287 : BitVec 32 := 1#32
  ⟨c0_i32_1285, v4640, c1_i32_1287⟩

def k0_off289 (v4562_0 : BitVec 32) (k0_t100 : Fin (k0_t100_loop v4562_0).trips) : Fin 1 → Nat :=
  let c0_i32_1285 : BitVec 32 := 0#32
  let c1_i32_1287 : BitVec 32 := 1#32
  let arg17 : BitVec 32 := Scf.iv c0_i32_1285 c1_i32_1287 k0_t100
  let v4944 : Index := Scalar.indexCast arg17
  ![v4944.toNat]
@[reducible] def k0_t101_loop (v4562_0 : BitVec 32) (k0_t100 : Fin (k0_t100_loop v4562_0).trips) : Scf.Loop 32 :=
  let c0_i32_1285 : BitVec 32 := 0#32
  let c1_i32_1287 : BitVec 32 := 1#32
  let arg17 : BitVec 32 := Scf.iv c0_i32_1285 c1_i32_1287 k0_t100
  let c1_i32_1372 : BitVec 32 := 1#32
  let v4956 : BitVec 32 := Scalar.addi arg17 c1_i32_1372
  let v4957 : BitVec 32 := Scalar.subi v4562_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off290 (v4562_0 : BitVec 32) (k0_t100 : Fin (k0_t100_loop v4562_0).trips) (k0_t101 : Fin (k0_t101_loop v4562_0 k0_t100).trips) : Fin 1 → Nat :=
  let c0_i32_1285 : BitVec 32 := 0#32
  let c1_i32_1287 : BitVec 32 := 1#32
  let arg17 : BitVec 32 := Scf.iv c0_i32_1285 c1_i32_1287 k0_t100
  let c1_i32_1372 : BitVec 32 := 1#32
  let v4956 : BitVec 32 := Scalar.addi arg17 c1_i32_1372
  let c1_i32_1375 : BitVec 32 := 1#32
  let arg18 : BitVec 32 := Scf.iv v4956 c1_i32_1375 k0_t101
  let v4962 : Index := Scalar.indexCast arg18
  ![v4962.toNat]
def k0_off291 (v4949 : BitVec 32) (v4991 : BitVec 32) : Fin 1 → Nat :=
  let c5440_i32 : BitVec 32 := 5440#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5440_i32 v5014
  let v5048 : Index := Scalar.indexCast v5015
  ![v5048.toNat]

def k0_off292 (v4949 : BitVec 32) (v4991 : BitVec 32) : Fin 1 → Nat :=
  let c5440_i32 : BitVec 32 := 5440#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5440_i32 v5014
  let c16_i32_1396 : BitVec 32 := 16#32
  let v5056 : BitVec 32 := Scalar.addi v5015 c16_i32_1396
  let v5057 : Index := Scalar.indexCast v5056
  ![v5057.toNat]

def k0_chk87 (v4949 : BitVec 32) (v4991 : BitVec 32) : Prop :=
  (∀ a, (k0_off291 v4949 v4991) a + S16.size a ≤ S6144.size a) ∧
  (∀ a, (k0_off292 v4949 v4991) a + S16.size a ≤ S6144.size a)
theorem k0_off291_inb : ∀ (v4949 : BitVec 32) (v4991 : BitVec 32) (k0_hw87 : k0_chk87 v4949 v4991), ∀ a, (k0_off291 v4949 v4991) a + S16.size a ≤ S6144.size a := fun v4949 v4991 k0_hw87 => k0_hw87.1
theorem k0_off292_inb : ∀ (v4949 : BitVec 32) (v4991 : BitVec 32) (k0_hw87 : k0_chk87 v4949 v4991), ∀ a, (k0_off292 v4949 v4991) a + S16.size a ≤ S6144.size a := fun v4949 v4991 k0_hw87 => k0_hw87.2

@[reducible] def k0_t102_loop (v4562_0 : BitVec 32) (k0_t100 : Fin (k0_t100_loop v4562_0).trips) : Scf.Loop 32 :=
  let c0_i32_1285 : BitVec 32 := 0#32
  let c1_i32_1287 : BitVec 32 := 1#32
  let arg17 : BitVec 32 := Scf.iv c0_i32_1285 c1_i32_1287 k0_t100
  let c1_i32_1372 : BitVec 32 := 1#32
  let v4956 : BitVec 32 := Scalar.addi arg17 c1_i32_1372
  let v4957 : BitVec 32 := Scalar.subi v4562_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off293 (v4562_0 : BitVec 32) (k0_t100 : Fin (k0_t100_loop v4562_0).trips) (k0_t102 : Fin (k0_t102_loop v4562_0 k0_t100).trips) : Fin 1 → Nat :=
  let c0_i32_1285 : BitVec 32 := 0#32
  let c1_i32_1287 : BitVec 32 := 1#32
  let arg17 : BitVec 32 := Scf.iv c0_i32_1285 c1_i32_1287 k0_t100
  let c1_i32_1372 : BitVec 32 := 1#32
  let v4956 : BitVec 32 := Scalar.addi arg17 c1_i32_1372
  let v4957 : BitVec 32 := Scalar.subi v4562_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t102
  let v4962 : Index := Scalar.indexCast arg18
  ![v4962.toNat]
def k0_off294 (v4949 : BitVec 32) (v4991 : BitVec 32) : Fin 1 → Nat :=
  let c5440_i32 : BitVec 32 := 5440#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5440_i32 v5014
  let v5048 : Index := Scalar.indexCast v5015
  ![v5048.toNat]

def k0_off295 (v4949 : BitVec 32) (v4991 : BitVec 32) : Fin 1 → Nat :=
  let c5440_i32 : BitVec 32 := 5440#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5440_i32 v5014
  let c16_i32_1396 : BitVec 32 := 16#32
  let v5056 : BitVec 32 := Scalar.addi v5015 c16_i32_1396
  let v5057 : Index := Scalar.indexCast v5056
  ![v5057.toNat]

def k0_chk88 (v4949 : BitVec 32) (v4991 : BitVec 32) : Prop :=
  (∀ a, (k0_off294 v4949 v4991) a + S16.size a ≤ S6144.size a) ∧
  (∀ a, (k0_off295 v4949 v4991) a + S16.size a ≤ S6144.size a)
theorem k0_off294_inb : ∀ (v4949 : BitVec 32) (v4991 : BitVec 32) (k0_hw88 : k0_chk88 v4949 v4991), ∀ a, (k0_off294 v4949 v4991) a + S16.size a ≤ S6144.size a := fun v4949 v4991 k0_hw88 => k0_hw88.1
theorem k0_off295_inb : ∀ (v4949 : BitVec 32) (v4991 : BitVec 32) (k0_hw88 : k0_chk88 v4949 v4991), ∀ a, (k0_off295 v4949 v4991) a + S16.size a ≤ S6144.size a := fun v4949 v4991 k0_hw88 => k0_hw88.2

@[reducible] def k0_t103_loop (v4562_0 : BitVec 32) : Scf.Loop 32 :=
  let c0_i32_1285 : BitVec 32 := 0#32
  let c1_i32_1283 : BitVec 32 := 1#32
  let v4635 : BitVec 32 := Scalar.subi v4562_0 c1_i32_1283
  let v4636 : BitVec 32 := Scalar.subi v4635 c0_i32_1285
  let c1_i32_1286 : BitVec 32 := 1#32
  let v4638 : BitVec 32 := Scalar.divsi v4636 c1_i32_1286
  let v4639 : BitVec 32 := Scalar.muli v4638 c1_i32_1286
  let v4640 : BitVec 32 := Scalar.addi c0_i32_1285 v4639
  let v4637 : BitVec 32 := Scalar.addi c0_i32_1285 v4636
  let c1_i32_1288 : BitVec 32 := 1#32
  ⟨v4640, v4637, c1_i32_1288⟩
def k0_off296 (v4562_0 : BitVec 32) (k0_t103 : Fin (k0_t103_loop v4562_0).trips) : Fin 1 → Nat :=
  let c0_i32_1285 : BitVec 32 := 0#32
  let c1_i32_1283 : BitVec 32 := 1#32
  let v4635 : BitVec 32 := Scalar.subi v4562_0 c1_i32_1283
  let v4636 : BitVec 32 := Scalar.subi v4635 c0_i32_1285
  let c1_i32_1286 : BitVec 32 := 1#32
  let v4638 : BitVec 32 := Scalar.divsi v4636 c1_i32_1286
  let v4639 : BitVec 32 := Scalar.muli v4638 c1_i32_1286
  let v4640 : BitVec 32 := Scalar.addi c0_i32_1285 v4639
  let c1_i32_1288 : BitVec 32 := 1#32
  let arg17 : BitVec 32 := Scf.iv v4640 c1_i32_1288 k0_t103
  let v4944 : Index := Scalar.indexCast arg17
  ![v4944.toNat]
@[reducible] def k0_t104_loop (v4562_0 : BitVec 32) (k0_t103 : Fin (k0_t103_loop v4562_0).trips) : Scf.Loop 32 :=
  let c0_i32_1285 : BitVec 32 := 0#32
  let c1_i32_1283 : BitVec 32 := 1#32
  let v4635 : BitVec 32 := Scalar.subi v4562_0 c1_i32_1283
  let v4636 : BitVec 32 := Scalar.subi v4635 c0_i32_1285
  let c1_i32_1286 : BitVec 32 := 1#32
  let v4638 : BitVec 32 := Scalar.divsi v4636 c1_i32_1286
  let v4639 : BitVec 32 := Scalar.muli v4638 c1_i32_1286
  let v4640 : BitVec 32 := Scalar.addi c0_i32_1285 v4639
  let c1_i32_1288 : BitVec 32 := 1#32
  let arg17 : BitVec 32 := Scf.iv v4640 c1_i32_1288 k0_t103
  let c1_i32_1372 : BitVec 32 := 1#32
  let v4956 : BitVec 32 := Scalar.addi arg17 c1_i32_1372
  let v4957 : BitVec 32 := Scalar.subi v4562_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off297 (v4562_0 : BitVec 32) (k0_t103 : Fin (k0_t103_loop v4562_0).trips) (k0_t104 : Fin (k0_t104_loop v4562_0 k0_t103).trips) : Fin 1 → Nat :=
  let c0_i32_1285 : BitVec 32 := 0#32
  let c1_i32_1283 : BitVec 32 := 1#32
  let v4635 : BitVec 32 := Scalar.subi v4562_0 c1_i32_1283
  let v4636 : BitVec 32 := Scalar.subi v4635 c0_i32_1285
  let c1_i32_1286 : BitVec 32 := 1#32
  let v4638 : BitVec 32 := Scalar.divsi v4636 c1_i32_1286
  let v4639 : BitVec 32 := Scalar.muli v4638 c1_i32_1286
  let v4640 : BitVec 32 := Scalar.addi c0_i32_1285 v4639
  let c1_i32_1288 : BitVec 32 := 1#32
  let arg17 : BitVec 32 := Scf.iv v4640 c1_i32_1288 k0_t103
  let c1_i32_1372 : BitVec 32 := 1#32
  let v4956 : BitVec 32 := Scalar.addi arg17 c1_i32_1372
  let c1_i32_1375 : BitVec 32 := 1#32
  let arg18 : BitVec 32 := Scf.iv v4956 c1_i32_1375 k0_t104
  let v4962 : Index := Scalar.indexCast arg18
  ![v4962.toNat]
def k0_off298 (v4949 : BitVec 32) (v4991 : BitVec 32) : Fin 1 → Nat :=
  let c5440_i32 : BitVec 32 := 5440#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5440_i32 v5014
  let v5048 : Index := Scalar.indexCast v5015
  ![v5048.toNat]

def k0_off299 (v4949 : BitVec 32) (v4991 : BitVec 32) : Fin 1 → Nat :=
  let c5440_i32 : BitVec 32 := 5440#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5440_i32 v5014
  let c16_i32_1396 : BitVec 32 := 16#32
  let v5056 : BitVec 32 := Scalar.addi v5015 c16_i32_1396
  let v5057 : Index := Scalar.indexCast v5056
  ![v5057.toNat]

def k0_chk89 (v4949 : BitVec 32) (v4991 : BitVec 32) : Prop :=
  (∀ a, (k0_off298 v4949 v4991) a + S16.size a ≤ S6144.size a) ∧
  (∀ a, (k0_off299 v4949 v4991) a + S16.size a ≤ S6144.size a)
theorem k0_off298_inb : ∀ (v4949 : BitVec 32) (v4991 : BitVec 32) (k0_hw89 : k0_chk89 v4949 v4991), ∀ a, (k0_off298 v4949 v4991) a + S16.size a ≤ S6144.size a := fun v4949 v4991 k0_hw89 => k0_hw89.1
theorem k0_off299_inb : ∀ (v4949 : BitVec 32) (v4991 : BitVec 32) (k0_hw89 : k0_chk89 v4949 v4991), ∀ a, (k0_off299 v4949 v4991) a + S16.size a ≤ S6144.size a := fun v4949 v4991 k0_hw89 => k0_hw89.2

@[reducible] def k0_t105_loop (v4562_0 : BitVec 32) (k0_t103 : Fin (k0_t103_loop v4562_0).trips) : Scf.Loop 32 :=
  let c0_i32_1285 : BitVec 32 := 0#32
  let c1_i32_1283 : BitVec 32 := 1#32
  let v4635 : BitVec 32 := Scalar.subi v4562_0 c1_i32_1283
  let v4636 : BitVec 32 := Scalar.subi v4635 c0_i32_1285
  let c1_i32_1286 : BitVec 32 := 1#32
  let v4638 : BitVec 32 := Scalar.divsi v4636 c1_i32_1286
  let v4639 : BitVec 32 := Scalar.muli v4638 c1_i32_1286
  let v4640 : BitVec 32 := Scalar.addi c0_i32_1285 v4639
  let c1_i32_1288 : BitVec 32 := 1#32
  let arg17 : BitVec 32 := Scf.iv v4640 c1_i32_1288 k0_t103
  let c1_i32_1372 : BitVec 32 := 1#32
  let v4956 : BitVec 32 := Scalar.addi arg17 c1_i32_1372
  let v4957 : BitVec 32 := Scalar.subi v4562_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off300 (v4562_0 : BitVec 32) (k0_t103 : Fin (k0_t103_loop v4562_0).trips) (k0_t105 : Fin (k0_t105_loop v4562_0 k0_t103).trips) : Fin 1 → Nat :=
  let c0_i32_1285 : BitVec 32 := 0#32
  let c1_i32_1283 : BitVec 32 := 1#32
  let v4635 : BitVec 32 := Scalar.subi v4562_0 c1_i32_1283
  let v4636 : BitVec 32 := Scalar.subi v4635 c0_i32_1285
  let c1_i32_1286 : BitVec 32 := 1#32
  let v4638 : BitVec 32 := Scalar.divsi v4636 c1_i32_1286
  let v4639 : BitVec 32 := Scalar.muli v4638 c1_i32_1286
  let v4640 : BitVec 32 := Scalar.addi c0_i32_1285 v4639
  let c1_i32_1288 : BitVec 32 := 1#32
  let arg17 : BitVec 32 := Scf.iv v4640 c1_i32_1288 k0_t103
  let c1_i32_1372 : BitVec 32 := 1#32
  let v4956 : BitVec 32 := Scalar.addi arg17 c1_i32_1372
  let v4957 : BitVec 32 := Scalar.subi v4562_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t105
  let v4962 : Index := Scalar.indexCast arg18
  ![v4962.toNat]

def k0_chk86 (v4562_0 : BitVec 32) : Prop :=
  ((k0_t100_loop v4562_0).OK) ∧
  (∀ k0_t100 : Fin (k0_t100_loop v4562_0).trips, ∀ a, (k0_off289 v4562_0 k0_t100) a + S1.size a ≤ S40.size a) ∧
  (∀ k0_t100 : Fin (k0_t100_loop v4562_0).trips, (k0_t101_loop v4562_0 k0_t100).OK) ∧
  (∀ (k0_t100 : Fin (k0_t100_loop v4562_0).trips) (k0_t101 : Fin (k0_t101_loop v4562_0 k0_t100).trips), ∀ a, (k0_off290 v4562_0 k0_t100 k0_t101) a + S1.size a ≤ S40.size a) ∧
  (∀ k0_t100 : Fin (k0_t100_loop v4562_0).trips, (k0_t102_loop v4562_0 k0_t100).OK) ∧
  (∀ (k0_t100 : Fin (k0_t100_loop v4562_0).trips) (k0_t102 : Fin (k0_t102_loop v4562_0 k0_t100).trips), ∀ a, (k0_off293 v4562_0 k0_t100 k0_t102) a + S1.size a ≤ S40.size a) ∧
  ((k0_t103_loop v4562_0).OK) ∧
  (∀ k0_t103 : Fin (k0_t103_loop v4562_0).trips, ∀ a, (k0_off296 v4562_0 k0_t103) a + S1.size a ≤ S40.size a) ∧
  (∀ k0_t103 : Fin (k0_t103_loop v4562_0).trips, (k0_t104_loop v4562_0 k0_t103).OK) ∧
  (∀ (k0_t103 : Fin (k0_t103_loop v4562_0).trips) (k0_t104 : Fin (k0_t104_loop v4562_0 k0_t103).trips), ∀ a, (k0_off297 v4562_0 k0_t103 k0_t104) a + S1.size a ≤ S40.size a) ∧
  (∀ k0_t103 : Fin (k0_t103_loop v4562_0).trips, (k0_t105_loop v4562_0 k0_t103).OK) ∧
  (∀ (k0_t103 : Fin (k0_t103_loop v4562_0).trips) (k0_t105 : Fin (k0_t105_loop v4562_0 k0_t103).trips), ∀ a, (k0_off300 v4562_0 k0_t103 k0_t105) a + S1.size a ≤ S40.size a)
theorem k0_t100_ok : ∀ (v4562_0 : BitVec 32) (k0_hw86 : k0_chk86 v4562_0), (k0_t100_loop v4562_0).OK := fun v4562_0 k0_hw86 => k0_hw86.1
theorem k0_off289_inb : ∀ (v4562_0 : BitVec 32) (k0_hw86 : k0_chk86 v4562_0) (k0_t100 : Fin (k0_t100_loop v4562_0).trips), ∀ a, (k0_off289 v4562_0 k0_t100) a + S1.size a ≤ S40.size a := fun v4562_0 k0_hw86 k0_t100 => k0_hw86.2.1 k0_t100
theorem k0_t101_ok : ∀ (v4562_0 : BitVec 32) (k0_hw86 : k0_chk86 v4562_0) (k0_t100 : Fin (k0_t100_loop v4562_0).trips), (k0_t101_loop v4562_0 k0_t100).OK := fun v4562_0 k0_hw86 k0_t100 => k0_hw86.2.2.1 k0_t100
theorem k0_off290_inb : ∀ (v4562_0 : BitVec 32) (k0_hw86 : k0_chk86 v4562_0) (k0_t100 : Fin (k0_t100_loop v4562_0).trips) (k0_t101 : Fin (k0_t101_loop v4562_0 k0_t100).trips), ∀ a, (k0_off290 v4562_0 k0_t100 k0_t101) a + S1.size a ≤ S40.size a := fun v4562_0 k0_hw86 k0_t100 k0_t101 => k0_hw86.2.2.2.1 k0_t100 k0_t101
theorem k0_t102_ok : ∀ (v4562_0 : BitVec 32) (k0_hw86 : k0_chk86 v4562_0) (k0_t100 : Fin (k0_t100_loop v4562_0).trips), (k0_t102_loop v4562_0 k0_t100).OK := fun v4562_0 k0_hw86 k0_t100 => k0_hw86.2.2.2.2.1 k0_t100
theorem k0_off293_inb : ∀ (v4562_0 : BitVec 32) (k0_hw86 : k0_chk86 v4562_0) (k0_t100 : Fin (k0_t100_loop v4562_0).trips) (k0_t102 : Fin (k0_t102_loop v4562_0 k0_t100).trips), ∀ a, (k0_off293 v4562_0 k0_t100 k0_t102) a + S1.size a ≤ S40.size a := fun v4562_0 k0_hw86 k0_t100 k0_t102 => k0_hw86.2.2.2.2.2.1 k0_t100 k0_t102
theorem k0_t103_ok : ∀ (v4562_0 : BitVec 32) (k0_hw86 : k0_chk86 v4562_0), (k0_t103_loop v4562_0).OK := fun v4562_0 k0_hw86 => k0_hw86.2.2.2.2.2.2.1
theorem k0_off296_inb : ∀ (v4562_0 : BitVec 32) (k0_hw86 : k0_chk86 v4562_0) (k0_t103 : Fin (k0_t103_loop v4562_0).trips), ∀ a, (k0_off296 v4562_0 k0_t103) a + S1.size a ≤ S40.size a := fun v4562_0 k0_hw86 k0_t103 => k0_hw86.2.2.2.2.2.2.2.1 k0_t103
theorem k0_t104_ok : ∀ (v4562_0 : BitVec 32) (k0_hw86 : k0_chk86 v4562_0) (k0_t103 : Fin (k0_t103_loop v4562_0).trips), (k0_t104_loop v4562_0 k0_t103).OK := fun v4562_0 k0_hw86 k0_t103 => k0_hw86.2.2.2.2.2.2.2.2.1 k0_t103
theorem k0_off297_inb : ∀ (v4562_0 : BitVec 32) (k0_hw86 : k0_chk86 v4562_0) (k0_t103 : Fin (k0_t103_loop v4562_0).trips) (k0_t104 : Fin (k0_t104_loop v4562_0 k0_t103).trips), ∀ a, (k0_off297 v4562_0 k0_t103 k0_t104) a + S1.size a ≤ S40.size a := fun v4562_0 k0_hw86 k0_t103 k0_t104 => k0_hw86.2.2.2.2.2.2.2.2.2.1 k0_t103 k0_t104
theorem k0_t105_ok : ∀ (v4562_0 : BitVec 32) (k0_hw86 : k0_chk86 v4562_0) (k0_t103 : Fin (k0_t103_loop v4562_0).trips), (k0_t105_loop v4562_0 k0_t103).OK := fun v4562_0 k0_hw86 k0_t103 => k0_hw86.2.2.2.2.2.2.2.2.2.2.1 k0_t103
theorem k0_off300_inb : ∀ (v4562_0 : BitVec 32) (k0_hw86 : k0_chk86 v4562_0) (k0_t103 : Fin (k0_t103_loop v4562_0).trips) (k0_t105 : Fin (k0_t105_loop v4562_0 k0_t103).trips), ∀ a, (k0_off300 v4562_0 k0_t103 k0_t105) a + S1.size a ≤ S40.size a := fun v4562_0 k0_hw86 k0_t103 k0_t105 => k0_hw86.2.2.2.2.2.2.2.2.2.2.2 k0_t103 k0_t105

def k0_off301 (v4949 : BitVec 32) (v4991 : BitVec 32) : Fin 1 → Nat :=
  let c5440_i32 : BitVec 32 := 5440#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5440_i32 v5014
  let v5048 : Index := Scalar.indexCast v5015
  ![v5048.toNat]

def k0_off302 (v4949 : BitVec 32) (v4991 : BitVec 32) : Fin 1 → Nat :=
  let c5440_i32 : BitVec 32 := 5440#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5440_i32 v5014
  let c16_i32_1396 : BitVec 32 := 16#32
  let v5056 : BitVec 32 := Scalar.addi v5015 c16_i32_1396
  let v5057 : Index := Scalar.indexCast v5056
  ![v5057.toNat]

def k0_chk90 (v4949 : BitVec 32) (v4991 : BitVec 32) : Prop :=
  (∀ a, (k0_off301 v4949 v4991) a + S16.size a ≤ S6144.size a) ∧
  (∀ a, (k0_off302 v4949 v4991) a + S16.size a ≤ S6144.size a)
theorem k0_off301_inb : ∀ (v4949 : BitVec 32) (v4991 : BitVec 32) (k0_hw90 : k0_chk90 v4949 v4991), ∀ a, (k0_off301 v4949 v4991) a + S16.size a ≤ S6144.size a := fun v4949 v4991 k0_hw90 => k0_hw90.1
theorem k0_off302_inb : ∀ (v4949 : BitVec 32) (v4991 : BitVec 32) (k0_hw90 : k0_chk90 v4949 v4991), ∀ a, (k0_off302 v4949 v4991) a + S16.size a ≤ S6144.size a := fun v4949 v4991 k0_hw90 => k0_hw90.2

def k0_off303 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c15_i32 : BitVec 32 := 15#32
  let v4641 : BitVec 32 := Scalar.addi v29 c15_i32
  let v4642 : Index := Scalar.indexCast v4641
  ![v4642.toNat]
def k0_off304 (i : grid0.Coords) (c32_i32_1289 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c15_i32 : BitVec 32 := 15#32
  let v4641 : BitVec 32 := Scalar.addi v29 c15_i32
  let v4647 : BitVec 32 := Scalar.addi c32_i32_1289 v4641
  let v4648 : Index := Scalar.indexCast v4647
  ![v4648.toNat]
@[reducible] def k0_t106_loop : Scf.Loop 32 :=
  let c0_i32_1362 : BitVec 32 := 0#32
  let c32_i32_1363 : BitVec 32 := 32#32
  let v4863 : BitVec 32 := Scalar.addi c0_i32_1362 c32_i32_1363
  let c1_i32_1364 : BitVec 32 := 1#32
  ⟨c0_i32_1362, v4863, c1_i32_1364⟩
def k0_off305 (k0_t106 : Fin k0_t106_loop.trips) : Fin 1 → Nat :=
  let c0_i32_1362 : BitVec 32 := 0#32
  let c1_i32_1364 : BitVec 32 := 1#32
  let arg17 : BitVec 32 := Scf.iv c0_i32_1362 c1_i32_1364 k0_t106
  let v4944 : Index := Scalar.indexCast arg17
  ![v4944.toNat]
def k0_off306 (arg18 : BitVec 32) : Fin 1 → Nat :=
  let v4988 : Index := Scalar.indexCast arg18
  ![v4988.toNat]
def k0_cond16 (v4984 : BitVec 1) : BitVec 1 :=
  let v4985 : BitVec 32 := Scalar.extui v4984
  let c0_i32_1378 : BitVec 32 := 0#32
  let v4986 : BitVec 1 := Scalar.cmpi .ne v4985 c0_i32_1378
  v4986

def k0_chk91 (arg18 : BitVec 32) (v4984 : BitVec 1) : Prop :=
  (∀ (k0_h16 : k0_cond16 v4984 = 1#1), ∀ a, (k0_off306 arg18) a + S1.size a ≤ S40.size a)
theorem k0_off306_inb : ∀ (arg18 : BitVec 32) (v4984 : BitVec 1) (k0_hw91 : k0_chk91 arg18 v4984), ∀ (k0_h16 : k0_cond16 v4984 = 1#1), ∀ a, (k0_off306 arg18) a + S1.size a ≤ S40.size a := fun arg18 v4984 k0_hw91 k0_h16 => k0_hw91 k0_h16

def k0_off307 (k0_t106 : Fin k0_t106_loop.trips) : Fin 1 → Nat :=
  let c0_i32_1362 : BitVec 32 := 0#32
  let c1_i32_1364 : BitVec 32 := 1#32
  let arg17 : BitVec 32 := Scf.iv c0_i32_1362 c1_i32_1364 k0_t106
  let v4994 : Index := Scalar.indexCast arg17
  ![v4994.toNat]
def k0_off308 (k0_t106 : Fin k0_t106_loop.trips) (c32_i32_1379 : BitVec 32) : Fin 1 → Nat :=
  let c0_i32_1362 : BitVec 32 := 0#32
  let c1_i32_1364 : BitVec 32 := 1#32
  let arg17 : BitVec 32 := Scf.iv c0_i32_1362 c1_i32_1364 k0_t106
  let v5002 : BitVec 32 := Scalar.addi c32_i32_1379 arg17
  let v5003 : Index := Scalar.indexCast v5002
  ![v5003.toNat]
@[reducible] def k0_t107_loop (v4864_0 : BitVec 32) : Scf.Loop 32 :=
  let c0_i32_1368 : BitVec 32 := 0#32
  let c1_i32_1366 : BitVec 32 := 1#32
  let v4937 : BitVec 32 := Scalar.subi v4864_0 c1_i32_1366
  let v4938 : BitVec 32 := Scalar.subi v4937 c0_i32_1368
  let c1_i32_1369 : BitVec 32 := 1#32
  let v4940 : BitVec 32 := Scalar.divsi v4938 c1_i32_1369
  let v4941 : BitVec 32 := Scalar.muli v4940 c1_i32_1369
  let v4942 : BitVec 32 := Scalar.addi c0_i32_1368 v4941
  let c1_i32_1370 : BitVec 32 := 1#32
  ⟨c0_i32_1368, v4942, c1_i32_1370⟩

def k0_off309 (v4864_0 : BitVec 32) (k0_t107 : Fin (k0_t107_loop v4864_0).trips) : Fin 1 → Nat :=
  let c0_i32_1368 : BitVec 32 := 0#32
  let c1_i32_1370 : BitVec 32 := 1#32
  let arg17 : BitVec 32 := Scf.iv c0_i32_1368 c1_i32_1370 k0_t107
  let v4944 : Index := Scalar.indexCast arg17
  ![v4944.toNat]
@[reducible] def k0_t108_loop (v4864_0 : BitVec 32) (k0_t107 : Fin (k0_t107_loop v4864_0).trips) : Scf.Loop 32 :=
  let c0_i32_1368 : BitVec 32 := 0#32
  let c1_i32_1370 : BitVec 32 := 1#32
  let arg17 : BitVec 32 := Scf.iv c0_i32_1368 c1_i32_1370 k0_t107
  let c1_i32_1372 : BitVec 32 := 1#32
  let v4956 : BitVec 32 := Scalar.addi arg17 c1_i32_1372
  let v4957 : BitVec 32 := Scalar.subi v4864_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off310 (v4864_0 : BitVec 32) (k0_t107 : Fin (k0_t107_loop v4864_0).trips) (k0_t108 : Fin (k0_t108_loop v4864_0 k0_t107).trips) : Fin 1 → Nat :=
  let c0_i32_1368 : BitVec 32 := 0#32
  let c1_i32_1370 : BitVec 32 := 1#32
  let arg17 : BitVec 32 := Scf.iv c0_i32_1368 c1_i32_1370 k0_t107
  let c1_i32_1372 : BitVec 32 := 1#32
  let v4956 : BitVec 32 := Scalar.addi arg17 c1_i32_1372
  let c1_i32_1375 : BitVec 32 := 1#32
  let arg18 : BitVec 32 := Scf.iv v4956 c1_i32_1375 k0_t108
  let v4962 : Index := Scalar.indexCast arg18
  ![v4962.toNat]
def k0_off311 (v4949 : BitVec 32) (v4991 : BitVec 32) : Fin 1 → Nat :=
  let c5824_i32 : BitVec 32 := 5824#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5824_i32 v5014
  let v5048 : Index := Scalar.indexCast v5015
  ![v5048.toNat]

def k0_off312 (v4949 : BitVec 32) (v4991 : BitVec 32) : Fin 1 → Nat :=
  let c5824_i32 : BitVec 32 := 5824#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5824_i32 v5014
  let c16_i32_1396 : BitVec 32 := 16#32
  let v5056 : BitVec 32 := Scalar.addi v5015 c16_i32_1396
  let v5057 : Index := Scalar.indexCast v5056
  ![v5057.toNat]

def k0_chk93 (v4949 : BitVec 32) (v4991 : BitVec 32) : Prop :=
  (∀ a, (k0_off311 v4949 v4991) a + S16.size a ≤ S6144.size a) ∧
  (∀ a, (k0_off312 v4949 v4991) a + S16.size a ≤ S6144.size a)
theorem k0_off311_inb : ∀ (v4949 : BitVec 32) (v4991 : BitVec 32) (k0_hw93 : k0_chk93 v4949 v4991), ∀ a, (k0_off311 v4949 v4991) a + S16.size a ≤ S6144.size a := fun v4949 v4991 k0_hw93 => k0_hw93.1
theorem k0_off312_inb : ∀ (v4949 : BitVec 32) (v4991 : BitVec 32) (k0_hw93 : k0_chk93 v4949 v4991), ∀ a, (k0_off312 v4949 v4991) a + S16.size a ≤ S6144.size a := fun v4949 v4991 k0_hw93 => k0_hw93.2

@[reducible] def k0_t109_loop (v4864_0 : BitVec 32) (k0_t107 : Fin (k0_t107_loop v4864_0).trips) : Scf.Loop 32 :=
  let c0_i32_1368 : BitVec 32 := 0#32
  let c1_i32_1370 : BitVec 32 := 1#32
  let arg17 : BitVec 32 := Scf.iv c0_i32_1368 c1_i32_1370 k0_t107
  let c1_i32_1372 : BitVec 32 := 1#32
  let v4956 : BitVec 32 := Scalar.addi arg17 c1_i32_1372
  let v4957 : BitVec 32 := Scalar.subi v4864_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off313 (v4864_0 : BitVec 32) (k0_t107 : Fin (k0_t107_loop v4864_0).trips) (k0_t109 : Fin (k0_t109_loop v4864_0 k0_t107).trips) : Fin 1 → Nat :=
  let c0_i32_1368 : BitVec 32 := 0#32
  let c1_i32_1370 : BitVec 32 := 1#32
  let arg17 : BitVec 32 := Scf.iv c0_i32_1368 c1_i32_1370 k0_t107
  let c1_i32_1372 : BitVec 32 := 1#32
  let v4956 : BitVec 32 := Scalar.addi arg17 c1_i32_1372
  let v4957 : BitVec 32 := Scalar.subi v4864_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t109
  let v4962 : Index := Scalar.indexCast arg18
  ![v4962.toNat]
def k0_off314 (v4949 : BitVec 32) (v4991 : BitVec 32) : Fin 1 → Nat :=
  let c5824_i32 : BitVec 32 := 5824#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5824_i32 v5014
  let v5048 : Index := Scalar.indexCast v5015
  ![v5048.toNat]

def k0_off315 (v4949 : BitVec 32) (v4991 : BitVec 32) : Fin 1 → Nat :=
  let c5824_i32 : BitVec 32 := 5824#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5824_i32 v5014
  let c16_i32_1396 : BitVec 32 := 16#32
  let v5056 : BitVec 32 := Scalar.addi v5015 c16_i32_1396
  let v5057 : Index := Scalar.indexCast v5056
  ![v5057.toNat]

def k0_chk94 (v4949 : BitVec 32) (v4991 : BitVec 32) : Prop :=
  (∀ a, (k0_off314 v4949 v4991) a + S16.size a ≤ S6144.size a) ∧
  (∀ a, (k0_off315 v4949 v4991) a + S16.size a ≤ S6144.size a)
theorem k0_off314_inb : ∀ (v4949 : BitVec 32) (v4991 : BitVec 32) (k0_hw94 : k0_chk94 v4949 v4991), ∀ a, (k0_off314 v4949 v4991) a + S16.size a ≤ S6144.size a := fun v4949 v4991 k0_hw94 => k0_hw94.1
theorem k0_off315_inb : ∀ (v4949 : BitVec 32) (v4991 : BitVec 32) (k0_hw94 : k0_chk94 v4949 v4991), ∀ a, (k0_off315 v4949 v4991) a + S16.size a ≤ S6144.size a := fun v4949 v4991 k0_hw94 => k0_hw94.2

@[reducible] def k0_t110_loop (v4864_0 : BitVec 32) : Scf.Loop 32 :=
  let c0_i32_1368 : BitVec 32 := 0#32
  let c1_i32_1366 : BitVec 32 := 1#32
  let v4937 : BitVec 32 := Scalar.subi v4864_0 c1_i32_1366
  let v4938 : BitVec 32 := Scalar.subi v4937 c0_i32_1368
  let c1_i32_1369 : BitVec 32 := 1#32
  let v4940 : BitVec 32 := Scalar.divsi v4938 c1_i32_1369
  let v4941 : BitVec 32 := Scalar.muli v4940 c1_i32_1369
  let v4942 : BitVec 32 := Scalar.addi c0_i32_1368 v4941
  let v4939 : BitVec 32 := Scalar.addi c0_i32_1368 v4938
  let c1_i32_1371 : BitVec 32 := 1#32
  ⟨v4942, v4939, c1_i32_1371⟩
def k0_off316 (v4864_0 : BitVec 32) (k0_t110 : Fin (k0_t110_loop v4864_0).trips) : Fin 1 → Nat :=
  let c0_i32_1368 : BitVec 32 := 0#32
  let c1_i32_1366 : BitVec 32 := 1#32
  let v4937 : BitVec 32 := Scalar.subi v4864_0 c1_i32_1366
  let v4938 : BitVec 32 := Scalar.subi v4937 c0_i32_1368
  let c1_i32_1369 : BitVec 32 := 1#32
  let v4940 : BitVec 32 := Scalar.divsi v4938 c1_i32_1369
  let v4941 : BitVec 32 := Scalar.muli v4940 c1_i32_1369
  let v4942 : BitVec 32 := Scalar.addi c0_i32_1368 v4941
  let c1_i32_1371 : BitVec 32 := 1#32
  let arg17 : BitVec 32 := Scf.iv v4942 c1_i32_1371 k0_t110
  let v4944 : Index := Scalar.indexCast arg17
  ![v4944.toNat]
@[reducible] def k0_t111_loop (v4864_0 : BitVec 32) (k0_t110 : Fin (k0_t110_loop v4864_0).trips) : Scf.Loop 32 :=
  let c0_i32_1368 : BitVec 32 := 0#32
  let c1_i32_1366 : BitVec 32 := 1#32
  let v4937 : BitVec 32 := Scalar.subi v4864_0 c1_i32_1366
  let v4938 : BitVec 32 := Scalar.subi v4937 c0_i32_1368
  let c1_i32_1369 : BitVec 32 := 1#32
  let v4940 : BitVec 32 := Scalar.divsi v4938 c1_i32_1369
  let v4941 : BitVec 32 := Scalar.muli v4940 c1_i32_1369
  let v4942 : BitVec 32 := Scalar.addi c0_i32_1368 v4941
  let c1_i32_1371 : BitVec 32 := 1#32
  let arg17 : BitVec 32 := Scf.iv v4942 c1_i32_1371 k0_t110
  let c1_i32_1372 : BitVec 32 := 1#32
  let v4956 : BitVec 32 := Scalar.addi arg17 c1_i32_1372
  let v4957 : BitVec 32 := Scalar.subi v4864_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1375 : BitVec 32 := 1#32
  ⟨v4956, v4961, c1_i32_1375⟩
def k0_off317 (v4864_0 : BitVec 32) (k0_t110 : Fin (k0_t110_loop v4864_0).trips) (k0_t111 : Fin (k0_t111_loop v4864_0 k0_t110).trips) : Fin 1 → Nat :=
  let c0_i32_1368 : BitVec 32 := 0#32
  let c1_i32_1366 : BitVec 32 := 1#32
  let v4937 : BitVec 32 := Scalar.subi v4864_0 c1_i32_1366
  let v4938 : BitVec 32 := Scalar.subi v4937 c0_i32_1368
  let c1_i32_1369 : BitVec 32 := 1#32
  let v4940 : BitVec 32 := Scalar.divsi v4938 c1_i32_1369
  let v4941 : BitVec 32 := Scalar.muli v4940 c1_i32_1369
  let v4942 : BitVec 32 := Scalar.addi c0_i32_1368 v4941
  let c1_i32_1371 : BitVec 32 := 1#32
  let arg17 : BitVec 32 := Scf.iv v4942 c1_i32_1371 k0_t110
  let c1_i32_1372 : BitVec 32 := 1#32
  let v4956 : BitVec 32 := Scalar.addi arg17 c1_i32_1372
  let c1_i32_1375 : BitVec 32 := 1#32
  let arg18 : BitVec 32 := Scf.iv v4956 c1_i32_1375 k0_t111
  let v4962 : Index := Scalar.indexCast arg18
  ![v4962.toNat]
def k0_off318 (v4949 : BitVec 32) (v4991 : BitVec 32) : Fin 1 → Nat :=
  let c5824_i32 : BitVec 32 := 5824#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5824_i32 v5014
  let v5048 : Index := Scalar.indexCast v5015
  ![v5048.toNat]

def k0_off319 (v4949 : BitVec 32) (v4991 : BitVec 32) : Fin 1 → Nat :=
  let c5824_i32 : BitVec 32 := 5824#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5824_i32 v5014
  let c16_i32_1396 : BitVec 32 := 16#32
  let v5056 : BitVec 32 := Scalar.addi v5015 c16_i32_1396
  let v5057 : Index := Scalar.indexCast v5056
  ![v5057.toNat]

def k0_chk95 (v4949 : BitVec 32) (v4991 : BitVec 32) : Prop :=
  (∀ a, (k0_off318 v4949 v4991) a + S16.size a ≤ S6144.size a) ∧
  (∀ a, (k0_off319 v4949 v4991) a + S16.size a ≤ S6144.size a)
theorem k0_off318_inb : ∀ (v4949 : BitVec 32) (v4991 : BitVec 32) (k0_hw95 : k0_chk95 v4949 v4991), ∀ a, (k0_off318 v4949 v4991) a + S16.size a ≤ S6144.size a := fun v4949 v4991 k0_hw95 => k0_hw95.1
theorem k0_off319_inb : ∀ (v4949 : BitVec 32) (v4991 : BitVec 32) (k0_hw95 : k0_chk95 v4949 v4991), ∀ a, (k0_off319 v4949 v4991) a + S16.size a ≤ S6144.size a := fun v4949 v4991 k0_hw95 => k0_hw95.2

@[reducible] def k0_t112_loop (v4864_0 : BitVec 32) (k0_t110 : Fin (k0_t110_loop v4864_0).trips) : Scf.Loop 32 :=
  let c0_i32_1368 : BitVec 32 := 0#32
  let c1_i32_1366 : BitVec 32 := 1#32
  let v4937 : BitVec 32 := Scalar.subi v4864_0 c1_i32_1366
  let v4938 : BitVec 32 := Scalar.subi v4937 c0_i32_1368
  let c1_i32_1369 : BitVec 32 := 1#32
  let v4940 : BitVec 32 := Scalar.divsi v4938 c1_i32_1369
  let v4941 : BitVec 32 := Scalar.muli v4940 c1_i32_1369
  let v4942 : BitVec 32 := Scalar.addi c0_i32_1368 v4941
  let c1_i32_1371 : BitVec 32 := 1#32
  let arg17 : BitVec 32 := Scf.iv v4942 c1_i32_1371 k0_t110
  let c1_i32_1372 : BitVec 32 := 1#32
  let v4956 : BitVec 32 := Scalar.addi arg17 c1_i32_1372
  let v4957 : BitVec 32 := Scalar.subi v4864_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let v4958 : BitVec 32 := Scalar.addi v4956 v4957
  let c1_i32_1376 : BitVec 32 := 1#32
  ⟨v4961, v4958, c1_i32_1376⟩
def k0_off320 (v4864_0 : BitVec 32) (k0_t110 : Fin (k0_t110_loop v4864_0).trips) (k0_t112 : Fin (k0_t112_loop v4864_0 k0_t110).trips) : Fin 1 → Nat :=
  let c0_i32_1368 : BitVec 32 := 0#32
  let c1_i32_1366 : BitVec 32 := 1#32
  let v4937 : BitVec 32 := Scalar.subi v4864_0 c1_i32_1366
  let v4938 : BitVec 32 := Scalar.subi v4937 c0_i32_1368
  let c1_i32_1369 : BitVec 32 := 1#32
  let v4940 : BitVec 32 := Scalar.divsi v4938 c1_i32_1369
  let v4941 : BitVec 32 := Scalar.muli v4940 c1_i32_1369
  let v4942 : BitVec 32 := Scalar.addi c0_i32_1368 v4941
  let c1_i32_1371 : BitVec 32 := 1#32
  let arg17 : BitVec 32 := Scf.iv v4942 c1_i32_1371 k0_t110
  let c1_i32_1372 : BitVec 32 := 1#32
  let v4956 : BitVec 32 := Scalar.addi arg17 c1_i32_1372
  let v4957 : BitVec 32 := Scalar.subi v4864_0 v4956
  let c1_i32_1374 : BitVec 32 := 1#32
  let v4959 : BitVec 32 := Scalar.divsi v4957 c1_i32_1374
  let v4960 : BitVec 32 := Scalar.muli v4959 c1_i32_1374
  let v4961 : BitVec 32 := Scalar.addi v4956 v4960
  let c1_i32_1376 : BitVec 32 := 1#32
  let arg18 : BitVec 32 := Scf.iv v4961 c1_i32_1376 k0_t112
  let v4962 : Index := Scalar.indexCast arg18
  ![v4962.toNat]

def k0_chk92 (v4864_0 : BitVec 32) : Prop :=
  ((k0_t107_loop v4864_0).OK) ∧
  (∀ k0_t107 : Fin (k0_t107_loop v4864_0).trips, ∀ a, (k0_off309 v4864_0 k0_t107) a + S1.size a ≤ S40.size a) ∧
  (∀ k0_t107 : Fin (k0_t107_loop v4864_0).trips, (k0_t108_loop v4864_0 k0_t107).OK) ∧
  (∀ (k0_t107 : Fin (k0_t107_loop v4864_0).trips) (k0_t108 : Fin (k0_t108_loop v4864_0 k0_t107).trips), ∀ a, (k0_off310 v4864_0 k0_t107 k0_t108) a + S1.size a ≤ S40.size a) ∧
  (∀ k0_t107 : Fin (k0_t107_loop v4864_0).trips, (k0_t109_loop v4864_0 k0_t107).OK) ∧
  (∀ (k0_t107 : Fin (k0_t107_loop v4864_0).trips) (k0_t109 : Fin (k0_t109_loop v4864_0 k0_t107).trips), ∀ a, (k0_off313 v4864_0 k0_t107 k0_t109) a + S1.size a ≤ S40.size a) ∧
  ((k0_t110_loop v4864_0).OK) ∧
  (∀ k0_t110 : Fin (k0_t110_loop v4864_0).trips, ∀ a, (k0_off316 v4864_0 k0_t110) a + S1.size a ≤ S40.size a) ∧
  (∀ k0_t110 : Fin (k0_t110_loop v4864_0).trips, (k0_t111_loop v4864_0 k0_t110).OK) ∧
  (∀ (k0_t110 : Fin (k0_t110_loop v4864_0).trips) (k0_t111 : Fin (k0_t111_loop v4864_0 k0_t110).trips), ∀ a, (k0_off317 v4864_0 k0_t110 k0_t111) a + S1.size a ≤ S40.size a) ∧
  (∀ k0_t110 : Fin (k0_t110_loop v4864_0).trips, (k0_t112_loop v4864_0 k0_t110).OK) ∧
  (∀ (k0_t110 : Fin (k0_t110_loop v4864_0).trips) (k0_t112 : Fin (k0_t112_loop v4864_0 k0_t110).trips), ∀ a, (k0_off320 v4864_0 k0_t110 k0_t112) a + S1.size a ≤ S40.size a)
theorem k0_t107_ok : ∀ (v4864_0 : BitVec 32) (k0_hw92 : k0_chk92 v4864_0), (k0_t107_loop v4864_0).OK := fun v4864_0 k0_hw92 => k0_hw92.1
theorem k0_off309_inb : ∀ (v4864_0 : BitVec 32) (k0_hw92 : k0_chk92 v4864_0) (k0_t107 : Fin (k0_t107_loop v4864_0).trips), ∀ a, (k0_off309 v4864_0 k0_t107) a + S1.size a ≤ S40.size a := fun v4864_0 k0_hw92 k0_t107 => k0_hw92.2.1 k0_t107
theorem k0_t108_ok : ∀ (v4864_0 : BitVec 32) (k0_hw92 : k0_chk92 v4864_0) (k0_t107 : Fin (k0_t107_loop v4864_0).trips), (k0_t108_loop v4864_0 k0_t107).OK := fun v4864_0 k0_hw92 k0_t107 => k0_hw92.2.2.1 k0_t107
theorem k0_off310_inb : ∀ (v4864_0 : BitVec 32) (k0_hw92 : k0_chk92 v4864_0) (k0_t107 : Fin (k0_t107_loop v4864_0).trips) (k0_t108 : Fin (k0_t108_loop v4864_0 k0_t107).trips), ∀ a, (k0_off310 v4864_0 k0_t107 k0_t108) a + S1.size a ≤ S40.size a := fun v4864_0 k0_hw92 k0_t107 k0_t108 => k0_hw92.2.2.2.1 k0_t107 k0_t108
theorem k0_t109_ok : ∀ (v4864_0 : BitVec 32) (k0_hw92 : k0_chk92 v4864_0) (k0_t107 : Fin (k0_t107_loop v4864_0).trips), (k0_t109_loop v4864_0 k0_t107).OK := fun v4864_0 k0_hw92 k0_t107 => k0_hw92.2.2.2.2.1 k0_t107
theorem k0_off313_inb : ∀ (v4864_0 : BitVec 32) (k0_hw92 : k0_chk92 v4864_0) (k0_t107 : Fin (k0_t107_loop v4864_0).trips) (k0_t109 : Fin (k0_t109_loop v4864_0 k0_t107).trips), ∀ a, (k0_off313 v4864_0 k0_t107 k0_t109) a + S1.size a ≤ S40.size a := fun v4864_0 k0_hw92 k0_t107 k0_t109 => k0_hw92.2.2.2.2.2.1 k0_t107 k0_t109
theorem k0_t110_ok : ∀ (v4864_0 : BitVec 32) (k0_hw92 : k0_chk92 v4864_0), (k0_t110_loop v4864_0).OK := fun v4864_0 k0_hw92 => k0_hw92.2.2.2.2.2.2.1
theorem k0_off316_inb : ∀ (v4864_0 : BitVec 32) (k0_hw92 : k0_chk92 v4864_0) (k0_t110 : Fin (k0_t110_loop v4864_0).trips), ∀ a, (k0_off316 v4864_0 k0_t110) a + S1.size a ≤ S40.size a := fun v4864_0 k0_hw92 k0_t110 => k0_hw92.2.2.2.2.2.2.2.1 k0_t110
theorem k0_t111_ok : ∀ (v4864_0 : BitVec 32) (k0_hw92 : k0_chk92 v4864_0) (k0_t110 : Fin (k0_t110_loop v4864_0).trips), (k0_t111_loop v4864_0 k0_t110).OK := fun v4864_0 k0_hw92 k0_t110 => k0_hw92.2.2.2.2.2.2.2.2.1 k0_t110
theorem k0_off317_inb : ∀ (v4864_0 : BitVec 32) (k0_hw92 : k0_chk92 v4864_0) (k0_t110 : Fin (k0_t110_loop v4864_0).trips) (k0_t111 : Fin (k0_t111_loop v4864_0 k0_t110).trips), ∀ a, (k0_off317 v4864_0 k0_t110 k0_t111) a + S1.size a ≤ S40.size a := fun v4864_0 k0_hw92 k0_t110 k0_t111 => k0_hw92.2.2.2.2.2.2.2.2.2.1 k0_t110 k0_t111
theorem k0_t112_ok : ∀ (v4864_0 : BitVec 32) (k0_hw92 : k0_chk92 v4864_0) (k0_t110 : Fin (k0_t110_loop v4864_0).trips), (k0_t112_loop v4864_0 k0_t110).OK := fun v4864_0 k0_hw92 k0_t110 => k0_hw92.2.2.2.2.2.2.2.2.2.2.1 k0_t110
theorem k0_off320_inb : ∀ (v4864_0 : BitVec 32) (k0_hw92 : k0_chk92 v4864_0) (k0_t110 : Fin (k0_t110_loop v4864_0).trips) (k0_t112 : Fin (k0_t112_loop v4864_0 k0_t110).trips), ∀ a, (k0_off320 v4864_0 k0_t110 k0_t112) a + S1.size a ≤ S40.size a := fun v4864_0 k0_hw92 k0_t110 k0_t112 => k0_hw92.2.2.2.2.2.2.2.2.2.2.2 k0_t110 k0_t112

def k0_off321 (v4949 : BitVec 32) (v4991 : BitVec 32) : Fin 1 → Nat :=
  let c5824_i32 : BitVec 32 := 5824#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5824_i32 v5014
  let v5048 : Index := Scalar.indexCast v5015
  ![v5048.toNat]

def k0_off322 (v4949 : BitVec 32) (v4991 : BitVec 32) : Fin 1 → Nat :=
  let c5824_i32 : BitVec 32 := 5824#32
  let v4992 : BitVec 32 := Scalar.minsi v4949 v4991
  let c7_i32_1382 : BitVec 32 := 7#32
  let v4994 : BitVec 32 := Scalar.subi c7_i32_1382 v4992
  let v4995 : BitVec 32 := Scalar.muli v4992 v4994
  let c0_i32_1384 : BitVec 32 := 0#32
  let v4997 : BitVec 1 := Scalar.cmpi .sgt v4995 c0_i32_1384
  let v4998 : BitVec 32 := Scalar.extui v4997
  let c0_i32_1385 : BitVec 32 := 0#32
  let v4999 : BitVec 1 := Scalar.cmpi .slt v4995 c0_i32_1385
  let v5000 : BitVec 32 := Scalar.extui v4999
  let v5001 : BitVec 32 := Scalar.subi v4998 v5000
  let c2_i32_1383 : BitVec 32 := 2#32
  let c0_i32_1386 : BitVec 32 := 0#32
  let v5002 : BitVec 1 := Scalar.cmpi .sgt c2_i32_1383 c0_i32_1386
  let v5003 : BitVec 32 := Scalar.extui v5002
  let c0_i32_1387 : BitVec 32 := 0#32
  let v5004 : BitVec 1 := Scalar.cmpi .slt c2_i32_1383 c0_i32_1387
  let v5005 : BitVec 32 := Scalar.extui v5004
  let v5006 : BitVec 32 := Scalar.subi v5003 v5005
  let v5007 : BitVec 1 := Scalar.cmpi .ne v5001 v5006
  let v5008 : BitVec 32 := Scalar.remsi v4995 c2_i32_1383
  let c0_i32_1388 : BitVec 32 := 0#32
  let v5009 : BitVec 1 := Scalar.cmpi .ne v5008 c0_i32_1388
  let v5010 : BitVec 1 := Scalar.andi v5007 v5009
  let v4996 : BitVec 32 := Scalar.divsi v4995 c2_i32_1383
  let c1_i32_1389 : BitVec 32 := 1#32
  let v5011 : BitVec 32 := Scalar.subi v4996 c1_i32_1389
  let v5012 : BitVec 32 := Scalar.select v5010 v5011 v4996
  let v4993 : BitVec 32 := Scalar.maxsi v4949 v4991
  let v5013 : BitVec 32 := Scalar.addi v5012 v4993
  let c32_i32_1390 : BitVec 32 := 32#32
  let v5014 : BitVec 32 := Scalar.muli v5013 c32_i32_1390
  let v5015 : BitVec 32 := Scalar.addi c5824_i32 v5014
  let c16_i32_1396 : BitVec 32 := 16#32
  let v5056 : BitVec 32 := Scalar.addi v5015 c16_i32_1396
  let v5057 : Index := Scalar.indexCast v5056
  ![v5057.toNat]

def k0_chk96 (v4949 : BitVec 32) (v4991 : BitVec 32) : Prop :=
  (∀ a, (k0_off321 v4949 v4991) a + S16.size a ≤ S6144.size a) ∧
  (∀ a, (k0_off322 v4949 v4991) a + S16.size a ≤ S6144.size a)
theorem k0_off321_inb : ∀ (v4949 : BitVec 32) (v4991 : BitVec 32) (k0_hw96 : k0_chk96 v4949 v4991), ∀ a, (k0_off321 v4949 v4991) a + S16.size a ≤ S6144.size a := fun v4949 v4991 k0_hw96 => k0_hw96.1
theorem k0_off322_inb : ∀ (v4949 : BitVec 32) (v4991 : BitVec 32) (k0_hw96 : k0_chk96 v4949 v4991), ∀ a, (k0_off322 v4949 v4991) a + S16.size a ≤ S6144.size a := fun v4949 v4991 k0_hw96 => k0_hw96.2

def k0_off323 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v4943 : BitVec 32 := Scalar.muli v1 c6144_i32
  ![v4943.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x32 : Shape := ⟨2, ![16, 32]⟩
abbrev S16x32x3 : Shape := ⟨3, ![16, 32, 3]⟩
abbrev S1 : Shape := ⟨1, ![1]⟩
abbrev S16 : Shape := ⟨1, ![16]⟩
abbrev S4 : Shape := ⟨1, ![4]⟩
abbrev S8 : Shape := ⟨1, ![8]⟩
abbrev S10 : Shape := ⟨1, ![10]⟩
abbrev S_ : Shape := ⟨0, ![]⟩
abbrev S16x1x32x3 : Shape := ⟨4, ![16, 1, 32, 3]⟩
abbrev S16x32x1x3 : Shape := ⟨4, ![16, 32, 1, 3]⟩
abbrev S16x32x32x3 : Shape := ⟨4, ![16, 32, 32, 3]⟩
abbrev S32x32 : Shape := ⟨2, ![32, 32]⟩
abbrev S16x32x32 : Shape := ⟨3, ![16, 32, 32]⟩
abbrev S1x32x32 : Shape := ⟨3, ![1, 32, 32]⟩
abbrev S16x32x32x1 : Shape := ⟨4, ![16, 32, 32, 1]⟩
abbrev S1x1x1x16 : Shape := ⟨4, ![1, 1, 1, 16]⟩
abbrev S16x32x32x16 : Shape := ⟨4, ![16, 32, 32, 16]⟩
abbrev S16x32x1 : Shape := ⟨3, ![16, 32, 1]⟩
abbrev S1x1x4 : Shape := ⟨3, ![1, 1, 4]⟩
abbrev S16x32x4 : Shape := ⟨3, ![16, 32, 4]⟩
abbrev S16x32x16x4 : Shape := ⟨4, ![16, 32, 16, 4]⟩
abbrev S16x32x4x16 : Shape := ⟨4, ![16, 32, 4, 16]⟩
abbrev S16x32x64 : Shape := ⟨3, ![16, 32, 64]⟩
abbrev S16x32x32x32 : Shape := ⟨4, ![16, 32, 32, 32]⟩
abbrev S16x32x1x32 : Shape := ⟨4, ![16, 32, 1, 32]⟩
abbrev S16x32x32x32x1 : Shape := ⟨5, ![16, 32, 32, 32, 1]⟩
abbrev S1x1x1x1x8 : Shape := ⟨5, ![1, 1, 1, 1, 8]⟩
abbrev S16x32x32x32x8 : Shape := ⟨5, ![16, 32, 32, 32, 8]⟩
abbrev S1x1x1x1x4 : Shape := ⟨5, ![1, 1, 1, 1, 4]⟩
abbrev S16x32x32x32x4 : Shape := ⟨5, ![16, 32, 32, 32, 4]⟩
abbrev S16x32x32x32x1x8 : Shape := ⟨6, ![16, 32, 32, 32, 1, 8]⟩
abbrev S16x32x32x32x4x1 : Shape := ⟨6, ![16, 32, 32, 32, 4, 1]⟩
abbrev S16x32x32x32x4x8 : Shape := ⟨6, ![16, 32, 32, 32, 4, 8]⟩
abbrev S16x32x32x32x1x1 : Shape := ⟨6, ![16, 32, 32, 32, 1, 1]⟩
abbrev S16x32x32x32x32 : Shape := ⟨5, ![16, 32, 32, 32, 32]⟩
abbrev S1x1x32x32 : Shape := ⟨4, ![1, 1, 32, 32]⟩
abbrev S16x32x1x1 : Shape := ⟨4, ![16, 32, 1, 1]⟩
abbrev S16x1x32x1 : Shape := ⟨4, ![16, 1, 32, 1]⟩
abbrev S1x1x1x10 : Shape := ⟨4, ![1, 1, 1, 10]⟩
abbrev S16x32x1x10 : Shape := ⟨4, ![16, 32, 1, 10]⟩
abbrev S16x1x32x10 : Shape := ⟨4, ![16, 1, 32, 10]⟩
abbrev S16x32x32x10 : Shape := ⟨4, ![16, 32, 32, 10]⟩
abbrev S16x32x10x32 : Shape := ⟨4, ![16, 32, 10, 32]⟩
abbrev S16x32x320 : Shape := ⟨3, ![16, 32, 320]⟩
abbrev S16x32x384 : Shape := ⟨3, ![16, 32, 384]⟩

abbrev nBuf : Space → Nat
  | .hbm => 373
  | .vmem => 0
  | .smem => 0
  | _ => 0

abbrev hbmTy0_0 (i : Nat) : BufTy := match i % 128 with
  | 0 => ⟨S16x32, .i32⟩
  | 1 => ⟨S16x32x3, .f32⟩
  | 2 => ⟨S1, .f32⟩
  | 3 => ⟨S16, .f32⟩
  | 4 => ⟨S1, .f32⟩
  | 5 => ⟨S1, .f32⟩
  | 6 => ⟨S4, .f32⟩
  | 7 => ⟨S8, .f32⟩
  | 8 => ⟨S4, .f32⟩
  | 9 => ⟨S10, .i32⟩
  | 10 => ⟨S10, .i32⟩
  | 11 => ⟨S16, .i32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S8, .i32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S16x1x32x3, .f32⟩
  | 28 => ⟨S16x32x1x3, .f32⟩
  | 29 => ⟨S16x32x32x3, .f32⟩
  | 30 => ⟨S16x32x32x3, .f32⟩
  | 31 => ⟨S16x32x32x3, .f32⟩
  | 32 => ⟨S32x32, .i32⟩
  | 33 => ⟨S32x32, .i32⟩
  | 34 => ⟨S_, .i32⟩
  | 35 => ⟨S32x32, .i32⟩
  | 36 => ⟨S32x32, .i32⟩
  | 37 => ⟨S32x32, .i1⟩
  | 38 => ⟨S16x32x32x3, .f32⟩
  | 39 => ⟨S_, .f32⟩
  | 40 => ⟨S16x32x32, .f32⟩
  | 41 => ⟨S1x32x32, .i1⟩
  | 42 => ⟨S1x32x32, .f32⟩
  | 43 => ⟨S16x32x32, .f32⟩
  | 44 => ⟨S16x32x32, .f32⟩
  | 45 => ⟨S16x32x32, .f32⟩
  | 46 => ⟨S_, .f32⟩
  | 47 => ⟨S16x32x32, .f32⟩
  | 48 => ⟨S16x32x32, .f32⟩
  | 49 => ⟨S_, .f32⟩
  | 50 => ⟨S16x32x32, .f32⟩
  | 51 => ⟨S16x32x32, .f32⟩
  | 52 => ⟨S16x32x32, .f32⟩
  | 53 => ⟨S16x32x32, .f32⟩
  | 54 => ⟨S_, .f32⟩
  | 55 => ⟨S16x32x32, .f32⟩
  | 56 => ⟨S16x32x32, .f32⟩
  | 57 => ⟨S16x32x32, .f32⟩
  | 58 => ⟨S16x32x32, .f32⟩
  | 59 => ⟨S16x32x32, .f32⟩
  | 60 => ⟨S_, .f32⟩
  | 61 => ⟨S16x32x32, .f32⟩
  | 62 => ⟨S16x32x32, .f32⟩
  | 63 => ⟨S16x32x32, .f32⟩
  | 64 => ⟨S16x32x32, .f32⟩
  | 65 => ⟨S16x32x32, .f32⟩
  | 66 => ⟨S_, .f32⟩
  | 67 => ⟨S16x32x32, .f32⟩
  | 68 => ⟨S16x32x32, .f32⟩
  | 69 => ⟨S16x32x32, .f32⟩
  | 70 => ⟨S16x32x32, .f32⟩
  | 71 => ⟨S16x32x32, .f32⟩
  | 72 => ⟨S_, .f32⟩
  | 73 => ⟨S16x32x32, .f32⟩
  | 74 => ⟨S16x32x32, .f32⟩
  | 75 => ⟨S16x32x32, .f32⟩
  | 76 => ⟨S16x32x32, .f32⟩
  | 77 => ⟨S16x32x32, .f32⟩
  | 78 => ⟨S_, .f32⟩
  | 79 => ⟨S16x32x32, .f32⟩
  | 80 => ⟨S16x32x32, .f32⟩
  | 81 => ⟨S16x32x32, .f32⟩
  | 82 => ⟨S16x32x32, .f32⟩
  | 83 => ⟨S_, .f32⟩
  | 84 => ⟨S16x32x32, .f32⟩
  | 85 => ⟨S16x32x32, .f32⟩
  | 86 => ⟨S_, .f32⟩
  | 87 => ⟨S16x32x32, .f32⟩
  | 88 => ⟨S16x32x32, .f32⟩
  | 89 => ⟨S_, .f32⟩
  | 90 => ⟨S16x32x32, .f32⟩
  | 91 => ⟨S16x32x32, .i1⟩
  | 92 => ⟨S32x32, .i1⟩
  | 93 => ⟨S1x32x32, .i1⟩
  | 94 => ⟨S16x32x32, .i1⟩
  | 95 => ⟨S16x32x32, .i1⟩
  | 96 => ⟨S16x32x32x1, .f32⟩
  | 97 => ⟨S1x1x1x16, .f32⟩
  | 98 => ⟨S16x32x32x16, .f32⟩
  | 99 => ⟨S16x32x32x16, .f32⟩
  | 100 => ⟨S16x32x32x16, .f32⟩
  | 101 => ⟨S16x32x32x16, .f32⟩
  | 102 => ⟨S_, .f32⟩
  | 103 => ⟨S16x32x32x16, .f32⟩
  | 104 => ⟨S16x32x32x16, .f32⟩
  | 105 => ⟨S16x32x32x16, .f32⟩
  | 106 => ⟨S_, .f32⟩
  | 107 => ⟨S16x32x32x16, .f32⟩
  | 108 => ⟨S16x32x32x16, .f32⟩
  | 109 => ⟨S16x32x32x1, .f32⟩
  | 110 => ⟨S16x32x32x16, .f32⟩
  | 111 => ⟨S16x32x32x16, .f32⟩
  | 112 => ⟨S16x32x32x1, .i1⟩
  | 113 => ⟨S16x32x32x1, .f32⟩
  | 114 => ⟨S16x32x32x16, .f32⟩
  | 115 => ⟨S16x32x32x16, .f32⟩
  | 116 => ⟨S16x32x1, .i32⟩
  | 117 => ⟨S4, .i32⟩
  | 118 => ⟨S1x1x4, .i32⟩
  | 119 => ⟨S16x32x4, .i32⟩
  | 120 => ⟨S16x32x4, .i32⟩
  | 121 => ⟨S16x32x4, .i1⟩
  | 122 => ⟨S16x32x4, .f32⟩
  | 123 => ⟨S16x32x16x4, .f32⟩
  | 124 => ⟨S16x32x4x16, .f32⟩
  | 125 => ⟨S16x32x64, .f32⟩
  | 126 => ⟨S_, .f32⟩
  | 127 => ⟨S16x32x32, .f32⟩
  | _ => ⟨S16x32, .i32⟩

abbrev hbmTy0_1 (i : Nat) : BufTy := match i % 128 with
  | 0 => ⟨S16x32x32, .i1⟩
  | 1 => ⟨S32x32, .i1⟩
  | 2 => ⟨S1x32x32, .i1⟩
  | 3 => ⟨S16x32x32, .i1⟩
  | 4 => ⟨S16x32x32, .i1⟩
  | 5 => ⟨S16x32x32x32, .f32⟩
  | 6 => ⟨S16x32x32x1, .f32⟩
  | 7 => ⟨S16x32x1x32, .f32⟩
  | 8 => ⟨S16x32x32x32, .f32⟩
  | 9 => ⟨S16x32x32x32, .f32⟩
  | 10 => ⟨S16x32x32x32, .f32⟩
  | 11 => ⟨S_, .f32⟩
  | 12 => ⟨S16x32x32x32, .f32⟩
  | 13 => ⟨S16x32x32x32, .f32⟩
  | 14 => ⟨S16x32x32x32, .f32⟩
  | 15 => ⟨S_, .f32⟩
  | 16 => ⟨S16x32x32x32, .f32⟩
  | 17 => ⟨S16x32x32x32, .f32⟩
  | 18 => ⟨S16x32x32x32, .f32⟩
  | 19 => ⟨S_, .f32⟩
  | 20 => ⟨S16x32x32, .f32⟩
  | 21 => ⟨S16x32x32, .f32⟩
  | 22 => ⟨S_, .f32⟩
  | 23 => ⟨S16x32x32, .f32⟩
  | 24 => ⟨S16x32x32, .f32⟩
  | 25 => ⟨S16x32x32, .f32⟩
  | 26 => ⟨S16x32x32, .f32⟩
  | 27 => ⟨S_, .f32⟩
  | 28 => ⟨S16x32x32, .f32⟩
  | 29 => ⟨S16x32x32, .f32⟩
  | 30 => ⟨S16x32x32, .f32⟩
  | 31 => ⟨S16x32x32, .f32⟩
  | 32 => ⟨S16x32x32, .f32⟩
  | 33 => ⟨S_, .f32⟩
  | 34 => ⟨S16x32x32, .f32⟩
  | 35 => ⟨S16x32x32, .f32⟩
  | 36 => ⟨S16x32x32, .f32⟩
  | 37 => ⟨S16x32x32, .f32⟩
  | 38 => ⟨S16x32x32, .f32⟩
  | 39 => ⟨S_, .f32⟩
  | 40 => ⟨S16x32x32, .f32⟩
  | 41 => ⟨S16x32x32, .f32⟩
  | 42 => ⟨S16x32x32, .f32⟩
  | 43 => ⟨S16x32x32, .f32⟩
  | 44 => ⟨S16x32x32, .f32⟩
  | 45 => ⟨S_, .f32⟩
  | 46 => ⟨S16x32x32, .f32⟩
  | 47 => ⟨S16x32x32, .f32⟩
  | 48 => ⟨S16x32x32, .f32⟩
  | 49 => ⟨S16x32x32, .f32⟩
  | 50 => ⟨S16x32x32, .f32⟩
  | 51 => ⟨S_, .f32⟩
  | 52 => ⟨S16x32x32, .f32⟩
  | 53 => ⟨S16x32x32, .f32⟩
  | 54 => ⟨S16x32x32, .f32⟩
  | 55 => ⟨S16x32x32, .f32⟩
  | 56 => ⟨S_, .f32⟩
  | 57 => ⟨S16x32x32, .f32⟩
  | 58 => ⟨S16x32x32, .f32⟩
  | 59 => ⟨S_, .f32⟩
  | 60 => ⟨S16x32x32, .f32⟩
  | 61 => ⟨S16x32x32, .f32⟩
  | 62 => ⟨S16x32x32x1, .f32⟩
  | 63 => ⟨S16x32x1x32, .f32⟩
  | 64 => ⟨S16x32x32x32, .f32⟩
  | 65 => ⟨S16x32x32x32, .f32⟩
  | 66 => ⟨S16x32x32x32, .f32⟩
  | 67 => ⟨S16x32x32x32, .f32⟩
  | 68 => ⟨S16x32x32x32x1, .f32⟩
  | 69 => ⟨S_, .f32⟩
  | 70 => ⟨S8, .f32⟩
  | 71 => ⟨S8, .f32⟩
  | 72 => ⟨S8, .f32⟩
  | 73 => ⟨S8, .f32⟩
  | 74 => ⟨S_, .f32⟩
  | 75 => ⟨S8, .f32⟩
  | 76 => ⟨S8, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S8, .f32⟩
  | 86 => ⟨S_, .f32⟩
  | 87 => ⟨S8, .f32⟩
  | 88 => ⟨S8, .f32⟩
  | 89 => ⟨S8, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S8, .f32⟩
  | 97 => ⟨S8, .f32⟩
  | 98 => ⟨S_, .f32⟩
  | 99 => ⟨S8, .f32⟩
  | 100 => ⟨S8, .f32⟩
  | 101 => ⟨S8, .f32⟩
  | 102 => ⟨S8, .f32⟩
  | 103 => ⟨S1x1x1x1x8, .f32⟩
  | 104 => ⟨S16x32x32x32x8, .f32⟩
  | 105 => ⟨S16x32x32x32x8, .f32⟩
  | 106 => ⟨S16x32x32x32x8, .f32⟩
  | 107 => ⟨S16x32x32x32, .f32⟩
  | 108 => ⟨S16x32x32x32x1, .f32⟩
  | 109 => ⟨S_, .f32⟩
  | 110 => ⟨S8, .f32⟩
  | 111 => ⟨S8, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S8, .f32⟩
  | 123 => ⟨S8, .f32⟩
  | 124 => ⟨S_, .f32⟩
  | 125 => ⟨S8, .f32⟩
  | 126 => ⟨S8, .f32⟩
  | 127 => ⟨S8, .f32⟩
  | _ => ⟨S16x32, .i32⟩

abbrev hbmTy0_2 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S8, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S1x1x1x1x8, .f32⟩
  | 19 => ⟨S16x32x32x32x8, .f32⟩
  | 20 => ⟨S16x32x32x32x8, .f32⟩
  | 21 => ⟨S16x32x32x32x8, .f32⟩
  | 22 => ⟨S16x32x32x32x8, .f32⟩
  | 23 => ⟨S_, .f32⟩
  | 24 => ⟨S16x32x32x32x8, .f32⟩
  | 25 => ⟨S16x32x32x32x8, .f32⟩
  | 26 => ⟨S_, .f32⟩
  | 27 => ⟨S16x32x32x32x8, .f32⟩
  | 28 => ⟨S16x32x32x32x8, .f32⟩
  | 29 => ⟨S16x32x32x32x8, .f32⟩
  | 30 => ⟨S16x32x32x32x8, .f32⟩
  | 31 => ⟨S16x32x32x32x8, .f32⟩
  | 32 => ⟨S16x32x32x32x8, .f32⟩
  | 33 => ⟨S16x32x32x32x8, .f32⟩
  | 34 => ⟨S16x32x32x1, .f32⟩
  | 35 => ⟨S16x32x1x32, .f32⟩
  | 36 => ⟨S16x32x32x32, .f32⟩
  | 37 => ⟨S16x32x32x32, .f32⟩
  | 38 => ⟨S16x32x32x32, .f32⟩
  | 39 => ⟨S_, .f32⟩
  | 40 => ⟨S16x32x32x32, .f32⟩
  | 41 => ⟨S16x32x32x32, .f32⟩
  | 42 => ⟨S16x32x32x32x1, .f32⟩
  | 43 => ⟨S1x1x1x1x4, .f32⟩
  | 44 => ⟨S16x32x32x32x4, .f32⟩
  | 45 => ⟨S16x32x32x32x4, .f32⟩
  | 46 => ⟨S16x32x32x32x4, .f32⟩
  | 47 => ⟨S_, .f32⟩
  | 48 => ⟨S16x32x32x32x4, .f32⟩
  | 49 => ⟨S16x32x32x32x4, .f32⟩
  | 50 => ⟨S16x32x32x32x4, .f32⟩
  | 51 => ⟨S16x32x32x32x4, .f32⟩
  | 52 => ⟨S16x32x32x32x1x8, .f32⟩
  | 53 => ⟨S_, .f32⟩
  | 54 => ⟨S16x32x32x32x1x8, .f32⟩
  | 55 => ⟨S16x32x32x32x1x8, .f32⟩
  | 56 => ⟨S16x32x32x32x4x1, .f32⟩
  | 57 => ⟨S16x32x32x32x4x8, .f32⟩
  | 58 => ⟨S16x32x32x32x4x8, .f32⟩
  | 59 => ⟨S16x32x32x32x4x8, .f32⟩
  | 60 => ⟨S16x32x32x32x1x1, .f32⟩
  | 61 => ⟨S16x32x32x32x4x8, .f32⟩
  | 62 => ⟨S16x32x32x32x4x8, .f32⟩
  | 63 => ⟨S16x32x32x32x32, .f32⟩
  | 64 => ⟨S_, .i1⟩
  | 65 => ⟨S32x32, .i1⟩
  | 66 => ⟨S32x32, .i32⟩
  | 67 => ⟨S_, .i32⟩
  | 68 => ⟨S32x32, .i32⟩
  | 69 => ⟨S32x32, .i32⟩
  | 70 => ⟨S32x32, .i32⟩
  | 71 => ⟨S32x32, .i1⟩
  | 72 => ⟨S_, .i1⟩
  | 73 => ⟨S32x32, .i1⟩
  | 74 => ⟨S32x32, .i1⟩
  | 75 => ⟨S16x32x32x1, .i1⟩
  | 76 => ⟨S16x32x1x32, .i1⟩
  | 77 => ⟨S16x32x32x32, .i1⟩
  | 78 => ⟨S16x32x32x32, .i1⟩
  | 79 => ⟨S16x32x32x32, .i1⟩
  | 80 => ⟨S1x1x32x32, .i1⟩
  | 81 => ⟨S16x32x32x32, .i1⟩
  | 82 => ⟨S16x32x32x32, .i1⟩
  | 83 => ⟨S16x32x1x1, .i32⟩
  | 84 => ⟨S16x1x32x1, .i32⟩
  | 85 => ⟨S1x1x1x10, .i32⟩
  | 86 => ⟨S16x32x1x10, .i32⟩
  | 87 => ⟨S16x32x1x10, .i32⟩
  | 88 => ⟨S16x32x1x10, .i1⟩
  | 89 => ⟨S1x1x1x10, .i32⟩
  | 90 => ⟨S16x1x32x10, .i32⟩
  | 91 => ⟨S16x1x32x10, .i32⟩
  | 92 => ⟨S16x1x32x10, .i1⟩
  | 93 => ⟨S16x32x32x10, .i1⟩
  | 94 => ⟨S16x32x32x10, .i1⟩
  | 95 => ⟨S16x32x32x10, .i1⟩
  | 96 => ⟨S1x1x1x10, .i32⟩
  | 97 => ⟨S16x32x1x10, .i32⟩
  | 98 => ⟨S16x32x1x10, .i32⟩
  | 99 => ⟨S16x32x1x10, .i1⟩
  | 100 => ⟨S1x1x1x10, .i32⟩
  | 101 => ⟨S16x1x32x10, .i32⟩
  | 102 => ⟨S16x1x32x10, .i32⟩
  | 103 => ⟨S16x1x32x10, .i1⟩
  | 104 => ⟨S16x32x32x10, .i1⟩
  | 105 => ⟨S16x32x32x10, .i1⟩
  | 106 => ⟨S16x32x32x10, .i1⟩
  | 107 => ⟨S16x32x32x10, .i1⟩
  | 108 => ⟨S16x32x32x10, .f32⟩
  | 109 => ⟨S16x32x32x32x1, .i1⟩
  | 110 => ⟨S16x32x32x32x1, .f32⟩
  | 111 => ⟨S16x32x32x32x32, .f32⟩
  | 112 => ⟨S16x32x32x32x32, .f32⟩
  | 113 => ⟨S16x32x32x10, .f32⟩
  | 114 => ⟨S16x32x10x32, .f32⟩
  | 115 => ⟨S16x32x320, .f32⟩
  | 116 => ⟨S16x32x384, .f32⟩
  | _ => ⟨S16x32, .i32⟩

abbrev hbmTy (i : Nat) : BufTy := match i / 128 with
  | 0 => hbmTy0_0 i
  | 1 => hbmTy0_1 i
  | 2 => hbmTy0_2 i
  | _ => ⟨S16x32, .i32⟩

abbrev bufTy : (tb : Table) → Fin (tcTables nBuf tb) → BufTy
  | .hbm, ⟨i, _⟩ => hbmTy i
  | _, _ => ⟨S16x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_20 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_21 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_22 : Ref sig .tc := ⟨.hbm, 147, rfl⟩
abbrev main_v115 : Ref sig .tc := ⟨.hbm, 148, rfl⟩
abbrev main_v116 : Ref sig .tc := ⟨.hbm, 149, rfl⟩
abbrev main_cst_23 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_24 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_25 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_26 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_27 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_28 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_29 : Ref sig .tc := ⟨.hbm, 184, rfl⟩
abbrev main_v145 : Ref sig .tc := ⟨.hbm, 185, rfl⟩
abbrev main_v146 : Ref sig .tc := ⟨.hbm, 186, rfl⟩
abbrev main_cst_30 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_31 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_32 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_cst_33 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_34 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_cst_35 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_cst_36 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_cst_37 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_cst_38 : Ref sig .tc := ⟨.hbm, 241, rfl⟩
abbrev main_v193 : Ref sig .tc := ⟨.hbm, 242, rfl⟩
abbrev main_v194 : Ref sig .tc := ⟨.hbm, 243, rfl⟩
abbrev main_cst_39 : Ref sig .tc := ⟨.hbm, 244, rfl⟩
abbrev main_v195 : Ref sig .tc := ⟨.hbm, 245, rfl⟩
abbrev main_v196 : Ref sig .tc := ⟨.hbm, 246, rfl⟩
abbrev main_cst_40 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_cst_41 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_cst_42 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_cst_43 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_cst_44 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_cst_45 : Ref sig .tc := ⟨.hbm, 279, rfl⟩
abbrev main_v224 : Ref sig .tc := ⟨.hbm, 280, rfl⟩
abbrev main_v225 : Ref sig .tc := ⟨.hbm, 281, rfl⟩
abbrev main_cst_46 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_cst_47 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_cst_48 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_cst_49 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_c_50 : Ref sig .tc := ⟨.hbm, 320, rfl⟩
abbrev main_v260 : Ref sig .tc := ⟨.hbm, 321, rfl⟩
abbrev main_call0_v0 : Ref sig .tc := ⟨.hbm, 322, rfl⟩
abbrev main_call0_c : Ref sig .tc := ⟨.hbm, 323, rfl⟩
abbrev main_call0_v1 : Ref sig .tc := ⟨.hbm, 324, rfl⟩
abbrev main_call0_v2 : Ref sig .tc := ⟨.hbm, 325, rfl⟩
abbrev main_call0_v3 : Ref sig .tc := ⟨.hbm, 326, rfl⟩
abbrev main_call0_v4 : Ref sig .tc := ⟨.hbm, 327, rfl⟩
abbrev main_call0_c_0 : Ref sig .tc := ⟨.hbm, 328, rfl⟩
abbrev main_call0_v5 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩

abbrev nD : Nat := 1
abbrev τ : Topo := Topo.v7x

variable {F : FTy → Type} [FloatOps F]
-- ==== Proof.Row.lean ====
/-
  The kernel's body as sixteen runs of ONE row program.

  A tile computes sixteen rows of the result, and the printed body lays the sixteen out one after another. Here the
  work of a row is written once, over the row's number, and the printed body is shown to be the copies in, the row
  program at 0, …, 15, and the copy out (`Body.lean`). What a row computes is named on the way: the distances and
  weights of sixteen atoms (`distV`, `radW`, `angW`), the radial term of one neighbour (`radTerm`), and the two
  angular vectors of a pair of neighbours (`angLo`, `angHi`).
-/
module

public import proofs.«01_k».proof.Proof.Gen.KernelIdeal

@[expose] public section

noncomputable section

namespace Cert.Proof.Row

open Cert.KernelIdeal Cert.KernelIdeal.Gen

open Idealize.ShloMosaic Idealize.SL.Sem

variable {F : FTy → Type} [FloatOps F]

/-! ## Vectors a row is computed with -/

/-- A literal word in every lane. -/
abbrev lit (w : BitVec 32) : FVec F S16 .f32 := broadcast S16 (Scalar.ofBits .f32 w)
/-- The lane numbers. -/
def lane : IVec S16 32 := iota .scVector S16 32 [0] iota_S16_d0_w32_scVector
/-- Zero in every lane. -/
def zeroV : FVec F S16 .f32 := lit 0x00000000#32
/-- The first lane of a vector just read. -/
def first (v : Vec F S16 .f32) : F .f32 :=
  extractAt ![0] (extractStridedSlice S1 ![0] (shapeCast S16 v shapeCasts_S16_S16) slices_S16_o0_S1) inpos_S1_p0
/-- The first lane of a vector of species just read. -/
def firstI (v : Vec F S16 .i32) : BitVec 32 :=
  extractAt ![0] (extractStridedSlice S1 ![0] (shapeCast S16 v shapeCasts_S16_S16 : IVec S16 32) slices_S16_o0_S1) inpos_S1_p0

/-- The kernel's cosine on [0, π]: minus the sine series at `v − π/2`. -/
def cosV (v : FVec F S16 .f32) : FVec F S16 .f32 :=
  have t : FVec F S16 .f32 := subf v (lit 0x3FC90FDB#32)
  have q : FVec F S16 .f32 := mulf t t
  subf (lit 0x00000000#32) (mulf t (addf (lit 0x3F800000#32) (mulf q (addf (lit 0xBE2AAAAB#32) (mulf q
    (addf (lit 0x3C088889#32) (mulf q (addf (lit 0xB9500D01#32) (mulf q (addf (lit 0x3638EF1D#32)
      (mulf q (lit 0xB2D7322B#32))))))))))))

/-- The kernel's sine on [0, π]: the cosine series at `v − π/2`. -/
def sinV (v : FVec F S16 .f32) : FVec F S16 .f32 :=
  have t : FVec F S16 .f32 := subf v (lit 0x3FC90FDB#32)
  have q : FVec F S16 .f32 := mulf t t
  addf (lit 0x3F800000#32) (mulf q (addf (lit 0xBF000000#32) (mulf q (addf (lit 0x3D2AAAAB#32) (mulf q
    (addf (lit 0xBAB60B61#32) (mulf q (addf (lit 0x37D00D01#32) (mulf q (lit 0xB493F27E#32))))))))))

/-- The radial shifts, one per lane. -/
def shfR : FVec F S16 .f32 := addf (lit 0x3F666666#32) (mulf (lit 0x3E89999A#32) (sitofp .f32 lane))
/-- The lane number modulo eight. -/
def lane8 : IVec S16 32 :=
  let c : BitVec 32 := Scalar.select (Scalar.cmpi .eq 8#32 0#32) 1#32 8#32
  have m : IVec S16 32 := remsi lane (broadcast S16 c)
  select (andi (xori (cmpi .slt m (broadcast S16 0#32)) (broadcastTo S16 (broadcast S16 (Scalar.cmpi .slt c 0#32)) broadcasts_S16_S16))
    (cmpi .ne m (broadcast S16 0#32))) (addi m (broadcast S16 c)) m
/-- The angular shift angles of the eight bins, twice over. -/
def angZ : FVec F S16 .f32 := addf (lit 0x3E490FDB#32) (mulf (sitofp .f32 lane8) (lit 0x3EC90FDB#32))
/-- Their cosines and sines. -/
def cosZ : FVec F S16 .f32 := cosV angZ
def sinZ : FVec F S16 .f32 := sinV angZ
/-- The angular distance shifts of the first two bins, and of the last two, eight lanes each. -/
def shfLo : FVec F S16 .f32 := select (cmpi .slt lane (broadcast S16 8#32)) (lit 0x3F666666#32) (lit 0x3FC66666#32)
def shfHi : FVec F S16 .f32 := select (cmpi .slt lane (broadcast S16 8#32)) (lit 0x400CCCCD#32) (lit 0x40366666#32)

/-- Distances of sixteen atoms to the row's. -/
def distV (xs ys zs : Vec F S16 .f32) (xi yi zi : F .f32) : FVec F S16 .f32 :=
  have x : FVec F S16 .f32 := subf (shapeCast S16 xs shapeCasts_S16_S16) (broadcast S16 xi)
  have y : FVec F S16 .f32 := subf (shapeCast S16 ys shapeCasts_S16_S16) (broadcast S16 yi)
  have z : FVec F S16 .f32 := subf (shapeCast S16 zs shapeCasts_S16_S16) (broadcast S16 zi)
  have d2 : FVec F S16 .f32 := maximumf (addf (addf (mulf x x) (mulf y y)) (mulf z z)) (lit 0x179ABE15#32)
  mulf d2 (rsqrt d2)

/-- Which of sixteen atoms (numbered from `o`) are within the cutoff `w` and are not the row's own atom. -/
def near (w : BitVec 32) (o : ℕ) (i : BitVec 32) (d : FVec F S16 .f32) : IVec S16 1 :=
  andi (cmpf .ole d (lit w)) (cmpi .ne (addi lane (broadcast S16 (BitVec.ofNat 32 o))) (broadcast S16 i))

/-- Half of one plus the cosine of a distance scaled by `w` (π over the cutoff). -/
def cutV (w : BitVec 32) (d : FVec F S16 .f32) : FVec F S16 .f32 :=
  addf (lit 0x3F000000#32) (mulf (lit 0x3F000000#32) (cosV (mulf d (lit w))))

/-- The radial weights: a quarter of the radial cutoff function, zero for an atom not counted. -/
def radW (o : ℕ) (i : BitVec 32) (d : FVec F S16 .f32) : FVec F S16 .f32 :=
  select (near 0x40A66666#32 o i d) (mulf (lit 0x3E800000#32) (cutV 0x3F1AA9BC#32 d)) (lit 0x00000000#32)
/-- The angular weights: the angular cutoff function, zero for an atom not counted. -/
def angW (o : ℕ) (i : BitVec 32) (d : FVec F S16 .f32) : FVec F S16 .f32 :=
  select (near 0x40600000#32 o i d) (cutV 0x3F65C8FA#32 d) (lit 0x00000000#32)

/-- One atom's radial vector: its weight times the Gaussians of its distance. -/
def radTerm (w d : F .f32) : FVec F S16 .f32 :=
  have e : FVec F S16 .f32 := subf (broadcast S16 d) shfR
  mulf (broadcast S16 w) (exp (mulf (mulf (lit 0xC1800000#32) e) e))

/-- A radial accumulator after one atom: the atom's vector added if the atom's species is the accumulator's. -/
def radStep (s : BitVec 32) (sj : BitVec 32) (t a : FVec F S16 .f32) : FVec F S16 .f32 :=
  Scalar.select (Scalar.cmpi .eq sj s) (addf a t) a

/-! ## A pair of neighbours -/

/-- 0.95 times the cosine of the angle between two neighbours. -/
def cos95 (dij dik xj yj zj xk yk zk : F .f32) : F .f32 :=
  have rg : F .f32 := Scalar.rsqrt (Scalar.maximumf (Scalar.mulf dij dik) (Scalar.ofBits .f32 0x2EDBE6FF#32))
  Scalar.mulf (Scalar.mulf (Scalar.ofBits .f32 0x3F733333#32) (Scalar.addf (Scalar.addf (Scalar.mulf xj xk) (Scalar.mulf yj yk)) (Scalar.mulf zj zk)))
    (Scalar.mulf rg rg)
/-- The sine that goes with it. -/
def sin95 (c : F .f32) : F .f32 :=
  have s2 : F .f32 := Scalar.maximumf (Scalar.subf (Scalar.ofBits .f32 0x3F800000#32) (Scalar.mulf c c)) (Scalar.ofBits .f32 0x179ABE15#32)
  Scalar.mulf s2 (Scalar.rsqrt s2)
/-- The mean of the two distances. -/
def mean (dij dik : F .f32) : F .f32 := Scalar.mulf (Scalar.ofBits .f32 0x3F000000#32) (Scalar.addf dij dik)
/-- `x` to the thirty-second power. -/
def pow32 (x : FVec F S16 .f32) : FVec F S16 .f32 :=
  have x2 : FVec F S16 .f32 := mulf x x
  have x4 : FVec F S16 .f32 := mulf x2 x2
  have x8 : FVec F S16 .f32 := mulf x4 x4
  have x16 : FVec F S16 .f32 := mulf x8 x8
  mulf x16 x16
/-- The weights of a pair times the angular factor of the eight bins. -/
def angPre (faj fak c : F .f32) : FVec F S16 .f32 :=
  mulf (broadcast S16 (Scalar.mulf (Scalar.mulf (Scalar.ofBits .f32 0x40000000#32) faj) fak))
    (pow32 (addf (lit 0x3F000000#32) (mulf (lit 0x3F000000#32)
      (addf (mulf (broadcast S16 c) cosZ) (mulf (broadcast S16 (sin95 c)) sinZ)))))
/-- A pair's vector at the distance shifts `sh`. -/
def angVec (sh : FVec F S16 .f32) (dij dik faj fak xj yj zj xk yk zk : F .f32) : FVec F S16 .f32 :=
  have e : FVec F S16 .f32 := subf (broadcast S16 (mean dij dik)) sh
  mulf (angPre faj fak (cos95 dij dik xj yj zj xk yk zk)) (exp (mulf (mulf (lit 0xC1000000#32) e) e))

/-- Where the pair of species `sj`, `sk` is added to, in the tile's accumulator at row `r`: the row's 64 radial
    entries are followed by 32 per unordered pair of species. -/
def pairAt (r : ℕ) (sj sk : BitVec 32) : BitVec 32 :=
  let mn : BitVec 32 := Scalar.minsi sj sk
  let mx : BitVec 32 := Scalar.maxsi sj sk
  let p : BitVec 32 := Scalar.muli mn (Scalar.subi 7#32 mn)
  let v5001 : BitVec 32 := Scalar.subi (Scalar.extui (Scalar.cmpi .sgt p 0#32)) (Scalar.extui (Scalar.cmpi .slt p 0#32))
  let v5006 : BitVec 32 := Scalar.subi (Scalar.extui (Scalar.cmpi .sgt 2#32 0#32)) (Scalar.extui (Scalar.cmpi .slt 2#32 0#32))
  let v5010 : BitVec 1 := Scalar.andi (Scalar.cmpi .ne v5001 v5006) (Scalar.cmpi .ne (Scalar.remsi p 2#32) 0#32)
  let h : BitVec 32 := Scalar.select v5010 (Scalar.subi (Scalar.divsi p 2#32) 1#32) (Scalar.divsi p 2#32)
  Scalar.addi (BitVec.ofNat 32 (64 + 384 * r)) (Scalar.muli (Scalar.addi h mx) 32#32)
def pairLo (r : ℕ) (sj sk : BitVec 32) : Fin 1 → ℕ := ![(Scalar.indexCast (pairAt r sj sk)).toNat]
def pairHi (r : ℕ) (sj sk : BitVec 32) : Fin 1 → ℕ := ![(Scalar.indexCast (Scalar.addi (pairAt r sj sk) 16#32)).toNat]
/-- Both places lie in the accumulator (the run-time check of the body). -/
def PairOK (r : ℕ) (sj sk : BitVec 32) : Prop :=
  (∀ a, (pairLo r sj sk) a + S16.size a ≤ S6144.size a) ∧ (∀ a, (pairHi r sj sk) a + S16.size a ≤ S6144.size a)
instance PairOK.dec : ∀ (r : ℕ) (sj sk : BitVec 32), Decidable (PairOK r sj sk) :=
  fun r sj sk => decidable_of_iff' _ (Iff.of_eq (PairOK.eq_1 r sj sk))

/-! ## The programs -/

/-- Programs of the tile at the grid's coordinates `i`. -/
abbrev TP (F : FTy → Type) (i : grid0.Coords) : Type → Type 1 :=
  Prog (TpuEff nD τ sig (Elt F) Λ₀ (.scVector ((i 0).castLE hcore0) ((i 1).castLE hsub0)))

variable (i : grid0.Coords)
variable (arg5 : Memref sig .scVector .vmem S128 .f32) (arg6 : Memref sig .scVector .vmem S48 .i32)
  (arg7 arg8 arg9 : Memref sig .scVector .vmem S48 .f32) (arg10 : Memref sig .scVector .vmem S6144 .f32)
  (arg11 arg12 arg13 arg14 arg15 : Memref sig .scVector .smem S40 .f32) (arg16 : Memref sig .scVector .smem S40 .i32)

/-- Sixteen words inside 128. -/
theorem inb128 {o : ℕ} (h : o + 16 ≤ 128) : ∀ a, (![o] : Fin 1 → ℕ) a + S16.size a ≤ S128.size a := fun | 0 => h
/-- Sixteen words inside 48. -/
theorem inb48 {o : ℕ} (h : o + 16 ≤ 48) : ∀ a, (![o] : Fin 1 → ℕ) a + S16.size a ≤ S48.size a := fun | 0 => h
/-- Sixteen words inside 6144. -/
theorem inb6144 {o : ℕ} (h : o + 16 ≤ 6144) : ∀ a, (![o] : Fin 1 → ℕ) a + S16.size a ≤ S6144.size a := fun | 0 => h

/-- Sixteen words of the coordinates' scratch. -/
abbrev rdXyz (o : Fin 1 → ℕ) (h : ∀ a, o a + S16.size a ≤ S128.size a) : TP F i (Vec F S16 .f32) :=
  Prog.lift (.load arg5 (Rect.unit (s := S128) o S16.size h).toLoadRect (View.loadsAt_vmem h_S16))
/-- Sixteen words of a scratch buffer of one word per atom. -/
abbrev rdAtom {e : EltTy} (m : Memref sig .scVector .vmem S48 e) (o : Fin 1 → ℕ) (h : ∀ a, o a + S16.size a ≤ S48.size a) : TP F i (Vec F S16 e) :=
  Prog.lift (.load m (Rect.unit (s := S48) o S16.size h).toLoadRect (View.loadsAt_vmem h_S16))
/-- Sixteen words of the accumulator. -/
abbrev rdAcc (o : Fin 1 → ℕ) (h : ∀ a, o a + S16.size a ≤ S6144.size a) : TP F i (Vec F S16 .f32) :=
  Prog.lift (.load arg10 (Rect.unit (s := S6144) o S16.size h).toLoadRect (View.loadsAt_vmem h_S16))

/-- Store sixteen words of a scratch buffer of one word per atom (the body reads the place first). -/
def stAtom (m : Memref sig .scVector .vmem S48 .f32) (o : ℕ) (h : o + 16 ≤ 48) (v : FVec F S16 .f32) : TP F i PUnit := do
  let _ ← rdAtom i m ![o] (inb48 h)
  Prog.lift (.store m (Rect.unit (s := S48) ![o] S16.size (inb48 h)) (shapeCast S16 v shapeCasts_S16_S16) Finset.univ (View.stores_vmem_bits_univ h_S16 rfl) (.inl rfl))

/-- Store sixteen words of the accumulator (the body reads the place first). -/
def stAcc (o : Fin 1 → ℕ) (h : ∀ a, o a + S16.size a ≤ S6144.size a) (v : FVec F S16 .f32) : TP F i PUnit := do
  let _ ← rdAcc i arg10 o h
  Prog.lift (.store arg10 (Rect.unit (s := S6144) o S16.size h) (shapeCast S16 v shapeCasts_S16_S16) Finset.univ (View.stores_vmem_bits_univ h_S16 rfl) (.inl rfl))

/-- Add a vector to sixteen words of the accumulator. -/
def addAcc (o : Fin 1 → ℕ) (h : ∀ a, o a + S16.size a ≤ S6144.size a) (v : FVec F S16 .f32) : TP F i PUnit := do
  let a ← rdAcc i arg10 o h
  stAcc i arg10 o h (addf (shapeCast S16 a shapeCasts_S16_S16) v)

/-- Store zero in `n` successive vectors of the accumulator, the first at `o`. -/
def zeros : (n o : ℕ) → (h : o + 16 * n ≤ 6144) → TP F i PUnit
  | 0, _, _ => pure ⟨⟩
  | n + 1, o, h => do
    stAcc i arg10 ![o] (inb6144 (by omega)) zeroV
    zeros n (o + 16) (by omega)

/-- The distances and weights of the sixteen atoms from number `o` on, into their scratch buffers; `ia` is the row's
    atom, at `(xi, yi, zi)`. -/
def chunk (o : ℕ) (h : o + 16 ≤ 32) (ia : BitVec 32) (xi yi zi : F .f32) : TP F i PUnit := do
  let xs ← rdXyz i arg5 ![o] (inb128 (by omega))
  let ys ← rdXyz i arg5 ![32 + o] (inb128 (by omega))
  let zs ← rdXyz i arg5 ![64 + o] (inb128 (by omega))
  have d : FVec F S16 .f32 := distV xs ys zs xi yi zi
  stAtom i arg7 o (by omega) d
  stAtom i arg8 o (by omega) (radW o ia d)
  stAtom i arg9 o (by omega) (angW o ia d)

/-- A word read from, and stored to, a neighbour list (the body reads the place before it stores). -/
abbrev rdNb {e : EltTy} (m : Memref sig .scVector .smem S40 e) (he : e.packing = 1) (o : Fin 1 → ℕ) (h : ∀ a, o a + S1.size a ≤ S40.size a) :
    TP F i (Elt F e) :=
  smemLoad m (Rect.unit (s := S40) o S1.size h) numel1_S1 he
def stNb {e : EltTy} (m : Memref sig .scVector .smem S40 e) (he : e.packing = 1) (o : Fin 1 → ℕ) (h : ∀ a, o a + S1.size a ≤ S40.size a)
    (v : Elt F e) : TP F i PUnit := do
  let _ ← rdNb i m he o h
  Prog.lift (.store m (Rect.unit (s := S40) o S1.size h) (fun _ => v) Finset.univ (View.stores_smem_one he numel1_S1) (.inl rfl))

/-- Append atom number `t` to the neighbour lists at place `c`: its distance, weight, species and relative position. -/
def append (xi yi zi : F .f32) (t : Fin k0_t1_loop.trips) (c : BitVec 32) (h : ∀ a, (k0_off6 c) a + S1.size a ≤ S40.size a)
    (dj fa : F .f32) (sj : BitVec 32) : TP F i (BitVec 32) := do
  stNb i arg11 rfl (k0_off6 c) h dj
  stNb i arg12 rfl (k0_off6 c) h fa
  stNb i arg16 rfl (k0_off6 c) h sj
  let x ← rdXyz i arg5 (k0_off7 t) (k0_off7_inb t)
  stNb i arg13 rfl (k0_off6 c) h (Scalar.subf (first x) xi)
  let y ← rdXyz i arg5 (k0_off8 t 32#32) (k0_off8_inb t 0)
  stNb i arg14 rfl (k0_off6 c) h (Scalar.subf (first y) yi)
  let z ← rdXyz i arg5 (k0_off8 t 64#32) (k0_off8_inb t 1)
  stNb i arg15 rfl (k0_off6 c) h (Scalar.subf (first z) zi)
  pure (Scalar.addi c 1#32)

/-- What the loop over the atoms carries: how many neighbours so far, and the four radial accumulators. -/
abbrev Carry (F : FTy → Type) : Type := BitVec 32 × FVec F S16 .f32 × FVec F S16 .f32 × FVec F S16 .f32 × FVec F S16 .f32

/-- One atom: its radial vector into its species' accumulator; a neighbour of positive angular weight appended. -/
def atom (xi yi zi : F .f32) (t : Fin k0_t1_loop.trips) (s : Carry F) : TP F i (Carry F) := do
  let w ← rdAtom i arg8 (k0_off5 t) (k0_off5_inb t)
  let d ← rdAtom i arg7 (k0_off5 t) (k0_off5_inb t)
  have tm : FVec F S16 .f32 := radTerm (first w) (first d)
  let sj ← rdAtom i arg6 (k0_off5 t) (k0_off5_inb t)
  let fa ← rdAtom i arg9 (k0_off5 t) (k0_off5_inb t)
  have pos : BitVec 1 := Scalar.cmpf .ogt (first fa) (Scalar.ofBits .f32 0x00000000#32)
  have hw : k0_chk1 s.1 pos := (← Prog.lift (TpuEff.assume (k0_chk1 s.1 pos) (k0_chk1.dec s.1 pos))).down
  let c ← if h : k0_cond1 pos = 1#1 then
      append i arg5 arg11 arg12 arg13 arg14 arg15 arg16 xi yi zi t s.1 (k0_off6_inb s.1 pos hw h) (first d) (first fa) (firstI sj)
    else pure s.1
  pure (c, radStep 0#32 (firstI sj) tm s.2.1, radStep 1#32 (firstI sj) tm s.2.2.1, radStep 2#32 (firstI sj) tm s.2.2.2.1,
    radStep 3#32 (firstI sj) tm s.2.2.2.2)

/-- The pair of a first neighbour (given) and the neighbour at place `o` of the lists: its two vectors added to the
    accumulator at their pair of species. -/
def pair (r : ℕ) (dij faj : F .f32) (sj : BitVec 32) (xj yj zj : F .f32) (o : Fin 1 → ℕ) (h : ∀ a, o a + S1.size a ≤ S40.size a) :
    TP F i PUnit := do
  let dik ← rdNb i arg11 rfl o h
  let fak ← rdNb i arg12 rfl o h
  let xk ← rdNb i arg13 rfl o h
  let yk ← rdNb i arg14 rfl o h
  let zk ← rdNb i arg15 rfl o h
  let sk ← rdNb i arg16 rfl o h
  have hw : PairOK r sj sk := (← Prog.lift (TpuEff.assume (PairOK r sj sk) (PairOK.dec r sj sk))).down
  addAcc i arg10 (pairLo r sj sk) hw.1 (angVec shfLo dij dik faj fak xj yj zj xk yk zk)
  addAcc i arg10 (pairHi r sj sk) hw.2 (angVec shfHi dij dik faj fak xj yj zj xk yk zk)
  pure ⟨⟩

/-- All pairs of the first neighbour at place `o` with the later ones: `n` is how many neighbours there are, and the
    places of the later ones are those of the two loops `l`, `l'` (the second never runs: its bounds meet). -/
def pairs (r : ℕ) (l l' : Scf.Loop 32) (hl : l.OK) (hl' : l'.OK) (o : Fin 1 → ℕ) (h : ∀ a, o a + S1.size a ≤ S40.size a)
    (p : Fin l.trips → Fin 1 → ℕ) (hp : ∀ k a, p k a + S1.size a ≤ S40.size a)
    (p' : Fin l'.trips → Fin 1 → ℕ) (hp' : ∀ k a, p' k a + S1.size a ≤ S40.size a) : TP F i PUnit := do
  let dij ← rdNb i arg11 rfl o h
  let faj ← rdNb i arg12 rfl o h
  let sj ← rdNb i arg16 rfl o h
  let xj ← rdNb i arg13 rfl o h
  let yj ← rdNb i arg14 rfl o h
  let zj ← rdNb i arg15 rfl o h
  Scf.Loop.for l hl ⟨⟩ fun k _ => pair i arg10 arg11 arg12 arg13 arg14 arg15 arg16 r dij faj sj xj yj zj (p k) (hp k)
  Scf.Loop.for l' hl' ⟨⟩ fun k _ => pair i arg10 arg11 arg12 arg13 arg14 arg15 arg16 r dij faj sj xj yj zj (p' k) (hp' k)
  pure ⟨⟩

/-- The number of a tile's first atom (0 or 16), as the body computes it from the tile's coordinates. -/
def base : BitVec 32 :=
  let v1 : BitVec 32 := Scalar.addi (Scalar.muli (BitVec.ofNat 32 (i 1).val) 2#32) (BitVec.ofNat 32 (i 0).val)
  let v20 : BitVec 32 := Scalar.select (Scalar.cmpi .eq 2#32 0#32) 1#32 2#32
  let v21 : BitVec 32 := Scalar.remsi v1 v20
  let v26 : BitVec 1 := Scalar.andi (Scalar.xori (Scalar.cmpi .slt v21 0#32) (Scalar.cmpi .slt v20 0#32)) (Scalar.cmpi .ne v21 0#32)
  Scalar.muli (Scalar.select v26 (Scalar.addi v21 v20) v21) 16#32
/-- The number of the tile's `r`-th atom. -/
def ia (r : ℕ) : BitVec 32 := Scalar.addi (base i) (BitVec.ofNat 32 r)
/-- Where its coordinates are: `c` is 32 and 64 for the second and third. -/
def atX (r : ℕ) : Fin 1 → ℕ := ![(Scalar.indexCast (ia i r)).toNat]
def atYZ (r : ℕ) (c : BitVec 32) : Fin 1 → ℕ := ![(Scalar.indexCast (Scalar.addi c (ia i r))).toNat]

/-- A tile's first atom. -/
theorem base_eq (i : grid0.Coords) : base i = BitVec.ofNat 32 (16 * (i 0).val) := by decide +revert +kernel

/-- Where an atom's first coordinate is. -/
theorem atX_eq : ∀ (i : grid0.Coords) (r : Fin 16), atX i r.val 0 = 16 * (i 0).val + r.val := by decide +kernel
/-- Where its second coordinate is. -/
theorem atY_eq : ∀ (i : grid0.Coords) (r : Fin 16), atYZ i r.val 32#32 0 = 32 + (16 * (i 0).val + r.val) := by decide +kernel
/-- Where its third coordinate is. -/
theorem atZ_eq : ∀ (i : grid0.Coords) (r : Fin 16), atYZ i r.val 64#32 0 = 64 + (16 * (i 0).val + r.val) := by decide +kernel
/-- There are two cores. -/
theorem core_lt (i : grid0.Coords) : (i 0).val < 2 := (i 0).isLt
/-- The first coordinate's read is inside the buffer. -/
theorem atX_inb {r : ℕ} (hr : r < 16) : ∀ a, (atX i r) a + S16.size a ≤ S128.size a := fun
  | 0 => by have := atX_eq i ⟨r, hr⟩; have := core_lt i; show atX i r 0 + 16 ≤ 128; simp only at *; omega
/-- The second coordinate's read is inside the buffer. -/
theorem atY_inb {r : ℕ} (hr : r < 16) : ∀ a, (atYZ i r 32#32) a + S16.size a ≤ S128.size a := fun
  | 0 => by have := atY_eq i ⟨r, hr⟩; have := core_lt i; show atYZ i r _ 0 + 16 ≤ 128; simp only at *; omega
/-- The third coordinate's read is inside the buffer. -/
theorem atZ_inb {r : ℕ} (hr : r < 16) : ∀ a, (atYZ i r 64#32) a + S16.size a ≤ S128.size a := fun
  | 0 => by have := atZ_eq i ⟨r, hr⟩; have := core_lt i; show atYZ i r _ 0 + 16 ≤ 128; simp only at *; omega

/-- Row `r` of a tile: the distances and weights of all atoms, the radial accumulators and the neighbour lists, the
    row's entries of the accumulator started, and every pair of neighbours added in. -/
def row (r : ℕ) (hr : r < 16) : TP F i PUnit := do
  let x ← rdXyz i arg5 (atX i r) (atX_inb i hr)
  let y ← rdXyz i arg5 (atYZ i r 32#32) (atY_inb i hr)
  let z ← rdXyz i arg5 (atYZ i r 64#32) (atZ_inb i hr)
  chunk i arg5 arg7 arg8 arg9 0 (by omega) (ia i r) (first x) (first y) (first z)
  chunk i arg5 arg7 arg8 arg9 16 (by omega) (ia i r) (first x) (first y) (first z)
  let s : Carry F ← Scf.Loop.for k0_t1_loop k0_t1_ok (0#32, zeroV, zeroV, zeroV, zeroV) fun t s =>
    atom i arg5 arg6 arg7 arg8 arg9 arg11 arg12 arg13 arg14 arg15 arg16 (first x) (first y) (first z) t s
  have hw : k0_chk2 s.1 := (← Prog.lift (TpuEff.assume (k0_chk2 s.1) (k0_chk2.dec s.1))).down
  stAcc i arg10 ![384 * r] (inb6144 (by omega)) s.2.1
  stAcc i arg10 ![384 * r + 16] (inb6144 (by omega)) s.2.2.1
  stAcc i arg10 ![384 * r + 32] (inb6144 (by omega)) s.2.2.2.1
  stAcc i arg10 ![384 * r + 48] (inb6144 (by omega)) s.2.2.2.2
  zeros i arg10 20 (384 * r + 64) (by omega)
  Scf.Loop.for (k0_t2_loop s.1) (k0_t2_ok s.1 hw) ⟨⟩ fun t _ =>
    pairs i arg10 arg11 arg12 arg13 arg14 arg15 arg16 r (k0_t3_loop s.1 t) (k0_t4_loop s.1 t) (k0_t3_ok s.1 hw t) (k0_t4_ok s.1 hw t)
      (k0_off9 s.1 t) (k0_off9_inb s.1 hw t) (k0_off10 s.1 t) (k0_off10_inb s.1 hw t) (k0_off13 s.1 t) (k0_off13_inb s.1 hw t)
  Scf.Loop.for (k0_t5_loop s.1) (k0_t5_ok s.1 hw) ⟨⟩ fun t _ =>
    pairs i arg10 arg11 arg12 arg13 arg14 arg15 arg16 r (k0_t6_loop s.1 t) (k0_t7_loop s.1 t) (k0_t6_ok s.1 hw t) (k0_t7_ok s.1 hw t)
      (k0_off16 s.1 t) (k0_off16_inb s.1 hw t) (k0_off17 s.1 t) (k0_off17_inb s.1 hw t) (k0_off20 s.1 t) (k0_off20_inb s.1 hw t)

/-- The rows `r`, …, `r + n − 1`. -/
def rows : (n r : ℕ) → r + n ≤ 16 → TP F i PUnit
  | 0, _, _ => pure ⟨⟩
  | n + 1, r, h => do
    row i arg5 arg6 arg7 arg8 arg9 arg10 arg11 arg12 arg13 arg14 arg15 arg16 r (by omega)
    rows n (r + 1) (by omega)

variable (arg2 : Memref sig .scVector .hbm S1536 .f32) (arg3 : Memref sig .scVector .hbm S512 .i32)
  (arg4 : Memref sig .scVector .hbm S196608 .f32)

/-- The tile's coordinates and species, and its part of the result. -/
abbrev xyzSrc : Memref sig .scVector .hbm S96 .f32 := arg2.slice (Rect.unit (s := S1536) (k0_off1 i) S96.size (k0_off1_inb i)) (fun _ => rfl)
abbrev xyzDst : Memref sig .scVector .vmem S96 .f32 := arg5.slice (Rect.unit (s := S128) ![0] S96.size inb_S128_S96_0) (fun _ => rfl)
abbrev spSrc : Memref sig .scVector .hbm S32 .i32 := arg3.slice (Rect.unit (s := S512) (k0_off2 i) S32.size (k0_off2_inb i)) (fun _ => rfl)
abbrev spDst : Memref sig .scVector .vmem S32 .i32 := arg6.slice (Rect.unit (s := S48) ![0] S32.size inb_S48_S32_0) (fun _ => rfl)
abbrev outDst : Memref sig .scVector .hbm S6144 .f32 := arg4.slice (Rect.unit (s := S196608) (k0_off323 i) S6144.size (k0_off323_inb i)) (fun _ => rfl)

/-- A tile's whole body: copy the molecule in, run the sixteen rows, copy them out. -/
def body (h10 : arg10.IsWhole) (sem0 sem1 sem2 : DmaSems sig S_) : TP F i PUnit := do
  Prog.lift (.enqueueDma (xyzSrc i arg2) (.here (xyzDst arg5)) (.dma sem0.sem) (View.wordExact_bits rfl) (View.wordExact_bits rfl) ⟨Or.inl rfl, trivial⟩)
  Prog.lift (.waitDma2 sem0.sem (xyzSrc i arg2) (xyzDst arg5) (View.wordExact_bits rfl) (View.wordExact_bits rfl))
  Prog.lift (.enqueueDma (spSrc i arg3) (.here (spDst arg6)) (.dma sem1.sem) (View.wordExact_bits rfl) (View.wordExact_bits rfl) ⟨Or.inl rfl, trivial⟩)
  Prog.lift (.waitDma2 sem1.sem (spSrc i arg3) (spDst arg6) (View.wordExact_bits rfl) (View.wordExact_bits rfl))
  rows i arg5 arg6 arg7 arg8 arg9 arg10 arg11 arg12 arg13 arg14 arg15 arg16 16 0 (by omega)
  Prog.lift (.enqueueDma arg10 (.here (outDst i arg4)) (.dma sem2.sem) h10.wordExact (View.wordExact_bits rfl) ⟨Or.inl rfl, trivial⟩)
  Prog.lift (.waitDma2 sem2.sem arg10 (outDst i arg4) h10.wordExact (View.wordExact_bits rfl))
  pure ⟨⟩

end Cert.Proof.Row
-- ==== Proof.Loops.lean ====
/-
  The loops over the pairs of neighbours, and where a pair is added to: facts of the printed words.

  The body computes its loop bounds and its places from the number of neighbours, a word. A molecule has 32 atoms, so
  that number is at most 32, and each fact below is a finite table.
-/
module

public import proofs.«01_k».proof.Proof.Row

@[expose] public section

set_option maxRecDepth 100000

namespace Cert.Proof.Row

open Cert.KernelIdeal Cert.KernelIdeal.Gen
open Idealize.ShloMosaic

/-- A number of neighbours as the word the body counts with. -/
abbrev word (n : ℕ) : BitVec 32 := BitVec.ofNat 32 n

/-- The atoms' loop runs 32 times, and turn `t` reads atom `t`. -/
theorem trips1 : k0_t1_loop.trips = 32 := by decide +kernel
/-- Where the first loop reads an atom's species. -/
theorem off5_at : ∀ t : Fin k0_t1_loop.trips, k0_off5 t 0 = t.val := by decide +kernel
/-- Where the first loop reads an atom's first coordinate. -/
theorem off7_at : ∀ t : Fin k0_t1_loop.trips, k0_off7 t 0 = t.val := by decide +kernel
/-- Where the first loop reads an atom's second and third coordinates. -/
theorem off8_at : ∀ t : Fin k0_t1_loop.trips, k0_off8 t 32#32 0 = 32 + t.val ∧ k0_off8 t 64#32 0 = 64 + t.val := by decide +kernel
/-- The place a neighbour is appended at. -/
theorem off6_at : ∀ n : Fin 33, k0_off6 (word n.val) 0 = n.val := by decide +kernel
/-- The place is in the list. -/
theorem chk1_ok (n : Fin 33) (b : BitVec 1) : k0_chk1 (word n.val) b := fun _ a => by
  obtain rfl : a = 0 := Subsingleton.elim _ _
  have := off6_at n
  have := n.isLt
  show k0_off6 (word n.val) 0 + 1 ≤ 40
  omega
/-- The count of neighbours goes up by one. -/
theorem succ_word : ∀ n : Fin 33, Scalar.addi (word n.val) 1#32 = word (n.val + 1) := by decide +kernel
/-- The bounds of the pairs' loops and their places are in range. -/
theorem chk2_ok : ∀ n : Fin 33, k0_chk2 (word n.val) := by decide +kernel
/-- The loop over the first neighbours runs once for each that has a later one. -/
theorem trips2 : ∀ n : Fin 33, (k0_t2_loop (word n.val)).trips = n.val - 1 := by decide +kernel
/-- The remainder of the outer loop over neighbours makes no trip. -/
theorem trips5 : ∀ n : Fin 33, (k0_t5_loop (word n.val)).trips = 0 := by decide +kernel
/-- Where the outer loop over neighbours reads. -/
theorem off9_at : ∀ (n : Fin 33) (t : Fin (k0_t2_loop (word n.val)).trips), k0_off9 (word n.val) t 0 = t.val := by decide +kernel
/-- The loop over the later neighbours. -/
theorem trips3 : ∀ (n : Fin 33) (t : Fin (k0_t2_loop (word n.val)).trips), (k0_t3_loop (word n.val) t).trips = n.val - 1 - t.val := by decide +kernel
/-- The remainder of the inner loop over neighbours makes no trip. -/
theorem trips4 : ∀ (n : Fin 33) (t : Fin (k0_t2_loop (word n.val)).trips), (k0_t4_loop (word n.val) t).trips = 0 := by decide +kernel
/-- Where the inner loop over neighbours reads. -/
theorem off10_at : ∀ (n : Fin 33) (t : Fin (k0_t2_loop (word n.val)).trips) (q : Fin (k0_t3_loop (word n.val) t).trips),
    k0_off10 (word n.val) t q 0 = t.val + 1 + q.val := by decide +kernel

/-- Where an unordered pair of species' 32 entries begin in a row of the result. -/
def pairBase (sj sk : BitVec 32) : ℕ :=
  64 + 32 * (min sj.toNat sk.toNat * (7 - min sj.toNat sk.toNat) / 2 + max sj.toNat sk.toNat)

/-- The columns of a pair of species lie behind the radial ones and inside a row. -/
theorem pairBase_le : ∀ a b : Fin 4, pairBase (word a.val) (word b.val) + 32 ≤ 384 ∧ 64 ≤ pairBase (word a.val) (word b.val) := by decide +kernel
/-- The kernel's address of a pair's columns, over all species. -/
theorem pairLo_table : ∀ (r : Fin 16) (a b : Fin 4), pairLo r.val (word a.val) (word b.val) 0 = 384 * r.val + pairBase (word a.val) (word b.val)
    ∧ pairHi r.val (word a.val) (word b.val) 0 = 384 * r.val + pairBase (word a.val) (word b.val) + 16 := by decide +kernel

/-- A species word. -/
def Species (s : BitVec 32) : Prop := s.toNat < 4

/-- A species is one of the words 0 to 3. -/
theorem Species.word {s : BitVec 32} (h : Species s) : ∃ a : Fin 4, s = Row.word a.val :=
  ⟨⟨s.toNat, h⟩, by apply BitVec.eq_of_toNat_eq; simp [Row.word]⟩

/-- The same of two species of the molecule. -/
theorem pairBase_bounds {sj sk : BitVec 32} (hj : Species sj) (hk : Species sk) : 64 ≤ pairBase sj sk ∧ pairBase sj sk + 32 ≤ 384 := by
  obtain ⟨a, rfl⟩ := hj.word; obtain ⟨b, rfl⟩ := hk.word
  exact (pairBase_le a b).symm
/-- The kernel's address of a pair's columns. -/
theorem pairLo_at {r : ℕ} (hr : r < 16) {sj sk : BitVec 32} (hj : Species sj) (hk : Species sk) :
    pairLo r sj sk 0 = 384 * r + pairBase sj sk ∧ pairHi r sj sk 0 = 384 * r + pairBase sj sk + 16 := by
  obtain ⟨a, rfl⟩ := hj.word; obtain ⟨b, rfl⟩ := hk.word
  exact pairLo_table ⟨r, hr⟩ a b
/-- A pair's columns are inside the tile's rows. -/
theorem pairOK {r : ℕ} (hr : r < 16) {sj sk : BitVec 32} (hj : Species sj) (hk : Species sk) : PairOK r sj sk := by
  obtain ⟨h1, h2⟩ := pairLo_at hr hj hk
  have := pairBase_bounds hj hk
  refine ⟨fun a => ?_, fun a => ?_⟩ <;> obtain rfl : a = 0 := Subsingleton.elim _ _
  · show pairLo r sj sk 0 + 16 ≤ 6144; omega
  · show pairHi r sj sk 0 + 16 ≤ 6144; omega

end Cert.Proof.Row
-- ==== Proof.Species.lean ====
/-
  What the preconditions say of the species.
-/
module

public import proofs.«01_k».proof.Proof.Loops
public import proofs.«01_k».proof.Proof.Gen.Pre_species_in_range

@[expose] public section

noncomputable section

namespace Cert.Proof

open Idealize.ShloMosaic
open Cert.Proof.Row (Species)

/-- A word between 0 and 3, as the precondition tests it. -/
theorem species_of_bit (v : BitVec 32) (e : IntOp.andi (IntOp.cmpi .sge v 0#32) (IntOp.cmpi .slt v 4#32) = 1#1) : v.toNat < 4 := by
  have andi_ofBool : ∀ a b : Bool, IntOp.andi (BitVec.ofBool a) (BitVec.ofBool b) = BitVec.ofBool (a && b) := by decide
  have ofBool_eq_one : ∀ a : Bool, (BitVec.ofBool a = 1#1) = (a = true) := by decide
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-- The precondition of the frame: every species is one of the four. -/
theorem species_of_fn {F : FTy → Type} [FloatOps F] {a0 a1 a2 a3 a4 a5 a6 a7}
    (h : Cert.Pre_species_in_range.fn (F := F) a0 a1 a2 a3 a4 a5 a6 a7 = fun _ => 1#1) (y : Cert.Pre_species_in_range.S16x32.Idx) :
    Species (a0 y) := by
  have e := congrFun h y
  simp only [Cert.Pre_species_in_range.fn, andi, cmpi, broadcastInDim, constantI] at e
  exact species_of_bit _ e

end Cert.Proof

end
-- ==== Proof.Run.lean ====
/-
  Runs of a tile's programs between its scratch buffers.

  A tile's rows touch its own twelve scratch buffers and nothing else. `Mem` is what the buffers hold, as functions of
  the position; `own σ` says that the tile holds them so; and `Run p σ v σ'` says that `p`, begun at `σ`, returns `v`
  and leaves `σ'`. The rules below make `Run` a plain calculus of programs: sequence, loads, stores, checks, loops.
-/
module

public import proofs.«01_k».proof.Proof.Row
public import Idealize.ShloMosaic.Lib.SparseCore.Quiescent
public import Idealize.ShloMosaic.Lib.StableHlo.Run
public import Idealize.ShloMosaic.Lib.Pipeline.Kit
public import Idealize.ShloMosaic.Lib.VecWindow
public import Idealize.ShloMosaic.Lib.Pointwise.Reshape
public import Idealize.ShloMosaic.Lib.Tactic

@[expose] public section

noncomputable section

namespace Cert.Proof.Row

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UH : Type := URounds (GSem nD τ sig) ℕ
abbrev UU : Type := UH × Counters
/-- Assertions of the launch. -/
abbrev IProp (F : FTy → Type) : Type := sProp (MT nD τ sig (HIx 1) (Elt F) ℕ UU ℕ)
abbrev 𝒱₀ : Variants := Variants.none

/-- What a tile's scratch buffers hold, by position. -/
structure Mem (F : FTy → Type) where
  xyz : ℕ → F .f32
  sp : ℕ → BitVec 32
  dist : ℕ → F .f32
  wr : ℕ → F .f32
  wa : ℕ → F .f32
  acc : ℕ → F .f32
  nd : ℕ → F .f32
  nf : ℕ → F .f32
  nx : ℕ → F .f32
  ny : ℕ → F .f32
  nz : ℕ → F .f32
  ns : ℕ → BitVec 32

/-- `x` with `w` put over the `n` places from `o` on. -/
def put {α : Type} (x : ℕ → α) (o n : ℕ) (w : ℕ → α) : ℕ → α := fun j => if o ≤ j ∧ j < o + n then w (j - o) else x j

section Holds
variable (thr : Thread nD τ)

/-- The thread holds the buffer of `m`, a vector, with `x j` at position `j`. -/
def holds {sp : Space} {d : Fin 1 → ℕ} {e : EltTy} (m : Memref sig thr.2.kind sp ⟨1, d⟩ e) (x : ℕ → Elt F e) : IProp F :=
  iprop(∃ f, ⌜∀ y : (⟨1, d⟩ : Shape).Idx, m.view.read (Elt F) f y = x (y 0).val⌝ ∗ m.view.loc thr ↦[m.view.set]{fullShare} f)

variable {E : Set ℕ} {α : Type}

/-- A load reads the places from its offset on. -/
theorem wp_load_holds {cs : CoreSpace} {d : Fin 1 → ℕ} {e : EltTy} (m : Memref sig thr.2.kind cs ⟨1, d⟩ e) (x : ℕ → Elt F e)
    (o size : Fin 1 → ℕ) (h : ∀ a, o a + size a ≤ (⟨1, d⟩ : Shape).size a)
    {hl : m.view.LoadsAt (Rect.unit (s := ⟨1, d⟩) o size h).toLoadRect}
    {k : ((Rect.unit (s := ⟨1, d⟩) o size h).toLoadRect.shape.Idx → Elt F e) → Prog (TpuEff nD τ sig (Elt F) Λ₀ thr.2) α} {Q : α → IProp F} :
    iprop(holds thr m x ∗ (holds thr m x -∗ wp frame (wpE (defs₀ (F := F)) 𝒱₀ thr none) E (k fun y => x (o 0 + (y 0).val)) Q))
      ⊢ wp frame (wpE (defs₀ (F := F)) 𝒱₀ thr none) E (.op (.load m (Rect.unit (s := ⟨1, d⟩) o size h).toLoadRect hl) k) Q := by
  unfold holds
  iintro ⟨⟨%f, %hf, Hf⟩, Hk⟩
  have e1 : m.view.readAt (Elt F) (Rect.unit (s := ⟨1, d⟩) o size h).toLoadRect f = fun y => x (o 0 + (y 0).val) := by
    rw [View.readAt_unit m.view f h rfl h]
    funext y
    rw [VecWindow.window, hf]
    congr 1
    show o 0 + 1 * (y 0).val = _
    rw [Nat.one_mul]
  iapply (wp_load (defs := defs₀ (F := F)) 𝒱₀ thr none E (m := m) (hl := hl) (k := k) (Q := Q) (f := f) (q := fullShare) (View.setOn_subset_set _ _)) $$ Hf
  rw [e1]
  iintro Hf
  iapply Hk
  iexists f
  isplitr
  · ipureintro; exact hf
  · iexact Hf

/-- An unmasked store puts its values over the places from its offset on. -/
theorem wp_store_holds {cs : CoreSpace} {d : Fin 1 → ℕ} {e : EltTy} (m : Memref sig thr.2.kind cs ⟨1, d⟩ e) (x : ℕ → Elt F e)
    (o size : Fin 1 → ℕ) (h : ∀ a, o a + size a ≤ (⟨1, d⟩ : Shape).size a) (w : (Rect.unit (s := ⟨1, d⟩) o size h).shape.Idx → Elt F e)
    (w' : ℕ → Elt F e) (hw : ∀ y, w y = w' (y 0).val)
    {hx : (m.access (Rect.unit (s := ⟨1, d⟩) o size h)).Stores Finset.univ}
    {hm : Finset.univ = Finset.univ ∨ ∀ a, (Rect.unit (s := ⟨1, d⟩) o size h).stride a = 1}
    {k : PUnit → Prog (TpuEff nD τ sig (Elt F) Λ₀ thr.2) α} {Q : α → IProp F} :
    iprop(holds thr m x ∗ (holds thr m (put x (o 0) (size 0) w') -∗ wp frame (wpE (defs₀ (F := F)) 𝒱₀ thr none) E (k ⟨⟩) Q))
      ⊢ wp frame (wpE (defs₀ (F := F)) 𝒱₀ thr none) E (.op (.store m (Rect.unit (s := ⟨1, d⟩) o size h) w Finset.univ hx hm) k) Q := by
  unfold holds
  iintro ⟨⟨%f, %hf, Hf⟩, Hk⟩
  have key := wp_store_writes (defs := defs₀ (F := F)) 𝒱₀ thr none E (m := m) (r := Rect.unit (s := ⟨1, d⟩) o size h) (w := w) (hx := hx) (hm := hm) (k := k) (Q := Q)
    (S := m.view.set) (f := f) (L := []) (View.set_slice_subset _ _)
  rw [View.writes_nil] at key
  iapply key $$ Hf
  iintro Hf
  iapply Hk
  iexists _
  isplitr [Hf]
  rotate_left
  · iexact Hf
  · ipureintro
    intro y
    rw [View.read_writes_cons_put m.view f h w [] rfl, View.writes_nil]
    unfold VecWindow.put put
    have hc : (∀ a, o a ≤ (y a).val ∧ (y a).val < o a + size a) ↔ (o 0 ≤ (y 0).val ∧ (y 0).val < o 0 + size 0) :=
      ⟨fun H => H 0, fun H a => by rw [Subsingleton.elim a 0]; exact H⟩
    by_cases H : o 0 ≤ (y 0).val ∧ (y 0).val < o 0 + size 0
    · rw [dif_pos (hc.2 H), if_pos H]
      exact hw _
    · rw [dif_neg (mt hc.1 H), if_neg H]
      exact hf y

end Holds

/-! ## The buffers of a tile -/

/-- A tile's scratch buffers, as its programs name them. -/
structure Bufs where
  a5 : Memref sig .scVector .vmem S128 .f32
  a6 : Memref sig .scVector .vmem S48 .i32
  a7 : Memref sig .scVector .vmem S48 .f32
  a8 : Memref sig .scVector .vmem S48 .f32
  a9 : Memref sig .scVector .vmem S48 .f32
  a10 : Memref sig .scVector .vmem S6144 .f32
  a11 : Memref sig .scVector .smem S40 .f32
  a12 : Memref sig .scVector .smem S40 .f32
  a13 : Memref sig .scVector .smem S40 .f32
  a14 : Memref sig .scVector .smem S40 .f32
  a15 : Memref sig .scVector .smem S40 .f32
  a16 : Memref sig .scVector .smem S40 .i32

variable (i : grid0.Coords) (dv : Dev nD) (B : Bufs)

/-- The tile's thread. -/
abbrev tile : Thread nD τ := V dv ((i 0).castLE hcore0) ((i 1).castLE hsub0)

/-- The tile holds its scratch buffers, with the contents `σ`. -/
def own (σ : Mem F) : IProp F :=
  iprop(holds (tile i dv) B.a5 σ.xyz ∗ holds (tile i dv) B.a6 σ.sp ∗ holds (tile i dv) B.a7 σ.dist ∗ holds (tile i dv) B.a8 σ.wr
    ∗ holds (tile i dv) B.a9 σ.wa ∗ holds (tile i dv) B.a10 σ.acc ∗ holds (tile i dv) B.a11 σ.nd ∗ holds (tile i dv) B.a12 σ.nf
    ∗ holds (tile i dv) B.a13 σ.nx ∗ holds (tile i dv) B.a14 σ.ny ∗ holds (tile i dv) B.a15 σ.nz ∗ holds (tile i dv) B.a16 σ.ns)

/-- One of the buffers, `m`, whose contents are the component `get` of the state: it can be taken out and put back changed. -/
structure Focus {cs : CoreSpace} {d : Fin 1 → ℕ} {e : EltTy} (m : Memref sig .scVector cs ⟨1, d⟩ e) (get : Mem F → ℕ → Elt F e)
    (set : Mem F → (ℕ → Elt F e) → Mem F) : Prop where
  out : ∀ σ, own i dv B σ ⊢ iprop(holds (tile i dv) m (get σ) ∗ (∀ x, holds (tile i dv) m x -∗ own i dv B (set σ x)))
  back : ∀ σ, set σ (get σ) = σ

/-- The first factor of a product can be taken out. -/
theorem focus_here {ι : Type} (H : ι → IProp F) (x : ι) (R : IProp F) : iprop(H x ∗ R) ⊢ iprop(H x ∗ (∀ x', H x' -∗ H x' ∗ R)) := by
  iintro ⟨H, HR⟩
  isplitl [H]
  · iexact H
  · iintro %x' H
    isplitl [H]
    · iexact H
    · iexact HR

/-- The last factor of a product can be taken out. -/
theorem focus_last {ι : Type} (H : ι → IProp F) (x : ι) : H x ⊢ iprop(H x ∗ (∀ x', H x' -∗ H x')) := by
  iintro H
  isplitl [H]
  · iexact H
  · iintro %x' H
    iexact H

/-- What can be taken out of the rest can be taken out of the product. -/
theorem focus_there {ι : Type} {H : ι → IProp F} {x : ι} {P R : IProp F} {R' : ι → IProp F} (h : R ⊢ iprop(H x ∗ (∀ x', H x' -∗ R' x'))) :
    iprop(P ∗ R) ⊢ iprop(H x ∗ (∀ x', H x' -∗ P ∗ R' x')) := by
  iintro ⟨HP, HR⟩
  ihave HR := h $$ HR
  icases HR with ⟨H, Hb⟩
  isplitl [H]
  · iexact H
  · iintro %x' H
    isplitl [HP]
    · iexact HP
    · iapply Hb; iexact H

/-- The buffer of the coordinates, among the tile's buffers. -/
theorem focus_xyz : Focus (F := F) i dv B B.a5 Mem.xyz (fun σ x => { σ with xyz := x }) :=
  ⟨fun σ => focus_here (fun x => holds (tile i dv) B.a5 x) _ _, fun _ => rfl⟩
/-- The buffer of the species, among the tile's buffers. -/
theorem focus_sp : Focus (F := F) i dv B B.a6 Mem.sp (fun σ x => { σ with sp := x }) :=
  ⟨fun σ => focus_there <| focus_here (fun x => holds (tile i dv) B.a6 x) _ _, fun _ => rfl⟩
/-- The buffer of the distances, among the tile's buffers. -/
theorem focus_dist : Focus (F := F) i dv B B.a7 Mem.dist (fun σ x => { σ with dist := x }) :=
  ⟨fun σ => focus_there <| focus_there <| focus_here (fun x => holds (tile i dv) B.a7 x) _ _, fun _ => rfl⟩
/-- The buffer of the radial weights, among the tile's buffers. -/
theorem focus_wr : Focus (F := F) i dv B B.a8 Mem.wr (fun σ x => { σ with wr := x }) :=
  ⟨fun σ => focus_there <| focus_there <| focus_there <| focus_here (fun x => holds (tile i dv) B.a8 x) _ _, fun _ => rfl⟩
/-- The buffer of the angular weights, among the tile's buffers. -/
theorem focus_wa : Focus (F := F) i dv B B.a9 Mem.wa (fun σ x => { σ with wa := x }) :=
  ⟨fun σ => focus_there <| focus_there <| focus_there <| focus_there <| focus_here (fun x => holds (tile i dv) B.a9 x) _ _, fun _ => rfl⟩
/-- The buffer of the rows, among the tile's buffers. -/
theorem focus_acc : Focus (F := F) i dv B B.a10 Mem.acc (fun σ x => { σ with acc := x }) :=
  ⟨fun σ => focus_there <| focus_there <| focus_there <| focus_there <| focus_there <|
    focus_here (fun x => holds (tile i dv) B.a10 x) _ _, fun _ => rfl⟩
/-- The buffer of the neighbours' distances, among the tile's buffers. -/
theorem focus_nd : Focus (F := F) i dv B B.a11 Mem.nd (fun σ x => { σ with nd := x }) :=
  ⟨fun σ => focus_there <| focus_there <| focus_there <| focus_there <| focus_there <| focus_there <|
    focus_here (fun x => holds (tile i dv) B.a11 x) _ _, fun _ => rfl⟩
/-- The buffer of the neighbours' weights, among the tile's buffers. -/
theorem focus_nf : Focus (F := F) i dv B B.a12 Mem.nf (fun σ x => { σ with nf := x }) :=
  ⟨fun σ => focus_there <| focus_there <| focus_there <| focus_there <| focus_there <| focus_there <| focus_there <|
    focus_here (fun x => holds (tile i dv) B.a12 x) _ _, fun _ => rfl⟩
/-- The buffer of the neighbours' first differences, among the tile's buffers. -/
theorem focus_nx : Focus (F := F) i dv B B.a13 Mem.nx (fun σ x => { σ with nx := x }) :=
  ⟨fun σ => focus_there <| focus_there <| focus_there <| focus_there <| focus_there <| focus_there <| focus_there <| focus_there <|
    focus_here (fun x => holds (tile i dv) B.a13 x) _ _, fun _ => rfl⟩
/-- The buffer of the neighbours' second differences, among the tile's buffers. -/
theorem focus_ny : Focus (F := F) i dv B B.a14 Mem.ny (fun σ x => { σ with ny := x }) :=
  ⟨fun σ => focus_there <| focus_there <| focus_there <| focus_there <| focus_there <| focus_there <| focus_there <| focus_there <|
    focus_there <| focus_here (fun x => holds (tile i dv) B.a14 x) _ _, fun _ => rfl⟩
/-- The buffer of the neighbours' third differences, among the tile's buffers. -/
theorem focus_nz : Focus (F := F) i dv B B.a15 Mem.nz (fun σ x => { σ with nz := x }) :=
  ⟨fun σ => focus_there <| focus_there <| focus_there <| focus_there <| focus_there <| focus_there <| focus_there <| focus_there <|
    focus_there <| focus_there <| focus_here (fun x => holds (tile i dv) B.a15 x) _ _, fun _ => rfl⟩
/-- The buffer of the neighbours' species, among the tile's buffers. -/
theorem focus_ns : Focus (F := F) i dv B B.a16 Mem.ns (fun σ x => { σ with ns := x }) :=
  ⟨fun σ => focus_there <| focus_there <| focus_there <| focus_there <| focus_there <| focus_there <| focus_there <| focus_there <|
    focus_there <| focus_there <| focus_there <| focus_last (fun x => holds (tile i dv) B.a16 x) _, fun _ => rfl⟩

/-! ## Runs -/

/-- `p`, begun with the buffers at `σ`, ends with a result and buffers that `R` relates. -/
def Run {α : Type} (p : TP F i α) (σ : Mem F) (R : α → Mem F → Prop) : Prop :=
  ∀ Q : α → IProp F, iprop(own i dv B σ ∗ (∀ v, ∀ σ', ⌜R v σ'⌝ -∗ own i dv B σ' -∗ Q v))
    ⊢ wp frame (wpE (defs₀ (F := F)) 𝒱₀ (tile i dv) none) Set.univ p Q

variable {i dv B} {α β : Type}

/-- A program that only returns. -/
theorem Run.pure {v : α} {σ : Mem F} {R : α → Mem F → Prop} (h : R v σ) : Run i dv B (Pure.pure v) σ R := by
  intro Q
  show _ ⊢ wp frame _ Set.univ (Prog.ret v) Q
  rw [wp_ret]
  iintro ⟨Ho, HQ⟩
  imodintro
  iapply HQ $$ %v %σ %h Ho

/-- One program after another. -/
theorem Run.bind {p : TP F i α} {k : α → TP F i β} {σ : Mem F} {R : β → Mem F → Prop}
    (h : Run i dv B p σ fun v σ' => Run i dv B (k v) σ' R) : Run i dv B (p >>= k) σ R := by
  intro Q
  rw [wp_bind]
  iintro ⟨Ho, HQ⟩
  iapply (h _)
  isplitl [Ho]
  · iexact Ho
  · iintro %v %σ' %hv Ho
    iapply (hv Q)
    isplitl [Ho] <;> iassumption

/-- A weaker statement of what a program leaves. -/
theorem Run.mono {p : TP F i α} {σ : Mem F} {R R' : α → Mem F → Prop} (h : Run i dv B p σ R) (hR : ∀ v σ', R v σ' → R' v σ') :
    Run i dv B p σ R' := by
  intro Q
  iintro ⟨Ho, HQ⟩
  iapply (h Q)
  isplitl [Ho]
  · iexact Ho
  · iintro %v %σ' %hv Ho
    iapply HQ $$ %v %σ' %(hR v σ' hv) Ho

/-- A loop: an invariant of the turns done, the carried value and the buffers. -/
theorem Run.for {σt : Type} (l : Scf.Loop 32) (hok : l.OK) (init : σt) (body : Fin l.trips → σt → TP F i σt)
    (I : ℕ → σt → Mem F → Prop) {σ : Mem F} {R : σt → Mem F → Prop} (h0 : I 0 init σ)
    (hb : ∀ (k : Fin l.trips) (a : σt) (σ : Mem F), I k a σ → Run i dv B (body k a) σ fun a' σ' => I (k.val + 1) a' σ')
    (hR : ∀ a σ', I l.trips a σ' → R a σ') : Run i dv B (Scf.Loop.for l hok init body) σ R := by
  intro Q
  iintro ⟨Ho, HQ⟩
  iapply (Scf.wp_for _ _ _ l.lb l.ub l.st hok init body (fun k a => iprop(∃ σ, ⌜I k a σ⌝ ∗ own i dv B σ)) ?_)
  · intro k a
    iintro ⟨%σ, %hI, Ho⟩
    iapply (hb k a σ hI _)
    isplitl [Ho]
    · iexact Ho
    · iintro %v %σ' %hv Ho
      iexists σ'
      isplitr
      · ipureintro; exact hv
      · iexact Ho
  · isplitl [Ho]
    · iexists σ
      isplitr
      · ipureintro; exact h0
      · iexact Ho
    · iintro %a ⟨%σ', %hI, Ho⟩
      iapply HQ $$ %a %σ' %(hR a σ' hI) Ho

/-- A test that holds. -/
theorem Run.assume {P : Prop} {d : Decidable P} {σ : Mem F} {R : PLift P → Mem F → Prop} (h : P) (hR : R ⟨h⟩ σ) :
    Run i dv B (Prog.lift (TpuEff.assume P d)) σ R := by
  intro Q
  refine BI.Entails.trans ?_ (wp_assume 𝒱₀ (tile i dv) none Set.univ (k := Prog.ret) h)
  exact Run.pure (v := (⟨h⟩ : PLift P)) hR Q

section Accesses
variable {cs : CoreSpace} {d : Fin 1 → ℕ} {e : EltTy} {m : Memref sig .scVector cs ⟨1, d⟩ e} {get : Mem F → ℕ → Elt F e}
  {set : Mem F → (ℕ → Elt F e) → Mem F}

/-- A load followed by the rest of the program. -/
theorem Run.load_op (Fo : Focus i dv B m get set) {o size : Fin 1 → ℕ} {h : ∀ a, o a + size a ≤ (⟨1, d⟩ : Shape).size a}
    {hl : m.view.LoadsAt (Rect.unit (s := ⟨1, d⟩) o size h).toLoadRect}
    {k : ((Rect.unit (s := ⟨1, d⟩) o size h).toLoadRect.shape.Idx → Elt F e) → TP F i α} {σ : Mem F}
    {R : α → Mem F → Prop} (hR : Run i dv B (k fun y => get σ (o 0 + (y 0).val)) σ R) :
    Run i dv B (.op (.load m (Rect.unit (s := ⟨1, d⟩) o size h).toLoadRect hl) k) σ R := by
  intro Q
  iintro ⟨Ho, HQ⟩
  ihave Ho := (Fo.out σ) $$ Ho
  icases Ho with ⟨Hm, Hb⟩
  iapply (wp_load_holds (tile i dv) m (get σ) o size h)
  isplitl [Hm]
  · iexact Hm
  · iintro Hm
    ihave Ho := Hb $$ %(get σ) Hm
    rw [Fo.back]
    iapply (hR Q)
    isplitl [Ho] <;> iassumption

/-- A read of one of the tile's buffers. -/
theorem Run.load (Fo : Focus i dv B m get set) {o size : Fin 1 → ℕ} {h : ∀ a, o a + size a ≤ (⟨1, d⟩ : Shape).size a}
    {hl : m.view.LoadsAt (Rect.unit (s := ⟨1, d⟩) o size h).toLoadRect} {σ : Mem F}
    {R : ((Rect.unit (s := ⟨1, d⟩) o size h).toLoadRect.shape.Idx → Elt F e) → Mem F → Prop} (hR : R (fun y => get σ (o 0 + (y 0).val)) σ) :
    Run i dv B (Prog.lift (.load m (Rect.unit (s := ⟨1, d⟩) o size h).toLoadRect hl)) σ R :=
  Run.load_op Fo (Run.pure hR)

/-- A write to one of the tile's buffers. -/
theorem Run.store (Fo : Focus i dv B m get set) {o size : Fin 1 → ℕ} {h : ∀ a, o a + size a ≤ (⟨1, d⟩ : Shape).size a}
    {w : (Rect.unit (s := ⟨1, d⟩) o size h).shape.Idx → Elt F e} (w' : ℕ → Elt F e) (hw : ∀ y, w y = w' (y 0).val)
    {hx : (m.access (Rect.unit (s := ⟨1, d⟩) o size h)).Stores Finset.univ}
    {hm : Finset.univ = Finset.univ ∨ ∀ a, (Rect.unit (s := ⟨1, d⟩) o size h).stride a = 1} {σ : Mem F}
    {R : PUnit → Mem F → Prop} (hR : R ⟨⟩ (set σ (put (get σ) (o 0) (size 0) w'))) :
    Run i dv B (Prog.lift (.store m (Rect.unit (s := ⟨1, d⟩) o size h) w Finset.univ hx hm)) σ R := by
  intro Q
  iintro ⟨Ho, HQ⟩
  ihave Ho := (Fo.out σ) $$ Ho
  icases Ho with ⟨Hm, Hb⟩
  iapply (wp_store_holds (tile i dv) m (get σ) o size h w w' hw)
  isplitl [Hm]
  · iexact Hm
  · iintro Hm
    ihave Ho := Hb $$ %_ Hm
    iapply (Run.pure (v := PUnit.unit) hR Q)
    isplitl [Ho] <;> iassumption

end Accesses

/-- Reading a neighbour's value. -/
theorem Run.rdNb {e : EltTy} {m : Memref sig .scVector .smem S40 e} {get : Mem F → ℕ → Elt F e} {set : Mem F → (ℕ → Elt F e) → Mem F}
    (Fo : Focus i dv B m get set) {he : e.packing = 1} {o : Fin 1 → ℕ} {h : ∀ a, o a + S1.size a ≤ S40.size a} {σ : Mem F}
    {R : Elt F e → Mem F → Prop} (hR : R (get σ (o 0)) σ) : Run i dv B (rdNb i m he o h) σ R := by
  refine Run.load_op Fo (Run.pure ?_)
  beta_reduce
  have hz : ∀ y : S1.Idx, (y 0).val = 0 := fun y => by have := (y 0).isLt; exact Nat.lt_one_iff.1 this
  rw [hz _, Nat.add_zero]
  exact hR

/-- Storing a neighbour's value. -/
theorem Run.stNb {e : EltTy} {m : Memref sig .scVector .smem S40 e} {get : Mem F → ℕ → Elt F e} {set : Mem F → (ℕ → Elt F e) → Mem F}
    (Fo : Focus i dv B m get set) {he : e.packing = 1} {o : Fin 1 → ℕ} {h : ∀ a, o a + S1.size a ≤ S40.size a} {v : Elt F e} {σ : Mem F}
    {R : PUnit → Mem F → Prop} (hR : R ⟨⟩ (set σ (put (get σ) (o 0) 1 fun _ => v))) : Run i dv B (stNb i m he o h v) σ R :=
  Run.bind <| Run.rdNb Fo <| Run.store Fo (fun _ => v) (fun _ => rfl) hR

/-- A vector by the number of the lane. -/
def byLane {α : Type} (v : S16.Idx → α) (n : ℕ) : α := v fun | 0 => ⟨n % 16, Nat.mod_lt _ (by decide)⟩

/-- A vector, read by the lane's number. -/
theorem byLane_val {α : Type} (v : S16.Idx → α) (y : S16.Idx) : v y = byLane v (y 0).val := by
  unfold byLane
  congr 1
  funext a
  obtain rfl : a = 0 := Subsingleton.elim _ _
  exact Fin.ext (Nat.mod_eq_of_lt (y 0).isLt).symm

/-- Storing sixteen atoms' values. -/
theorem Run.stAtom {m : Memref sig .scVector .vmem S48 .f32} {get : Mem F → ℕ → F .f32} {set : Mem F → (ℕ → F .f32) → Mem F}
    (Fo : Focus i dv B m get set) {o : ℕ} {h : o + 16 ≤ 48} {v : FVec F S16 .f32} {σ : Mem F}
    {R : PUnit → Mem F → Prop} (hR : R ⟨⟩ (set σ (put (get σ) o 16 (byLane v)))) : Run i dv B (stAtom i m o h v) σ R :=
  Run.bind <| Run.load Fo <| Run.store Fo (byLane v) (fun y => by rw [shapeCast_id]; exact byLane_val v y) hR

/-- Storing sixteen words of the tile's rows. -/
theorem Run.stAcc {o : Fin 1 → ℕ} {h : ∀ a, o a + S16.size a ≤ S6144.size a} {v : FVec F S16 .f32} {σ : Mem F}
    {R : PUnit → Mem F → Prop} (hR : R ⟨⟩ { σ with acc := put σ.acc (o 0) 16 (byLane v) }) : Run i dv B (stAcc i B.a10 o h v) σ R :=
  Run.bind <| Run.load (focus_acc i dv B) <| Run.store (focus_acc i dv B) (byLane v) (fun y => by rw [shapeCast_id]; exact byLane_val v y) hR

end Cert.Proof.Row
-- ==== Proof.Model.lean ====
/-
  What a tile computes.

  The coordinates of one molecule are a function `X` of the position (32 first coordinates, 32 second, 32 third), its
  species a function `Sp` of the atom. The values below are entry by entry: the distance of two atoms, an atom's two
  weights, the list of an atom's neighbours, the radial accumulator of a species, and an entry of a row of the result
  as the running sum over the pairs of neighbours.
-/
module

public import proofs.«01_k».proof.Proof.Run
public import proofs.«01_k».proof.Proof.Loops

@[expose] public section

noncomputable section

namespace Cert.Proof.Row

open Cert.KernelIdeal Cert.KernelIdeal.Gen
open Idealize.ShloMosaic

variable {F : FTy → Type} [FloatOps F]

/-- The first lane. -/
abbrev lane0 : S16.Idx := fun | 0 => ⟨0, by decide⟩

/-- `f (n−1) (… (f 0 a))`. -/
def loopN {α : Type} (f : ℕ → α → α) (n : ℕ) (a : α) : α := Nat.rec a (fun k a => f k a) n

/-- One more trip. -/
theorem loopN_succ {α : Type} (f : ℕ → α → α) (n : ℕ) (a : α) : loopN f (n + 1) a = f n (loopN f n a) := rfl

variable (X : ℕ → F .f32) (Sp : ℕ → BitVec 32) (I : ℕ)

/-- The distance of atom `j` to atom `I`. -/
def distA (j : ℕ) : F .f32 :=
  distV (fun _ => X j) (fun _ => X (32 + j)) (fun _ => X (64 + j)) (X I) (X (32 + I)) (X (64 + I)) lane0
/-- Atom `j`'s radial and angular weights in atom `I`'s row. -/
def radA (j : ℕ) : F .f32 := radW j (word I) (fun _ => distA X I j) lane0
def angA (j : ℕ) : F .f32 := angW j (word I) (fun _ => distA X I j) lane0
/-- Is atom `j` a neighbour of atom `I` (its angular weight is positive)? -/
def posA (j : ℕ) : Bool := k0_cond1 (Scalar.cmpf .ogt (angA X I j) (Scalar.ofBits .f32 0x00000000#32)) = 1#1
/-- The neighbours among the first `t` atoms, in order. -/
def nbrs (t : ℕ) : List ℕ := (List.range t).filter fun j => posA X I j

/-- The radial accumulator of species `s` after `t` atoms. -/
def radAcc (s : BitVec 32) (t : ℕ) : FVec F S16 .f32 :=
  loopN (fun j a => radStep s (Sp j) (radTerm (radA X I j) (distA X I j)) a) t zeroV

/-- The vector of the neighbours `j`, `k` at the distance shifts `sh`. -/
def angA2 (sh : FVec F S16 .f32) (j k : ℕ) : FVec F S16 .f32 :=
  angVec sh (distA X I j) (distA X I k) (angA X I j) (angA X I k)
    (Scalar.subf (X j) (X I)) (Scalar.subf (X (32 + j)) (X (32 + I))) (Scalar.subf (X (64 + j)) (X (64 + I)))
    (Scalar.subf (X k) (X I)) (Scalar.subf (X (32 + k)) (X (32 + I))) (Scalar.subf (X (64 + k)) (X (64 + I)))

/-- Entry `y` of a row, with `a` in it, after the pair `j`, `k` is added in. -/
def pairUp (j k y : ℕ) (a : F .f32) : F .f32 :=
  if pairBase (Sp j) (Sp k) ≤ y ∧ y < pairBase (Sp j) (Sp k) + 16 then
    FloatOps.addf a (byLane (angA2 X I shfLo j k) (y - pairBase (Sp j) (Sp k)))
  else if pairBase (Sp j) (Sp k) + 16 ≤ y ∧ y < pairBase (Sp j) (Sp k) + 16 + 16 then
    FloatOps.addf a (byLane (angA2 X I shfHi j k) (y - (pairBase (Sp j) (Sp k) + 16)))
  else a

/-- The `k`-th neighbour. -/
def nb (k : ℕ) : ℕ := (nbrs X I 32).getD k 0
/-- How many neighbours there are. -/
def nbN : ℕ := (nbrs X I 32).length

/-- Entry `y` after the pairs of neighbour `p` with the `n` next ones. -/
def innerUp (y p n : ℕ) (a : F .f32) : F .f32 := loopN (fun q a => pairUp X Sp I (nb X I p) (nb X I (p + 1 + q)) y a) n a
/-- Entry `y` after all pairs of the first `n` neighbours with later ones. -/
def outerUp (y n : ℕ) (a : F .f32) : F .f32 := loopN (fun p a => innerUp X Sp I y p (nbN X I - 1 - p) a) n a

/-- Entry `y` of a row before the pairs: radial entries, then zeros. -/
def rowInit (y : ℕ) : F .f32 :=
  if y < 64 then byLane (radAcc X Sp I (word (y / 16)) 32) (y % 16) else byLane (zeroV (F := F)) 0

/-- Entry `y` of atom `I`'s row of the result. -/
def rowVal (y : ℕ) : F .f32 := outerUp X Sp I y (nbN X I - 1) (rowInit X Sp I y)

/-- The neighbours among one more atom. -/
theorem nbrs_succ (t : ℕ) : nbrs X I (t + 1) = if posA X I t then nbrs X I t ++ [t] else nbrs X I t := by
  unfold nbrs
  rw [List.range_succ, List.filter_append, List.filter_singleton]
  by_cases h : posA X I t <;> simp [h]

/-- There are no more neighbours than atoms. -/
theorem nbrs_length (t : ℕ) : (nbrs X I t).length ≤ t := by
  unfold nbrs
  exact (List.length_filter_le _ _).trans (by rw [List.length_range])

/-- A neighbour is among the atoms looked at. -/
theorem nbrs_lt {t j : ℕ} (h : j ∈ nbrs X I t) : j < t := by
  unfold nbrs at h
  exact List.mem_range.1 (List.mem_filter.1 h).1

/-- A neighbour is an atom of the molecule. -/
theorem nb_lt {k : ℕ} (h : k < nbN X I) : nb X I k < 32 := by
  unfold nb
  have h' : k < (nbrs X I 32).length := h
  rw [List.getD_eq_getElem?_getD, List.getElem?_eq_getElem h', Option.getD_some]
  exact nbrs_lt X I (List.getElem_mem _)

/-- A distance of vectors is the distance lane by lane. -/
theorem distV_lane (xs ys zs : Vec F S16 .f32) (xi yi zi : F .f32) (y : S16.Idx) :
    distV xs ys zs xi yi zi y = distV (fun _ => xs y) (fun _ => ys y) (fun _ => zs y) xi yi zi lane0 := by
  unfold distV
  simp only [shapeCast_id]
  rfl

/-- The test for a neighbour, lane by lane. -/
theorem near_lane (w : BitVec 32) (o : ℕ) (ia : BitVec 32) (d : FVec F S16 .f32) (y : S16.Idx) :
    near w o ia d y = near w (o + (y 0).val) ia (fun _ => d y) lane0 := by
  have h : (addi lane (broadcast S16 (word o)) : IVec S16 32) y = (addi lane (broadcast S16 (word (o + (y 0).val))) : IVec S16 32) lane0 := by
    show BitVec.ofNat 32 (0 * 16 + (y 0).val) + BitVec.ofNat 32 o = BitVec.ofNat 32 (0 * 16 + 0) + BitVec.ofNat 32 (o + (y 0).val)
    rw [← BitVec.ofNat_add, ← BitVec.ofNat_add]
    congr 1
    omega
  show IntOp.andi _ (IntOp.cmpi .ne _ _) = IntOp.andi _ (IntOp.cmpi .ne _ _)
  rw [h]
  rfl

/-- The radial weight, lane by lane. -/
theorem radW_lane (o : ℕ) (ia : BitVec 32) (d : FVec F S16 .f32) (y : S16.Idx) :
    radW o ia d y = radW (o + (y 0).val) ia (fun _ => d y) lane0 := by
  have h := near_lane 0x40A66666#32 o ia d y
  unfold radW
  show Scalar.select _ _ _ = Scalar.select _ _ _
  rw [h]
  rfl

/-- The angular weight, lane by lane. -/
theorem angW_lane (o : ℕ) (ia : BitVec 32) (d : FVec F S16 .f32) (y : S16.Idx) :
    angW o ia d y = angW (o + (y 0).val) ia (fun _ => d y) lane0 := by
  have h := near_lane 0x40600000#32 o ia d y
  unfold angW
  show Scalar.select _ _ _ = Scalar.select _ _ _
  rw [h]
  rfl

end Cert.Proof.Row
-- ==== Proof.RowRun.lean ====
/-
  A row's program computes the row of the model.
-/
module

public import proofs.«01_k».proof.Proof.Model

@[expose] public section

noncomputable section

namespace Cert.Proof.Row

open Cert.KernelIdeal Cert.KernelIdeal.Gen
open Idealize.ShloMosaic Idealize.SL.Sem

variable {F : FTy → Type} [FloatOps F]
variable {i : grid0.Coords} {dv : Dev nD} {B : Bufs}

/-- The buffers hold the molecule `X`, `Sp`. -/
structure Molecule (X : ℕ → F .f32) (Sp : ℕ → BitVec 32) (σ : Mem F) : Prop where
  xyz : ∀ j, j < 96 → σ.xyz j = X j
  sp : ∀ j, j < 32 → σ.sp j = Sp j

/-- The buffers hold the distances and weights of atom `I`'s row, for the first `n` atoms. -/
structure Weights (X : ℕ → F .f32) (I n : ℕ) (σ : Mem F) : Prop where
  dist : ∀ j, j < n → σ.dist j = distA X I j
  wr : ∀ j, j < n → σ.wr j = radA X I j
  wa : ∀ j, j < n → σ.wa j = angA X I j

/-- The neighbour lists hold the atoms `l`. -/
structure Lists (X : ℕ → F .f32) (Sp : ℕ → BitVec 32) (I : ℕ) (l : List ℕ) (σ : Mem F) : Prop where
  nd : ∀ k, k < l.length → σ.nd k = distA X I (l.getD k 0)
  nf : ∀ k, k < l.length → σ.nf k = angA X I (l.getD k 0)
  ns : ∀ k, k < l.length → σ.ns k = Sp (l.getD k 0)
  nx : ∀ k, k < l.length → σ.nx k = Scalar.subf (X (l.getD k 0)) (X I)
  ny : ∀ k, k < l.length → σ.ny k = Scalar.subf (X (32 + l.getD k 0)) (X (32 + I))
  nz : ∀ k, k < l.length → σ.nz k = Scalar.subf (X (64 + l.getD k 0)) (X (64 + I))

/-- The first lane of a float vector. -/
theorem first_eq (v : Vec F S16 .f32) : first v = v lane0 := by
  unfold first
  rw [shapeCast_id]
  unfold extractAt extractStridedSlice
  congr 1
  funext a
  obtain rfl : a = 0 := Subsingleton.elim _ _
  rfl

/-- The first lane of a word vector. -/
theorem firstI_eq (v : Vec F S16 .i32) : firstI v = (v lane0 : BitVec 32) := by
  unfold firstI
  rw [shapeCast_id]
  unfold extractAt extractStridedSlice
  congr 1
  funext a
  obtain rfl : a = 0 := Subsingleton.elim _ _
  rfl

/-- The lane of a number below sixteen. -/
abbrev laneOf (n : ℕ) : S16.Idx := fun | 0 => ⟨n % 16, Nat.mod_lt _ (by decide)⟩

/-- The lane of a number under 16. -/
theorem laneOf_val {n : ℕ} (h : n < 16) : (laneOf n 0).val = n := Nat.mod_eq_of_lt h

/-- Inside the place written to. -/
theorem put_in {α : Type} {x : ℕ → α} {o n j : ℕ} {w : ℕ → α} (h : o ≤ j) (h' : j < o + n) : put x o n w j = w (j - o) := if_pos ⟨h, h'⟩
/-- Outside the place written to. -/
theorem put_out {α : Type} {x : ℕ → α} {o n j : ℕ} {w : ℕ → α} (h : ¬(o ≤ j ∧ j < o + n)) : put x o n w j = x j := if_neg h

variable {X : ℕ → F .f32} {Sp : ℕ → BitVec 32} {I : ℕ}

/-- The three kinds of vector loads, their results by lane. -/
theorem Run.rdXyz {σ : Mem F} {o : Fin 1 → ℕ} {h : ∀ a, o a + S16.size a ≤ S128.size a} {R : Vec F S16 .f32 → Mem F → Prop}
    (hR : R (fun y => σ.xyz (o 0 + (y 0).val)) σ) : Run i dv B (rdXyz i B.a5 o h) σ R := Run.load (focus_xyz i dv B) hR
/-- Reading sixteen atoms' values. -/
theorem Run.rdAtom {e : EltTy} {m : Memref sig .scVector .vmem S48 e} {get : Mem F → ℕ → Elt F e} {set : Mem F → (ℕ → Elt F e) → Mem F}
    (Fo : Focus i dv B m get set) {σ : Mem F} {o : Fin 1 → ℕ} {h : ∀ a, o a + S16.size a ≤ S48.size a} {R : Vec F S16 e → Mem F → Prop}
    (hR : R (fun y => get σ (o 0 + (y 0).val)) σ) : Run i dv B (rdAtom i m o h) σ R := Run.load Fo hR
/-- Reading sixteen words of the tile's rows. -/
theorem Run.rdAcc {σ : Mem F} {o : Fin 1 → ℕ} {h : ∀ a, o a + S16.size a ≤ S6144.size a} {R : Vec F S16 .f32 → Mem F → Prop}
    (hR : R (fun y => σ.acc (o 0 + (y 0).val)) σ) : Run i dv B (rdAcc i B.a10 o h) σ R := Run.load (focus_acc i dv B) hR

/-- Sixteen atoms' distances and weights are computed and stored. -/
theorem Run.chunk {σ : Mem F} {o : ℕ} {h : o + 16 ≤ 32} {R : PUnit → Mem F → Prop} (hM : Molecule X Sp σ) (hW : Weights X I o σ)
    (hR : ∀ σ', σ'.acc = σ.acc → Molecule X Sp σ' → Weights X I (o + 16) σ' → R ⟨⟩ σ') :
    Run i dv B (chunk i B.a5 B.a7 B.a8 B.a9 o h (word I) (X I) (X (32 + I)) (X (64 + I))) σ R := by
  unfold Row.chunk
  refine Run.bind <| Run.rdXyz ?_
  refine Run.bind <| Run.rdXyz ?_
  refine Run.bind <| Run.rdXyz ?_
  refine Run.bind <| Run.stAtom (focus_dist i dv B) ?_
  refine Run.bind <| Run.stAtom (focus_wr i dv B) ?_
  refine Run.stAtom (focus_wa i dv B) ?_
  have hd : ∀ n, n < 16 → distV (F := F) (fun y => σ.xyz ((![o] : Fin 1 → ℕ) 0 + (y 0).val))
      (fun y => σ.xyz ((![32 + o] : Fin 1 → ℕ) 0 + (y 0).val)) (fun y => σ.xyz ((![64 + o] : Fin 1 → ℕ) 0 + (y 0).val))
      (X I) (X (32 + I)) (X (64 + I)) (laneOf n) = distA X I (o + n) := by
    intro n hn
    rw [distV_lane]
    show distV (fun _ => σ.xyz (o + n % 16)) (fun _ => σ.xyz (32 + o + n % 16)) (fun _ => σ.xyz (64 + o + n % 16)) _ _ _ _ = _
    rw [Nat.mod_eq_of_lt hn, hM.xyz _ (by omega), hM.xyz _ (by omega), hM.xyz _ (by omega), Nat.add_assoc 32, Nat.add_assoc 64]
    rfl
  refine hR _ rfl ⟨hM.xyz, hM.sp⟩ ⟨?_, ?_, ?_⟩
  · intro j hj
    by_cases hc : o ≤ j
    · refine (put_in hc hj).trans ?_
      refine (hd (j - o) (by omega)).trans ?_
      rw [Nat.add_sub_cancel' hc]
    · exact (put_out (by omega)).trans (hW.dist j (by omega))
  · intro j hj
    by_cases hc : o ≤ j
    · refine (put_in hc hj).trans ?_
      refine (radW_lane _ _ _ (laneOf (j - o))).trans ?_
      rw [show (fun _ : S16.Idx => _) = fun _ : S16.Idx => _ from funext fun _ => hd (j - o) (by omega), laneOf_val (by omega), Nat.add_sub_cancel' hc]
      rfl
    · exact (put_out (by omega)).trans (hW.wr j (by omega))
  · intro j hj
    by_cases hc : o ≤ j
    · refine (put_in hc hj).trans ?_
      refine (angW_lane _ _ _ (laneOf (j - o))).trans ?_
      rw [show (fun _ : S16.Idx => _) = fun _ : S16.Idx => _ from funext fun _ => hd (j - o) (by omega), laneOf_val (by omega), Nat.add_sub_cancel' hc]
      rfl
    · exact (put_out (by omega)).trans (hW.wa j (by omega))

/-- The new entry of a longer list. -/
theorem getD_append_self (l : List ℕ) (t : ℕ) : (l ++ [t]).getD l.length 0 = t := by simp
/-- The old entries of a longer list. -/
theorem getD_append_lt (l : List ℕ) (t : ℕ) {k : ℕ} (h : k < l.length) : (l ++ [t]).getD k 0 = l.getD k 0 := by
  simp [List.getElem?_append_left h]

/-- One atom appended to a list. -/
theorem put_list {α : Type} {x : ℕ → α} {l : List ℕ} {t : ℕ} {g : ℕ → α} {w : α} (hx : ∀ k, k < l.length → x k = g (l.getD k 0)) (hw : w = g t) :
    ∀ k, k < (l ++ [t]).length → put x l.length 1 (fun _ => w) k = g ((l ++ [t]).getD k 0) := by
  intro k hk
  rw [List.length_append, List.length_singleton] at hk
  by_cases hc : k < l.length
  · rw [put_out (by omega), getD_append_lt l t hc, hx k hc]
  · obtain rfl : k = l.length := by omega
    rw [put_in (le_refl _) (by omega), getD_append_self, hw]

/-- One more neighbour is put into the list. -/
theorem Run.append {σ : Mem F} {t : Fin k0_t1_loop.trips} {l : List ℕ} (hl : l.length ≤ 32) {h : ∀ a, (k0_off6 (word l.length)) a + S1.size a ≤ S40.size a}
    {R : BitVec 32 → Mem F → Prop} (hM : Molecule X Sp σ) (hW : Weights X I 32 σ) (hL : Lists X Sp I l σ)
    (hR : ∀ σ', σ'.acc = σ.acc → Molecule X Sp σ' → Weights X I 32 σ' → Lists X Sp I (l ++ [t.val]) σ' → R (word (l ++ [t.val]).length) σ') :
    Run i dv B (append i B.a5 B.a11 B.a12 B.a13 B.a14 B.a15 B.a16 (X I) (X (32 + I)) (X (64 + I)) t (word l.length) h
      (distA X I t.val) (angA X I t.val) (Sp t.val)) σ R := by
  have ht : t.val < 32 := lt_of_lt_of_eq t.isLt trips1
  have ho : k0_off6 (word l.length) 0 = l.length := off6_at ⟨l.length, by omega⟩
  have hs : Scalar.addi (word l.length) 1#32 = word (l ++ [t.val]).length := by
    rw [List.length_append, List.length_singleton]; exact succ_word ⟨l.length, by omega⟩
  unfold Row.append
  refine Run.bind <| Run.stNb (focus_nd i dv B) ?_
  refine Run.bind <| Run.stNb (focus_nf i dv B) ?_
  refine Run.bind <| Run.stNb (focus_ns i dv B) ?_
  refine Run.bind <| Run.rdXyz ?_
  refine Run.bind <| Run.stNb (focus_nx i dv B) ?_
  refine Run.bind <| Run.rdXyz ?_
  refine Run.bind <| Run.stNb (focus_ny i dv B) ?_
  refine Run.bind <| Run.rdXyz ?_
  refine Run.bind <| Run.stNb (focus_nz i dv B) ?_
  rw [hs]
  refine Run.pure (hR _ rfl ⟨hM.xyz, hM.sp⟩ ⟨hW.dist, hW.wr, hW.wa⟩ ?_)
  simp only [ho, first_eq]
  have e7 : σ.xyz (k0_off7 t 0 + (lane0 0).val) = X t.val := by
    rw [off7_at, show (lane0 0).val = 0 from rfl, Nat.add_zero, hM.xyz _ (by omega)]
  have e8 : σ.xyz (k0_off8 t 32#32 0 + (lane0 0).val) = X (32 + t.val) := by
    rw [(off8_at t).1, show (lane0 0).val = 0 from rfl, Nat.add_zero, hM.xyz _ (by omega)]
  have e9 : σ.xyz (k0_off8 t 64#32 0 + (lane0 0).val) = X (64 + t.val) := by
    rw [(off8_at t).2, show (lane0 0).val = 0 from rfl, Nat.add_zero, hM.xyz _ (by omega)]
  exact ⟨put_list hL.nd rfl, put_list hL.nf rfl, put_list hL.ns rfl, put_list (g := fun j => Scalar.subf (X j) (X I)) hL.nx (by rw [e7]),
    put_list (g := fun j => Scalar.subf (X (32 + j)) (X (32 + I))) hL.ny (by rw [e8]),
    put_list (g := fun j => Scalar.subf (X (64 + j)) (X (64 + I))) hL.nz (by rw [e9])⟩

/-- What the loop over the atoms carries after `t` of them. -/
def carry (X : ℕ → F .f32) (Sp : ℕ → BitVec 32) (I t : ℕ) : Carry F :=
  (word (nbrs X I t).length, radAcc X Sp I 0#32 t, radAcc X Sp I 1#32 t, radAcc X Sp I 2#32 t, radAcc X Sp I 3#32 t)

/-- One atom of the first loop: its radial term is added, and it is put into the list if it is a neighbour. -/
theorem Run.atom {σ : Mem F} {t : Fin k0_t1_loop.trips} {R : Carry F → Mem F → Prop}
    (hM : Molecule X Sp σ) (hW : Weights X I 32 σ) (hL : Lists X Sp I (nbrs X I t.val) σ)
    (hR : ∀ σ', σ'.acc = σ.acc → Molecule X Sp σ' → Weights X I 32 σ' → Lists X Sp I (nbrs X I (t.val + 1)) σ' → R (carry X Sp I (t.val + 1)) σ') :
    Run i dv B (atom i B.a5 B.a6 B.a7 B.a8 B.a9 B.a11 B.a12 B.a13 B.a14 B.a15 B.a16 (X I) (X (32 + I)) (X (64 + I)) t (carry X Sp I t.val)) σ R := by
  have ht : t.val < 32 := lt_of_lt_of_eq t.isLt trips1
  have hlen : (nbrs X I t.val).length ≤ 32 := (nbrs_length X I t.val).trans (by omega)
  have ew : first (F := F) (fun y => σ.wr (k0_off5 t 0 + (y 0).val)) = radA X I t.val := by
    rw [first_eq, off5_at, show (lane0 0).val = 0 from rfl, Nat.add_zero, hW.wr _ ht]
  have ed : first (F := F) (fun y => σ.dist (k0_off5 t 0 + (y 0).val)) = distA X I t.val := by
    rw [first_eq, off5_at, show (lane0 0).val = 0 from rfl, Nat.add_zero, hW.dist _ ht]
  have ea : first (F := F) (fun y => σ.wa (k0_off5 t 0 + (y 0).val)) = angA X I t.val := by
    rw [first_eq, off5_at, show (lane0 0).val = 0 from rfl, Nat.add_zero, hW.wa _ ht]
  have es : firstI (F := F) (fun y => σ.sp (k0_off5 t 0 + (y 0).val)) = Sp t.val := by
    rw [firstI_eq, off5_at, show (lane0 0).val = 0 from rfl, Nat.add_zero, hM.sp _ ht]
  unfold Row.atom
  refine Run.bind <| Run.rdAtom (focus_wr i dv B) ?_
  refine Run.bind <| Run.rdAtom (focus_dist i dv B) ?_
  refine Run.bind <| Run.rdAtom (focus_sp i dv B) ?_
  refine Run.bind <| Run.rdAtom (focus_wa i dv B) ?_
  simp only [ew, ed, ea, es]
  refine Run.bind ?_
  refine Run.assume (chk1_ok (⟨(nbrs X I t.val).length, Nat.lt_succ_of_le hlen⟩ : Fin 33) _) ?_
  by_cases hp : k0_cond1 (Scalar.cmpf .ogt (angA X I t.val) (Scalar.ofBits .f32 0x00000000#32)) = 1#1
  · have hpos : posA X I t.val = true := decide_eq_true hp
    rw [dif_pos hp]
    refine Run.bind <| Run.append hlen hM hW hL fun σ' ha hM' hW' hL' => Run.pure ?_
    have e : nbrs X I (t.val + 1) = nbrs X I t.val ++ [t.val] := by rw [nbrs_succ, if_pos hpos]
    have := hR σ' ha hM' hW' (by rw [e]; exact hL')
    rw [carry, e] at this
    exact this
  · have hpos : ¬posA X I t.val = true := by unfold posA; rw [decide_eq_true_eq]; exact hp
    rw [dif_neg hp]
    refine Run.bind <| Run.pure <| Run.pure ?_
    have e : nbrs X I (t.val + 1) = nbrs X I t.val := by rw [nbrs_succ, if_neg hpos]
    have := hR σ rfl hM hW (by rw [e]; exact hL)
    rw [carry, e] at this
    exact this

/-- Everything but the accumulator, once the neighbour lists are built. -/
structure Built (X : ℕ → F .f32) (Sp : ℕ → BitVec 32) (I : ℕ) (σ : Mem F) : Prop where
  mol : Molecule X Sp σ
  lists : Lists X Sp I (nbrs X I 32) σ

/-- The weights and the list do not depend on the rows. -/
theorem Built.acc {σ : Mem F} (h : Built X Sp I σ) (a : ℕ → F .f32) : Built X Sp I { σ with acc := a } :=
  ⟨⟨h.mol.xyz, h.mol.sp⟩, ⟨h.lists.nd, h.lists.nf, h.lists.ns, h.lists.nx, h.lists.ny, h.lists.nz⟩⟩

/-- Sixteen words are added to the tile's rows. -/
theorem Run.addAcc {o : Fin 1 → ℕ} {h : ∀ a, o a + S16.size a ≤ S6144.size a} {v : FVec F S16 .f32} {σ : Mem F} {R : PUnit → Mem F → Prop}
    (hR : R ⟨⟩ { σ with acc := fun x => if o 0 ≤ x ∧ x < o 0 + 16 then FloatOps.addf (σ.acc x) (byLane v (x - o 0)) else σ.acc x }) :
    Run i dv B (addAcc i B.a10 o h v) σ R := by
  unfold Row.addAcc
  refine Run.bind <| Run.rdAcc <| Run.stAcc ?_
  have e : put σ.acc (o 0) 16 (byLane (addf (shapeCast S16 (fun y : S16.Idx => σ.acc (o 0 + (y 0).val)) shapeCasts_S16_S16) v))
      = fun x => if o 0 ≤ x ∧ x < o 0 + 16 then FloatOps.addf (σ.acc x) (byLane v (x - o 0)) else σ.acc x := by
    funext x
    unfold put
    by_cases hc : o 0 ≤ x ∧ x < o 0 + 16
    · rw [if_pos hc, if_pos hc, shapeCast_id]
      have hx : o 0 + (x - o 0) % 16 = x := by rw [Nat.mod_eq_of_lt (by omega), Nat.add_sub_cancel' hc.1]
      show FloatOps.addf (σ.acc (o 0 + (laneOf (x - o 0) 0).val)) (byLane v (x - o 0)) = _
      rw [show (laneOf (x - o 0) 0).val = (x - o 0) % 16 from rfl, hx]
    · rw [if_neg hc, if_neg hc]
  exact (congrArg (fun z => R ⟨⟩ { σ with acc := z }) e).mpr hR

/-- Entry `x` of the tile's accumulator, with `a` in it, after the pair `j`, `k` is added to row `r`. -/
def pairAcc (X : ℕ → F .f32) (Sp : ℕ → BitVec 32) (I r j k x : ℕ) (a : F .f32) : F .f32 :=
  if 384 * r ≤ x then pairUp X Sp I j k (x - 384 * r) a else a

/-- One pair of neighbours: its terms are added to the columns of its species. -/
theorem Run.pair {σ : Mem F} {r : ℕ} (hr : r < 16) {p k : ℕ} {o : Fin 1 → ℕ} {h : ∀ a, o a + S1.size a ≤ S40.size a}
    (hSp : ∀ j, j < 32 → Species (Sp j)) (hB : Built X Sp I σ) (hp : p < nbN X I) (hk : k < nbN X I) (ho : o 0 = k) {R : PUnit → Mem F → Prop}
    (hR : R ⟨⟩ { σ with acc := fun x => pairAcc X Sp I r (nb X I p) (nb X I k) x (σ.acc x) }) :
    Run i dv B (pair i B.a10 B.a11 B.a12 B.a13 B.a14 B.a15 B.a16 r (distA X I (nb X I p)) (angA X I (nb X I p)) (Sp (nb X I p))
      (Scalar.subf (X (nb X I p)) (X I)) (Scalar.subf (X (32 + nb X I p)) (X (32 + I))) (Scalar.subf (X (64 + nb X I p)) (X (64 + I))) o h) σ R := by
  obtain ⟨hlo, hhi⟩ := pairLo_at hr (hSp _ (nb_lt X I hp)) (hSp _ (nb_lt X I hk))
  have hb := pairBase_bounds (hSp _ (nb_lt X I hp)) (hSp _ (nb_lt X I hk))
  have hk' : o 0 < (nbrs X I 32).length := by rw [ho]; exact hk
  unfold Row.pair
  refine Run.bind <| Run.rdNb (focus_nd i dv B) ?_
  refine Run.bind <| Run.rdNb (focus_nf i dv B) ?_
  refine Run.bind <| Run.rdNb (focus_nx i dv B) ?_
  refine Run.bind <| Run.rdNb (focus_ny i dv B) ?_
  refine Run.bind <| Run.rdNb (focus_nz i dv B) ?_
  refine Run.bind <| Run.rdNb (focus_ns i dv B) ?_
  have eN : (nbrs X I 32).getD k 0 = nb X I k := rfl
  have eA : ∀ sh, angVec sh (distA X I (nb X I p)) (distA X I (nb X I k)) (angA X I (nb X I p)) (angA X I (nb X I k))
      (Scalar.subf (X (nb X I p)) (X I)) (Scalar.subf (X (32 + nb X I p)) (X (32 + I))) (Scalar.subf (X (64 + nb X I p)) (X (64 + I)))
      (Scalar.subf (X (nb X I k)) (X I)) (Scalar.subf (X (32 + nb X I k)) (X (32 + I))) (Scalar.subf (X (64 + nb X I k)) (X (64 + I)))
      = angA2 X I sh (nb X I p) (nb X I k) := fun _ => rfl
  rw [hB.lists.nd _ hk', hB.lists.nf _ hk', hB.lists.nx _ hk', hB.lists.ny _ hk', hB.lists.nz _ hk', hB.lists.ns _ hk', ho, eN]
  simp only [eA]
  refine Run.bind ?_
  refine Run.assume (pairOK hr (hSp _ (nb_lt X I hp)) (hSp _ (nb_lt X I hk))) ?_
  refine Run.bind ?_
  refine Run.addAcc ?_
  refine Run.bind ?_
  refine Run.addAcc ?_
  refine Run.pure ?_
  have e : (fun x => if pairHi r (Sp (nb X I p)) (Sp (nb X I k)) 0 ≤ x ∧ x < pairHi r (Sp (nb X I p)) (Sp (nb X I k)) 0 + 16 then
        FloatOps.addf (if pairLo r (Sp (nb X I p)) (Sp (nb X I k)) 0 ≤ x ∧ x < pairLo r (Sp (nb X I p)) (Sp (nb X I k)) 0 + 16 then
            FloatOps.addf (σ.acc x) (byLane (angA2 X I shfLo (nb X I p) (nb X I k)) (x - pairLo r (Sp (nb X I p)) (Sp (nb X I k)) 0)) else σ.acc x)
          (byLane (angA2 X I shfHi (nb X I p) (nb X I k)) (x - pairHi r (Sp (nb X I p)) (Sp (nb X I k)) 0))
        else if pairLo r (Sp (nb X I p)) (Sp (nb X I k)) 0 ≤ x ∧ x < pairLo r (Sp (nb X I p)) (Sp (nb X I k)) 0 + 16 then
            FloatOps.addf (σ.acc x) (byLane (angA2 X I shfLo (nb X I p) (nb X I k)) (x - pairLo r (Sp (nb X I p)) (Sp (nb X I k)) 0)) else σ.acc x)
      = fun x => pairAcc X Sp I r (nb X I p) (nb X I k) x (σ.acc x) := by
    funext x
    rw [hlo, hhi]
    unfold pairAcc pairUp
    generalize pairBase (Sp (nb X I p)) (Sp (nb X I k)) = b at *
    have s1 : x - 384 * r - b = x - (384 * r + b) := Nat.sub_sub _ _ _
    have s2 : x - 384 * r - (b + 16) = x - (384 * r + b + 16) := by omega
    rw [s1, s2]
    split_ifs <;> first | omega | with_reducible rfl
  exact (congrArg (fun z => R ⟨⟩ { σ with acc := z }) e).mpr hR

end Cert.Proof.Row
-- ==== Proof.RowsRun.lean ====
/-
  The sixteen rows of a tile compute sixteen rows of the model.
-/
module

public import proofs.«01_k».proof.Proof.RowRun

@[expose] public section

noncomputable section

namespace Cert.Proof.Row

open Cert.KernelIdeal Cert.KernelIdeal.Gen
open Idealize.ShloMosaic Idealize.SL.Sem

variable {F : FTy → Type} [FloatOps F]
variable {i : grid0.Coords} {dv : Dev nD} {B : Bufs}
variable {X : ℕ → F .f32} {Sp : ℕ → BitVec 32} {I : ℕ}

/-- There are at most 32 neighbours. -/
theorem nbN_le : nbN X I ≤ 32 := nbrs_length X I 32

/-- The number of neighbours, among the numbers below 33. -/
abbrev nbF (X : ℕ → F .f32) (I : ℕ) : Fin 33 := ⟨nbN X I, Nat.lt_succ_of_le nbN_le⟩

/-- Loops of equal bodies are equal. -/
theorem loopN_congr {α : Type} {f g : ℕ → α → α} {n : ℕ} (h : ∀ k, k < n → ∀ a, f k a = g k a) (a : α) : loopN f n a = loopN g n a := by
  induction n with
  | zero => rfl
  | succ n ih => rw [loopN_succ, loopN_succ, ih fun k hk => h k (by omega), h n (by omega)]

/-- A loop whose body changes nothing changes nothing. -/
theorem loopN_id {α : Type} {f : ℕ → α → α} {n : ℕ} (h : ∀ k, k < n → ∀ a, f k a = a) (a : α) : loopN f n a = a := by
  induction n with
  | zero => rfl
  | succ n ih => rw [loopN_succ, ih fun k hk => h k (by omega), h n (by omega)]

/-- The accumulator after neighbour `p`'s pairs with the `n` next ones. -/
def innerAcc (X : ℕ → F .f32) (Sp : ℕ → BitVec 32) (I r p n x : ℕ) (a : F .f32) : F .f32 :=
  loopN (fun q a => pairAcc X Sp I r (nb X I p) (nb X I (p + 1 + q)) x a) n a
/-- The accumulator after all pairs of the first `n` neighbours. -/
def outerAcc (X : ℕ → F .f32) (Sp : ℕ → BitVec 32) (I r n x : ℕ) (a : F .f32) : F .f32 :=
  loopN (fun p a => innerAcc X Sp I r p (nbN X I - 1 - p) x a) n a

/-- One neighbour with all the later ones. -/
theorem Run.pairs {σ : Mem F} {r : ℕ} (hr : r < 16) (hSp : ∀ j, j < 32 → Species (Sp j)) (hB : Built X Sp I σ)
    (hw : k0_chk2 (word (nbN X I))) (t : Fin (k0_t2_loop (word (nbN X I))).trips) {R : PUnit → Mem F → Prop}
    (hR : R ⟨⟩ { σ with acc := fun x => innerAcc X Sp I r t.val (nbN X I - 1 - t.val) x (σ.acc x) }) :
    Run i dv B (pairs i B.a10 B.a11 B.a12 B.a13 B.a14 B.a15 B.a16 r (k0_t3_loop (word (nbN X I)) t) (k0_t4_loop (word (nbN X I)) t)
      (k0_t3_ok _ hw t) (k0_t4_ok _ hw t) (k0_off9 (word (nbN X I)) t) (k0_off9_inb _ hw t) (k0_off10 (word (nbN X I)) t) (k0_off10_inb _ hw t)
      (k0_off13 (word (nbN X I)) t) (k0_off13_inb _ hw t)) σ R := by
  have e2 : (k0_t2_loop (word (nbN X I))).trips = nbN X I - 1 := trips2 (nbF X I)
  have e3 : (k0_t3_loop (word (nbN X I)) t).trips = nbN X I - 1 - t.val := trips3 (nbF X I) t
  have e4 : (k0_t4_loop (word (nbN X I)) t).trips = 0 := trips4 (nbF X I) t
  have e9 : k0_off9 (word (nbN X I)) t 0 = t.val := off9_at (nbF X I) t
  have ht : t.val < nbN X I - 1 := lt_of_lt_of_eq t.isLt e2
  have hp : t.val < nbN X I := by omega
  have hp' : t.val < (nbrs X I 32).length := hp
  have eN : (nbrs X I 32).getD t.val 0 = nb X I t.val := rfl
  unfold Row.pairs
  refine Run.bind <| Run.rdNb (focus_nd i dv B) ?_
  refine Run.bind <| Run.rdNb (focus_nf i dv B) ?_
  refine Run.bind <| Run.rdNb (focus_ns i dv B) ?_
  refine Run.bind <| Run.rdNb (focus_nx i dv B) ?_
  refine Run.bind <| Run.rdNb (focus_ny i dv B) ?_
  refine Run.bind <| Run.rdNb (focus_nz i dv B) ?_
  rw [e9, hB.lists.nd _ hp', hB.lists.nf _ hp', hB.lists.ns _ hp', hB.lists.nx _ hp', hB.lists.ny _ hp', hB.lists.nz _ hp', eN]
  refine Run.bind ?_
  refine Run.for _ _ _ _ (fun k _ σ' => σ' = { σ with acc := fun x => innerAcc X Sp I r t.val k x (σ.acc x) }) rfl ?_ ?_
  · rintro k ⟨⟩ _ rfl
    have hk : k.val < nbN X I - 1 - t.val := lt_of_lt_of_eq k.isLt e3
    have e10 : k0_off10 (word (nbN X I)) t k 0 = t.val + 1 + k.val := off10_at (nbF X I) t k
    exact Run.pair hr hSp (hB.acc _) hp (by omega) e10 rfl
  · rintro _ _ rfl
    rw [e3]
    refine Run.bind ?_
    refine Run.for _ _ _ _ (fun _ _ σ' => σ' = { σ with acc := fun x => innerAcc X Sp I r t.val (nbN X I - 1 - t.val) x (σ.acc x) }) rfl ?_ ?_
    · intro k
      exact absurd (lt_of_lt_of_eq k.isLt e4) (Nat.not_lt_zero _)
    · rintro _ _ rfl
      exact Run.pure hR

/-- Vectors of zero. -/
theorem Run.zeros {n o : ℕ} {h : o + 16 * n ≤ 6144} {σ : Mem F} {R : PUnit → Mem F → Prop}
    (hR : R ⟨⟩ { σ with acc := fun x => if o ≤ x ∧ x < o + 16 * n then byLane (zeroV (F := F)) 0 else σ.acc x }) :
    Run i dv B (zeros i B.a10 n o h) σ R := by
  induction n generalizing o σ with
  | zero =>
    have e : (fun x => if o ≤ x ∧ x < o + 16 * 0 then byLane (zeroV (F := F)) 0 else σ.acc x) = σ.acc := by
      funext x; rw [if_neg (by omega)]
    rw [e] at hR
    exact Run.pure hR
  | succ n ih =>
    unfold Row.zeros
    refine Run.bind <| Run.stAcc <| ih ?_
    have e : (fun x => if o + 16 ≤ x ∧ x < o + 16 + 16 * n then byLane (zeroV (F := F)) 0 else put σ.acc o 16 (byLane zeroV) x)
        = fun x => if o ≤ x ∧ x < o + 16 * (n + 1) then byLane (zeroV (F := F)) 0 else σ.acc x := by
      funext x
      unfold put
      split_ifs <;> first | omega | rfl
    exact (congrArg (fun z => R ⟨⟩ { σ with acc := z }) e).mpr hR

/-- The number of a tile's atom. -/
theorem ia_eq (i : grid0.Coords) (r : ℕ) : ia i r = word (16 * (i 0).val + r) := by
  unfold ia
  rw [base_eq]
  exact (BitVec.ofNat_add _ _).symm

/-- Outside a row's entries the pairs change nothing. -/
theorem outerAcc_out (hSp : ∀ j, j < 32 → Species (Sp j)) {r x : ℕ} (hx : ¬(384 * r ≤ x ∧ x < 384 * r + 384)) (a : F .f32) :
    outerAcc X Sp I r (nbN X I - 1) x a = a := by
  refine loopN_id (fun p hp a => loopN_id (fun q hq a => ?_) a) a
  have hb := pairBase_bounds (hSp _ (nb_lt X I (show p < nbN X I by omega))) (hSp _ (nb_lt X I (show p + 1 + q < nbN X I by omega)))
  unfold pairAcc pairUp
  split_ifs <;> first | omega | rfl

/-- At a row's entries they are the model's. -/
theorem outerAcc_in {r x : ℕ} (hx : 384 * r ≤ x) (a : F .f32) :
    outerAcc X Sp I r (nbN X I - 1) x a = outerUp X Sp I (x - 384 * r) (nbN X I - 1) a := by
  refine loopN_congr (fun p _ a => loopN_congr (fun q _ a => ?_) a) a
  exact if_pos hx

/-- One row of the tile. -/
theorem Run.row {σ : Mem F} {r : ℕ} (hr : r < 16) (hSp : ∀ j, j < 32 → Species (Sp j)) (hM : Molecule X Sp σ) {R : PUnit → Mem F → Prop}
    (hR : ∀ σ', Molecule X Sp σ' → (∀ x, σ'.acc x = if 384 * r ≤ x ∧ x < 384 * r + 384 then rowVal X Sp (16 * (i 0).val + r) (x - 384 * r) else σ.acc x)
      → R ⟨⟩ σ') :
    Run i dv B (row i B.a5 B.a6 B.a7 B.a8 B.a9 B.a10 B.a11 B.a12 B.a13 B.a14 B.a15 B.a16 r hr) σ R := by
  have hi := core_lt i
  obtain ⟨I, hI⟩ : ∃ I, I = 16 * (i 0).val + r := ⟨_, rfl⟩
  rw [← hI] at hR
  have hI32 : I < 32 := by omega
  have eX : atX i r 0 = I := hI ▸ atX_eq i ⟨r, hr⟩
  have eY : atYZ i r 32#32 0 = 32 + I := hI ▸ atY_eq i ⟨r, hr⟩
  have eZ : atYZ i r 64#32 0 = 64 + I := hI ▸ atZ_eq i ⟨r, hr⟩
  have eI : ia i r = word I := hI ▸ ia_eq i r
  have e0 : ∀ o, o < 96 → first (F := F) (fun y => σ.xyz (o + (y 0).val)) = X o := fun o ho => by
    rw [first_eq, show (lane0 0).val = 0 from rfl, Nat.add_zero, hM.xyz _ ho]
  unfold Row.row
  refine Run.bind <| Run.rdXyz ?_
  refine Run.bind <| Run.rdXyz ?_
  refine Run.bind <| Run.rdXyz ?_
  rw [eX, eY, eZ, eI, e0 _ (by omega), e0 _ (by omega), e0 _ (by omega)]
  refine Run.bind <| Run.chunk hM ⟨fun _ h => absurd h (Nat.not_lt_zero _), fun _ h => absurd h (Nat.not_lt_zero _), fun _ h => absurd h (Nat.not_lt_zero _)⟩ ?_
  intro σ1 ha1 hM1 hW1
  refine Run.bind <| Run.chunk hM1 hW1 ?_
  intro σ2 ha2 hM2 hW2
  refine Run.bind ?_
  refine Run.for _ _ _ _ (fun t s σ' => s = carry X Sp I t ∧ σ'.acc = σ.acc ∧ Molecule X Sp σ' ∧ Weights X I 32 σ' ∧ Lists X Sp I (nbrs X I t) σ')
    ⟨rfl, ha2.trans ha1, hM2, hW2, ⟨fun _ h => absurd h (Nat.not_lt_zero _), fun _ h => absurd h (Nat.not_lt_zero _), fun _ h => absurd h (Nat.not_lt_zero _),
      fun _ h => absurd h (Nat.not_lt_zero _), fun _ h => absurd h (Nat.not_lt_zero _), fun _ h => absurd h (Nat.not_lt_zero _)⟩⟩ ?_ ?_
  · rintro t _ σ3 ⟨rfl, ha3, hM3, hW3, hL3⟩
    exact Run.atom hM3 hW3 hL3 fun σ4 ha4 hM4 hW4 hL4 => ⟨rfl, ha4.trans ha3, hM4, hW4, hL4⟩
  rw [trips1]
  rintro _ σ3 ⟨rfl, ha3, hM3, -, hL3⟩
  have hB3 : Built X Sp I σ3 := ⟨hM3, hL3⟩
  have hw : k0_chk2 (word (nbN X I)) := chk2_ok (nbF X I)
  have e2 : (k0_t2_loop (word (nbN X I))).trips = nbN X I - 1 := trips2 (nbF X I)
  have e5 : (k0_t5_loop (word (nbN X I))).trips = 0 := trips5 (nbF X I)
  refine Run.bind ?_
  refine Run.assume (show k0_chk2 (carry X Sp I 32).1 from hw) ?_
  refine Run.bind <| Run.stAcc ?_
  refine Run.bind <| Run.stAcc ?_
  refine Run.bind <| Run.stAcc ?_
  refine Run.bind <| Run.stAcc ?_
  refine Run.bind <| Run.zeros ?_
  generalize hacc : (fun x => if 384 * r + 64 ≤ x ∧ x < 384 * r + 64 + 16 * 20 then byLane (zeroV (F := F)) 0 else _) = acc0
  have hin : ∀ x, 384 * r ≤ x → x < 384 * r + 384 → acc0 x = rowInit X Sp I (x - 384 * r) := by
    intro x h1 h2
    rw [← hacc]
    show (if _ then _ else put (put (put (put σ3.acc (384 * r) 16 (byLane (radAcc X Sp I 0#32 32))) (384 * r + 16) 16 (byLane (radAcc X Sp I 1#32 32)))
      (384 * r + 32) 16 (byLane (radAcc X Sp I 2#32 32))) (384 * r + 48) 16 (byLane (radAcc X Sp I 3#32 32)) x) = _
    unfold rowInit
    by_cases c : 384 * r + 64 ≤ x
    · rw [if_pos (by omega), if_neg (by omega)]
    rw [if_neg (by omega), if_pos (by omega)]
    by_cases c3 : 384 * r + 48 ≤ x
    · rw [put_in c3 (by omega), show (x - 384 * r) / 16 = 3 by omega, show (x - 384 * r) % 16 = x - (384 * r + 48) by omega]
    rw [put_out (by omega)]
    by_cases c2 : 384 * r + 32 ≤ x
    · rw [put_in c2 (by omega), show (x - 384 * r) / 16 = 2 by omega, show (x - 384 * r) % 16 = x - (384 * r + 32) by omega]
    rw [put_out (by omega)]
    by_cases c1 : 384 * r + 16 ≤ x
    · rw [put_in c1 (by omega), show (x - 384 * r) / 16 = 1 by omega, show (x - 384 * r) % 16 = x - (384 * r + 16) by omega]
    rw [put_out (by omega), put_in h1 (by omega), show (x - 384 * r) / 16 = 0 by omega, show (x - 384 * r) % 16 = x - 384 * r by omega]
  have hout : ∀ x, ¬(384 * r ≤ x ∧ x < 384 * r + 384) → acc0 x = σ.acc x := by
    intro x h
    rw [← hacc, ← ha3]
    show (if _ then _ else put (put (put (put σ3.acc (384 * r) 16 _) (384 * r + 16) 16 _) (384 * r + 32) 16 _) (384 * r + 48) 16 _ x) = _
    rw [if_neg (by omega), put_out (by omega), put_out (by omega), put_out (by omega), put_out (by omega)]
  refine Run.bind ?_
  refine Run.for _ _ _ _ (fun k _ σ' => σ' = { σ3 with acc := fun x => outerAcc X Sp I r k x (acc0 x) }) rfl ?_ ?_
  · rintro t ⟨⟩ _ rfl
    exact Run.pairs hr hSp (hB3.acc _) hw t rfl
  rintro _ _ rfl
  refine Run.for _ _ _ _ (fun _ _ σ' => σ' = { σ3 with acc := fun x => outerAcc X Sp I r (nbN X I - 1) x (acc0 x) }) (by rw [← e2]; rfl) ?_ ?_
  · intro k
    exact absurd (lt_of_lt_of_eq k.isLt e5) (Nat.not_lt_zero _)
  rintro ⟨⟩ _ rfl
  refine hR _ ⟨hM3.xyz, hM3.sp⟩ fun x => ?_
  show outerAcc X Sp I r (nbN X I - 1) x (acc0 x) = _
  by_cases hx : 384 * r ≤ x ∧ x < 384 * r + 384
  · rw [if_pos hx, outerAcc_in hx.1, hin x hx.1 hx.2]; rfl
  · rw [if_neg hx, outerAcc_out hSp hx, hout x hx]

/-- The rest of the tile's rows. -/
theorem Run.rows {n r : ℕ} {h : r + n ≤ 16} {σ : Mem F} (hSp : ∀ j, j < 32 → Species (Sp j)) (hM : Molecule X Sp σ) {R : PUnit → Mem F → Prop}
    (hR : ∀ σ', Molecule X Sp σ' → (∀ x, σ'.acc x = if 384 * r ≤ x ∧ x < 384 * (r + n) then rowVal X Sp (16 * (i 0).val + x / 384) (x % 384) else σ.acc x)
      → R ⟨⟩ σ') :
    Run i dv B (rows i B.a5 B.a6 B.a7 B.a8 B.a9 B.a10 B.a11 B.a12 B.a13 B.a14 B.a15 B.a16 n r h) σ R := by
  induction n generalizing r σ with
  | zero => exact Run.pure (hR σ hM fun x => by rw [if_neg (by omega)])
  | succ n ih =>
    unfold Row.rows
    refine Run.bind <| Run.row (by omega) hSp hM fun σ1 hM1 h1 => ih hM1 fun σ2 hM2 h2 => hR σ2 hM2 fun x => ?_
    rw [h2, h1]
    by_cases c : 384 * r ≤ x ∧ x < 384 * r + 384
    · rw [if_neg (by omega), if_pos c, if_pos (by omega), show x / 384 = r by omega, show x % 384 = x - 384 * r by omega]
    · rw [if_neg c]
      by_cases c2 : 384 * (r + 1) ≤ x ∧ x < 384 * (r + 1 + n)
      · rw [if_pos c2, if_pos (by omega)]
      · rw [if_neg c2, if_neg (by omega)]

end Cert.Proof.Row
-- ==== Proof.Body.lean ====
/-
  The printed body of a tile is the copies in, the row program sixteen times, and the copy out.
-/
module

public import proofs.«01_k».proof.Proof.Row

@[expose] public section

noncomputable section

namespace Cert.Proof.Row

open Cert.KernelIdeal Cert.KernelIdeal.Gen
open Idealize.ShloMosaic Idealize.SL.Sem

universe v
/-- Two programs that begin with one effect are equal if they go on equally. -/
theorem op_step {E : Type → Type v} {α β : Type} {e : E β} {k k' : β → Prog E α} (h : ∀ x, k x = k' x) :
    Prog.op e k = Prog.op e k' := congrArg _ (funext h)
/-- Two programs that begin with one loop are equal if they go on equally. -/
theorem bind_step {E : Type → Type v} {α β : Type} {x x' : Prog E β} {k k' : β → Prog E α} (hx : x = x') (h : ∀ a, k a = k' a) :
    x.bind k = x'.bind k' := hx ▸ congrArg _ (funext h)
/-- Regroup the left side. -/
theorem assoc_left {E : Type → Type v} {α β γ : Type} {x : Prog E γ} {f : γ → Prog E β} {k : β → Prog E α} {y : Prog E α}
    (h : x.bind (fun a => (f a).bind k) = y) : (x.bind f).bind k = y := (Prog.bind_assoc x f k).trans h
/-- Regroup the right side. -/
theorem assoc_right {E : Type → Type v} {α β γ : Type} {x : Prog E γ} {f : γ → Prog E β} {k : β → Prog E α} {y : Prog E α}
    (h : y = x.bind (fun a => (f a).bind k)) : y = (x.bind f).bind k := h.trans (Prog.bind_assoc x f k).symm

variable {F : FTy → Type} [FloatOps F]
variable (i : grid0.Coords)
  (arg2 : Memref sig .scVector .hbm S1536 .f32) (h2 : arg2.IsWhole) (arg3 : Memref sig .scVector .hbm S512 .i32) (h3 : arg3.IsWhole)
  (arg4 : Memref sig .scVector .hbm S196608 .f32) (h4 : arg4.IsWhole)
  (arg5 : Memref sig .scVector .vmem S128 .f32) (h5 : arg5.IsWhole) (arg6 : Memref sig .scVector .vmem S48 .i32) (h6 : arg6.IsWhole)
  (arg7 : Memref sig .scVector .vmem S48 .f32) (h7 : arg7.IsWhole) (arg8 : Memref sig .scVector .vmem S48 .f32) (h8 : arg8.IsWhole)
  (arg9 : Memref sig .scVector .vmem S48 .f32) (h9 : arg9.IsWhole) (arg10 : Memref sig .scVector .vmem S6144 .f32) (h10 : arg10.IsWhole)
  (arg11 : Memref sig .scVector .smem S40 .f32) (h11 : arg11.IsWhole) (arg12 : Memref sig .scVector .smem S40 .f32) (h12 : arg12.IsWhole)
  (arg13 : Memref sig .scVector .smem S40 .f32) (h13 : arg13.IsWhole) (arg14 : Memref sig .scVector .smem S40 .f32) (h14 : arg14.IsWhole)
  (arg15 : Memref sig .scVector .smem S40 .f32) (h15 : arg15.IsWhole) (arg16 : Memref sig .scVector .smem S40 .i32) (h16 : arg16.IsWhole)
  (sem0 sem1 sem2 : DmaSems sig S_)

set_option maxHeartbeats 40000000 in
set_option maxRecDepth 100000 in
/-- The printed body is `body`: step by step both begin with the same effect or with the same loop; where one side groups its
    steps differently the grouping is moved first. -/
theorem body_eq :
    cc0__sc_body (F := F) i arg2 h2 arg3 h3 arg4 h4 arg5 h5 arg6 h6 arg7 h7 arg8 h8 arg9 h9 arg10 h10 arg11 h11 arg12 h12 arg13 h13
        arg14 h14 arg15 h15 arg16 h16 sem0 sem1 sem2
      = body i arg5 arg6 arg7 arg8 arg9 arg10 arg11 arg12 arg13 arg14 arg15 arg16 arg2 arg3 arg4 h10 sem0 sem1 sem2 := by
  repeat ((conv_lhs => whnf); (conv_rhs => whnf); first | (refine op_step ?_; intro _) | refine assoc_left ?_ | refine assoc_right ?_ | (refine bind_step ?_ ?_; rfl; intro _))
  rfl

end Cert.Proof.Row
-- ==== Proof.Tile.lean ====
/-
  One tile's whole body: the molecule is copied in, its sixteen rows are computed, the rows are copied out.
-/
module

public import proofs.«01_k».proof.Proof.RowsRun
public import proofs.«01_k».proof.Proof.Body

@[expose] public section

noncomputable section

namespace Cert.Proof.Row

open Cert.KernelIdeal Cert.KernelIdeal.Gen
open Idealize.ShloMosaic
open Idealize.ShloMosaic.SparseCore (S V bigSep_union' bigSep_insert' bigSep_erase')
open Idealize.ShloMosaic.SparseCore.Cfg (HIx ownRefs ownCells mem_ownCells ownBufs ownSems0 mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as it is launched -/

abbrev ΛP : Labels := Pipeline.Sig Λ₀ (Fin 0) fun p => (pcfgs (F := F) p).Adm
abbrev K : SparseCore.Cfg τ sig (ΛP (F := F)) 1 := sc (F := F)

/-- The tile's scratch buffers. -/
abbrev B₀ : Bufs where
  a5 := Memref.whole cc0_scratch0
  a6 := Memref.whole cc0_scratch1
  a7 := Memref.whole cc0_scratch2
  a8 := Memref.whole cc0_scratch3
  a9 := Memref.whole cc0_scratch4
  a10 := Memref.whole cc0_scratch5
  a11 := Memref.whole cc0_scratch6
  a12 := Memref.whole cc0_scratch7
  a13 := Memref.whole cc0_scratch8
  a14 := Memref.whole cc0_scratch9
  a15 := Memref.whole cc0_scratch10
  a16 := Memref.whole cc0_scratch11

/-- The same buffers, numbered. -/
def scratch : Fin 12 → Ref sig .scVector :=
  ![cc0_scratch0, cc0_scratch1, cc0_scratch2, cc0_scratch3, cc0_scratch4, cc0_scratch5, cc0_scratch6, cc0_scratch7,
    cc0_scratch8, cc0_scratch9, cc0_scratch10, cc0_scratch11]

/-- The scratch buffers are different. -/
theorem scratch_injective : Function.Injective scratch := by decide

/-- The coordinates, the species, the rows: the arrays the tiles read and write. -/
abbrev xyzM : Memref sig .scVector .hbm S1536 .f32 := Memref.whole main_v2_scv
abbrev speM : Memref sig .scVector .hbm S512 .i32 := Memref.whole main_v0_scv
abbrev outM : Memref sig .scVector .hbm S196608 .f32 := Memref.whole main_v3_scv

abbrev xLoc (d : Dev nD) : Loc nD τ sig := (SparseCore.T d).loc main_v2
abbrev sLoc (d : Dev nD) : Loc nD τ sig := (SparseCore.T d).loc main_v0
abbrev oLoc (d : Dev nD) : Loc nD τ sig := (SparseCore.T d).loc main_v3

/-! ## Positions -/

/-- Where a tile's coordinates start. -/
theorem off1_eq : ∀ i : grid0.Coords, k0_off1 i = ![96 * (i 1).val] := by decide +kernel
/-- Where a tile's species start. -/
theorem off2_eq : ∀ i : grid0.Coords, k0_off2 i = ![32 * (i 1).val] := by decide +kernel

/-- Position `n` of a list of `N`. -/
def pos {N : ℕ} (h : 0 < N) (n : ℕ) : (⟨1, ![N]⟩ : Shape).Idx := fun | 0 => ⟨n % N, Nat.mod_lt _ h⟩

/-- Molecule `b`'s coordinates: `x`, then `y`, then `z`, of its 32 atoms. -/
def molX (x : S1536.Idx → F .f32) (b : ℕ) (j : ℕ) : F .f32 := x (pos (N := 1536) (by omega) (96 * b + j))
/-- Molecule `b`'s species. -/
def molS (s : S512.Idx → BitVec 32) (b : ℕ) (j : ℕ) : BitVec 32 := s (pos (N := 512) (by omega) (32 * b + j))

variable [FloatOps F]

/-- The whole result: entry `n` is column `n % 384` of atom `n / 384 % 32` of molecule `n / 12288`. -/
def outF (x : S1536.Idx → F .f32) (s : S512.Idx → BitVec 32) : S196608.Idx → F .f32 := fun y =>
  rowVal (molX x ((y 0).val / 12288)) (molS s ((y 0).val / 12288)) ((y 0).val / 384 % 32) ((y 0).val % 384)

variable (i : grid0.Coords) (d : Dev nD)

/-- The words of the result a tile writes. -/
def outWin (w : ℕ) : Finset S196608.Idx := Finset.univ.filter fun y => (y 0).val / 6144 = w

/-- The number of a tile. -/
abbrev wid : ℕ := 2 * (i 1).val + (i 0).val

/-- The words of the result a tile's copy writes. -/
theorem set_outDst : (outDst i outM).view.set = outWin (wid i) := by
  show ((View.whole main_v3_scv).slice (Rect.unit (s := S196608) (k0_off323 i) S6144.size (k0_off323_inb i))).set = _
  rw [View.set_slice_whole]
  ext y
  rw [Rect.mem_set_unit]
  unfold outWin
  rw [Finset.mem_filter]
  have h0 : (k0_off323 i) 0 = 12288 * (i 1).val + 6144 * (i 0).val := by rw [k0_off323_eq]; rfl
  have hs : S6144.size 0 = 6144 := rfl
  unfold wid
  constructor
  · intro h
    have := h 0
    rw [h0, hs] at this
    exact ⟨Finset.mem_univ _, by omega⟩
  · rintro ⟨-, h⟩ a
    obtain rfl : a = (0 : Fin 1) := Subsingleton.elim (α := Fin 1) a 0
    rw [h0, hs]
    omega

/-! ## Scratch buffers, held -/

section
variable {thr : Thread nD τ} {sp : Space} {dd : Fin 1 → ℕ} {e : EltTy} (mm : Memref sig thr.2.kind sp ⟨1, dd⟩ e)

/-- A buffer's contents as a function of the position (at the positions beyond it, what it holds at `y₀`). -/
def byPos (y₀ : (⟨1, dd⟩ : Shape).Idx) (f : Buf (Elt F) (mm.view.loc thr)) (n : ℕ) : Elt F e :=
  if h : n < dd 0 then mm.view.read (Elt F) f (fun a => ⟨n, by rw [Subsingleton.elim a 0]; exact h⟩) else mm.view.read (Elt F) f y₀

/-- A buffer, read by position. -/
theorem byPos_at (y₀ : (⟨1, dd⟩ : Shape).Idx) (f : Buf (Elt F) (mm.view.loc thr)) (y : (⟨1, dd⟩ : Shape).Idx) :
    byPos mm y₀ f (y 0).val = mm.view.read (Elt F) f y := by
  have h : (y 0).val < dd 0 := (y 0).isLt
  have e : (fun a => ⟨(y 0).val, by rw [Subsingleton.elim a 0]; exact h⟩ : (⟨1, dd⟩ : Shape).Idx) = y := by
    funext a
    apply Fin.ext
    rw [Subsingleton.elim a 0]
  unfold byPos
  rw [dif_pos h, e]

/-- A whole buffer, owned, is held. -/
theorem holds_intro (hm : mm.view.set = Finset.univ) (y₀ : (⟨1, dd⟩ : Shape).Idx) (f : Buf (Elt F) (mm.view.loc thr)) :
    (mm.view.loc thr ↦{fullShare} f : IProp F) ⊢ holds thr mm (byPos mm y₀ f) := by
  unfold holds
  rw [hm]
  iintro H
  iexists f
  isplitr
  · ipureintro
    exact fun y => (byPos_at mm y₀ f y).symm
  · iexact H

/-- A whole buffer, held, is owned. -/
theorem holds_elim (hm : mm.view.set = Finset.univ) (x : ℕ → Elt F e) :
    (holds thr mm x : IProp F) ⊢ iprop(∃ f, mm.view.loc thr ↦{fullShare} f) := by
  unfold holds
  rw [hm]
  iintro ⟨%f, -, H⟩
  iexists f
  iexact H

end

/-! ## What a tile owns -/

abbrev cell0 : GSem nD τ sig := (tile i d, .dma cc0_scoped0.sem)
abbrev cell1 : GSem nD τ sig := (tile i d, .dma cc0_scoped1.sem)
abbrev cell2 : GSem nD τ sig := (tile i d, .dma cc0_scoped2.sem)

/-- A tile's scoped semaphores: its three copies' and the rest. -/
theorem ownSems0_tile :
    (ownSems0 (tile i d) : IProp F)
      = iprop(semVal (cell0 i d) 0 ∗ semVal (cell1 i d) 0 ∗ semVal (cell2 i d) 0
          ∗ bigSep ((((ownCells (tile i d)).erase (cell0 i d)).erase (cell1 i d)).erase (cell2 i d)) fun g => semVal g 0) := by
  have h0 : (SemLoc.dma cc0_scoped0.sem : SemLoc sig) ≠ .dma cc0_scoped1.sem := by decide
  have h1 : (SemLoc.dma cc0_scoped0.sem : SemLoc sig) ≠ .dma cc0_scoped2.sem := by decide
  have h2 : (SemLoc.dma cc0_scoped1.sem : SemLoc sig) ≠ .dma cc0_scoped2.sem := by decide
  have s0 : (SemLoc.dma cc0_scoped0.sem : SemLoc sig).isScoped .scVector = true := by decide
  have s1 : (SemLoc.dma cc0_scoped1.sem : SemLoc sig).isScoped .scVector = true := by decide
  have s2 : (SemLoc.dma cc0_scoped2.sem : SemLoc sig).isScoped .scVector = true := by decide
  unfold SparseCore.Cfg.ownSems0
  rw [bigSep_erase' (i := cell0 i d) (mem_ownCells.mpr ⟨rfl, s0⟩),
    bigSep_erase' (i := cell1 i d) (Finset.mem_erase.mpr ⟨fun e => h0 (Prod.mk.inj e).2.symm, mem_ownCells.mpr ⟨rfl, s1⟩⟩),
    bigSep_erase' (i := cell2 i d) (Finset.mem_erase.mpr ⟨fun e => h2 (Prod.mk.inj e).2.symm,
      Finset.mem_erase.mpr ⟨fun e => h1 (Prod.mk.inj e).2.symm, mem_ownCells.mpr ⟨rfl, s2⟩⟩⟩)]

/-- The buffers a tile owns beside its twelve scratches. -/
def others : Finset (DevRef τ sig) :=
  ownRefs (τ := τ) (tile i d).2 \ Finset.univ.image fun k : Fin 12 => (tile i d).2.devRef (scratch k)

/-- A tile's scoped buffers: its twelve scratches, at some contents, and the rest. -/
theorem ownBufs_tile :
    (ownBufs (tile i d) : IProp F)
      = iprop(((∃ f, (tile i d).loc cc0_scratch0 ↦{fullShare} f) ∗ (∃ f, (tile i d).loc cc0_scratch1 ↦{fullShare} f)
          ∗ (∃ f, (tile i d).loc cc0_scratch2 ↦{fullShare} f) ∗ (∃ f, (tile i d).loc cc0_scratch3 ↦{fullShare} f)
          ∗ (∃ f, (tile i d).loc cc0_scratch4 ↦{fullShare} f) ∗ (∃ f, (tile i d).loc cc0_scratch5 ↦{fullShare} f)
          ∗ (∃ f, (tile i d).loc cc0_scratch6 ↦{fullShare} f) ∗ (∃ f, (tile i d).loc cc0_scratch7 ↦{fullShare} f)
          ∗ (∃ f, (tile i d).loc cc0_scratch8 ↦{fullShare} f) ∗ (∃ f, (tile i d).loc cc0_scratch9 ↦{fullShare} f)
          ∗ (∃ f, (tile i d).loc cc0_scratch10 ↦{fullShare} f) ∗ (∃ f, (tile i d).loc cc0_scratch11 ↦{fullShare} f))
        ∗ bigSep (others i d) fun b => iprop(∃ f, ((d, b) : Loc nD τ sig) ↦{fullShare} f)) := by
  have hsub : (Finset.univ.image fun k : Fin 12 => (tile i d).2.devRef (scratch k)) ⊆ ownRefs (τ := τ) (tile i d).2 := by
    intro b hb
    obtain ⟨k, -, rfl⟩ := Finset.mem_image.mp hb
    refine mem_ownRefs_of_owner ?_
    fin_cases k <;> rfl
  unfold SparseCore.Cfg.ownBufs
  rw [SparseCore.bigSep_sdiff_split' hsub,
    SparseCore.bigSep_image_of_injOn (f := fun k : Fin 12 => (tile i d).2.devRef (scratch k))
      (fun a _ b _ e => scratch_injective ((tile i d).2.devRef_injective e)),
    show (Finset.univ : Finset (Fin 12)) = {0, 1, 2, 3, 4, 5, 6, 7, 8, 9, 10, 11} by decide]
  rw [bigSep_insert' (by decide), bigSep_insert' (by decide), bigSep_insert' (by decide), bigSep_insert' (by decide), bigSep_insert' (by decide),
    bigSep_insert' (by decide), bigSep_insert' (by decide), bigSep_insert' (by decide), bigSep_insert' (by decide), bigSep_insert' (by decide),
    bigSep_insert' (by decide), bigSep_singleton]
  rfl

/-- The molecule's coordinates, copied into the first scratch. -/
theorem xyz_in (x : Buf (Elt F) (xLoc d)) (g : Buf (Elt F) ((tile i d).loc cc0_scratch0)) (j : ℕ) (hj : j < 96) :
    byPos (thr := tile i d) B₀.a5 (pos (by omega) 0) (B₀.a5.view.writes (Elt F) g [⟨Rect.unit ![0] S96.size inb_S128_S96_0, (xyzSrc i xyzM).view.read (Elt F) x⟩]) j
      = molX x (i 1).val j := by
  have hy := byPos_at (thr := tile i d) B₀.a5 (pos (by omega) 0) (B₀.a5.view.writes (Elt F) g [⟨Rect.unit ![0] S96.size inb_S128_S96_0, (xyzSrc i xyzM).view.read (Elt F) x⟩])
    (fun a => ⟨j, by rw [Subsingleton.elim (α := Fin 1) a 0]; show j < 128; omega⟩)
  refine hy.trans ?_
  rw [View.read_writes_cons_put B₀.a5.view g inb_S128_S96_0 _ [] rfl]
  unfold VecWindow.put
  rw [dif_pos (fun a => by rw [Subsingleton.elim a 0]; exact ⟨Nat.zero_le _, by show j < 0 + 96; omega⟩), View.read_apply]
  unfold molX
  refine (cast_eq _ _).trans (congrArg x ?_)
  funext a
  apply Fin.ext
  rw [Subsingleton.elim (α := Fin 1) a 0]
  show (k0_off1 i) 0 + 1 * (j - 0) = (96 * (i 1).val + j) % 1536
  have hi : (i 1).val < 16 := (i 1).isLt
  rw [off1_eq]
  show 96 * (i 1).val + 1 * (j - 0) = _
  omega

/-- The molecule's species, copied into the second scratch. -/
theorem sp_in (s : Buf (Elt F) (sLoc d)) (g : Buf (Elt F) ((tile i d).loc cc0_scratch1)) (j : ℕ) (hj : j < 32) :
    byPos (thr := tile i d) B₀.a6 (pos (by omega) 0) (B₀.a6.view.writes (Elt F) g [⟨Rect.unit ![0] S32.size inb_S48_S32_0, (spSrc i speM).view.read (Elt F) s⟩]) j
      = molS s (i 1).val j := by
  have hy := byPos_at (thr := tile i d) B₀.a6 (pos (by omega) 0) (B₀.a6.view.writes (Elt F) g [⟨Rect.unit ![0] S32.size inb_S48_S32_0, (spSrc i speM).view.read (Elt F) s⟩])
    (fun a => ⟨j, by rw [Subsingleton.elim (α := Fin 1) a 0]; show j < 48; omega⟩)
  refine hy.trans ?_
  rw [View.read_writes_cons_put B₀.a6.view g inb_S48_S32_0 _ [] rfl]
  unfold VecWindow.put
  rw [dif_pos (fun a => by rw [Subsingleton.elim a 0]; exact ⟨Nat.zero_le _, by show j < 0 + 32; omega⟩), View.read_apply]
  unfold molS
  refine (cast_eq _ _).trans (congrArg s ?_)
  funext a
  apply Fin.ext
  rw [Subsingleton.elim (α := Fin 1) a 0]
  show (k0_off2 i) 0 + 1 * (j - 0) = (32 * (i 1).val + j) % 512
  have hi : (i 1).val < 16 := (i 1).isLt
  rw [off2_eq]
  show 32 * (i 1).val + 1 * (j - 0) = _
  omega

/-- The rows, copied out, are the tile's part of the result. -/
theorem out_eq (x : Buf (Elt F) (xLoc d)) (s : Buf (Elt F) (sLoc d)) (f₀ : Buf (Elt F) (oLoc d)) (w : S6144.Idx → F .f32)
    (hw : ∀ y, w y = rowVal (molX x (i 1).val) (molS s (i 1).val) (16 * (i 0).val + (y 0).val / 384) ((y 0).val % 384)) :
    ∀ y ∈ (outDst i outM).view.set, (outDst i outM).view.writes (Elt F) f₀ [⟨Rect.whole S6144, w⟩] y = outF x s y := by
  intro y hy
  obtain ⟨z, -, rfl⟩ := Finset.mem_map.mp hy
  have key : (outDst i outM).view.read (Elt F) ((outDst i outM).view.writes (Elt F) f₀ [⟨Rect.whole S6144, w⟩]) z = w z := by
    exact congrFun (View.read_writes_full (outDst i outM).view f₀ (off := fun _ => 0) (fun a => (Nat.zero_add _).le) w []) z
  rw [View.read_apply] at key
  refine ((cast_eq _ _).symm.trans key).trans ((hw z).trans ?_)
  have hz : (z 0).val < 6144 := (z 0).isLt
  have hi : (i 1).val < 16 := (i 1).isLt
  have hc : (i 0).val < 2 := (i 0).isLt
  have e : ((outDst i outM).view.emb z 0).val = 12288 * (i 1).val + 6144 * (i 0).val + (z 0).val := by
    show (k0_off323 i) 0 + 1 * (z 0).val = _
    rw [k0_off323_eq]
    show 12288 * (i 1).val + 6144 * (i 0).val + 1 * (z 0).val = _
    omega
  unfold outF
  show _ = rowVal (molX x (((outDst i outM).view.emb z 0).val / 12288)) (molS s (((outDst i outM).view.emb z 0).val / 12288))
    (((outDst i outM).view.emb z 0).val / 384 % 32) (((outDst i outM).view.emb z 0).val % 384)
  rw [e, show (12288 * (i 1).val + 6144 * (i 0).val + (z 0).val) / 12288 = (i 1).val by omega,
    show (12288 * (i 1).val + 6144 * (i 0).val + (z 0).val) / 384 % 32 = 16 * (i 0).val + (z 0).val / 384 by omega,
    show (12288 * (i 1).val + 6144 * (i 0).val + (z 0).val) % 384 = (z 0).val % 384 by omega]

/-! ## The tile -/

/-- A tile's body, from its copies in to its copy out: it writes its window of the result and nothing else. -/
theorem tile_body (hF : (K (F := F)).Facts) (x : Buf (Elt F) (xLoc d)) (s : Buf (Elt F) (sLoc d)) (hs : ∀ y : S512.Idx, Species (s y))
    (q : PosShare TreeShare) (f₀ : Buf (Elt F) (oLoc d)) (O : CellTallies nD τ sig (HIx 1)) (W : Waits sig (HIx 1)) (hO : ∀ g, O g none = 0) :
    (iprop(levAts (K (F := F)).L (K (F := F)).lev ∗ emp
        ∗ ((xLoc d ↦{q} x) ∗ (sLoc d ↦{q} s) ∗ oLoc d ↦[outWin (wid i)]{fullShare} f₀)
        ∗ scopedBufs (tile i d) ∗ scopedSems0 (tile i d) ∗ owes (tile i d) O W) : IProp F)
      ⊢ wp frame (wpE (defs₀ (F := F)) 𝒱₀ (tile i d) none) Set.univ
          (cc0__sc_body i xyzM (Memref.isWhole_whole _) speM (Memref.isWhole_whole _) outM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) (Memref.whole cc0_scratch11) (Memref.isWhole_whole _)
            cc0_scoped0 cc0_scoped1 cc0_scoped2)
          fun _ => iprop(((xLoc d ↦{q} x) ∗ (sLoc d ↦{q} s) ∗ oLoc d ↦[outWin (wid i)]{fullShare} outF x s)
            ∗ scopedBufs (tile i d) ∗ scopedSems0 (tile i d) ∗ ∃ W', ⌜∀ p ∈ W', p ∈ W ∨ p.2 = none⌝ ∗ owes (tile i d) O W') := by
  rw [body_eq]
  unfold body
  generalize hp : rows (F := F) i _ _ _ _ _ _ _ _ _ _ _ _ 16 0 _ = p
  simp only [Prog.lift, Prog.bind_op, Prog.bind_ret, Prog.pure_eq_ret]
  rw [(K (F := F)).scopedBufs_V hF d _ _, SparseCore.Cfg.scopedSems0_V (Val := Elt F) d _ _, ownSems0_tile i d, ownBufs_tile i d]
  iintro ⟨#Hlv, -, ⟨Hx, Hs, Ho⟩, ⟨⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩,
    ⟨%g10, H10⟩, ⟨%g11, H11⟩⟩, Hbufs⟩, ⟨HA, HB, HC, Hsems⟩, HO⟩
  ihave Hmw := ((K (F := F)).mayWaits_none (thr := tile i d) hO) $$ Hlv
  ihave Hx' := (Entails.of_eq (show (xLoc d ↦{q} x : IProp F) = (xyzM.view.loc (tile i d) ↦{q} x) from rfl)) $$ Hx
  ihave Hs' := (Entails.of_eq (show (sLoc d ↦{q} s : IProp F) = (speM.view.loc (tile i d) ↦{q} s) from rfl)) $$ Hs
  ihave H0' := (Entails.of_eq (show ((tile i d).loc cc0_scratch0 ↦{fullShare} g0 : IProp F) = (B₀.a5.view.loc (tile i d) ↦{fullShare} g0) from rfl)) $$ H0
  ihave H1' := (Entails.of_eq (show ((tile i d).loc cc0_scratch1 ↦{fullShare} g1 : IProp F) = (B₀.a6.view.loc (tile i d) ↦{fullShare} g1) from rfl)) $$ H1
  sl_exec (disch := exact View.amount_pos _ _ (by decide))
  ihave H0 := (holds_intro (thr := tile i d) B₀.a5 (View.set_whole _) (pos (by omega) 0) _) $$ H0'
  ihave H1 := (holds_intro (thr := tile i d) B₀.a6 (View.set_whole _) (pos (by omega) 0) _) $$ H1'
  ihave H2 := (holds_intro (thr := tile i d) B₀.a7 (View.set_whole _) (pos (by omega) 0) _) $$ H2
  ihave H3 := (holds_intro (thr := tile i d) B₀.a8 (View.set_whole _) (pos (by omega) 0) _) $$ H3
  ihave H4 := (holds_intro (thr := tile i d) B₀.a9 (View.set_whole _) (pos (by omega) 0) _) $$ H4
  ihave H5 := (holds_intro (thr := tile i d) B₀.a10 (View.set_whole _) (pos (by omega) 0) _) $$ H5
  ihave H6 := (holds_intro (thr := tile i d) B₀.a11 (View.set_whole _) (pos (by omega) 0) _) $$ H6
  ihave H7 := (holds_intro (thr := tile i d) B₀.a12 (View.set_whole _) (pos (by omega) 0) _) $$ H7
  ihave H8 := (holds_intro (thr := tile i d) B₀.a13 (View.set_whole _) (pos (by omega) 0) _) $$ H8
  ihave H9 := (holds_intro (thr := tile i d) B₀.a14 (View.set_whole _) (pos (by omega) 0) _) $$ H9
  ihave H10 := (holds_intro (thr := tile i d) B₀.a15 (View.set_whole _) (pos (by omega) 0) _) $$ H10
  ihave H11 := (holds_intro (thr := tile i d) B₀.a16 (View.set_whole _) (pos (by omega) 0) _) $$ H11
  rw [wp_bind]
  subst hp
  iapply (Run.rows (X := molX x (i 1).val) (Sp := molS s (i 1).val) (B := B₀) (dv := d) (σ := ⟨_, _, _, _, _, _, _, _, _, _, _, _⟩)
    (R := fun _ σ' => ∀ n, n < 6144 → σ'.acc n = rowVal (molX x (i 1).val) (molS s (i 1).val) (16 * (i 0).val + n / 384) (n % 384))
    (fun j _ => hs _) ⟨fun j hj => xyz_in i d x g0 j hj, fun j hj => sp_in i d s g1 j hj⟩
    (fun σ' _ h n hn => (h n).trans (if_pos ⟨by omega, by omega⟩)) _)
  unfold own
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %_ %σ' %hσ ⟨H0, H1, H2, H3, H4, H5, H6, H7, H8, H9, H10, H11⟩
  unfold holds
  icases H5 with ⟨%f5, %hf5, H5⟩
  ihave Ho' := (Entails.of_eq (show (oLoc d ↦[outWin (wid i)]{fullShare} f₀ : IProp F)
    = ((outDst i outM).view.loc (tile i d) ↦[(outDst i outM).view.set]{fullShare} f₀) by rw [set_outDst])) $$ Ho
  sl_exec (disch := exact View.amount_pos _ _ (by decide))
  sl_step
  ihave H0 := (holds_elim (thr := tile i d) B₀.a5 (View.set_whole _) σ'.xyz) $$ [H0]; · unfold holds; iexact H0
  ihave H1 := (holds_elim (thr := tile i d) B₀.a6 (View.set_whole _) σ'.sp) $$ [H1]; · unfold holds; iexact H1
  ihave H2 := (holds_elim (thr := tile i d) B₀.a7 (View.set_whole _) σ'.dist) $$ [H2]; · unfold holds; iexact H2
  ihave H3 := (holds_elim (thr := tile i d) B₀.a8 (View.set_whole _) σ'.wr) $$ [H3]; · unfold holds; iexact H3
  ihave H4 := (holds_elim (thr := tile i d) B₀.a9 (View.set_whole _) σ'.wa) $$ [H4]; · unfold holds; iexact H4
  ihave H6 := (holds_elim (thr := tile i d) B₀.a11 (View.set_whole _) σ'.nd) $$ [H6]; · unfold holds; iexact H6
  ihave H7 := (holds_elim (thr := tile i d) B₀.a12 (View.set_whole _) σ'.nf) $$ [H7]; · unfold holds; iexact H7
  ihave H8 := (holds_elim (thr := tile i d) B₀.a13 (View.set_whole _) σ'.nx) $$ [H8]; · unfold holds; iexact H8
  ihave H9 := (holds_elim (thr := tile i d) B₀.a14 (View.set_whole _) σ'.ny) $$ [H9]; · unfold holds; iexact H9
  ihave H10 := (holds_elim (thr := tile i d) B₀.a15 (View.set_whole _) σ'.nz) $$ [H10]; · unfold holds; iexact H10
  ihave H11 := (holds_elim (thr := tile i d) B₀.a16 (View.set_whole _) σ'.ns) $$ [H11]; · unfold holds; iexact H11
  rw [← set_outDst i]
  isplitl [Hx' Hs' Ho']
  · isplitl [Hx']; · iexact Hx'
    isplitl [Hs']; · iexact Hs'
    iapply (Entails.of_eq (pointsTo_congr (out_eq i d x s f₀ _ fun y => (hf5 y).trans (hσ _ (y 0).isLt)))) $$ Ho'
  isplitl [H0 H1 H2 H3 H4 H5 H6 H7 H8 H9 H10 H11 Hbufs]
  · isplitr [Hbufs]
    · isplitl [H0]; · iexact H0
      isplitl [H1]; · iexact H1
      isplitl [H2]; · iexact H2
      isplitl [H3]; · iexact H3
      isplitl [H4]; · iexact H4
      isplitl [H5]
      · iexists f5
        rw [View.set_whole]
        iexact H5
      isplitl [H6]; · iexact H6
      isplitl [H7]; · iexact H7
      isplitl [H8]; · iexact H8
      isplitl [H9]; · iexact H9
      isplitl [H10]; · iexact H10
      iexact H11
    · iexact Hbufs
  isplitl [HA HB HC Hsems]
  · isplitl [HA]; · iexact HA
    isplitl [HB]; · iexact HB
    isplitl [HC]; · iexact HC
    iexact Hsems
  iexists _
  isplitr [HO]
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.Row
-- ==== Proof.Launch.lean ====
/-
  The program's run: the host lays the arguments out, the tiles compute the rows, the host gives the result its shape.
-/
module

public import proofs.«01_k».proof.Proof.Tile

@[expose] public section

noncomputable section

namespace Cert.Proof.Row

open Cert.KernelIdeal Cert.KernelIdeal.Gen
open Idealize.ShloMosaic
open Idealize.ShloMosaic.SparseCore (S V bigSep_insert')
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch has two cores. -/
theorem nCore_zero : (K (F := F)).nCore 0 = 2 := rfl
/-- The launch has sixteen tiles in a core. -/
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

/-- The launch's semaphores and buffers are placed as its protocol asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-! ## The host's arrays -/

/-- An array of the host, as a buffer of its device. -/
abbrev hb (r : Ref sig .tc) : DevRef τ sig := Proc.devRef .tc r

variable [FloatOps F]

abbrev op1 : HloOp τ sig (Elt F) := StableHlo.reshape main_arg0 main_v0 (rfl : (.i32 : EltTy) = .i32) shapeCasts_S16x32_S512
abbrev op2 : HloOp τ sig (Elt F) := StableHlo.unary main_arg1 main_v1
  ((transpose S16x3x32 [0, 2, 1] · transposes_S16x32x3_S16x3x32_0_2_1) : (⟨S16x32x3, .f32⟩ : BufTy).Contents (Elt F) → (⟨S16x3x32, .f32⟩ : BufTy).Contents (Elt F))
abbrev op3 : HloOp τ sig (Elt F) := StableHlo.reshape main_v1 main_v2 (rfl : (.f32 : EltTy) = .f32) shapeCasts_S16x3x32_S1536
abbrev op4 : HloOp τ sig (Elt F) := StableHlo.reshape main_v3 main_v4 (rfl : (.f32 : EltTy) = .f32) shapeCasts_S196608_S16x32x384

/-- The coordinates and the species as the host lays them out for the tiles. -/
def flatX (a : S16x32x3.Idx → F .f32) : S1536.Idx → F .f32 :=
  shapeCast S1536 (transpose S16x3x32 [0, 2, 1] a transposes_S16x32x3_S16x3x32_0_2_1) shapeCasts_S16x3x32_S1536
def flatS (a : S16x32.Idx → BitVec 32) : S512.Idx → BitVec 32 := shapeCast S512 a shapeCasts_S16x32_S512
/-- The result of the program. -/
def result (sp : S16x32.Idx → BitVec 32) (co : S16x32x3.Idx → F .f32) : S16x32x384.Idx → F .f32 :=
  shapeCast S16x32x384 (outF (flatX co) (flatS sp)) shapeCasts_S196608_S16x32x384

/-- The species, as the launch memory holds them. -/
abbrev argS (d : Dev nD) : S16x32.Idx → BitVec 32 := m ((SparseCore.T d).loc main_arg0)
abbrev argX (d : Dev nD) : S16x32x3.Idx → F .f32 := m ((SparseCore.T d).loc main_arg1)

/-- What the host's arrays hold at the launch; before the call; after it; at the end. -/
def V0 (d : Dev nD) : Valuation τ sig (Elt F) := fun b => m (d, b)
def V1 (d : Dev nD) : Valuation τ sig (Elt F) := op3.result (op2.result (op1.result (V0 m d)))
def V2 (d : Dev nD) : Valuation τ sig (Elt F) := Function.update (V1 m d) (hb main_v3) (outF (flatX (argX m d)) (flatS (argS m d)))
def V3 (d : Dev nD) : Valuation τ sig (Elt F) := op4.result (V2 m d)

/-- Before the call, the flat coordinates. -/
theorem V1_x (d : Dev nD) : V1 m d (hb main_v2) = flatX (argX m d) := by
  unfold V1
  rw [StableHlo.reshape_result', StableHlo.unary_result', StableHlo.reshape_result_ne' _ _ _ _ _ (by decide)]
  rfl
/-- Before the call, the flat species. -/
theorem V1_s (d : Dev nD) : V1 m d (hb main_v0) = flatS (argS m d) := by
  unfold V1
  rw [StableHlo.reshape_result_ne' _ _ _ _ _ (by decide), StableHlo.unary_result_ne' _ _ _ _ (by decide), StableHlo.reshape_result']
  rfl
/-- Before the call, an array the host has not written. -/
theorem V1_of (d : Dev nD) {r : Ref sig .tc} (h0 : r ≠ main_v0) (h1 : r ≠ main_v1) (h2 : r ≠ main_v2) : V1 m d (hb r) = m (d, hb r) := by
  unfold V1
  rw [StableHlo.reshape_result_ne' _ _ _ _ _ h2, StableHlo.unary_result_ne' _ _ _ _ h1, StableHlo.reshape_result_ne' _ _ _ _ _ h0]
  rfl
/-- At the end, an array the host has not written. -/
theorem V3_of (d : Dev nD) {r : Ref sig .tc} (h0 : r ≠ main_v0) (h1 : r ≠ main_v1) (h2 : r ≠ main_v2) (h3 : r ≠ main_v3) (h4 : r ≠ main_v4) :
    V3 m d (hb r) = m (d, hb r) := by
  unfold V3
  rw [StableHlo.reshape_result_ne' _ _ _ _ _ h4]
  unfold V2
  rw [Function.update_of_ne (StableHlo.devRef_ne_of_ne h3), V1_of m d h0 h1 h2]
/-- At the end, the result. -/
theorem V3_out (d : Dev nD) : V3 m d (hb main_v4) = result (argS m d) (argX m d) := by
  unfold V3
  rw [StableHlo.reshape_result']
  unfold V2
  rw [Function.update_self]
  rfl

/-! ## What the call hands to the SparseCores and to their tiles -/

/-- The share of the coordinates and of the species that SparseCore `c` reads with; its tile `j`'s. -/
def shC (c : Fin 2) : PosShare TreeShare := Transfers.dealOf fullShare Finset.univ c
def shT (c : Fin 2) (j : Fin 16) : PosShare TreeShare := Transfers.dealOf (shC c) Finset.univ j

/-- The words of the result SparseCore `c` writes. -/
def outCore (c : ℕ) : Finset S196608.Idx := Finset.univ.filter fun y => (y 0).val / 6144 % 2 = c

/-- The coordinates and the species at a share, a part of the result. -/
abbrev pay (d : Dev nD) (q : PosShare TreeShare) (w : Finset S196608.Idx) (f : Buf (Elt F) (oLoc d)) : IProp F :=
  iprop((xLoc d ↦{q} flatX (argX m d)) ∗ (sLoc d ↦{q} flatS (argS m d)) ∗ oLoc d ↦[w]{fullShare} f)

/-- The result's words as the call finds them, and as it leaves them. -/
abbrev before (d : Dev nD) : Buf (Elt F) (oLoc d) := V1 m d (hb main_v3)
abbrev after (d : Dev nD) : Buf (Elt F) (oLoc d) := outF (flatX (argX m d)) (flatS (argS m d))

def P : (K (F := F)).Pay (nD := nD) (Val := Elt F) (Name := ℕ) (U := UU) where
  st := fun q d c => match q with | 0 => pay m d (shC (Fin.cast nCore_zero c)) (outCore c.val) (before m d)
  dn := fun q d c => match q with | 0 => pay m d (shC (Fin.cast nCore_zero c)) (outCore c.val) (after m d)
  go := fun q d c j => match q with
    | 0 => pay m d (shT (Fin.cast nCore_zero c) (Fin.cast nSub_zero j)) (outWin (2 * j.val + c.val)) (before m d)
  td := fun q d c j => match q with
    | 0 => pay m d (shT (Fin.cast nCore_zero c) (Fin.cast nSub_zero j)) (outWin (2 * j.val + c.val)) (after m d)
  x := fun _ _ => iprop(emp)

instance P_storable : (P (F := F) m).IsStorable where
  st q d c := match q with
    | 0 => (inferInstance : BI.Storable (upEmb : UEmb _ 𝕄) (pay m d (shC (Fin.cast nCore_zero c)) (outCore c.val) (before m d)))
  dn q d c := match q with
    | 0 => (inferInstance : BI.Storable (upEmb : UEmb _ 𝕄) (pay m d (shC (Fin.cast nCore_zero c)) (outCore c.val) (after m d)))
  go q d c j := match q with
    | 0 => (inferInstance : BI.Storable (upEmb : UEmb _ 𝕄)
        (pay m d (shT (Fin.cast nCore_zero c) (Fin.cast nSub_zero j)) (outWin (2 * j.val + c.val)) (before m d)))
  td q d c j := match q with
    | 0 => (inferInstance : BI.Storable (upEmb : UEmb _ 𝕄)
        (pay m d (shT (Fin.cast nCore_zero c) (Fin.cast nSub_zero j)) (outWin (2 * j.val + c.val)) (after m d)))

/-- Every species is one of the four. -/
def SpOK : Prop := ∀ (d : Dev nD) (y : S16x32.Idx), Species (argS m d y)

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

/-- The body a tile runs. -/
theorem defs₀_vector (c : Fin τ.nSC) (s : Fin τ.nSub) :
    defs₀ (F := F) (.scVector c s) 0 ()
      = SparseCore.onTile hcore0 hsub0 (fun c s => cc0__sc_body (coordsV c s) xyzM (Memref.isWhole_whole _) speM (Memref.isWhole_whole _) outM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) (Memref.whole cc0_scratch11) (Memref.isWhole_whole _)
            cc0_scoped0 cc0_scoped1 cc0_scoped2) ⟨⟩ c s := rfl

/-- A tile that waits on no more than its body does meets what the launch allows. -/
theorem obl_post {thr : Thread nD τ} {A B C : IProp F} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  · iexact HO

/-- Every tile's body meets what the launch asks of it. -/
theorem tileObl (hs : SpOK m) : (K (F := F)).TileObl (D (F := F)) 𝒱 (P m) v₀ 0 := by
  intro d c j O W hO _ _
  simp only [show (P m).ox = fun _ _ => 0 from rfl, add_zero]
  change _ ⊢ wp _ _ _ (Pipeline.liftProg (defs₀ (F := F) (.scVector ((K (F := F)).core 0 c) ((K (F := F)).sub 0 j)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 j).val < grid0.bound 1 := ⟨c.isLt, j.isLt⟩
  rw [defs₀_vector]
  simp only [SparseCore.onTile, hc, and_self, ↓reduceDIte]
  exact (tile_body (coordsV ⟨_, hc.1⟩ ⟨_, hc.2⟩) d facts (flatX (argX m d)) (flatS (argS m d)) (fun y => hs d _)
    (shT (Fin.cast nCore_zero c) (Fin.cast nSub_zero j)) (before m d) O W hO).trans (wp_mono frame _ _ fun _ => obl_post)

/-! ## The launch divides the arrays among the tiles -/

/-- A product over the tiles of a core is one over sixteen numbers. -/
theorem bigSep_tiles (Φ : Fin 16 → IProp F) :
    (bigSep Finset.univ fun j : Fin ((K (F := F)).nSub 0) => Φ (Fin.cast nSub_zero j)) = bigSep Finset.univ Φ :=
  bigSep_congr fun _ _ => congrArg Φ (Fin.ext rfl)

/-- A part of the result, by the tiles that write it. -/
theorem outCore_tiles (d : Dev nD) (c : ℕ) (hc : c < 2) (f : Buf (Elt F) (oLoc d)) :
    (oLoc d ↦[outCore c]{fullShare} f : IProp F) = bigSep Finset.univ fun j : Fin 16 => oLoc d ↦[outWin (2 * j.val + c)]{fullShare} f := by
  have hU : outCore c = (Finset.univ : Finset (Fin 16)).biUnion fun j => outWin (2 * j.val + c) := by
    ext y
    have hy : (y 0).val < 196608 := (y 0).isLt
    unfold outCore outWin
    simp only [Finset.mem_filter, Finset.mem_univ, true_and, Finset.mem_biUnion]
    constructor
    · intro h
      exact ⟨⟨(y 0).val / 12288, by omega⟩, by show _ = 2 * ((y 0).val / 12288) + c; omega⟩
    · rintro ⟨j, h⟩
      omega
  rw [hU]
  refine pointsTo_biUnion Finset.univ (ℓ := oLoc d) (fun j : Fin 16 => outWin (2 * j.val + c)) fun a _ b _ hab => Finset.disjoint_left.mpr fun y ha hb => hab (Fin.ext ?_)
  have h1 := (Finset.mem_filter.mp ha).2
  have h2 := (Finset.mem_filter.mp hb).2
  omega

/-- A core's share of the arrays is what its tiles get. -/
theorem pay_tiles (d : Dev nD) (c : Fin 2) (f : Buf (Elt F) (oLoc d)) :
    pay m d (shC c) (outCore c.val) f = bigSep Finset.univ fun j : Fin 16 => pay m d (shT c j) (outWin (2 * j.val + c.val)) f := by
  unfold pay
  rw [bigSep_sep', bigSep_sep', ← outCore_tiles d c.val c.isLt f]
  unfold shT
  rw [← Transfers.pointsTo_deal Finset.univ Finset.univ_nonempty (shC c), ← Transfers.pointsTo_deal Finset.univ Finset.univ_nonempty (shC c)]

/-- A core deals its arrays to its tiles and collects them. -/
theorem vecSplit : (K (F := F)).VecSplit' (P m) 0 := by
  intro d c
  show pay m d (shC (Fin.cast nCore_zero c)) (outCore (Fin.cast (nCore_zero (F := F)) c).val) (before m d) ⊢ |={Set.univ}=> iprop(
      (bigSep Finset.univ fun j : Fin ((K (F := F)).nSub 0) =>
        pay m d (shT (Fin.cast nCore_zero c) (Fin.cast nSub_zero j)) (outWin (2 * (Fin.cast (nSub_zero (F := F)) j).val + (Fin.cast (nCore_zero (F := F)) c).val)) (before m d))
      ∗ ((bigSep Finset.univ fun j : Fin ((K (F := F)).nSub 0) =>
          pay m d (shT (Fin.cast nCore_zero c) (Fin.cast nSub_zero j)) (outWin (2 * (Fin.cast (nSub_zero (F := F)) j).val + (Fin.cast (nCore_zero (F := F)) c).val)) (after m d))
          -∗ pay m d (shC (Fin.cast nCore_zero c)) (outCore (Fin.cast (nCore_zero (F := F)) c).val) (after m d)))
  rw [bigSep_tiles (F := F) (fun j => pay m d (shT (Fin.cast nCore_zero c) j) (outWin (2 * j.val + (Fin.cast (nCore_zero (F := F)) c).val)) (before m d)),
    bigSep_tiles (F := F) (fun j => pay m d (shT (Fin.cast nCore_zero c) j) (outWin (2 * j.val + (Fin.cast (nCore_zero (F := F)) c).val)) (after m d)),
    ← pay_tiles, ← pay_tiles]
  iintro H
  imodintro
  isplitl [H]; · iexact H
  iintro H
  iexact H

/-- The whole arrays, by the two SparseCores. -/
theorem pay_cores (d : Dev nD) (f : Buf (Elt F) (oLoc d)) :
    (iprop((xLoc d ↦{fullShare} flatX (argX m d)) ∗ (sLoc d ↦{fullShare} flatS (argS m d)) ∗ oLoc d ↦{fullShare} f) : IProp F)
      = bigSep Finset.univ fun c : Fin 2 => pay m d (shC c) (outCore c.val) f := by
  have hU : (Finset.univ : Finset S196608.Idx) = (Finset.univ : Finset (Fin 2)).biUnion fun c => outCore c.val := by
    ext y
    unfold outCore
    simp only [Finset.mem_filter, Finset.mem_univ, true_and, Finset.mem_biUnion, true_iff]
    exact ⟨⟨(y 0).val / 6144 % 2, by omega⟩, rfl⟩
  have hO : (oLoc d ↦{fullShare} f : IProp F) = bigSep Finset.univ fun c : Fin 2 => oLoc d ↦[outCore c.val]{fullShare} f := by
    rw [show (oLoc d ↦{fullShare} f : IProp F) = (oLoc d ↦[(Finset.univ : Finset (Fin 2)).biUnion fun c => outCore c.val]{fullShare} f) by rw [← hU]]
    refine pointsTo_biUnion Finset.univ (ℓ := oLoc d) (fun c : Fin 2 => outCore c.val) fun a _ b _ hab => Finset.disjoint_left.mpr fun y ha hb => hab (Fin.ext ?_)
    have h1 := (Finset.mem_filter.mp ha).2
    have h2 := (Finset.mem_filter.mp hb).2
    omega
  unfold pay
  rw [bigSep_sep', bigSep_sep', ← hO]
  unfold shC
  rw [← Transfers.pointsTo_deal Finset.univ Finset.univ_nonempty fullShare, ← Transfers.pointsTo_deal Finset.univ Finset.univ_nonempty fullShare]

/-! ## The host -/

/-- The host's arrays. -/
abbrev HS : Finset (DevRef τ sig) :=
  {hb main_arg0, hb main_arg1, hb main_arg2, hb main_arg3, hb main_arg4, hb main_arg5, hb main_arg6, hb main_arg7,
    hb main_v0, hb main_v1, hb main_v2, hb main_v3, hb main_v4}
/-- Those the call takes. -/
abbrev HC : Finset (DevRef τ sig) := {hb main_v2, hb main_v0, hb main_v3}

/-- The launch memory is the host's arrays at their first contents. -/
theorem unscoped_held (d : Dev nD) : (unscopedBufs d (fun b => m ((SparseCore.T d).loc b)) : IProp F) = held (SparseCore.T d) HS (V0 m d) := by
  unfold unscopedBufs held
  rw [show HS = (Finset.univ.filter fun b : Ref sig .tc => ¬ b.isScoped).image hb by decide,
    SparseCore.bigSep_image_of_injOn (f := hb) (fun a _ b _ e => Proc.devRef_injective _ e)]
  rfl

/-- The three arrays of the call. -/
theorem held_call (d : Dev nD) (W : Valuation τ sig (Elt F)) :
    (held (SparseCore.T d) HS W : IProp F)
      = iprop(((xLoc d ↦{fullShare} W (hb main_v2)) ∗ (sLoc d ↦{fullShare} W (hb main_v0)) ∗ oLoc d ↦{fullShare} W (hb main_v3))
        ∗ held (SparseCore.T d) (HS \ HC) W) := by
  unfold held
  rw [SparseCore.bigSep_sdiff_split' (show HC ⊆ HS by decide), show HC = {hb main_v2, hb main_v0, hb main_v3} from rfl,
    bigSep_insert' (by decide), bigSep_insert' (by decide), bigSep_singleton]

/-- The call leaves the other arrays as they are. -/
theorem held_rest (d : Dev nD) : (held (SparseCore.T d) (HS \ HC) (V1 m d) : IProp F) = held (SparseCore.T d) (HS \ HC) (V2 m d) := by
  unfold held
  refine bigSep_congr fun b hbm => ?_
  have : b ≠ hb main_v3 := fun e => by rw [e] at hbm; exact absurd hbm (by decide)
  unfold V2
  rw [Function.update_of_ne this]

/-- What the call hands out, core by core. -/
theorem st0_eq (d : Dev nD) : (bigSep Finset.univ fun c : Fin ((K (F := F)).nCore 0) => (P m).st 0 d c)
    = iprop((xLoc d ↦{fullShare} flatX (argX m d)) ∗ (sLoc d ↦{fullShare} flatS (argS m d)) ∗ oLoc d ↦{fullShare} before m d) :=
  (pay_cores m d (before m d)).symm
/-- What the call gets back, core by core. -/
theorem dn0_eq (d : Dev nD) : (bigSep Finset.univ fun c : Fin ((K (F := F)).nCore 0) => (P m).dn 0 d c)
    = iprop((xLoc d ↦{fullShare} flatX (argX m d)) ∗ (sLoc d ↦{fullShare} flatS (argS m d)) ∗ oLoc d ↦{fullShare} after m d) :=
  (pay_cores m d (after m d)).symm

/-- After the call, the flat coordinates. -/
theorem V2_x (d : Dev nD) : V2 m d (hb main_v2) = flatX (argX m d) := (Function.update_of_ne (by decide) _ _).trans (V1_x m d)
/-- After the call, the flat species. -/
theorem V2_s (d : Dev nD) : V2 m d (hb main_v0) = flatS (argS m d) := (Function.update_of_ne (by decide) _ _).trans (V1_s m d)
/-- After the call, the flat result. -/
theorem V2_o (d : Dev nD) : V2 m d (hb main_v3) = after m d := Function.update_self _ _ _

/-! ## The launch element -/

def u₀ : UU := (initOf (K (F := F)).hsCells (K (F := F)).hsToks, 1)

/-- A product of nothings is nothing. -/
theorem bigSep_emps {I : Type} (s : Finset I) : (bigSep s fun _ => iprop(emp)) = (iprop(emp) : IProp F) := bigSep_emp_const s

/-- The first ghost state is the launch's own. -/
theorem hu₀ : (ownU (u₀ (F := F)) : IProp F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [bigSep_emps]
    iempintro
  unfold P
  dsimp only
  rw [show (bigSep Finset.univ fun _ : Thread nD τ => bigSep Finset.univ fun _ : Fin 1 => (iprop(emp) : IProp F)) = iprop(emp) from by
    rw [bigSep_congr fun _ _ => bigSep_emps _, bigSep_emps]]
  iempintro

/-! ## The host's run -/

/-- The first reshape touches the host's arrays only. -/
theorem sub1 : (op1 (F := F)).bufs ⊆ HS := show ({hb main_arg0, hb main_v0} : Finset (DevRef τ sig)) ⊆ HS by decide
/-- The transposition touches the host's arrays only. -/
theorem sub2 : (op2 (F := F)).bufs ⊆ HS := show ({hb main_arg1, hb main_v1} : Finset (DevRef τ sig)) ⊆ HS by decide
/-- The second reshape touches the host's arrays only. -/
theorem sub3 : (op3 (F := F)).bufs ⊆ HS := show ({hb main_v1, hb main_v2} : Finset (DevRef τ sig)) ⊆ HS by decide
/-- The last reshape touches the host's arrays only. -/
theorem sub4 : (op4 (F := F)).bufs ⊆ HS := show ({hb main_v3, hb main_v4} : Finset (DevRef τ sig)) ⊆ HS by decide

abbrev FIN (d : Dev nD) : IProp F := held (SparseCore.T d) HS (V3 m d)

/-- The host's program: three layouts, the call, one reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := HS) sub1 (V := V0 m d)) $$ [Hb Hheld]
  · isplitl [Hb] <;> iassumption
  iintro ⟨Hb, Hheld⟩
  rw [wp_ret]; imodintro
  iapply (wp_hlo_within 𝒱 (SparseCore.T d) none Set.univ (op := op2) (S := HS) sub2 (V := op1.result (V0 m d))) $$ [Hb Hheld]
  · isplitl [Hb] <;> iassumption
  iintro ⟨Hb, Hheld⟩
  rw [wp_ret]; imodintro
  iapply (wp_hlo_within 𝒱 (SparseCore.T d) none Set.univ (op := op3) (S := HS) sub3 (V := op2.result (op1.result (V0 m d)))) $$ [Hb Hheld]
  · isplitl [Hb] <;> iassumption
  iintro ⟨Hb, Hheld⟩
  rw [wp_ret]; imodintro
  ihave Hheld := (Entails.of_eq (show held (SparseCore.T d) HS (op3.result (op2.result (op1.result (V0 m d)))) = held (SparseCore.T d) HS (V1 m d) from rfl)) $$ Hheld
  ihave Hh := (Entails.of_eq (held_call (F := F) d _)) $$ Hheld
  icases Hh with ⟨Hcall, Hrest⟩
  iapply ((K (F := F)).wp_run (D (F := F)) 𝒱 (EH := EH) (P := P m) κ d 0) $$ [Hst Hcall Hrest Hb Hts]
  isplitr; · iexact Hctx
  isplitl [Hst]; · iexact Hst
  isplitl [Hcall]
  · rw [st0_eq, V1_x, V1_s]
    iexact Hcall
  iintro ⟨Hst, Hdn⟩
  ihave Hdn := (Entails.of_eq (dn0_eq m d)) $$ Hdn
  iapply (wp_hlo_within 𝒱 (SparseCore.T d) none Set.univ (op := op4) (S := HS) sub4 (V := V2 m d)) $$ [Hb Hdn Hrest]
  · isplitl [Hb]; · iexact Hb
    rw [held_call, V2_x, V2_s, V2_o, ← held_rest]
    isplitl [Hdn] <;> iassumption
  iintro ⟨Hb, Hheld⟩
  rw [wp_ret]; imodintro; imodintro
  isplitl [Hst]; · iexact Hst
  isplitl [Hheld]; · iexact Hheld
  isplitl [Hb] <;> iassumption

/-- At the end every array of the host holds what `V3` says. -/
def fq (d : Dev nD) (s' : Phys nD τ sig (Elt F)) : Prop := ∀ b ∈ HS, s'.mem.mem (d, b) = V3 m d b

/-- At the end the memory holds what the host's arrays hold. -/
theorem hfin (d : Dev nD) (s' : Phys nD τ sig (Elt F)) : iprop(FIN m d ∗ SI s') ⊢ (⌜fq m d s'⌝ : IProp F) := by
  have one : ∀ b : DevRef τ sig, iprop(FIN m d ∗ SI s') ⊢ (⌜b ∈ HS → s'.mem.mem (d, b) = V3 m d b⌝ : IProp F) := by
    intro b
    by_cases hm : b ∈ HS
    · unfold FIN held
      rw [SparseCore.bigSep_erase' hm]
      iintro ⟨⟨Hx, -⟩, HSI⟩
      ihave H := (SI_pointsTo_agree (st := s') (ℓ := (d, b)) (I := Finset.univ) (q := fullShare) (f := V3 m d b)) $$ [HSI Hx]
      · isplitl [HSI] <;> iassumption
      icases H with %hx
      ipureintro
      exact fun _ => funext fun y => hx y (Finset.mem_univ y)
    · iintro -
      ipureintro
      exact fun h => absurd h hm
  exact (forall_intro one).trans pure_forall.2

/-! ## The run -/

/-- What the program leaves: its arguments as they were, the result, every counter at zero. -/
def QC (m : (ℓ : Loc nD τ sig) → Buf (Elt F) ℓ) : PUnit × MemSt nD τ sig (Elt F) → Prop := fun r =>
  (∀ d : Dev nD, ∀ b ∈ HS, r.2.mem (d, b) = V3 m d b) ∧ r.2.sem = fun _ => 0

/-- The program runs, whatever the floats are. -/
theorem run_main [∀ e, Nonempty (Elt F e)] (hs : SpOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hs)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- What the run leaves in an argument. -/
theorem QC_arg {r : PUnit × MemSt nD τ sig (Elt F)} (h : QC m r) (d : Dev nD) {b : Ref sig .tc} (hm : hb b ∈ HS)
    (hw : b ≠ main_v0 ∧ b ≠ main_v1 ∧ b ≠ main_v2 ∧ b ≠ main_v3 ∧ b ≠ main_v4) : r.2.mem (d, hb b) = m (d, hb b) :=
  (h.1 d _ hm).trans (V3_of m d hw.1 hw.2.1 hw.2.2.1 hw.2.2.2.1 hw.2.2.2.2)

/-- The arguments are as they were. -/
theorem QC_args {r : PUnit × MemSt nD τ sig (Elt F)} (h : QC m r) (d : Dev nD) :
    r.2.mem (d, hb main_arg0) = m (d, hb main_arg0) ∧ r.2.mem (d, hb main_arg1) = m (d, hb main_arg1)
      ∧ r.2.mem (d, hb main_arg2) = m (d, hb main_arg2) ∧ r.2.mem (d, hb main_arg3) = m (d, hb main_arg3)
      ∧ r.2.mem (d, hb main_arg4) = m (d, hb main_arg4) ∧ r.2.mem (d, hb main_arg5) = m (d, hb main_arg5)
      ∧ r.2.mem (d, hb main_arg6) = m (d, hb main_arg6) ∧ r.2.mem (d, hb main_arg7) = m (d, hb main_arg7) :=
  ⟨QC_arg m h d (by decide) (by decide), QC_arg m h d (by decide) (by decide), QC_arg m h d (by decide) (by decide),
    QC_arg m h d (by decide) (by decide), QC_arg m h d (by decide) (by decide), QC_arg m h d (by decide) (by decide),
    QC_arg m h d (by decide) (by decide), QC_arg m h d (by decide) (by decide)⟩

/-- The result of the call, as the host returns it. -/
theorem QC_out {r : PUnit × MemSt nD τ sig (Elt F)} (h : QC m r) (d : Dev nD) :
    r.2.mem (d, hb main_v4) = result (argS m d) (argX m d) :=
  (h.1 d _ (by decide)).trans (V3_out m d)

end Cert.Proof.Row
-- ==== Proof.FrameKernel.lean ====
/-
  The frame of the kernel over the machine's words.  The program printed from the kernel and the one printed from its
  idealization have the same text, so the run of Proof/Launch.lean, proved over any float values, is the kernel's too.
-/
module

public import proofs.«01_k».proof.Defs
public import proofs.«01_k».proof.Proof.Gen.Kernel
public import proofs.«01_k».proof.Proof.Species
public import proofs.«01_k».proof.Proof.Launch

@[expose] public section

noncomputable section

namespace Cert.Proof

open Idealize.ShloMosaic Idealize.SL.Sem

set_option maxHeartbeats 8000000 in
/-- `Cert.quiescent_Kernel`: the run of Proof/Launch.lean over the machine's words. -/
theorem frame_p : Cert.quiescent_Kernel := fun m ρ hp =>
  (θ_run Cert.KernelIdeal.defs _ _).mono (fun _ h => ⟨fun c => Row.QC_args m h c, h.2⟩)
    (Row.run_main (F := Bits) m ρ fun d y => species_of_fn (hp d) y)

end Cert.Proof

end
-- ==== Proof.Scalar.lean ====
/-
  The real numbers behind the words and the operations, at the extended reals.

  Every word of the two programs but infinity is a real number, `lt w`; the sums, products and roots of reals are reals.
-/
module

public import proofs.«01_k».proof.Proof.Model
public import Idealize.ShloMosaic.Lib.Pointwise
public import Mathlib.Analysis.SpecialFunctions.Trigonometric.Inverse

@[expose] public section

noncomputable section

namespace Cert.Proof.Val

open Idealize.ShloMosaic

/-- The real number a word denotes. -/
def lt (w : BitVec 32) : ℝ := (Ideal.ofBits .f32 w).toReal

/-- A word whose exponent is not the last one denotes a real number. -/
theorem ofBits_lt (w : BitVec 32) (h : (w.extractLsb' 23 8).toNat ≠ 255) : Ideal.ofBits .f32 w = ((lt w : ℝ) : EReal) := by
  unfold lt
  have : ∃ r : ℝ, Ideal.ofBits .f32 w = ((r : ℝ) : EReal) := by
    simp only [Ideal.ofBits, Ideal.ieee]
    rw [if_neg (by simpa using h)]
    split_ifs
    all_goals exact ⟨_, rfl⟩
  obtain ⟨r, hr⟩ := this
  rw [hr, EReal.toReal_coe]

/-- The number of a word whose exponent is neither the first nor the last. -/
theorem lt_val (w : BitVec 32) (s : ℝ) (n : ℕ) (e : ℤ) (h : (w.extractLsb' 23 8).toNat ≠ 255 := by decide)
    (h' : (w.extractLsb' 23 8).toNat ≠ 0 := by decide)
    (hn : 2 ^ 23 + (w.extractLsb' 0 23).toNat = n := by decide) (he : ((w.extractLsb' 23 8).toNat : ℤ) - 150 = e := by decide)
    (hs : (if (w.extractLsb' 31 1 == 1#1) = true then (-1 : ℝ) else 1) = s := by simp) : lt w = s * (n : ℝ) * (2 : ℝ) ^ e := by
  unfold lt
  simp only [Ideal.ofBits, Ideal.ieee]
  rw [if_neg (by simpa using h), if_neg h', EReal.toReal_coe, hn, ← hs, ← he]
  congr 2
  norm_num
  ring

/-- The word for 0. -/
theorem lt_zero : lt 0x00000000#32 = 0 := by simp [lt, Ideal.ofBits, Ideal.ieee]
/-- The word for 1. -/
theorem lt_one : lt 0x3F800000#32 = 1 := by rw [lt_val _ (1) 8388608 (-23)]; norm_num
/-- The word for 2. -/
theorem lt_two : lt 0x40000000#32 = 2 := by rw [lt_val _ (1) 8388608 (-22)]; norm_num
/-- The word for one half. -/
theorem lt_half : lt 0x3F000000#32 = 1 / 2 ^ 1 := by rw [lt_val _ (1) 8388608 (-24)]; norm_num
/-- The word for the angular radius 3.5. -/
theorem lt_cap : lt 0x40600000#32 = 7 / 2 ^ 1 := by rw [lt_val _ (1) 14680064 (-22)]; norm_num
/-- The word for the bound 1e-24. -/
theorem lt_tiny : lt 0x179ABE15#32 = 10141205 / 2 ^ 103 := by rw [lt_val _ (1) 10141205 (-103)]; norm_num
/-- The word for the bound 1e-10. -/
theorem lt_small : lt 0x2EDBE6FF#32 = 14411519 / 2 ^ 57 := by rw [lt_val _ (1) 14411519 (-57)]; norm_num
/-- The word for 0.95. -/
theorem lt_95 : lt 0x3F733333#32 = 15938355 / 2 ^ 24 := by rw [lt_val _ (1) 15938355 (-24)]; norm_num
/-- The word for pi / 3.5. -/
theorem lt_scale : lt 0x3F65C8FA#32 = 7529597 / 2 ^ 23 := by rw [lt_val _ (1) 15059194 (-24)]; norm_num
/-- The word for pi / 2. -/
theorem lt_quarter_turn : lt 0x3FC90FDB#32 = 13176795 / 2 ^ 23 := by rw [lt_val _ (1) 13176795 (-23)]; norm_num
/-- The word for the sine's third coefficient. -/
theorem lt_s3 : lt 0xBE2AAAAB#32 = -(11184811 / 2 ^ 26) := by rw [lt_val _ (-1) 11184811 (-26)]; norm_num
/-- The word for the sine's fifth coefficient. -/
theorem lt_s5 : lt 0x3C088889#32 = 8947849 / 2 ^ 30 := by rw [lt_val _ (1) 8947849 (-30)]; norm_num
/-- The word for the sine's seventh coefficient. -/
theorem lt_s7 : lt 0xB9500D01#32 = -(13634817 / 2 ^ 36) := by rw [lt_val _ (-1) 13634817 (-36)]; norm_num
/-- The word for the sine's ninth coefficient. -/
theorem lt_s9 : lt 0x3638EF1D#32 = 12119837 / 2 ^ 42 := by rw [lt_val _ (1) 12119837 (-42)]; norm_num
/-- The word for the sine's eleventh coefficient. -/
theorem lt_s11 : lt 0xB2D7322B#32 = -(14103083 / 2 ^ 49) := by rw [lt_val _ (-1) 14103083 (-49)]; norm_num

/-- The inverse root of a positive real. -/
theorem rsqrt_coe {r : ℝ} (h : 0 < r) : Ideal.rsqrt ((r : ℝ) : EReal) = (((Real.sqrt r)⁻¹ : ℝ) : EReal) := by
  show (if r < 0 then (⊥ : EReal) else if r = 0 then ⊤ else (((Real.sqrt r)⁻¹ : ℝ) : EReal)) = _
  rw [if_neg h.not_gt, if_neg h.ne']
/-- The root of a non-negative real. -/
theorem sqrt_coe {r : ℝ} (h : 0 ≤ r) : Ideal.sqrt ((r : ℝ) : EReal) = ((Real.sqrt r : ℝ) : EReal) := by
  show (if r < 0 then (⊥ : EReal) else ((Real.sqrt r : ℝ) : EReal)) = _
  rw [if_neg h.not_gt]
/-- The exponential of a real. -/
theorem exp_coe (r : ℝ) : Ideal.exp ((r : ℝ) : EReal) = ((Real.exp r : ℝ) : EReal) := rfl
/-- The cosine of a real. -/
theorem cos_coe (r : ℝ) : Ideal.cos ((r : ℝ) : EReal) = ((Real.cos r : ℝ) : EReal) := rfl
/-- The sine of a real. -/
theorem sin_coe (r : ℝ) : Ideal.sin ((r : ℝ) : EReal) = ((Real.sin r : ℝ) : EReal) := rfl
/-- The arccosine of a real between -1 and 1. -/
theorem acos_coe {r : ℝ} (h : -1 ≤ r ∧ r ≤ 1) : Ideal.acos ((r : ℝ) : EReal) = ((Real.arccos r : ℝ) : EReal) := by
  show (if -1 ≤ r ∧ r ≤ 1 then ((Real.arccos r : ℝ) : EReal) else ⊥) = _
  rw [if_pos h]
/-- The larger of two reals. -/
theorem max_coe (a b : ℝ) : max ((a : ℝ) : EReal) ((b : ℝ) : EReal) = ((max a b : ℝ) : EReal) :=
  ((EReal.coe_strictMono.monotone).map_max (a := a) (b := b)).symm
/-- The quotient of two reals. -/
theorem div_coe (a : ℝ) {b : ℝ} (h : b ≠ 0) : Ideal.div ((a : ℝ) : EReal) ((b : ℝ) : EReal) = ((a / b : ℝ) : EReal) := by
  unfold Ideal.div
  rw [if_neg (by exact_mod_cast h), div_eq_mul_inv, EReal.coe_mul, EReal.coe_inv]

/-- The cosine both programs compute on [0, π]: minus the sine's series at `v` less a quarter turn. -/
def cosT (v : ℝ) : ℝ :=
  lt 0x00000000#32 - (v - lt 0x3FC90FDB#32) * (lt 0x3F800000#32 + (v - lt 0x3FC90FDB#32) * (v - lt 0x3FC90FDB#32) * (lt 0xBE2AAAAB#32
    + (v - lt 0x3FC90FDB#32) * (v - lt 0x3FC90FDB#32) * (lt 0x3C088889#32 + (v - lt 0x3FC90FDB#32) * (v - lt 0x3FC90FDB#32) * (lt 0xB9500D01#32
    + (v - lt 0x3FC90FDB#32) * (v - lt 0x3FC90FDB#32) * (lt 0x3638EF1D#32
    + (v - lt 0x3FC90FDB#32) * (v - lt 0x3FC90FDB#32) * lt 0xB2D7322B#32)))))
/-- The sine that goes with it. -/
def sinT (v : ℝ) : ℝ :=
  lt 0x3F800000#32 + (v - lt 0x3FC90FDB#32) * (v - lt 0x3FC90FDB#32) * (lt 0xBF000000#32
    + (v - lt 0x3FC90FDB#32) * (v - lt 0x3FC90FDB#32) * (lt 0x3D2AAAAB#32 + (v - lt 0x3FC90FDB#32) * (v - lt 0x3FC90FDB#32) * (lt 0xBAB60B61#32
    + (v - lt 0x3FC90FDB#32) * (v - lt 0x3FC90FDB#32) * (lt 0x37D00D01#32
    + (v - lt 0x3FC90FDB#32) * (v - lt 0x3FC90FDB#32) * lt 0xB493F27E#32))))
/-- Half of one plus the cosine of a distance scaled by `w`. -/
def cut (w : BitVec 32) (d : ℝ) : ℝ := lt 0x3F000000#32 + lt 0x3F000000#32 * cosT (d * lt w)

end Cert.Proof.Val
-- ==== Proof.Cutoff.lean ====
/-
  The angular cutoff function is not negative at the distances within the cutoff.

  With `u` the scaled distance less a quarter turn the function is half of `1 − s(u)`, `s` the eleventh-degree sine series
  with rounded coefficients. Below zero `s` is not positive; above, `1 − s` is recentred at 1.5708, where it is
  at least 7·10⁻⁸.
-/
module

public import proofs.«01_k».proof.Proof.Scalar

@[expose] public section

noncomputable section

namespace Cert.Proof.Val

/-- The series is at most one up to 1.5708, and at most zero below zero. -/
theorem sine_le_one {u : ℝ} (h0 : 0 ≤ u) (h1 : u ≤ 15708 / 10000) :
    u * (1 + u * u * (-(11184811 / 2 ^ 26) + u * u * (8947849 / 2 ^ 30 + u * u * (-(13634817 / 2 ^ 36) + u * u * (12119837 / 2 ^ 42 + u * u * -(14103083 / 2 ^ 49)))))) ≤ 1 := by
  obtain ⟨w, rfl⟩ : ∃ w, u = 15708 / 10000 - w := ⟨15708 / 10000 - u, by ring⟩
  have hw0 : 0 ≤ w := by linarith
  have hw1 : w ≤ 15708 / 10000 := by linarith
  have hq : w * w ≤ 2.4675 := by nlinarith
  have h2 : 0 ≤ w ^ 2 := by positivity
  have h3 : 0 ≤ w ^ 3 := by positivity
  have h4 : w ^ 4 ≤ 2.4675 * w ^ 2 := by nlinarith
  have h5 : 0 ≤ w ^ 5 := by positivity
  have h7 : 0 ≤ w ^ 7 := by positivity
  have h3' : w ^ 3 ≤ 1.5708 * w ^ 2 := by nlinarith
  have h5' : w ^ 5 ≤ 1.5708 * (2.4675 * w ^ 2) := by nlinarith [mul_nonneg hw0 (sub_nonneg.2 h4)]
  have h6 : w ^ 6 ≤ 2.4675 * (2.4675 * w ^ 2) := by nlinarith
  have h6' : 0 ≤ w ^ 6 := by positivity
  have h7' : w ^ 7 ≤ 1.5708 * (2.4675 * (2.4675 * w ^ 2)) := by nlinarith
  have h8 : w ^ 8 ≤ 2.4675 * (2.4675 * (2.4675 * w ^ 2)) := by nlinarith
  have h8' : 0 ≤ w ^ 8 := by positivity
  have h9' : w ^ 9 ≤ 1.5708 * (2.4675 * (2.4675 * (2.4675 * w ^ 2))) := by nlinarith
  have h9 : 0 ≤ w ^ 9 := by positivity
  have h10 : 0 ≤ w ^ 10 := by positivity
  have h11 : w ^ 11 ≤ 1.5708 * (2.4675 * (2.4675 * (2.4675 * (2.4675 * w ^ 2)))) := by nlinarith
  have hs : 0 ≤ (w - 0.00001) ^ 2 := by positivity
  nlinarith

/-- At angles from -2 to 0 the sine's polynomial is not positive. -/
theorem sine_le_zero {u : ℝ} (h0 : u ≤ 0) (h1 : -2 ≤ u) :
    u * (1 + u * u * (-(11184811 / 2 ^ 26) + u * u * (8947849 / 2 ^ 30 + u * u * (-(13634817 / 2 ^ 36) + u * u * (12119837 / 2 ^ 42 + u * u * -(14103083 / 2 ^ 49)))))) ≤ 0 := by
  obtain ⟨q, hq⟩ : ∃ q, q = u * u := ⟨_, rfl⟩
  have hq0 : 0 ≤ q := hq ▸ mul_self_nonneg u
  have hq1 : q ≤ 4 := by rw [hq]; nlinarith
  rw [← hq]
  have h5 : 0 ≤ 12119837 / 2 ^ 42 + q * -(14103083 / 2 ^ 49) := by linarith
  have h4 := mul_nonneg hq0 h5
  have h3 : 0 ≤ 8947849 / 2 ^ 30 + q * (-(13634817 / 2 ^ 36) + q * (12119837 / 2 ^ 42 + q * -(14103083 / 2 ^ 49))) := by nlinarith
  have h2 := mul_nonneg hq0 h3
  refine mul_nonpos_of_nonpos_of_nonneg h0 ?_
  nlinarith

/-- The angular cutoff function at a distance within the cutoff. -/
theorem cut_nonneg {d : ℝ} (h0 : 0 ≤ d) (h1 : d ≤ lt 0x40600000#32) : 0 ≤ cut 0x3F65C8FA#32 d := by
  rw [lt_cap] at h1
  unfold cut cosT
  rw [lt_half, lt_scale, lt_zero, lt_one, lt_quarter_turn, lt_s3, lt_s5, lt_s7, lt_s9, lt_s11]
  generalize hu : d * (7529597 / 2 ^ 23) - 13176795 / 2 ^ 23 = u
  have ha : -2 ≤ u := by linarith
  have hb : u ≤ 15708 / 10000 := by linarith
  rcases le_total 0 u with h | h
  · linarith [sine_le_one h hb]
  · linarith [sine_le_zero h ha]

end Cert.Proof.Val
-- ==== Proof.KernelReal.lean ====
/-
  The kernel's row at the extended reals: every entry of its vectors is a real number, named here.
-/
module

public import proofs.«01_k».proof.Proof.Cutoff

@[expose] public section

noncomputable section

namespace Cert.Proof.Val

open Cert.KernelIdeal Cert.KernelIdeal.Gen Cert.Proof.Row
open Idealize.ShloMosaic

/-! ## The reals -/

section
variable (c : ℕ → ℝ) (I j k : ℕ)

/-- The squared distance of atoms `I` and `j` (first, second, third coordinates at `j`, `32 + j`, `64 + j`). -/
def sqd : ℝ := (c j - c I) * (c j - c I) + (c (32 + j) - c (32 + I)) * (c (32 + j) - c (32 + I)) + (c (64 + j) - c (64 + I)) * (c (64 + j) - c (64 + I))
/-- The scalar product of the vectors from atom `I` to atoms `j` and `k`. -/
def dotp : ℝ := (c j - c I) * (c k - c I) + (c (32 + j) - c (32 + I)) * (c (32 + k) - c (32 + I)) + (c (64 + j) - c (64 + I)) * (c (64 + k) - c (64 + I))
/-- The kernel's distance: the root of the squared distance, which is kept off zero. -/
def kd : ℝ := Real.sqrt (max (sqd c I j) (lt 0x179ABE15#32))
/-- The radial and the angular weight. -/
def fr : ℝ := if kd c I j ≤ lt 0x40A66666#32 ∧ j ≠ I then lt 0x3E800000#32 * cut 0x3F1AA9BC#32 (kd c I j) else 0
def fa : ℝ := if kd c I j ≤ lt 0x40600000#32 ∧ j ≠ I then cut 0x3F65C8FA#32 (kd c I j) else 0
/-- The radial shifts, the angular shift angles and the angular distance shifts. -/
def shr (r : ℕ) : ℝ := lt 0x3F666666#32 + lt 0x3E89999A#32 * r
def zet (z : ℕ) : ℝ := lt 0x3E490FDB#32 + z * lt 0x3EC90FDB#32
def sha (a : ℕ) : ℝ := lt (match a with | 0 => 0x3F666666#32 | 1 => 0x3FC66666#32 | 2 => 0x400CCCCD#32 | _ => 0x40366666#32)
/-- A radial term: weight times Gaussian. -/
def rterm (r : ℕ) : ℝ := fr c I j * Real.exp (lt 0xC1800000#32 * (kd c I j - shr r) * (kd c I j - shr r))
/-- 0.95 times the cosine of the angle of two neighbours, and the sine that goes with it. -/
def kc : ℝ := lt 0x3F733333#32 * dotp c I j k
  * ((Real.sqrt (max (kd c I j * kd c I k) (lt 0x2EDBE6FF#32)))⁻¹ * (Real.sqrt (max (kd c I j * kd c I k) (lt 0x2EDBE6FF#32)))⁻¹)
def ks (v : ℝ) : ℝ := Real.sqrt (max (lt 0x3F800000#32 - v * v) (lt 0x179ABE15#32))
/-- The angular factor at a shift angle before it is raised to the 32nd power. -/
def kz (v : ℝ) (z : ℕ) : ℝ := lt 0x3F000000#32 + lt 0x3F000000#32 * (v * cosT (zet z) + ks v * sinT (zet z))
/-- An angular term. -/
def aterm (a z : ℕ) : ℝ := lt 0x40000000#32 * fa c I j * fa c I k * kz (kc c I j k) z ^ 32
  * Real.exp (lt 0xC1000000#32 * (lt 0x3F000000#32 * (kd c I j + kd c I k) - sha a) * (lt 0x3F000000#32 * (kd c I j + kd c I k) - sha a))
end

/-- The bound on squared distances is positive. -/
theorem tiny_pos : 0 < lt 0x179ABE15#32 := by rw [lt_tiny]; norm_num
/-- The bound on products of distances is positive. -/
theorem small_pos : 0 < lt 0x2EDBE6FF#32 := by rw [lt_small]; norm_num

/-- A positive number times its inverse root is its root. -/
theorem mul_inv_root {r : ℝ} (h : 0 < r) : r * (Real.sqrt r)⁻¹ = Real.sqrt r := by
  rw [← div_eq_mul_inv, Real.div_sqrt]

/-! ## The vectors at a lane -/

/-- The kernel's cosine at a lane that holds a real. -/
theorem cosV_at (v : FVec Ideal S16 .f32) (y : S16.Idx) (r : ℝ) (h : v y = ((r : ℝ) : EReal)) : cosV v y = ((cosT r : ℝ) : EReal) := by
  unfold cosV cosT
  simp only [subf, addf, mulf, lit, broadcast, Scalar.ofBits, Ideal.ofBits_def, Ideal.addf_def, Ideal.subf_def, Ideal.mulf_def, h]
  rw [ofBits_lt 0x3FC90FDB#32 (by decide), ofBits_lt 0x00000000#32 (by decide), ofBits_lt 0x3F800000#32 (by decide), ofBits_lt 0xBE2AAAAB#32 (by decide),
    ofBits_lt 0x3C088889#32 (by decide), ofBits_lt 0xB9500D01#32 (by decide), ofBits_lt 0x3638EF1D#32 (by decide), ofBits_lt 0xB2D7322B#32 (by decide)]
  norm_cast
/-- The kernel's sine at a lane that holds a real. -/
theorem sinV_at (v : FVec Ideal S16 .f32) (y : S16.Idx) (r : ℝ) (h : v y = ((r : ℝ) : EReal)) : sinV v y = ((sinT r : ℝ) : EReal) := by
  unfold sinV sinT
  simp only [subf, addf, mulf, lit, broadcast, Scalar.ofBits, Ideal.ofBits_def, Ideal.addf_def, Ideal.subf_def, Ideal.mulf_def, h]
  rw [ofBits_lt 0x3FC90FDB#32 (by decide), ofBits_lt 0x3F800000#32 (by decide), ofBits_lt 0xBF000000#32 (by decide),
    ofBits_lt 0x3D2AAAAB#32 (by decide), ofBits_lt 0xBAB60B61#32 (by decide), ofBits_lt 0x37D00D01#32 (by decide), ofBits_lt 0xB493F27E#32 (by decide)]
  norm_cast
/-- The kernel's cutoff function at a lane. -/
theorem cutV_at (w : BitVec 32) (hw : (w.extractLsb' 23 8).toNat ≠ 255) (v : FVec Ideal S16 .f32) (y : S16.Idx) (r : ℝ) (h : v y = ((r : ℝ) : EReal)) :
    cutV w v y = ((cut w r : ℝ) : EReal) := by
  have e : cosV (mulf v (lit w)) y = ((cosT (r * lt w) : ℝ) : EReal) := cosV_at _ y _ (by
    simp only [mulf, lit, broadcast, Scalar.ofBits, Ideal.ofBits_def, Ideal.mulf_def, h, ofBits_lt w hw]
    norm_cast)
  unfold cutV cut
  simp only [addf, mulf, lit, broadcast, Scalar.ofBits, Ideal.ofBits_def, Ideal.addf_def, Ideal.mulf_def] at e ⊢
  rw [e, ofBits_lt 0x3F000000#32 (by decide)]
  norm_cast

/-- The 32nd power at a lane. -/
theorem pow32_at (v : FVec Ideal S16 .f32) (y : S16.Idx) (r : ℝ) (h : v y = ((r : ℝ) : EReal)) : pow32 v y = ((r ^ 32 : ℝ) : EReal) := by
  unfold pow32
  simp only [mulf, Ideal.mulf_def, h]
  norm_cast
  ring

/-- Which atoms count, as a bit. -/
theorem near_at (w : BitVec 32) (hw : (w.extractLsb' 23 8).toNat ≠ 255) (d : FVec Ideal S16 .f32) (r : ℝ) (I j : ℕ) (hI : I < 32) (hj : j < 32)
    (h : d lane0 = ((r : ℝ) : EReal)) : near w j (word I) d lane0 = BitVec.ofBool (decide (r ≤ lt w ∧ j ≠ I)) := by
  have e : (addi lane (broadcast S16 (word j)) : IVec S16 32) lane0 = word j := by
    show BitVec.ofNat 32 (0 * 16 + 0) + BitVec.ofNat 32 j = BitVec.ofNat 32 j
    simp
  have hne : (word j = word I) ↔ j = I := by
    constructor
    · intro hh
      have := congrArg BitVec.toNat hh
      simp only [word, BitVec.toNat_ofNat] at this
      omega
    · rintro rfl; rfl
  have e2 : near w j (word I) d lane0 = IntOp.andi (Ideal.cmp .ole (d lane0) (Ideal.ofBits .f32 w)) (IntOp.cmpi .ne (word j) (word I)) := by
    rw [← e]; rfl
  rw [e2, h, ofBits_lt w hw]
  have e3 : Ideal.cmp .ole ((r : ℝ) : EReal) ((lt w : ℝ) : EReal) = BitVec.ofBool (decide (r ≤ lt w)) := by
    unfold Ideal.cmp
    simp only [EReal.coe_le_coe_iff]
  have e4 : IntOp.cmpi .ne (word j) (word I) = BitVec.ofBool (decide (j ≠ I)) := by
    show BitVec.ofBool (word j != word I) = _
    by_cases hh : j = I
    · subst hh; simp
    · rw [bne_iff_ne.2 fun h' => hh (hne.1 h')]
      simp [hh]
  rw [e3, e4]
  by_cases h1 : r ≤ lt w <;> by_cases h2 : j = I <;> simp [h1, h2, IntOp.andi]

/-- The radial shifts at a lane. -/
theorem shfR_at (r : ℕ) (hr : r < 16) : byLane (shfR (F := Ideal)) r = ((shr r : ℝ) : EReal) := by
  have e : lane (fun | 0 => ⟨r % 16, Nat.mod_lt _ (by decide)⟩) = BitVec.ofNat 32 (0 * 16 + r % 16) := rfl
  have e2 : (BitVec.ofNat 32 (0 * 16 + r % 16)).toInt = r := by
    rw [Nat.mod_eq_of_lt hr, BitVec.toInt_ofNat']
    simp [Int.bmod]
    omega
  unfold byLane shfR shr
  simp only [addf, mulf, sitofp, lit, broadcast, Scalar.ofBits, Ideal.ofBits_def, Ideal.addf_def, Ideal.mulf_def, e]
  rw [ofBits_lt 0x3F666666#32 (by decide), ofBits_lt 0x3E89999A#32 (by decide)]
  show _ + _ * ((((BitVec.ofNat 32 (0 * 16 + r % 16)).toInt : ℝ)) : EReal) = _
  rw [e2]
  norm_cast

/-- A lane's number modulo 8, as the kernel computes it. -/
theorem lane8_table : ∀ n : Fin 16, lane8 (fun | 0 => n) = BitVec.ofNat 32 (n.val % 8) := by decide +kernel

/-- The shift angles at a lane. -/
theorem angZ_at (n : ℕ) : byLane (angZ (F := Ideal)) n = ((zet (n % 8) : ℝ) : EReal) := by
  obtain ⟨y, hy⟩ : ∃ y : S16.Idx, y = fun | 0 => ⟨n % 16, Nat.mod_lt _ (by decide)⟩ := ⟨_, rfl⟩
  have e : lane8 y = BitVec.ofNat 32 (n % 8) := by
    rw [hy]
    refine (lane8_table ⟨n % 16, Nat.mod_lt _ (by decide)⟩).trans ?_
    show BitVec.ofNat 32 (n % 16 % 8) = _
    congr 1
    omega
  have e2 : (BitVec.ofNat 32 (n % 8)).toInt = ((n % 8 : ℕ) : ℤ) := by
    rw [BitVec.toInt_ofNat']
    simp [Int.bmod]
    omega
  have e3 : byLane (angZ (F := Ideal)) n = angZ y := by rw [hy]; rfl
  rw [e3]
  show Ideal.ofBits .f32 0x3E490FDB#32 + ((((lane8 y).toInt : ℝ)) : EReal) * Ideal.ofBits .f32 0x3EC90FDB#32 = _
  rw [ofBits_lt 0x3E490FDB#32 (by decide), ofBits_lt 0x3EC90FDB#32 (by decide), e]
  unfold zet
  rw [e2]
  norm_cast

/-- The distance shifts at a lane: the first two bins, then the last two. -/
theorem shfLo_at (n : ℕ) (hn : n < 16) : byLane (shfLo (F := Ideal)) n = ((sha (n / 8) : ℝ) : EReal) := by
  have e : lane (fun | 0 => ⟨n % 16, Nat.mod_lt _ (by decide)⟩) = BitVec.ofNat 32 (0 * 16 + n % 16) := rfl
  unfold byLane shfLo
  simp only [select, cmpi, lit, broadcast, Scalar.ofBits, Ideal.ofBits_def, e]
  rw [ofBits_lt 0x3F666666#32 (by decide), ofBits_lt 0x3FC66666#32 (by decide)]
  interval_cases n <;> rfl
/-- The last two angular distance shifts at a lane. -/
theorem shfHi_at (n : ℕ) (hn : n < 16) : byLane (shfHi (F := Ideal)) n = ((sha (2 + n / 8) : ℝ) : EReal) := by
  have e : lane (fun | 0 => ⟨n % 16, Nat.mod_lt _ (by decide)⟩) = BitVec.ofNat 32 (0 * 16 + n % 16) := rfl
  unfold byLane shfHi
  simp only [select, cmpi, lit, broadcast, Scalar.ofBits, Ideal.ofBits_def, e]
  rw [ofBits_lt 0x400CCCCD#32 (by decide), ofBits_lt 0x40366666#32 (by decide)]
  interval_cases n <;> rfl

variable (X : ℕ → Ideal .f32) (c : ℕ → ℝ) (I : ℕ) (hX : ∀ n, n < 96 → X n = ((c n : ℝ) : EReal))
include hX

/-- The kernel's distance of two atoms is the real `kd`. -/
theorem distA_real (hI : I < 32) (j : ℕ) (hj : j < 32) : distA X I j = ((kd c I j : ℝ) : EReal) := by
  have hp : 0 < max (sqd c I j) (lt 0x179ABE15#32) := lt_max_of_lt_right tiny_pos
  unfold distA distV
  simp only [subf, addf, mulf, maximumf, rsqrt, lit, broadcast, Scalar.ofBits, Ideal.ofBits_def, Ideal.addf_def, Ideal.subf_def, Ideal.mulf_def, Ideal.maximumf_def, shapeCast_id]
  rw [hX j (by omega), hX (32 + j) (by omega), hX (64 + j) (by omega), hX I (by omega), hX (32 + I) (by omega), hX (64 + I) (by omega), ofBits_lt 0x179ABE15#32 (by decide)]
  norm_cast
  rw [max_coe]
  change ((max (sqd c I j) (lt 0x179ABE15#32) : ℝ) : EReal) * Ideal.rsqrt ((max (sqd c I j) (lt 0x179ABE15#32) : ℝ) : EReal) = _
  rw [rsqrt_coe hp, ← EReal.coe_mul, mul_inv_root hp]
  rfl

/-- The kernel's radial weight is the real `fr`. -/
theorem radA_real (hI : I < 32) (j : ℕ) (hj : j < 32) : radA X I j = ((fr c I j : ℝ) : EReal) := by
  have hd := distA_real X c I hX hI j hj
  have hn := near_at 0x40A66666#32 (by decide) (fun _ => distA X I j) (kd c I j) I j hI hj hd
  have hc := cutV_at 0x3F1AA9BC#32 (by decide) (fun _ => distA X I j) lane0 (kd c I j) hd
  unfold radA radW fr
  show Scalar.select (near 0x40A66666#32 j (word I) (fun _ => distA X I j) lane0)
    (Ideal.ofBits .f32 0x3E800000#32 * cutV 0x3F1AA9BC#32 (fun _ => distA X I j) lane0) (Ideal.ofBits .f32 0x00000000#32) = _
  rw [hn, hc, ofBits_lt 0x3E800000#32 (by decide), Ideal.ofBits_zero_f32]
  by_cases h : kd c I j ≤ lt 0x40A66666#32 ∧ j ≠ I
  · rw [if_pos h, decide_eq_true h, ← EReal.coe_mul]; rfl
  · rw [if_neg h, decide_eq_false h]; rfl
/-- The kernel's angular weight is the real `fa`. -/
theorem angA_real (hI : I < 32) (j : ℕ) (hj : j < 32) : angA X I j = ((fa c I j : ℝ) : EReal) := by
  have hd := distA_real X c I hX hI j hj
  have hn := near_at 0x40600000#32 (by decide) (fun _ => distA X I j) (kd c I j) I j hI hj hd
  have hc := cutV_at 0x3F65C8FA#32 (by decide) (fun _ => distA X I j) lane0 (kd c I j) hd
  unfold angA angW fa
  show Scalar.select (near 0x40600000#32 j (word I) (fun _ => distA X I j) lane0)
    (cutV 0x3F65C8FA#32 (fun _ => distA X I j) lane0) (Ideal.ofBits .f32 0x00000000#32) = _
  rw [hn, hc, Ideal.ofBits_zero_f32]
  by_cases h : kd c I j ≤ lt 0x40600000#32 ∧ j ≠ I
  · rw [if_pos h, decide_eq_true h]; rfl
  · rw [if_neg h, decide_eq_false h]; rfl
omit hX in
/-- An angular weight is not negative. -/
theorem fa_nonneg (j : ℕ) : 0 ≤ fa c I j := by
  unfold fa
  split_ifs with h
  · exact cut_nonneg (Real.sqrt_nonneg _) h.1
  · exact le_rfl
/-- An atom that is not a neighbour has angular weight zero. -/
theorem fa_zero (hI : I < 32) (j : ℕ) (hj : j < 32) (h : posA X I j = false) : fa c I j = 0 := by
  unfold posA at h
  rw [angA_real X c I hX hI j hj] at h
  have h' : ¬ (0 : EReal) < ((fa c I j : ℝ) : EReal) := by
    intro hlt
    have e : Scalar.cmpf .ogt ((fa c I j : ℝ) : EReal) (Scalar.ofBits (F := Ideal) .f32 0x00000000#32) = 1#1 := by
      show BitVec.ofBool (decide (Ideal.ofBits .f32 0x00000000#32 < ((fa c I j : ℝ) : EReal))) = 1#1
      rw [Ideal.ofBits_zero_f32, decide_eq_true hlt]; rfl
    exact absurd h (by rw [e]; decide)
  exact le_antisymm (by exact_mod_cast not_lt.1 h') (fa_nonneg c I j)
/-- A radial term of the kernel is the real `rterm`. -/
theorem radTerm_real (hI : I < 32) (j : ℕ) (hj : j < 32) (r : ℕ) (hr : r < 16) :
    byLane (radTerm (radA X I j) (distA X I j)) r = ((rterm c I j r : ℝ) : EReal) := by
  have hs := shfR_at r hr
  unfold byLane at hs ⊢
  rw [radA_real X c I hX hI j hj, distA_real X c I hX hI j hj]
  unfold radTerm rterm
  simp only [subf, mulf, exp, lit, broadcast, Scalar.ofBits, Ideal.ofBits_def, Ideal.subf_def, Ideal.mulf_def, hs]
  rw [ofBits_lt 0xC1800000#32 (by decide)]
  norm_cast

/-- 0.95 times the cosine of the angle of two neighbours. -/
theorem cos95_real (hI : I < 32) (j k : ℕ) (hj : j < 32) (hk : k < 32) :
    cos95 (distA X I j) (distA X I k) (Scalar.subf (X j) (X I)) (Scalar.subf (X (32 + j)) (X (32 + I))) (Scalar.subf (X (64 + j)) (X (64 + I)))
      (Scalar.subf (X k) (X I)) (Scalar.subf (X (32 + k)) (X (32 + I))) (Scalar.subf (X (64 + k)) (X (64 + I))) = ((kc c I j k : ℝ) : EReal) := by
  have hp : 0 < max (kd c I j * kd c I k) (lt 0x2EDBE6FF#32) := lt_max_of_lt_right small_pos
  rw [distA_real X c I hX hI j hj, distA_real X c I hX hI k hk, hX j (by omega), hX (32 + j) (by omega), hX (64 + j) (by omega), hX I (by omega),
    hX (32 + I) (by omega), hX (64 + I) (by omega), hX k (by omega), hX (32 + k) (by omega), hX (64 + k) (by omega)]
  show Ideal.ofBits .f32 0x3F733333#32 * ((((c j : ℝ) : EReal) - ((c I : ℝ) : EReal)) * (((c k : ℝ) : EReal) - ((c I : ℝ) : EReal))
    + (((c (32 + j) : ℝ) : EReal) - ((c (32 + I) : ℝ) : EReal)) * (((c (32 + k) : ℝ) : EReal) - ((c (32 + I) : ℝ) : EReal))
    + (((c (64 + j) : ℝ) : EReal) - ((c (64 + I) : ℝ) : EReal)) * (((c (64 + k) : ℝ) : EReal) - ((c (64 + I) : ℝ) : EReal)))
    * (Ideal.rsqrt (max (((kd c I j : ℝ) : EReal) * ((kd c I k : ℝ) : EReal)) (Ideal.ofBits .f32 0x2EDBE6FF#32))
      * Ideal.rsqrt (max (((kd c I j : ℝ) : EReal) * ((kd c I k : ℝ) : EReal)) (Ideal.ofBits .f32 0x2EDBE6FF#32))) = _
  rw [ofBits_lt 0x3F733333#32 (by decide), ofBits_lt 0x2EDBE6FF#32 (by decide), ← EReal.coe_mul (kd c I j), max_coe, rsqrt_coe hp]
  unfold kc dotp
  norm_cast
omit hX in
/-- The sine that goes with it. -/
theorem sin95_real (v : ℝ) : sin95 (F := Ideal) ((v : ℝ) : EReal) = ((ks v : ℝ) : EReal) := by
  have hp : 0 < max (lt 0x3F800000#32 - v * v) (lt 0x179ABE15#32) := lt_max_of_lt_right tiny_pos
  show max (Ideal.ofBits .f32 0x3F800000#32 - (v : EReal) * (v : EReal)) (Ideal.ofBits .f32 0x179ABE15#32)
    * Ideal.rsqrt (max (Ideal.ofBits .f32 0x3F800000#32 - (v : EReal) * (v : EReal)) (Ideal.ofBits .f32 0x179ABE15#32)) = _
  rw [ofBits_lt 0x3F800000#32 (by decide), ofBits_lt 0x179ABE15#32 (by decide), ← EReal.coe_mul, ← EReal.coe_sub, max_coe, rsqrt_coe hp, ← EReal.coe_mul,
    mul_inv_root hp]
  rfl
/-- A pair's vector at a lane whose distance shift is the `a`-th. -/
theorem angA2_real (hI : I < 32) (j k : ℕ) (hj : j < 32) (hk : k < 32) (sh : FVec Ideal S16 .f32) (n a : ℕ)
    (hs : byLane sh n = ((sha a : ℝ) : EReal)) : byLane (angA2 X I sh j k) n = ((aterm c I j k a (n % 8) : ℝ) : EReal) := by
  have hz := angZ_at n
  have hc : byLane (cosZ (F := Ideal)) n = ((cosT (zet (n % 8)) : ℝ) : EReal) := cosV_at _ _ _ hz
  have hn : byLane (sinZ (F := Ideal)) n = ((sinT (zet (n % 8)) : ℝ) : EReal) := sinV_at _ _ _ hz
  have hv : byLane (addf (lit 0x3F000000#32) (mulf (lit 0x3F000000#32)
      (addf (mulf (broadcast S16 ((kc c I j k : ℝ) : EReal)) cosZ) (mulf (broadcast S16 ((ks (kc c I j k) : ℝ) : EReal)) sinZ)))
      : FVec Ideal S16 .f32) n = ((kz (kc c I j k) (n % 8) : ℝ) : EReal) := by
    show Ideal.ofBits .f32 0x3F000000#32 + Ideal.ofBits .f32 0x3F000000#32 * ((kc c I j k : ℝ) * byLane (cosZ (F := Ideal)) n
      + (ks (kc c I j k) : ℝ) * byLane (sinZ (F := Ideal)) n) = _
    rw [hc, hn, ofBits_lt 0x3F000000#32 (by decide)]
    unfold kz
    norm_cast
  have hp := pow32_at _ _ _ hv
  unfold angA2 angVec angPre
  rw [cos95_real X c I hX hI j k hj hk, sin95_real, distA_real X c I hX hI j hj, distA_real X c I hX hI k hk, angA_real X c I hX hI j hj, angA_real X c I hX hI k hk]
  refine (congrArg (fun p : EReal => (Ideal.ofBits .f32 0x40000000#32 * ((fa c I j : ℝ) : EReal) * ((fa c I k : ℝ) : EReal)) * p
    * Ideal.exp (Ideal.ofBits .f32 0xC1000000#32 * (Ideal.ofBits .f32 0x3F000000#32 * (((kd c I j : ℝ) : EReal) + ((kd c I k : ℝ) : EReal)) - byLane sh n)
      * (Ideal.ofBits .f32 0x3F000000#32 * (((kd c I j : ℝ) : EReal) + ((kd c I k : ℝ) : EReal)) - byLane sh n))) hp).trans ?_
  rw [hs, ofBits_lt 0x40000000#32 (by decide), ofBits_lt 0xC1000000#32 (by decide), ofBits_lt 0x3F000000#32 (by decide)]
  unfold aterm
  norm_cast

end Cert.Proof.Val
-- ==== Proof.KernelSum.lean ====
/-
  The kernel's row at the extended reals as sums: a radial entry is a sum over the atoms of one species, an angular
  entry a sum over the pairs of atoms of one pair of species.

  The kernel adds a neighbour's, or a pair of neighbours', vector one after another over the LIST of neighbours. The
  running sum over positions of the list is the sum over pairs `j < k` of atoms in it, and an atom that is not in the
  list has weight zero.
-/
module

public import proofs.«01_k».proof.Proof.KernelReal

@[expose] public section

noncomputable section

namespace Cert.Proof.Val

open Cert.KernelIdeal Cert.KernelIdeal.Gen Cert.Proof.Row
open Idealize.ShloMosaic

/-! ## Running sums -/

/-- A loop that adds a term a step is a sum. -/
theorem loopN_add (t : ℕ → EReal) (f : ℕ → EReal → EReal) (n : ℕ) (a : EReal) (h : ∀ k, k < n → ∀ a, f k a = a + t k) :
    loopN f n a = a + ∑ k ∈ Finset.range n, t k := by
  induction n with
  | zero => simp [loopN]
  | succ n ih => rw [loopN_succ, ih fun k hk => h k (by omega), h n (by omega), Finset.sum_range_succ, add_assoc]

/-- A sum over the positions after `p` is a sum over all positions, those not after `p` left out. -/
theorem sum_after (t : ℕ → EReal) (p n : ℕ) (hp : p < n) :
    ∑ q ∈ Finset.range (n - 1 - p), t (p + 1 + q) = ∑ k ∈ Finset.range n, if p < k then t k else 0 := by
  rw [← Finset.sum_filter]
  refine Finset.sum_bij (fun q _ => p + 1 + q) ?_ ?_ ?_ ?_
  · intro q hq
    rw [Finset.mem_range] at hq
    rw [Finset.mem_filter, Finset.mem_range]
    omega
  · intro q _ q' _ h
    omega
  · intro k hk
    rw [Finset.mem_filter, Finset.mem_range] at hk
    exact ⟨k - (p + 1), by rw [Finset.mem_range]; omega, by omega⟩
  · intro q _
    rfl

/-- A member of a list by its position. -/
theorem getD_at (L : List ℕ) {p : ℕ} (h : p < L.length) : L.getD p 0 = L[p] := by
  rw [List.getD_eq_getElem?_getD, List.getElem?_eq_getElem h, Option.getD_some]

/-- A sum over the positions of a list without repetitions is a sum over its members. -/
theorem sum_list (L : List ℕ) (hL : L.Nodup) (f : ℕ → EReal) :
    ∑ p ∈ Finset.range L.length, f (L.getD p 0) = ∑ j ∈ L.toFinset, f j := by
  refine Finset.sum_bij (fun p _ => L.getD p 0) ?_ ?_ ?_ ?_
  · intro p hp
    rw [Finset.mem_range] at hp
    rw [List.mem_toFinset, getD_at L hp]
    exact List.getElem_mem _
  · intro p hp q hq h
    rw [Finset.mem_range] at hp hq
    rw [getD_at L hp, getD_at L hq] at h
    exact (List.Nodup.getElem_inj_iff hL).1 h
  · intro j hj
    obtain ⟨p, hp, e⟩ := List.getElem_of_mem (List.mem_toFinset.1 hj)
    exact ⟨p, Finset.mem_range.2 hp, by rw [getD_at L hp, e]⟩
  · intro p _
    rfl

/-- In an increasing list the positions are in the order of the members. -/
theorem lt_iff_pos (L : List ℕ) (hL : L.Pairwise (· < ·)) {p q : ℕ} (hp : p < L.length) (hq : q < L.length) :
    p < q ↔ L.getD p 0 < L.getD q 0 := by
  rw [getD_at L hp, getD_at L hq]
  have hm := List.pairwise_iff_getElem.1 hL
  constructor
  · exact hm p q hp hq
  · intro h
    by_contra hc
    rcases Nat.lt_or_ge q p with h' | h'
    · exact absurd (hm q p hq hp h') (by omega)
    · have : p = q := by omega
      subst this
      omega

/-- The double loop over the positions of an increasing list is the sum over the pairs of its members. -/
theorem sum_pairs (L : List ℕ) (hL : L.Pairwise (· < ·)) (t : ℕ → ℕ → EReal) :
    ∑ p ∈ Finset.range (L.length - 1), ∑ q ∈ Finset.range (L.length - 1 - p), t (L.getD p 0) (L.getD (p + 1 + q) 0)
      = ∑ j ∈ L.toFinset, ∑ k ∈ L.toFinset, if j < k then t j k else 0 := by
  have hN : L.Nodup := hL.imp fun h => Nat.ne_of_lt h
  have h1 : ∀ p ∈ Finset.range L.length, (∑ q ∈ Finset.range (L.length - 1 - p), t (L.getD p 0) (L.getD (p + 1 + q) 0))
      = ∑ k ∈ L.toFinset, if L.getD p 0 < k then t (L.getD p 0) k else 0 := by
    intro p hp
    rw [Finset.mem_range] at hp
    rw [sum_after (fun k => t (L.getD p 0) (L.getD k 0)) p L.length hp, ← sum_list L hN fun k => if L.getD p 0 < k then t (L.getD p 0) k else 0]
    refine Finset.sum_congr rfl fun k hk => ?_
    rw [Finset.mem_range] at hk
    simp only [lt_iff_pos L hL hp hk]
  rw [← sum_list L hN fun j => ∑ k ∈ L.toFinset, if j < k then t j k else 0, ← Finset.sum_congr rfl h1]
  rcases Nat.eq_zero_or_pos L.length with h0 | h0
  · rw [h0]
  · obtain ⟨n, hn⟩ : ∃ n, L.length = n + 1 := ⟨L.length - 1, by omega⟩
    rw [hn, Finset.sum_range_succ]
    simp

/-! ## The row -/

variable (X : ℕ → Ideal .f32) (Sp : ℕ → BitVec 32) (c : ℕ → ℝ) (I : ℕ) (hX : ∀ n, n < 96 → X n = ((c n : ℝ) : EReal)) (hI : I < 32)

/-- The list of neighbours is in order. -/
theorem nbrs_sorted (n : ℕ) : (nbrs X I n).Pairwise (· < ·) := List.Pairwise.filter _ List.pairwise_lt_range

/-- What the pair `j`, `k` adds to entry `64 + 32 p + 8 a + z` of the row. -/
def pairT (p a z j k : ℕ) : EReal := if pairBase (Sp j) (Sp k) = 64 + 32 * p then ((aterm c I j k a z : ℝ) : EReal) else 0

/-- The columns of a pair of species start at 64 plus a multiple of 32. -/
theorem pairBase_form (sj sk : BitVec 32) : ∃ p, pairBase sj sk = 64 + 32 * p := ⟨_, rfl⟩

include hX hI

/-- Adding a pair's term to a column: the term is added where the pair's species are the column's. -/
theorem pairUp_real (p a z j k : ℕ) (ha : a < 4) (hz : z < 8) (hj : j < 32) (hk : k < 32) (v : EReal) :
    pairUp X Sp I j k (64 + 32 * p + 8 * a + z) v = v + pairT Sp c I p a z j k := by
  obtain ⟨p', hp'⟩ := pairBase_form (Sp j) (Sp k)
  unfold pairUp pairT
  rw [hp']
  by_cases hpp : p' = p
  · subst hpp
    rw [if_pos rfl]
    by_cases hlo : a < 2
    · rw [if_pos (by omega)]
      have hn : 64 + 32 * p' + 8 * a + z - (64 + 32 * p') = 8 * a + z := by omega
      rw [hn, angA2_real X c I hX hI j k hj hk shfLo (8 * a + z) a ((shfLo_at _ (by omega)).trans (by congr 2; congr 1; omega))]
      rw [show (8 * a + z) % 8 = z by omega]
      rfl
    · rw [if_neg (by omega), if_pos (by omega)]
      have hn : 64 + 32 * p' + 8 * a + z - (64 + 32 * p' + 16) = 8 * (a - 2) + z := by omega
      rw [hn, angA2_real X c I hX hI j k hj hk shfHi (8 * (a - 2) + z) a ((shfHi_at _ (by omega)).trans (by congr 2; congr 1; omega))]
      rw [show (8 * (a - 2) + z) % 8 = z by omega]
      rfl
  · rw [if_neg (by omega), if_neg (by omega), if_neg (by omega), add_zero]

/-- An angular entry of the row. -/
theorem rowVal_ang (p a z : ℕ) (ha : a < 4) (hz : z < 8) :
    rowVal X Sp I (64 + 32 * p + 8 * a + z)
      = ∑ j ∈ Finset.range 32, ∑ k ∈ Finset.range 32, if j < k then pairT Sp c I p a z j k else 0 := by
  have hzero : rowInit X Sp I (64 + 32 * p + 8 * a + z) = 0 := by
    unfold rowInit
    rw [if_neg (by omega)]
    exact Ideal.ofBits_zero_f32
  have hmem : ∀ j, j ∈ (nbrs X I 32).toFinset ↔ j ∈ Finset.range 32 ∧ posA X I j = true := by
    intro j
    rw [List.mem_toFinset, Finset.mem_range]
    unfold nbrs
    rw [List.mem_filter, List.mem_range]
  have hin : ∀ q, q < nbN X I - 1 → ∀ v : EReal, innerUp X Sp I (64 + 32 * p + 8 * a + z) q (nbN X I - 1 - q) v
      = v + ∑ r ∈ Finset.range (nbN X I - 1 - q), pairT Sp c I p a z (nb X I q) (nb X I (q + 1 + r)) := by
    intro q hq v
    exact loopN_add _ _ _ _ fun r hr w => pairUp_real X Sp c I hX hI p a z _ _ ha hz (nb_lt X I (by omega)) (nb_lt X I (by omega)) w
  unfold rowVal
  rw [hzero]
  refine (loopN_add _ _ _ _ hin).trans ?_
  rw [zero_add]
  refine (sum_pairs (nbrs X I 32) (nbrs_sorted X I 32) (pairT Sp c I p a z)).trans ?_
  have hsub : (nbrs X I 32).toFinset ⊆ Finset.range 32 := fun j hj => ((hmem j).1 hj).1
  have hout : ∀ j, j ∈ Finset.range 32 → j ∉ (nbrs X I 32).toFinset → fa c I j = 0 := by
    intro j hj hn
    refine fa_zero X c I hX hI j (Finset.mem_range.1 hj) ?_
    by_contra h
    exact hn ((hmem j).2 ⟨hj, by simpa using h⟩)
  have ht : ∀ j k, (fa c I j = 0 ∨ fa c I k = 0) → pairT Sp c I p a z j k = 0 := by
    intro j k h
    have : aterm c I j k a z = 0 := by
      unfold aterm
      rcases h with h | h <;> rw [h] <;> ring
    unfold pairT
    rw [this, EReal.coe_zero, ite_self]
  rw [← Finset.sum_subset hsub]
  · refine Finset.sum_congr rfl fun j _ => ?_
    refine Finset.sum_subset hsub fun k hk hn => ?_
    rw [ht j k (Or.inr (hout k hk hn)), ite_self]
  · intro j hj hn
    refine Finset.sum_eq_zero fun k _ => ?_
    rw [ht j k (Or.inl (hout j hj hn)), ite_self]

/-- A radial entry of the row. -/
theorem rowVal_rad (s r : ℕ) (hs : s < 4) (hr : r < 16) :
    rowVal X Sp I (16 * s + r) = ∑ j ∈ Finset.range 32, if Sp j = word s then ((rterm c I j r : ℝ) : EReal) else 0 := by
  have hstep : ∀ n, n ≤ 32 → byLane (radAcc X Sp I (word s) n) r = ∑ j ∈ Finset.range n, if Sp j = word s then ((rterm c I j r : ℝ) : EReal) else 0 := by
    intro n
    induction n with
    | zero => intro _; exact Ideal.ofBits_zero_f32
    | succ n ih =>
      intro hn
      have e := radTerm_real X c I hX hI n (by omega) r hr
      rw [Finset.sum_range_succ, ← ih (by omega), ← e]
      show byLane (radStep (word s) (Sp n) (radTerm (radA X I n) (distA X I n)) (radAcc X Sp I (word s) n)) r = _
      unfold radStep
      by_cases h : Sp n = word s
      · rw [if_pos h, h]
        have : Scalar.cmpi .eq (word s) (word s) = 1#1 := by
          show BitVec.ofBool (word s == word s) = 1#1
          rw [beq_self_eq_true]; rfl
        rw [this]
        rfl
      · rw [if_neg h]
        have : Scalar.cmpi .eq (Sp n) (word s) = 0#1 := by
          show BitVec.ofBool (Sp n == word s) = 0#1
          rw [beq_eq_false_iff_ne.2 h]; rfl
        rw [this, add_zero]
        rfl
  have hid : ∀ q, q < nbN X I - 1 → ∀ v : EReal, innerUp X Sp I (16 * s + r) q (nbN X I - 1 - q) v = v + 0 := by
    intro q hq v
    refine (loopN_add (fun _ => 0) _ _ _ fun k hk w => ?_).trans (by rw [Finset.sum_const_zero])
    obtain ⟨p', hp'⟩ := pairBase_form (Sp (nb X I q)) (Sp (nb X I (q + 1 + k)))
    unfold pairUp
    rw [hp', if_neg (by omega), if_neg (by omega), add_zero]
  unfold rowVal
  refine (loopN_add (fun _ => 0) _ _ _ hid).trans ?_
  rw [Finset.sum_const_zero, add_zero]
  unfold rowInit
  rw [if_pos (by omega), ← hstep 32 le_rfl, show (16 * s + r) / 16 = s by omega, show (16 * s + r) % 16 = r by omega]

end Cert.Proof.Val
-- ==== Proof.RefReal.lean ====
/-
  The reference at the extended reals, intermediate by intermediate, at one molecule.
-/
module

public import proofs.«01_k».proof.Proof.Gen.ReferenceIdeal.Run
public import proofs.«01_k».proof.Proof.KernelReal
public import Idealize.ShloMosaic.Lib.Pointwise

@[expose] public section

set_option maxRecDepth 16384

noncomputable section

namespace Cert.Proof.Ref

open Cert.ReferenceIdeal Cert.ReferenceIdeal.Gen Cert.ReferenceIdeal.Value Cert.Proof.Val
open Idealize.ShloMosaic Idealize.ShloMosaic.TcCoe Idealize.SL.Sem Idealize.ShloMosaic.StableHlo

variable (V0 : Valuation τ sig (Elt Ideal)) (b : Fin 16) (c : ℕ → ℝ)

/-- The reference's distance: one is added to the square on the diagonal. -/
def rd (i j : ℕ) : ℝ := Real.sqrt (sqd c i j + if i = j then 1 else 0)

/-! ## Series -/

/-- The reference's cosine series, term by term, is the cosine of both programs. -/
theorem cos_series (v : ℝ) (u : EReal) (hu : u = ((v - lt 0x3FC90FDB#32 : ℝ) : EReal)) :
    -(u + u * (u * u) * Ideal.ofBits .f32 0xBE2AAAAB#32 + u * (u * u) * (u * u) * Ideal.ofBits .f32 0x3C088889#32
      + u * (u * u) * (u * u) * (u * u) * Ideal.ofBits .f32 0xB9500D01#32 + u * (u * u) * (u * u) * (u * u) * (u * u) * Ideal.ofBits .f32 0x3638EF1D#32
      + u * (u * u) * (u * u) * (u * u) * (u * u) * (u * u) * Ideal.ofBits .f32 0xB2D7322B#32) = ((cosT v : ℝ) : EReal) := by
  rw [hu, ofBits_lt 0xBE2AAAAB#32 (by decide), ofBits_lt 0x3C088889#32 (by decide), ofBits_lt 0xB9500D01#32 (by decide),
    ofBits_lt 0x3638EF1D#32 (by decide), ofBits_lt 0xB2D7322B#32 (by decide)]
  norm_cast
  unfold cosT
  rw [lt_zero, lt_one]
  ring
/-- The sine series likewise. -/
theorem sin_series (v : ℝ) (u : EReal) (hu : u = ((v - lt 0x3FC90FDB#32 : ℝ) : EReal)) :
    1 + u * u * Ideal.ofBits .f32 0xBF000000#32 + u * u * (u * u) * Ideal.ofBits .f32 0x3D2AAAAB#32
      + u * u * (u * u) * (u * u) * Ideal.ofBits .f32 0xBAB60B61#32 + u * u * (u * u) * (u * u) * (u * u) * Ideal.ofBits .f32 0x37D00D01#32
      + u * u * (u * u) * (u * u) * (u * u) * (u * u) * Ideal.ofBits .f32 0xB493F27E#32 = ((sinT v : ℝ) : EReal) := by
  rw [hu, ofBits_lt 0xBF000000#32 (by decide), ofBits_lt 0x3D2AAAAB#32 (by decide), ofBits_lt 0xBAB60B61#32 (by decide),
    ofBits_lt 0x37D00D01#32 (by decide), ofBits_lt 0xB493F27E#32 (by decide)]
  norm_cast
  unfold sinT
  rw [lt_one]
  ring

/-! ## Distances -/

/-- A squared distance is not negative. -/
theorem sqd_nonneg (i j : ℕ) : 0 ≤ sqd c i j :=
  add_nonneg (add_nonneg (mul_self_nonneg _) (mul_self_nonneg _)) (mul_self_nonneg _)

/-- The diagonal. -/
theorem eye_at (i j : Fin 32) : res_main_v21 V0 (ix2 i j) = BitVec.ofBool (decide (i = j)) := by
  unfold res_main_v21
  pointwise
  show BitVec.ofBool (BitVec.ofNat 32 i.val + 0#32 == BitVec.ofNat 32 j.val) = _
  revert i j
  decide +kernel

variable (hA : ∀ (i : Fin 32) (k : Fin 3), V0 (Proc.devRef .tc main_arg1) (ix3 b i k) = ((c (32 * k.val + i.val) : ℝ) : EReal))
include hA

/-- The vector from one atom to another. -/
theorem vec_at (i j : Fin 32) (k : Fin 3) : res_main_v16 V0 (ix4 b i j k) = ((c (32 * k.val + j.val) - c (32 * k.val + i.val) : ℝ) : EReal) := by
  unfold res_main_v16
  pointwise
  rw [hA, hA]
  norm_cast

/-- The reference's distance is the real `rd`. -/
theorem dist_at (i j : Fin 32) : res_main_v28 V0 (ix3 b i j) = ((rd c i j : ℝ) : EReal) := by
  have h : res_main_v28 V0 (ix3 b i j) = Ideal.sqrt ((sqd c i j + if i.val = j.val then 1 else 0 : ℝ) : EReal) := by
    unfold res_main_v28
    pointwise
    rw [Fin.sum_univ_three, vec_at V0 b c hA, vec_at V0 b c hA, vec_at V0 b c hA, eye_at]
    congr 1
    have e : (FloatOps.uitofp .f32 (BitVec.ofBool (decide (i = j))) : Ideal .f32) = ((if i.val = j.val then 1 else 0 : ℝ) : EReal) := by
      show (((BitVec.ofBool (decide (i = j))).toNat : ℝ) : EReal) = _
      by_cases h : i = j
      · subst h; simp
      · rw [if_neg fun h' => h (Fin.ext h'), decide_eq_false h]; simp
    rw [e]
    norm_cast
    unfold sqd
    simp
  rw [h, sqrt_coe]
  · rfl
  · have := sqd_nonneg c i j
    split_ifs <;> linarith

/-! ## Cutoffs -/

/-- The angle of the radial cutoff, from a quarter turn. -/
theorem ur_at (i j : Fin 32) : res_main_v32 V0 (ix3 b i j) = ((rd c i j * lt 0x3F1AA9BC#32 - lt 0x3FC90FDB#32 : ℝ) : EReal) := by
  unfold res_main_v32
  pointwise
  rw [dist_at V0 b c hA, ofBits_lt 0x3F1AA9BC#32 (by decide), ofBits_lt 0x3FC90FDB#32 (by decide)]
  norm_cast
/-- The angle of the angular cutoff, from a quarter turn. -/
theorem ua_at (i j : Fin 32) : res_main_v118 V0 (ix3 b i j) = ((rd c i j * lt 0x3F65C8FA#32 - lt 0x3FC90FDB#32 : ℝ) : EReal) := by
  unfold res_main_v118
  pointwise
  rw [dist_at V0 b c hA, ofBits_lt 0x3F65C8FA#32 (by decide), ofBits_lt 0x3FC90FDB#32 (by decide)]
  norm_cast
/-- The angular cutoff function. -/
theorem cuta_at (i j : Fin 32) : res_main_v148 V0 (ix3 b i j) = ((cut 0x3F65C8FA#32 (rd c i j) : ℝ) : EReal) := by
  unfold res_main_v148 res_main_v135 res_main_v130 res_main_v125 res_main_v120
  pointwise
  rw [cos_series _ _ (ua_at V0 b c hA i j), ofBits_lt 0x3F000000#32 (by decide)]
  unfold cut
  rw [add_comm]
  norm_cast
/-- The angular cutoff's mask. -/
theorem maska_at (i j : Fin 32) : res_main_v102 V0 (ix3 b i j) = BitVec.ofBool (decide (rd c i j ≤ lt 0x40600000#32 ∧ i ≠ j)) := by
  unfold res_main_v102
  pointwise
  rw [dist_at V0 b c hA, eye_at, ofBits_lt 0x40600000#32 (by decide)]
  have e3 : Ideal.cmp .ole ((rd c i j : ℝ) : EReal) ((lt 0x40600000#32 : ℝ) : EReal) = BitVec.ofBool (decide (rd c i j ≤ lt 0x40600000#32)) := by
    unfold Ideal.cmp
    simp only [EReal.coe_le_coe_iff]
  rw [show BitVec.ofBool (decide (((rd c i j : ℝ) : EReal) ≤ ((lt 0x40600000#32 : ℝ) : EReal))) = _ from e3]
  by_cases h1 : rd c i j ≤ lt 0x40600000#32 <;> by_cases h2 : i = j <;> simp [h1, h2, IntOp.andi]

omit hA in
/-- A small word as an integer. -/
theorem toInt_small (n : ℕ) (h : n < 32) : (BitVec.ofNat 32 n).toInt = (n : ℤ) := by
  rw [BitVec.toInt_ofNat']
  simp [Int.bmod]
  omega

/-- The radial distance less a shift. -/
theorem er_at (i j : Fin 32) (r : Fin 16) : res_main_v73 V0 (ix4 b i j r) = ((rd c i j - shr r : ℝ) : EReal) := by
  unfold res_main_v73
  pointwise
  rw [dist_at V0 b c hA, ofBits_lt 0x3F666666#32 (by decide), ofBits_lt 0x3E89999A#32 (by decide)]
  have e : (FloatOps.sitofp .f32 (BitVec.ofNat 32 r.val) : Ideal .f32) = ((r.val : ℝ) : EReal) := by
    show (((BitVec.ofNat 32 r.val).toInt : ℝ) : EReal) = _
    rw [toInt_small r.val (by omega)]
    norm_cast
  rw [e]
  unfold shr
  norm_cast

omit hA in
/-- A shift angle. -/
theorem zet_at (z : Fin 8) : res_main_v11 V0 (ix1 z) = ((zet z : ℝ) : EReal) := by
  unfold res_main_v11
  pointwise
  rw [ofBits_lt 0x3E490FDB#32 (by decide), ofBits_lt 0x3EC90FDB#32 (by decide)]
  have e : (FloatOps.sitofp .f32 (BitVec.ofNat 32 z.val) : Ideal .f32) = ((z.val : ℝ) : EReal) := by
    show (((BitVec.ofNat 32 z.val).toInt : ℝ) : EReal) = _
    rw [toInt_small z.val (by omega)]
    norm_cast
  rw [e]
  unfold zet
  norm_cast

/-- 0.95 times the cosine of the angle. -/
def rc (i j k : ℕ) : ℝ := lt 0x3F733333#32 * (dotp c i j k / max (rd c i j * rd c i k) (lt 0x2EDBE6FF#32))

omit hA in
/-- The scalar product of two vectors is at most the product of the distances. -/
theorem dotp_le (i j k : ℕ) : |dotp c i j k| ≤ rd c i j * rd c i k := by
  have hj := sqd_nonneg c i j
  have hk := sqd_nonneg c i k
  have h : dotp c i j k ^ 2 ≤ sqd c i j * sqd c i k := by
    unfold dotp sqd
    nlinarith [sq_nonneg ((c j - c i) * (c (32 + k) - c (32 + i)) - (c (32 + j) - c (32 + i)) * (c k - c i)),
      sq_nonneg ((c j - c i) * (c (64 + k) - c (64 + i)) - (c (64 + j) - c (64 + i)) * (c k - c i)),
      sq_nonneg ((c (32 + j) - c (32 + i)) * (c (64 + k) - c (64 + i)) - (c (64 + j) - c (64 + i)) * (c (32 + k) - c (32 + i)))]
  unfold rd
  rw [← Real.sqrt_mul (by split_ifs <;> linarith)]
  refine Real.abs_le_sqrt (h.trans ?_)
  refine mul_le_mul ?_ ?_ hk ?_ <;> split_ifs <;> linarith
omit hA in
/-- The cosine times 0.95 is at most 0.95. -/
theorem rc_le (i j k : ℕ) : |rc c i j k| ≤ lt 0x3F733333#32 := by
  have hp : 0 < max (rd c i j * rd c i k) (lt 0x2EDBE6FF#32) := lt_max_of_lt_right small_pos
  have h9 : 0 < lt 0x3F733333#32 := by rw [lt_95]; norm_num
  unfold rc
  rw [abs_mul, abs_div, abs_of_pos hp, abs_of_pos h9]
  refine mul_le_of_le_one_right h9.le ((div_le_one hp).2 ((dotp_le c i j k).trans (le_max_left _ _)))
omit hA in
/-- So it is the cosine of an angle. -/
theorem rc_range (i j k : ℕ) : -1 ≤ rc c i j k ∧ rc c i j k ≤ 1 := by
  have h := rc_le c i j k
  have h1 : lt 0x3F733333#32 ≤ 1 := by rw [lt_95]; norm_num
  exact abs_le.1 (h.trans h1)

/-- The angle whose cosine is 0.95 times the cosine of the angle of two atoms. -/
theorem ang_at (i j k : Fin 32) : res_main_v114 V0 (ix4 b i j k) = ((Real.arccos (rc c i j k) : ℝ) : EReal) := by
  have hp : max (rd c i j * rd c i k) (lt 0x2EDBE6FF#32) ≠ 0 := (lt_max_of_lt_right small_pos).ne'
  have h : res_main_v114 V0 (ix4 b i j k) = Ideal.acos ((rc c i j k : ℝ) : EReal) := by
    unfold res_main_v114
    pointwise
    rw [Fin.sum_univ_three, vec_at V0 b c hA, vec_at V0 b c hA, vec_at V0 b c hA, vec_at V0 b c hA, vec_at V0 b c hA, vec_at V0 b c hA,
      dist_at V0 b c hA, dist_at V0 b c hA, ofBits_lt 0x3F733333#32 (by decide), ofBits_lt 0x2EDBE6FF#32 (by decide)]
    congr 1
    have e : ((dotp c i j k : ℝ) : EReal) = ((c (32 * (0 : Fin 3).val + j.val) - c (32 * (0 : Fin 3).val + i.val) : ℝ) : EReal) * ((c (32 * (0 : Fin 3).val + k.val) - c (32 * (0 : Fin 3).val + i.val) : ℝ) : EReal)
        + ((c (32 * (1 : Fin 3).val + j.val) - c (32 * (1 : Fin 3).val + i.val) : ℝ) : EReal) * ((c (32 * (1 : Fin 3).val + k.val) - c (32 * (1 : Fin 3).val + i.val) : ℝ) : EReal)
        + ((c (32 * (2 : Fin 3).val + j.val) - c (32 * (2 : Fin 3).val + i.val) : ℝ) : EReal) * ((c (32 * (2 : Fin 3).val + k.val) - c (32 * (2 : Fin 3).val + i.val) : ℝ) : EReal) := by
      norm_cast
      unfold dotp
      simp
    rw [← e, ← EReal.coe_mul (rd c i j), max_coe, div_coe _ hp, ← EReal.coe_mul]
    rfl
  rw [h, acos_coe (rc_range c i j k)]

/-- The angular factor before its 32nd power. -/
def rz (i j k z : ℕ) : ℝ := (1 + (rc c i j k * cosT (zet z) + Real.sqrt (1 - rc c i j k ^ 2) * sinT (zet z))) / 2
/-- The angular factor, before it is raised to the 32nd power. -/
theorem z_at (i j k : Fin 32) (z : Fin 8) : res_main_v227 V0 (ix5 b i j k z) = ((rz c i j k z : ℝ) : EReal) := by
  have hu : res_main_v157 V0 (ix1 z) = ((zet z - lt 0x3FC90FDB#32 : ℝ) : EReal) := by
    unfold res_main_v157
    pointwise
    rw [zet_at, ofBits_lt 0x3FC90FDB#32 (by decide)]
    norm_cast
  have hw : res_main_v191 V0 (ix1 z) = ((zet z - lt 0x3FC90FDB#32 : ℝ) : EReal) := by
    unfold res_main_v191
    pointwise
    rw [zet_at, ofBits_lt 0x3FC90FDB#32 (by decide)]
    norm_cast
  unfold res_main_v227 res_main_v174 res_main_v169 res_main_v164 res_main_v159 res_main_v210 res_main_v205 res_main_v200 res_main_v194
  pointwise
  rw [cos_series _ _ hu, sin_series _ _ hw, ang_at V0 b c hA, cos_coe, sin_coe, Real.cos_arccos (rc_range c i j k).1 (rc_range c i j k).2, Real.sin_arccos,
    ofBits_lt 0x40000000#32 (by decide), lt_two]
  rw [← EReal.coe_one, ← EReal.coe_mul, ← EReal.coe_mul, ← EReal.coe_add, ← EReal.coe_add, div_coe _ two_ne_zero]
  rfl

/-- The mean distance less a shift. -/
theorem ea_at (i j k : Fin 32) (a : Fin 4) : res_main_v244 V0 (ix5 b i j k a) = (((rd c i j + rd c i k) / 2 - sha a : ℝ) : EReal) := by
  have e : Ideal.ofBits .f32 (lit0 (S4.rowMajor (ix1 a))) = ((sha a : ℝ) : EReal) := by
    have : lit0 (S4.rowMajor (ix1 a)) = (match a.val with | 0 => 0x3F666666#32 | 1 => 0x3FC66666#32 | 2 => 0x400CCCCD#32 | _ => 0x40366666#32) := by
      revert a
      decide +kernel
    unfold sha
    rw [this]
    refine ofBits_lt _ ?_
    revert a
    decide
  unfold res_main_v244
  pointwise
  rw [dist_at V0 b c hA, dist_at V0 b c hA, e, ofBits_lt 0x40000000#32 (by decide), lt_two, ← EReal.coe_add, div_coe _ two_ne_zero]
  norm_cast

end Cert.Proof.Ref
-- ==== Proof.RefSum.lean ====
/-
  The reference's result at the extended reals, entry by entry, as the sums the kernel's rows are.
-/
module

public import proofs.«01_k».proof.Proof.RefReal

@[expose] public section

set_option maxRecDepth 16384

noncomputable section

namespace Cert.Proof.Ref

open Cert.ReferenceIdeal Cert.ReferenceIdeal.Gen Cert.ReferenceIdeal.Value Cert.Proof.Val
open Idealize.ShloMosaic Idealize.ShloMosaic.TcCoe Idealize.SL.Sem Idealize.ShloMosaic.StableHlo

variable (V0 : Valuation τ sig (Elt Ideal)) (b : Fin 16) (c : ℕ → ℝ)
variable (hA : ∀ (i : Fin 32) (k : Fin 3), V0 (Proc.devRef .tc main_arg1) (ix3 b i k) = ((c (32 * k.val + i.val) : ℝ) : EReal))

/-! ## Masks -/

/-- A bit as a number. -/
theorem bit_num (p : Prop) [Decidable p] : (FloatOps.uitofp .f32 (BitVec.ofBool (decide p)) : Ideal .f32) = ((if p then 1 else 0 : ℝ) : EReal) := by
  show (((BitVec.ofBool (decide p)).toNat : ℝ) : EReal) = _
  by_cases h : p
  · rw [if_pos h, decide_eq_true h]; simp
  · rw [if_neg h, decide_eq_false h]; simp
/-- Comparing two reals, as a bit. -/
theorem le_bit (x y : ℝ) {i : Decidable ((x : EReal) ≤ (y : EReal))} : BitVec.ofBool (@decide ((x : EReal) ≤ (y : EReal)) i) = BitVec.ofBool (decide (x ≤ y)) := by
  congr 1
  simp only [EReal.coe_le_coe_iff]
/-- Both of two tests, as a bit. -/
theorem and_bit (p q : Prop) [Decidable p] [Decidable q] :
    IntOp.andi (BitVec.ofBool (decide p)) (BitVec.ofBool (decide q)) = BitVec.ofBool (decide (p ∧ q)) := by
  by_cases h1 : p <;> by_cases h2 : q <;> simp [h1, h2, IntOp.andi]
/-- The contrary of a test, as a bit. -/
theorem not_bit (p : Prop) [Decidable p] : ~~~BitVec.ofBool (decide p) = BitVec.ofBool (decide ¬p) := by
  by_cases h1 : p <;> simp [h1]
/-- Which pairs of atoms are counted: the first before the second. -/
theorem tri_bit : ∀ j k : Fin 32, Scalar.select (IntOp.cmpi .sge (IntOp.addi (BitVec.ofNat 32 j.val) 0#32) (BitVec.ofNat 32 k.val)) 0#1 1#1
    = BitVec.ofBool (decide (j.val < k.val)) := by decide +kernel
/-- Which atoms a radial entry counts: those of its species. -/
theorem eq_bit (s t : BitVec 32) : IntOp.cmpi .eq s t = BitVec.ofBool (decide (s = t)) := by
  show BitVec.ofBool (s == t) = _
  by_cases h : s = t
  · subst h; simp
  · rw [beq_eq_false_iff_ne.2 h]; simp [h]
/-- Which pairs an angular entry counts: those whose two species are the entry's pair, in either order. -/
theorem pair_bit : ∀ (s t : Fin 4) (p : Fin 10),
    IntOp.ori (IntOp.andi (IntOp.cmpi .eq (Row.word s.val) (lit1 (S10.rowMajor (ix1 p)))) (IntOp.cmpi .eq (Row.word t.val) (lit2 (S10.rowMajor (ix1 p)))))
      (IntOp.andi (IntOp.cmpi .eq (Row.word s.val) (lit2 (S10.rowMajor (ix1 p)))) (IntOp.cmpi .eq (Row.word t.val) (lit1 (S10.rowMajor (ix1 p)))))
    = BitVec.ofBool (decide (Row.pairBase (Row.word s.val) (Row.word t.val) = 64 + 32 * p.val)) := by decide +kernel

/-- The radial cutoff function, term by term. -/
theorem cut_series (d : ℝ) (u u3 u5 u7 u9 : EReal) (hu : u = ((d * lt 0x3F1AA9BC#32 - lt 0x3FC90FDB#32 : ℝ) : EReal)) (h3 : u3 = u * (u * u))
    (h5 : u5 = u3 * (u * u)) (h7 : u7 = u5 * (u * u)) (h9 : u9 = u7 * (u * u)) :
    Ideal.ofBits .f32 0x3F000000#32 * -(u + u3 * Ideal.ofBits .f32 0xBE2AAAAB#32 + u5 * Ideal.ofBits .f32 0x3C088889#32 + u7 * Ideal.ofBits .f32 0xB9500D01#32
      + u9 * Ideal.ofBits .f32 0x3638EF1D#32 + u9 * (u * u) * Ideal.ofBits .f32 0xB2D7322B#32) + Ideal.ofBits .f32 0x3F000000#32
      = ((cut 0x3F1AA9BC#32 d : ℝ) : EReal) := by
  rw [h9, h7, h5, h3, cos_series _ _ hu, ofBits_lt 0x3F000000#32 (by decide)]
  unfold cut
  rw [add_comm]
  norm_cast

/-! ## The terms -/

/-- The reference's radial term, mask included. -/
def rrad (i j r : ℕ) : ℝ := if rd c i j ≤ lt 0x40A66666#32 ∧ i ≠ j then
  lt 0x3E800000#32 * Real.exp (lt 0xC1800000#32 * ((rd c i j - shr r) * (rd c i j - shr r))) * cut 0x3F1AA9BC#32 (rd c i j) else 0
/-- The reference's angular term, mask included. -/
def rang (i j k a z : ℕ) : ℝ := if (rd c i j ≤ lt 0x40600000#32 ∧ i ≠ j) ∧ (rd c i k ≤ lt 0x40600000#32 ∧ i ≠ k) then
  lt 0x40000000#32 * rz c i j k z ^ 32 * Real.exp (lt 0xC1000000#32 * ((rd c i j + rd c i k) / 2 - sha a) * ((rd c i j + rd c i k) / 2 - sha a))
    * (cut 0x3F65C8FA#32 (rd c i j) * cut 0x3F65C8FA#32 (rd c i k)) else 0

/-- A masked real. -/
theorem masked (x : ℝ) (p q : Prop) [Decidable p] [Decidable q] :
    (x : EReal) * ((if p then 1 else 0 : ℝ) : EReal) * ((if q then 1 else 0 : ℝ) : EReal) = if q then ((if p then x else 0 : ℝ) : EReal) else 0 := by
  by_cases h1 : p <;> by_cases h2 : q <;> simp [h1, h2]
/-- A real masked by three tests. -/
theorem masked3 (x : ℝ) (p t q : Prop) [Decidable p] [Decidable t] [Decidable q] :
    (x : EReal) * ((if p ∧ t then 1 else 0 : ℝ) : EReal) * ((if q then 1 else 0 : ℝ) : EReal) = if t then (if q then ((if p then x else 0 : ℝ) : EReal) else 0) else 0 := by
  by_cases h1 : p <;> by_cases h2 : q <;> by_cases h3 : t <;> simp [h1, h2, h3]

/-- An angular entry from its factors. -/
theorem factors (p e cj ck : EReal) (mj mk t q : BitVec 1) (P E Cj Ck : ℝ) (A B T Q : Prop) [Decidable A] [Decidable B] [Decidable T] [Decidable Q]
    (hp : p = ((P ^ 16 : ℝ) : EReal)) (he : e = (E : EReal)) (hcj : cj = (Cj : EReal)) (hck : ck = (Ck : EReal)) (hmj : mj = BitVec.ofBool (decide A))
    (hmk : mk = BitVec.ofBool (decide B)) (ht : t = BitVec.ofBool (decide T)) (hq : q = BitVec.ofBool (decide Q)) :
    Ideal.ofBits .f32 0x40000000#32 * (p * p) * Ideal.exp (Ideal.ofBits .f32 0xC1000000#32 * e * e) * (cj * ck)
      * (FloatOps.uitofp .f32 (IntOp.andi (IntOp.andi mj mk) t) : Ideal .f32) * (FloatOps.uitofp .f32 q : Ideal .f32)
    = if T then (if Q then ((if A ∧ B then lt 0x40000000#32 * P ^ 32 * Real.exp (lt 0xC1000000#32 * E * E) * (Cj * Ck) else 0 : ℝ) : EReal) else 0) else 0 := by
  rw [hmj, hmk, ht, hq, and_bit, and_bit, bit_num, bit_num, hp, he, hcj, hck, ofBits_lt 0x40000000#32 (by decide), ofBits_lt 0xC1000000#32 (by decide)]
  rw [← EReal.coe_mul, ← EReal.coe_mul, ← EReal.coe_mul, ← EReal.coe_mul, exp_coe, ← EReal.coe_mul, ← EReal.coe_mul, ← EReal.coe_mul, ← pow_add]
  exact masked3 _ _ _ _

/-- The two species of each pair. -/
theorem c_at (p : Fin 10) : res_main_c V0 (ix1 p) = lit1 (S10.rowMajor (ix1 p)) := rfl
/-- The second species of each pair. -/
theorem c0_at (p : Fin 10) : res_main_c_0 V0 (ix1 p) = lit2 (S10.rowMajor (ix1 p)) := rfl

include hA

/-- A radial entry of the reference's result. -/
theorem out_rad (i : Fin 32) (y : Fin 384) (hy : y.val < 64) : @Eq EReal (res_main_v303 V0 (ix3 b i y))
    (∑ j : Fin 32, if V0 (Proc.devRef .tc main_arg0) (ix2 b j) = Row.word (y.val / 16) then ((rrad c i j (y.val % 16) : ℝ) : EReal) else 0) := by
  unfold res_main_v303
  pointwise
  rw [dif_pos hy]
  refine Finset.sum_congr rfl fun j _ => ?_
  have hcut := cut_series (rd c i j) _ _ _ _ _ (ur_at V0 b c hA i j) (rfl : res_main_v34 V0 (ix3 b i j) = _) (rfl : res_main_v39 V0 (ix3 b i j) = _)
    (rfl : res_main_v44 V0 (ix3 b i j) = _) (rfl : res_main_v49 V0 (ix3 b i j) = _)
  rw [hcut, dist_at V0 b c hA, eye_at, ofBits_lt 0x40A66666#32 (by decide), le_bit, not_bit, and_bit,
    er_at V0 b c hA, eq_bit, bit_num, bit_num, ofBits_lt 0x3E800000#32 (by decide), ofBits_lt 0xC1800000#32 (by decide), ← EReal.coe_mul, ← EReal.coe_mul,
    exp_coe, ← EReal.coe_mul, ← EReal.coe_mul, masked]
  unfold rrad
  simp only [ne_eq, Fin.ext_iff]

/-- The 16th power of the angular factor. -/
theorem pow_at (i j k : Fin 32) (z : Fin 8) : res_main_v231 V0 (ix5 b i j k z) = ((rz c i j k z ^ 16 : ℝ) : EReal) := by
  unfold res_main_v231 res_main_v230 res_main_v229 res_main_v228
  pointwise
  rw [z_at V0 b c hA]
  norm_cast
  exact congrArg Real.toEReal (by ring)

/-- Which pairs are near enough for an angular entry. -/
theorem maska' (i j : Fin 32) : res_main_v102 V0 (ix3 b i j) = BitVec.ofBool (decide (rd c i j ≤ lt 0x40600000#32 ∧ i.val ≠ j.val)) := by
  rw [maska_at V0 b c hA]
  congr 1
  simp only [ne_eq, Fin.ext_iff]

/-- An angular entry of the reference's result. -/
theorem out_ang (sp : Fin 32 → Fin 4) (hs : ∀ j, V0 (Proc.devRef .tc main_arg0) (ix2 b j) = Row.word (sp j).val) (i : Fin 32) (y : Fin 384) (hy : 64 ≤ y.val) :
    @Eq EReal (res_main_v303 V0 (ix3 b i y)) (∑ j : Fin 32, ∑ k : Fin 32, if j.val < k.val then
      (if Row.pairBase (Row.word (sp j).val) (Row.word (sp k).val) = 64 + 32 * ((y.val - 64) / 32)
        then ((rang c i j k ((y.val - 64) % 32 / 8) ((y.val - 64) % 32 % 8) : ℝ) : EReal) else 0) else 0) := by
  unfold res_main_v303
  pointwise
  rw [dif_neg (by omega)]
  refine Finset.sum_congr rfl fun j _ => Finset.sum_congr rfl fun k _ => ?_
  have hz := pow_at V0 b c hA i j k
  have h0 : res_main_v270 V0 (ix4 b j 0 0) = Row.word (sp j).val := by
    unfold res_main_v270
    pointwise
    exact hs j
  have h1 : res_main_v271 V0 (ix4 b 0 k 0) = Row.word (sp k).val := by
    unfold res_main_v271
    pointwise
    exact hs k
  have hb : IntOp.ori
      (IntOp.andi (IntOp.cmpi .eq (res_main_v270 V0 (ix4 b j 0 0)) (res_main_c V0 (ix1 ⟨(y.val - 64) / 32, by omega⟩)))
        (IntOp.cmpi .eq (res_main_v271 V0 (ix4 b 0 k 0)) (res_main_c_0 V0 (ix1 ⟨(y.val - 64) / 32, by omega⟩))))
      (IntOp.andi (IntOp.cmpi .eq (res_main_v270 V0 (ix4 b j 0 0)) (res_main_c_0 V0 (ix1 ⟨(y.val - 64) / 32, by omega⟩)))
        (IntOp.cmpi .eq (res_main_v271 V0 (ix4 b 0 k 0)) (res_main_c V0 (ix1 ⟨(y.val - 64) / 32, by omega⟩))))
      = BitVec.ofBool (decide (Row.pairBase (Row.word (sp j).val) (Row.word (sp k).val) = 64 + 32 * ((y.val - 64) / 32))) := by
    rw [h0, h1, c_at, c0_at]
    exact pair_bit (sp j) (sp k) ⟨(y.val - 64) / 32, by omega⟩
  unfold rang
  exact factors _ _ _ _ _ _ _ _ _ _ _ _ _ _ _ _ (hz _) (ea_at V0 b c hA i j k _) (cuta_at V0 b c hA i j) (cuta_at V0 b c hA i k)
    (maska' V0 b c hA i j) (maska' V0 b c hA i k) (tri_bit j k) hb

end Cert.Proof.Ref
-- ==== Proof.Agree.lean ====
/-
  The kernel's terms and the reference's terms are the same numbers when no two atoms coincide.
-/
module

public import proofs.«01_k».proof.Proof.KernelSum
public import proofs.«01_k».proof.Proof.RefSum

@[expose] public section

noncomputable section

namespace Cert.Proof.Ref

open Cert.Proof.Val

variable (c : ℕ → ℝ) (I : ℕ) (hq : ∀ j, j < 32 → j ≠ I → lt 0x179ABE15#32 ≤ sqd c I j)

/-- The kernel's bound on the sine's square is never reached. -/
theorem ks_eq (v : ℝ) (hv : |v| ≤ lt 0x3F733333#32) : ks v = Real.sqrt (1 - v ^ 2) := by
  have h2 : v ^ 2 ≤ (lt 0x3F733333#32) ^ 2 := sq_le_sq' (abs_le.1 hv).1 (abs_le.1 hv).2
  rw [lt_95] at h2
  unfold ks
  rw [lt_one, lt_tiny, max_eq_left, sq]
  rw [← sq]
  have : (15938355 / 2 ^ 24 : ℝ) ^ 2 ≤ 1 - 10141205 / 2 ^ 103 := by norm_num
  linarith

include hq

/-- The two distances to another atom. -/
theorem kd_eq (j : ℕ) (hj : j < 32) (h : j ≠ I) : kd c I j = rd c I j := by
  unfold kd rd
  rw [max_eq_left (hq j hj h), if_neg h.symm, add_zero]

/-- The two radial terms. -/
theorem rterm_eq (j r : ℕ) (hj : j < 32) : rterm c I j r = rrad c I j r := by
  by_cases h : j = I
  · unfold rterm fr rrad
    rw [if_neg (fun e => e.2 h), if_neg (fun e => e.2 h.symm), zero_mul]
  · unfold rterm fr rrad
    rw [kd_eq c I hq j hj h]
    by_cases hd : rd c I j ≤ lt 0x40A66666#32
    · rw [if_pos ⟨hd, h⟩, if_pos ⟨hd, Ne.symm h⟩, mul_assoc (lt 0xC1800000#32)]
      ring
    · rw [if_neg (fun e => hd e.1), if_neg (fun e => hd e.1), zero_mul]

/-- The two cosines, times 0.95. -/
theorem kc_eq (j k : ℕ) (hj : j < 32) (hk : k < 32) (h : j ≠ I) (h' : k ≠ I) : kc c I j k = rc c I j k := by
  unfold kc rc
  rw [kd_eq c I hq j hj h, kd_eq c I hq k hk h']
  have hp : 0 < max (rd c I j * rd c I k) (lt 0x2EDBE6FF#32) := lt_max_of_lt_right small_pos
  rw [← mul_inv, Real.mul_self_sqrt hp.le, div_eq_mul_inv, mul_assoc]

/-- The two angular factors. -/
theorem kz_eq (j k z : ℕ) (hj : j < 32) (hk : k < 32) (h : j ≠ I) (h' : k ≠ I) : kz (kc c I j k) z = rz c I j k z := by
  rw [kc_eq c I hq j k hj hk h h']
  unfold kz rz
  rw [ks_eq _ (rc_le c I j k), lt_half]
  ring

/-- The two angular terms. -/
theorem aterm_eq (j k a z : ℕ) (hj : j < 32) (hk : k < 32) : aterm c I j k a z = rang c I j k a z := by
  by_cases h : j = I
  · unfold aterm rang
    rw [show fa c I j = 0 from if_neg (fun e => e.2 h), if_neg (fun e => e.1.2 h.symm : ¬((rd c I j ≤ lt 0x40600000#32 ∧ I ≠ j) ∧ rd c I k ≤ lt 0x40600000#32 ∧ I ≠ k))]
    ring
  by_cases h' : k = I
  · unfold aterm rang
    rw [show fa c I k = 0 from if_neg (fun e => e.2 h'), if_neg (fun e => e.2.2 h'.symm : ¬((rd c I j ≤ lt 0x40600000#32 ∧ I ≠ j) ∧ rd c I k ≤ lt 0x40600000#32 ∧ I ≠ k))]
    ring
  have hm : lt 0x3F000000#32 * (kd c I j + kd c I k) = (rd c I j + rd c I k) / 2 := by
    rw [lt_half, kd_eq c I hq j hj h, kd_eq c I hq k hk h']
    ring
  unfold aterm rang
  rw [kz_eq c I hq j k z hj hk h h', hm]
  unfold fa
  rw [kd_eq c I hq j hj h, kd_eq c I hq k hk h']
  by_cases hd : rd c I j ≤ lt 0x40600000#32
  · by_cases hd' : rd c I k ≤ lt 0x40600000#32
    · rw [if_pos ⟨hd, h⟩, if_pos ⟨hd', h'⟩, if_pos ⟨⟨hd, Ne.symm h⟩, hd', Ne.symm h'⟩]
      ring
    · rw [if_neg (fun e => hd' e.1 : ¬(rd c I k ≤ lt 0x40600000#32 ∧ k ≠ I)), if_neg (fun e => hd' e.2.1 : ¬((rd c I j ≤ lt 0x40600000#32 ∧ I ≠ j) ∧ rd c I k ≤ lt 0x40600000#32 ∧ I ≠ k))]
      ring
  · rw [if_neg (fun e => hd e.1 : ¬(rd c I j ≤ lt 0x40600000#32 ∧ j ≠ I)), if_neg (fun e => hd e.1.1 : ¬((rd c I j ≤ lt 0x40600000#32 ∧ I ≠ j) ∧ rd c I k ≤ lt 0x40600000#32 ∧ I ≠ k))]
    ring

end Cert.Proof.Ref

end
-- ==== Proof.Layout.lean ====
/-
  Where the kernel's flat arrays hold the entries of the program's arguments and of its result.
-/
module

public import proofs.«01_k».proof.Proof.Launch
public import Idealize.ShloMosaic.Lib.Pointwise

@[expose] public section

set_option maxRecDepth 16384

noncomputable section

namespace Cert.Proof.Row

open Cert.KernelIdeal Cert.KernelIdeal.Gen
open Idealize.ShloMosaic

variable {F : FTy → Type}

/-- The coordinates, laid out for the tiles. -/
theorem flatX_at (co : S16x32x3.Idx → F .f32) (n : Fin 1536) :
    flatX co (ix1 n) = co (ix3 ⟨n.val / 96, by omega⟩ ⟨n.val % 32, by omega⟩ ⟨n.val / 32 % 3, by omega⟩) := by
  unfold flatX
  pointwise

/-- The species, laid out for the tiles. -/
theorem flatS_at (sp : S16x32.Idx → BitVec 32) (n : Fin 512) : flatS sp (ix1 n) = sp (ix2 ⟨n.val / 32, by omega⟩ ⟨n.val % 32, by omega⟩) := by
  unfold flatS
  pointwise

/-- The result, given its shape. -/
theorem shaped_at (f : S196608.Idx → F .f32) (b : Fin 16) (i : Fin 32) (y : Fin 384) :
    shapeCast S16x32x384 f shapeCasts_S196608_S16x32x384 (ix3 b i y) = f (ix1 ⟨12288 * b.val + 384 * i.val + y.val, by omega⟩) := by
  pointwise
  exact congrArg f (congrArg ix1 (Fin.ext (by simp only []; omega)))

/-- A molecule's coordinates, out of the tiles' layout: the 32 first ones, the 32 second ones, the 32 third ones. -/
theorem molX_at (co : S16x32x3.Idx → F .f32) (b : Fin 16) (n : ℕ) (hn : n < 96) :
    molX (flatX co) b.val n = co (ix3 b ⟨n % 32, by omega⟩ ⟨n / 32 % 3, by omega⟩) := by
  have e : molX (flatX co) b.val n = flatX co (ix1 ⟨96 * b.val + n, by omega⟩) := by
    show flatX co (pos _ _) = _
    congr 1
    funext a
    match a with
    | 0 => exact Fin.ext (Nat.mod_eq_of_lt (by omega))
  rw [e, flatX_at]
  congr 2 <;> exact Fin.ext (by simp only []; omega)

/-- A molecule's species, out of the tiles' layout. -/
theorem molS_at (sp : S16x32.Idx → BitVec 32) (b : Fin 16) (n : ℕ) (hn : n < 32) : molS (flatS sp) b.val n = sp (ix2 b ⟨n, hn⟩) := by
  have e : molS (flatS sp) b.val n = flatS sp (ix1 ⟨32 * b.val + n, by omega⟩) := by
    show flatS sp (pos _ _) = _
    congr 1
    funext a
    match a with
    | 0 => exact Fin.ext (Nat.mod_eq_of_lt (by omega))
  rw [e, flatS_at]
  congr 2 <;> exact Fin.ext (by simp only []; omega)

variable [FloatOps F]

/-- An entry of the result is an entry of a row. -/
theorem result_at (sp : S16x32.Idx → BitVec 32) (co : S16x32x3.Idx → F .f32) (b : Fin 16) (i : Fin 32) (y : Fin 384) :
    result sp co (ix3 b i y) = rowVal (molX (flatX co) b.val) (molS (flatS sp) b.val) i.val y.val := by
  unfold result
  rw [shaped_at]
  have h1 : (12288 * b.val + 384 * i.val + y.val) / 12288 = b.val := by omega
  have h2 : (12288 * b.val + 384 * i.val + y.val) / 384 % 32 = i.val := by omega
  have h3 : (12288 * b.val + 384 * i.val + y.val) % 384 = y.val := by omega
  show rowVal (molX (flatX co) ((12288 * b.val + 384 * i.val + y.val) / 12288)) (molS (flatS sp) ((12288 * b.val + 384 * i.val + y.val) / 12288))
    ((12288 * b.val + 384 * i.val + y.val) / 384 % 32) ((12288 * b.val + 384 * i.val + y.val) % 384) = _
  rw [h1, h2, h3]

end Cert.Proof.Row

end
-- ==== Proof.Equal.lean ====
/-
  The kernel's result is the reference's.
-/
module

public import proofs.«01_k».proof.Proof.Agree
public import proofs.«01_k».proof.Proof.Layout
public import proofs.«01_k».proof.Proof.Species

@[expose] public section

set_option maxRecDepth 16384

noncomputable section

namespace Cert.Proof.Ref

open Cert.ReferenceIdeal Cert.ReferenceIdeal.Gen Cert.ReferenceIdeal.Value Cert.Proof.Val
open Cert.Proof.Row (Species molX molS flatX flatS rowVal)
open Idealize.ShloMosaic Idealize.ShloMosaic.TcCoe Idealize.SL.Sem Idealize.ShloMosaic.StableHlo

variable (V0 : Valuation τ sig (Elt Ideal)) (b : Fin 16) (c : ℕ → ℝ)
variable (hA : ∀ (i : Fin 32) (k : Fin 3), V0 (Proc.devRef .tc main_arg1) (ix3 b i k) = ((c (32 * k.val + i.val) : ℝ) : EReal))
variable (X : ℕ → Ideal .f32) (Sp : ℕ → BitVec 32) (hX : ∀ n, n < 96 → X n = ((c n : ℝ) : EReal))
variable (sp : Fin 32 → Fin 4) (hs : ∀ j, V0 (Proc.devRef .tc main_arg0) (ix2 b j) = Row.word (sp j).val) (hSp : ∀ j : Fin 32, Sp j.val = Row.word (sp j).val)
variable (hq : ∀ i j, i < 32 → j < 32 → j ≠ i → lt 0x179ABE15#32 ≤ sqd c i j)

include hA hX hs hSp hq

/-- One entry of a row, of either program. -/
theorem row_eq (i : Fin 32) (y : Fin 384) : @Eq EReal (rowVal X Sp i.val y.val) (res_main_v303 V0 (ix3 b i y)) := by
  by_cases hy : y.val < 64
  · rw [out_rad V0 b c hA i y hy]
    have e : y.val = 16 * (y.val / 16) + y.val % 16 := by omega
    have k := rowVal_rad X Sp c i.val hX i.isLt (y.val / 16) (y.val % 16) (by omega) (by omega)
    rw [← e] at k
    refine k.trans ?_
    rw [Finset.sum_range]
    refine Finset.sum_congr rfl fun j _ => ?_
    rw [hSp j, hs j, rterm_eq c i.val (fun j hj h => hq i.val j i.isLt hj h) j.val _ j.isLt]
  · rw [out_ang V0 b c hA sp hs i y (by omega)]
    have e : y.val = 64 + 32 * ((y.val - 64) / 32) + 8 * ((y.val - 64) % 32 / 8) + (y.val - 64) % 32 % 8 := by omega
    have k := rowVal_ang X Sp c i.val hX i.isLt ((y.val - 64) / 32) ((y.val - 64) % 32 / 8) ((y.val - 64) % 32 % 8) (by omega) (by omega)
    rw [← e] at k
    refine k.trans ?_
    rw [Finset.sum_range]
    refine Finset.sum_congr rfl fun j _ => ?_
    rw [Finset.sum_range]
    refine Finset.sum_congr rfl fun k _ => ?_
    unfold pairT
    rw [hSp j, hSp k, aterm_eq c i.val (fun j hj h => hq i.val j i.isLt hj h) j.val k.val _ _ j.isLt k.isLt]

omit hA hX hs hSp hq

/-- On arguments the precondition admits, the two programs' results are the same array. -/
theorem value (s : Cert.KernelIdeal.S16x32.Idx → BitVec 32) (x : Cert.KernelIdeal.S16x32x3.Idx → Ideal .f32)
    (h0 : V0 (Proc.devRef .tc main_arg0) = s) (h1 : V0 (Proc.devRef .tc main_arg1) = x)
    (hS : ∀ (b : Fin 16) (i : Fin 32), Species (s (ix2 b i))) (hF : ∀ (b : Fin 16) (i : Fin 32) (k : Fin 3), ∃ r : ℝ, @Eq EReal (x (ix3 b i k)) (r : EReal))
    (hD : ∀ (b : Fin 16) (i j : Fin 32), i ≠ j → Ideal.ofBits .f32 0x179ABE15#32 ≤ ((x (ix3 b j 0) : EReal) - x (ix3 b i 0)) * (x (ix3 b j 0) - x (ix3 b i 0))
        + (x (ix3 b j 1) - x (ix3 b i 1)) * (x (ix3 b j 1) - x (ix3 b i 1)) + (x (ix3 b j 2) - x (ix3 b i 2)) * (x (ix3 b j 2) - x (ix3 b i 2))) :
    Row.result (F := Ideal) s x = res_main_v303 V0 := by
  funext t
  obtain ⟨b, i, y, rfl⟩ : ∃ (b : Fin 16) (i : Fin 32) (y : Fin 384), t = ix3 b i y := ⟨t 0, t 1, t 2, by
    funext a
    match a with
    | 0 => rfl
    | 1 => rfl
    | 2 => rfl⟩
  choose r hr using hF b
  choose w hw using fun i => Species.word (hS b i)
  obtain ⟨c, hc⟩ : ∃ c : ℕ → ℝ, ∀ n, c n = r ⟨n % 32, by omega⟩ ⟨n / 32 % 3, by omega⟩ := ⟨_, fun _ => rfl⟩
  have hX : ∀ n, n < 96 → molX (flatX x) b.val n = ((c n : ℝ) : EReal) := fun n hn => by
    rw [Row.molX_at x b n hn, hc]
    exact hr _ _
  have hcx : ∀ (i : Fin 32) (k : Fin 3), @Eq EReal (x (ix3 b i k)) ((c (32 * k.val + i.val) : ℝ) : EReal) := fun i k => by
    have e1 : (⟨(32 * k.val + i.val) % 32, by omega⟩ : Fin 32) = i := Fin.ext (by simp only []; omega)
    have e2 : (⟨(32 * k.val + i.val) / 32 % 3, by omega⟩ : Fin 3) = k := Fin.ext (by simp only []; omega)
    rw [hc, e1, e2]
    exact hr i k
  rw [Row.result_at]
  refine row_eq V0 b c ?_ (molX (flatX x) b.val) (molS (flatS s) b.val) hX w ?_ ?_ ?_ i y
  · intro i k
    rw [h1]
    exact hcx i k
  · intro j
    rw [h0]
    exact hw j
  · intro j
    rw [Row.molS_at s b j.val j.isLt]
    exact hw j
  · intro i j hi hj hij
    have d := hD b ⟨i, hi⟩ ⟨j, hj⟩ (fun e => hij (Fin.ext_iff.1 e).symm)
    rw [hcx, hcx, hcx, hcx, hcx, hcx, ofBits_lt 0x179ABE15#32 (by decide)] at d
    unfold sqd
    norm_cast at d
    simpa using d

end Cert.Proof.Ref

end
-- ==== Proof.Molecules.lean ====
/-
  What the precondition of the equality says: the species are among the four, the coordinates are finite, and no two atoms of a
  molecule coincide.
-/
module

public import proofs.«01_k».proof.Proof.Species
public import proofs.«01_k».proof.Proof.Gen.Pre_molecules
public import Idealize.ShloMosaic.Lib.Pointwise

@[expose] public section

set_option maxRecDepth 16384

noncomputable section

namespace Cert.Proof

open Idealize.ShloMosaic
open Cert.Proof.Row (Species)

/-- A value the test for finiteness passes is a real number. -/
theorem real_of_bit (x : EReal) (h : max x (-x) < (Ideal.ofBits .f32 0x7F800000#32 : EReal)) : ∃ r : ℝ, x = (r : EReal) := by
  have e : (Ideal.ofBits .f32 0x7F800000#32 : EReal) = ⊤ := by simp [Ideal.ofBits, Ideal.ieee]
  have h' : max x (-x) < ⊤ := e ▸ h
  induction x with
  | bot => simp at h'
  | top => simp at h'
  | coe r => exact ⟨r, rfl⟩

/-- What the precondition tests at a pair of atoms. -/
theorem molecules_at {a0 a1 a2 a3 a4 a5 a6 a7} (h : Cert.Pre_molecules.fn (F := Ideal) a0 a1 a2 a3 a4 a5 a6 a7 = fun _ => 1#1)
    (b : Fin 16) (i j : Fin 32) : Species (a0 (ix2 b i)) ∧ (∀ k : Fin 3, ∃ r : ℝ, @Eq EReal (a1 (ix3 b i k)) (r : EReal))
      ∧ (i ≠ j → Ideal.ofBits .f32 0x179ABE15#32 ≤ ((a1 (ix3 b j 0) : EReal) - a1 (ix3 b i 0)) * (a1 (ix3 b j 0) - a1 (ix3 b i 0))
        + (a1 (ix3 b j 1) - a1 (ix3 b i 1)) * (a1 (ix3 b j 1) - a1 (ix3 b i 1)) + (a1 (ix3 b j 2) - a1 (ix3 b i 2)) * (a1 (ix3 b j 2) - a1 (ix3 b i 2))) := by
  have e : IntOp.andi
      (IntOp.andi (IntOp.andi (IntOp.cmpi .sge (a0 (ix2 b i)) 0#32) (IntOp.cmpi .slt (a0 (ix2 b i)) 4#32))
        (IntOp.andi
          (IntOp.andi (BitVec.ofBool (decide (FloatOps.absf (a1 (ix3 b i 0)) < Ideal.ofBits .f32 0x7F800000#32)))
            (BitVec.ofBool (decide (FloatOps.absf (a1 (ix3 b i 1)) < Ideal.ofBits .f32 0x7F800000#32))))
          (BitVec.ofBool (decide (FloatOps.absf (a1 (ix3 b i 2)) < Ideal.ofBits .f32 0x7F800000#32)))))
      (IntOp.ori
        (BitVec.ofBool (decide (Ideal.ofBits .f32 0x179ABE15#32 ≤ ((a1 (ix3 b j 0) : EReal) - a1 (ix3 b i 0)) * (a1 (ix3 b j 0) - a1 (ix3 b i 0))
          + (a1 (ix3 b j 1) - a1 (ix3 b i 1)) * (a1 (ix3 b j 1) - a1 (ix3 b i 1)) + (a1 (ix3 b j 2) - a1 (ix3 b i 2)) * (a1 (ix3 b j 2) - a1 (ix3 b i 2)))))
        (IntOp.cmpi .eq (IntOp.addi (BitVec.ofNat 32 i.val) 0#32) (BitVec.ofNat 32 j.val))) = 1#1 := by
    have e := congrFun h (ix3 b i j)
    revert e
    unfold Cert.Pre_molecules.fn Cert.Pre_molecules.fn_part1 Cert.Pre_molecules.fn_part2
    pointwise
    exact id
  have and_one : ∀ a b : BitVec 1, IntOp.andi a b = 1#1 → a = 1#1 ∧ b = 1#1 := by decide
  have or_one : ∀ a b : BitVec 1, IntOp.ori a b = 1#1 → a = 1#1 ∨ b = 1#1 := by decide
  have one_true : ∀ a : Bool, BitVec.ofBool a = 1#1 → a = true := by decide
  have diag : ∀ i j : Fin 32, IntOp.cmpi .eq (IntOp.addi (BitVec.ofNat 32 i.val) 0#32) (BitVec.ofNat 32 j.val) = 1#1 → i = j := by decide +kernel
  obtain ⟨e1, e2⟩ := and_one _ _ e
  obtain ⟨e3, e4⟩ := and_one _ _ e1
  obtain ⟨e5, e6⟩ := and_one _ _ e4
  obtain ⟨e7, e8⟩ := and_one _ _ e5
  refine ⟨species_of_bit _ e3, ?_, fun hn => ?_⟩
  · have f0 := real_of_bit _ (of_decide_eq_true (one_true _ e7))
    have f1 := real_of_bit _ (of_decide_eq_true (one_true _ e8))
    have f2 := real_of_bit _ (of_decide_eq_true (one_true _ e6))
    intro k
    fin_cases k
    · exact f0
    · exact f1
    · exact f2
  · rcases or_one _ _ e2 with h' | h'
    · exact of_decide_eq_true (one_true _ h')
    · exact absurd (diag i j h') hn

end Cert.Proof

end
-- ==== Proof.lean ====
/-
  The claims of Defs.lean, put together.  The kernel's run is `Cert.Proof.Row.run_main` (Proof/Launch.lean), proved once
  over any float values; the reference's run is generated (Proof/Gen/ReferenceIdeal/Run.lean).
-/
module

public import proofs.«01_k».proof.Defs
public import proofs.«01_k».proof.Proof.Gen.KernelIdeal
public import proofs.«01_k».proof.Proof.Gen.ReferenceIdeal.Run
public import proofs.«01_k».proof.Proof.Gen.Pre_molecules
public import proofs.«01_k».proof.Proof.FrameKernel
public import proofs.«01_k».proof.Proof.Equal
public import proofs.«01_k».proof.Proof.Molecules
public import Idealize.ShloMosaic.Adequacy
public import Idealize.ShloMosaic.Init

@[expose] public section

noncomputable section

namespace Cert.Proof

open Idealize.ShloMosaic Idealize.SL.Sem

/-- `Cert.quiescent_KernelIdeal`: the same run over the extended reals. -/
theorem frame_i : Cert.quiescent_KernelIdeal := fun m ρ hp =>
  (θ_run Cert.KernelIdeal.defs _ _).mono (fun _ h => ⟨fun c => Row.QC_args m h c, h.2⟩)
    (Row.run_main (F := Ideal) m ρ fun d y => species_of_fn (hp d) y)

/-- `Cert.quiescent_ReferenceIdeal`: the generated run; the reference declares no semaphore. -/
theorem frame_r : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The precondition of the equality makes every species one of the four. -/
theorem species_of_molecules (m : (ℓ : Loc Cert.KernelIdeal.nD Cert.KernelIdeal.τ Cert.KernelIdeal.sig) → Buf (Elt Ideal) ℓ)
    (hp : Cert.Pre_KernelIdeal_molecules m) : Row.SpOK m := fun d y => by
  have e : y = ix2 (y 0) (y 1) := by
    funext a
    match a with
    | 0 => rfl
    | 1 => rfl
  rw [e]
  exact (molecules_at (hp d) (y 0) (y 1) (y 1)).1

/-- `Cert.quiescent_KernelIdeal_pre_molecules`: the same frame under the stronger precondition. -/
theorem frame_i' : Cert.quiescent_KernelIdeal_pre_molecules := fun m ρ hp =>
  (θ_run Cert.KernelIdeal.defs _ _).mono (fun _ h => ⟨fun c => Row.QC_args m h c, h.2⟩)
    (Row.run_main (F := Ideal) m ρ (species_of_molecules m hp))

/-- `Cert.quiescent_ReferenceIdeal_pre_molecules`: the generated run again. -/
theorem frame_r' : Cert.quiescent_ReferenceIdeal_pre_molecules := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- `Cert.algebraic_KernelIdeal_ReferenceIdeal_pre_molecules`: both programs return the species, and for the second result the same
    array (`Cert.Proof.Ref.value`). -/
theorem equal : Cert.algebraic_KernelIdeal_ReferenceIdeal_pre_molecules := by
  intro m ρ m' ρ' hp hagree
  refine ⟨fun c => m ((c.tc : Thread Cert.KernelIdeal.nD Cert.KernelIdeal.τ).loc Cert.KernelIdeal.main_arg0),
    fun c => Row.result (F := Ideal) (Row.argS m c) (Row.argX m c), ?_, ?_⟩
  · exact (θ_run Cert.KernelIdeal.defs _ _).mono (fun _ h c => ⟨(Row.QC_args m h c).1, Row.QC_out m h c, Row.QC_args m h c⟩)
      (Row.run_main (F := Ideal) m ρ (species_of_molecules m hp))
  · refine (θ_run Cert.ReferenceIdeal.defs _ _).mono (fun _ h c => ?_) (Cert.ReferenceIdeal.Value.run (F := Ideal) m' ρ')
    refine ⟨(h c).1.trans (hagree c).1, (h c).2.1.trans ?_, (h c).2.2⟩
    exact (Ref.value _ (Row.argS m c) (Row.argX m c) (hagree c).1 (hagree c).2.1 (fun b i => (molecules_at (hp c) b i i).1)
      (fun b i => (molecules_at (hp c) b i i).2.1) (fun b i j => (molecules_at (hp c) b i j).2.2)).symm

/-- Everything claimed. -/
theorem claim : Cert.Claim :=
  ⟨Cert.Kernel.Gen.facts, Cert.KernelIdeal.Gen.facts, Cert.ReferenceIdeal.Gen.facts, Cert.Pre_species_in_range.Gen.facts, Cert.Pre_molecules.Gen.facts,
    frame_p, frame_i, frame_i', frame_r, frame_r', trivial, equal⟩

end Cert.Proof

end
